-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shard_end_in_range [hPre_shard_end_in_range : Cert.Pre_shard_end_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_shard_end_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shard_end_in_range [hPre_shard_end_in_range : Cert.Pre_shard_end_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shard_end_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_shard_end_in_range [hKernelIdeal : Cert.KernelIdeal.Facts] [hPre_shard_end_in_range : Cert.Pre_shard_end_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shard_end_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_shard_end_in_range [hReferenceIdeal : Cert.ReferenceIdeal.Facts] [hPre_shard_end_in_range : Cert.Pre_shard_end_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shard_end_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_shard_end_in_range [hKernelIdeal : Cert.KernelIdeal.Facts] [hReferenceIdeal : Cert.ReferenceIdeal.Facts] [hPre_shard_end_in_range : Cert.Pre_shard_end_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shard_end_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_shard_end_in_range : Cert.Pre_shard_end_in_range.Facts),
    quiescent_Kernel (hKernel := hKernel)
    ∧ quiescent_KernelIdeal (hKernelIdeal := hKernelIdeal)
    ∧ quiescent_KernelIdeal_pre_shard_end_in_range (hKernelIdeal := hKernelIdeal) (hPre_shard_end_in_range := hPre_shard_end_in_range)
    ∧ quiescent_ReferenceIdeal (hReferenceIdeal := hReferenceIdeal)
    ∧ quiescent_ReferenceIdeal_pre_shard_end_in_range (hReferenceIdeal := hReferenceIdeal) (hPre_shard_end_in_range := hPre_shard_end_in_range)
    ∧ preserves_Kernel_KernelIdeal
    ∧ algebraic_KernelIdeal_ReferenceIdeal_pre_shard_end_in_range (hKernelIdeal := hKernelIdeal) (hReferenceIdeal := hReferenceIdeal) (hPre_shard_end_in_range := hPre_shard_end_in_range)
-- ==== Pre_shard_end_in_range.lean ====
abbrev S1x256x151936 : Shape := ⟨3, ![1, 256, 151936]⟩
abbrev S1x256x1187 : Shape := ⟨3, ![1, 256, 1187]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x256x151936 .fp8e5m2) (main_arg1 : FVec F S1x256x1187 .f32) (main_arg2 : FVec F S1x256x896 .fp8e4m3) (main_arg3 : FVec F S1x256 .f32) (main_arg4 : IVec S151936x896 8) (main_arg5 : FVec F S151936 .f32) (main_arg6 : IVec S1x256 32) (main_arg7 : IVec S1 32) (main_arg8 : FVec F S1x256x896 .bf16) : IVec S1 1 :=
  let main_c : IVec S_ 32 := constantI S_ 32 2147331711#32
  let main_v0 : IVec S1 32 := broadcastInDim S1 ![] bcast_S_S1 main_c
  let main_v1 : IVec S1 1 := cmpi .sle main_arg7 main_v0
  main_v1
-- ==== Kernel.lean ====
abbrev S1x256x151936 : Shape := ⟨3, ![1, 256, 151936]⟩
abbrev S1x256x1187 : Shape := ⟨3, ![1, 256, 1187]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S1 : Shape := ⟨1, ![1]⟩
abbrev S256x1187 : Shape := ⟨2, ![256, 1187]⟩
abbrev S256x896 : Shape := ⟨2, ![256, 896]⟩
abbrev S256x151936 : Shape := ⟨2, ![256, 151936]⟩
abbrev S1x151936 : Shape := ⟨2, ![1, 151936]⟩
abbrev S256x1280 : Shape := ⟨2, ![256, 1280]⟩
abbrev S256x2048 : Shape := ⟨2, ![256, 2048]⟩
abbrev S1x2048 : Shape := ⟨2, ![1, 2048]⟩
abbrev S2048x896 : Shape := ⟨2, ![2048, 896]⟩
abbrev S10x256x128 : Shape := ⟨3, ![10, 256, 128]⟩
abbrev S75 : Shape := ⟨1, ![75]⟩
abbrev S256 : Shape := ⟨1, ![256]⟩
abbrev S128x256 : Shape := ⟨2, ![128, 256]⟩
abbrev S256x128 : Shape := ⟨2, ![256, 128]⟩
abbrev S1x256x128 : Shape := ⟨3, ![1, 256, 128]⟩
abbrev S1x1 : Shape := ⟨2, ![1, 1]⟩
abbrev S256x128x1 : Shape := ⟨3, ![256, 128, 1]⟩
abbrev S256x256 : Shape := ⟨2, ![256, 256]⟩
abbrev S128x896 : Shape := ⟨2, ![128, 896]⟩
abbrev S1x128 : Shape := ⟨2, ![1, 128]⟩
abbrev S1x896 : Shape := ⟨2, ![1, 896]⟩

abbrev nBuf : Space → Nat
  | .hbm => 17
  | .vmem => 17
  | .smem => 4
  | _ => 0

abbrev bufTy : (tb : Table) → Fin (tcTables nBuf tb) → BufTy
  | .hbm, ⟨0, _⟩ => ⟨S1x256x151936, .fp8e5m2⟩
  | .hbm, ⟨1, _⟩ => ⟨S1x256x1187, .f32⟩
  | .hbm, ⟨2, _⟩ => ⟨S1x256x896, .fp8e4m3⟩
  | .hbm, ⟨3, _⟩ => ⟨S1x256, .f32⟩
  | .hbm, ⟨4, _⟩ => ⟨S151936x896, .i8⟩
  | .hbm, ⟨5, _⟩ => ⟨S151936, .f32⟩
  | .hbm, ⟨6, _⟩ => ⟨S1x256, .i32⟩
  | .hbm, ⟨7, _⟩ => ⟨S1, .i32⟩
  | .hbm, ⟨8, _⟩ => ⟨S1x256x896, .bf16⟩
  | .hbm, ⟨9, _⟩ => ⟨S256x1187, .f32⟩
  | .hbm, ⟨10, _⟩ => ⟨S256x896, .fp8e4m3⟩
  | .hbm, ⟨11, _⟩ => ⟨S256x896, .bf16⟩
  | .hbm, ⟨12, _⟩ => ⟨S256x151936, .fp8e5m2⟩
  | .hbm, ⟨13, _⟩ => ⟨S1x151936, .f32⟩
  | .hbm, ⟨14, _⟩ => ⟨S151936x896, .f32⟩
  | .hbm, ⟨15, _⟩ => ⟨S256x896, .bf16⟩
  | .hbm, ⟨16, _⟩ => ⟨S1x256x896, .bf16⟩
  | .local _ .vmem, ⟨0, _⟩ => ⟨S256x1280, .f32⟩
  | .local _ .vmem, ⟨1, _⟩ => ⟨S256x896, .fp8e4m3⟩
  | .local _ .vmem, ⟨2, _⟩ => ⟨S1x256, .f32⟩
  | .local _ .vmem, ⟨3, _⟩ => ⟨S256x896, .bf16⟩
  | .local _ .vmem, ⟨4, _⟩ => ⟨S256x2048, .fp8e5m2⟩
  | .local _ .vmem, ⟨5, _⟩ => ⟨S256x2048, .fp8e5m2⟩
  | .local _ .vmem, ⟨6, _⟩ => ⟨S1x2048, .f32⟩
  | .local _ .vmem, ⟨7, _⟩ => ⟨S1x2048, .f32⟩
  | .local _ .vmem, ⟨8, _⟩ => ⟨S2048x896, .i8⟩
  | .local _ .vmem, ⟨9, _⟩ => ⟨S2048x896, .i8⟩
  | .local _ .vmem, ⟨10, _⟩ => ⟨S2048x896, .f32⟩
  | .local _ .vmem, ⟨11, _⟩ => ⟨S2048x896, .f32⟩
  | .local _ .vmem, ⟨12, _⟩ => ⟨S256x896, .bf16⟩
  | .local _ .vmem, ⟨13, _⟩ => ⟨S256x896, .bf16⟩
  | .local _ .vmem, ⟨14, _⟩ => ⟨S10x256x128, .f32⟩
  | .local _ .vmem, ⟨15, _⟩ => ⟨S256x896, .f32⟩
  | .local _ .vmem, ⟨16, _⟩ => ⟨S256x896, .f32⟩
  | .local _ .smem, ⟨0, _⟩ => ⟨S1x256, .i32⟩
  | .local _ .smem, ⟨1, _⟩ => ⟨S1, .i32⟩
  | .local _ .smem, ⟨2, _⟩ => ⟨S75, .i32⟩
  | .local _ .smem, ⟨3, _⟩ => ⟨S256, .i32⟩
  | _, _ => ⟨S1x256x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg1_0 : Ref sig .tc := ⟨.smem, 1, rfl⟩
abbrev cc0_scratch4 : Ref sig .tc := ⟨.smem, 2, rfl⟩
abbrev cc0_scratch5 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![75], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_71 : BitVec 32 := 0#32
  let c75_i32 : BitVec 32 := 75#32
  let v146 : BitVec 32 := Scalar.addi c0_i32_71 c75_i32
  let c1_i32 : BitVec 32 := 1#32
  ⟨c0_i32_71, v146, c1_i32⟩
def k0_off1 (k0_t1 : Fin k0_t1_loop.trips) : Fin 1 → Nat :=
  let c0_i32_71 : BitVec 32 := 0#32
  let c1_i32 : BitVec 32 := 1#32
  let arg18 : BitVec 32 := Scf.iv c0_i32_71 c1_i32 k0_t1
  let v149 : Index := Scalar.indexCast arg18
  ![v149.toNat]
@[reducible] def k0_t2_loop : Scf.Loop 32 :=
  let c0_i32_74 : BitVec 32 := 0#32
  let c256_i32 : BitVec 32 := 256#32
  let v148 : BitVec 32 := Scalar.addi c0_i32_74 c256_i32
  let c1_i32_75 : BitVec 32 := 1#32
  ⟨c0_i32_74, v148, c1_i32_75⟩
def k0_off2 (k0_t2 : Fin k0_t2_loop.trips) : Fin 2 → Nat :=
  let c0_77 : Index := 0#32
  let c255_i32 : BitVec 32 := 255#32
  let c0_i32_74 : BitVec 32 := 0#32
  let c1_i32_75 : BitVec 32 := 1#32
  let arg18 : BitVec 32 := Scf.iv c0_i32_74 c1_i32_75 k0_t2
  let v149 : BitVec 32 := Scalar.subi c255_i32 arg18
  let v150 : Index := Scalar.indexCast v149
  ![0, v150.toNat]
def k0_off3 (v147 : BitVec 32) (v151 : BitVec 32) : Fin 1 → Nat :=
  let v152 : BitVec 32 := Scalar.subi v151 v147
  let c11_i32 : BitVec 32 := 11#32
  let v158 : BitVec 32 := Scalar.shrui v152 c11_i32
  let v159 : Index := Scalar.indexCast v158
  ![v159.toNat]
def k0_cond2 (v147 : BitVec 32) (v151 : BitVec 32) : BitVec 1 :=
  let v152 : BitVec 32 := Scalar.subi v151 v147
  let c0_i32_78 : BitVec 32 := 0#32
  let v153 : BitVec 1 := Scalar.cmpi .sge v152 c0_i32_78
  let c151936_i32 : BitVec 32 := 151936#32
  let v154 : BitVec 1 := Scalar.cmpi .slt v152 c151936_i32
  let v155 : BitVec 1 := Scalar.andi v153 v154
  let v156 : BitVec 32 := Scalar.extui v155
  let c0_i32_79 : BitVec 32 := 0#32
  let v157 : BitVec 1 := Scalar.cmpi .ne v156 c0_i32_79
  v157

def k0_chk1 (i : grid0.Coords) (v147 : BitVec 32) (v151 : BitVec 32) : Prop :=
  (∀ (k0_h1 : k0_cond1 i = 1#1), ∀ (k0_h2 : k0_cond2 v147 v151 = 1#1), ∀ a, (k0_off3 v147 v151) a + S1.size a ≤ S75.size a)
theorem k0_off3_inb : ∀ (i : grid0.Coords) (v147 : BitVec 32) (v151 : BitVec 32) (k0_hw1 : k0_chk1 i v147 v151), ∀ (k0_h1 : k0_cond1 i = 1#1), ∀ (k0_h2 : k0_cond2 v147 v151 = 1#1), ∀ a, (k0_off3 v147 v151) a + S1.size a ≤ S75.size a := fun i v147 v151 k0_hw1 k0_h1 k0_h2 => k0_hw1 k0_h1 k0_h2

def k0_off4 (k0_t2 : Fin k0_t2_loop.trips) : Fin 1 → Nat :=
  let c255_i32 : BitVec 32 := 255#32
  let c0_i32_74 : BitVec 32 := 0#32
  let c1_i32_75 : BitVec 32 := 1#32
  let arg18 : BitVec 32 := Scf.iv c0_i32_74 c1_i32_75 k0_t2
  let v149 : BitVec 32 := Scalar.subi c255_i32 arg18
  let v161 : Index := Scalar.indexCast v149
  ![v161.toNat]
def k0_cond3 (i : grid0.Coords) : BitVec 1 :=
  let arg0 : BitVec 32 := BitVec.ofNat 32 (i 0).val
  let c74_i32 : BitVec 32 := 74#32
  let v3 : BitVec 1 := Scalar.cmpi .slt arg0 c74_i32
  let v4 : BitVec 32 := Scalar.extui v3
  let c0_i32_1 : BitVec 32 := 0#32
  let v5 : BitVec 1 := Scalar.cmpi .ne v4 c0_i32_1
  v5

def k0_off5 (i : grid0.Coords) (c0_i32_5 : BitVec 32) (c0_i32_6 : BitVec 32) : Fin 3 → Nat :=
  let arg0 : BitVec 32 := BitVec.ofNat 32 (i 0).val
  let c16_i32 : BitVec 32 := 16#32
  let v13 : BitVec 32 := Scalar.muli arg0 c16_i32
  let v14 : BitVec 32 := Scalar.addi v13 c0_i32_5
  let v15 : BitVec 32 := Scalar.addi v14 c0_i32_6
  let c0_i32_7 : BitVec 32 := 0#32
  let v17 : BitVec 1 := Scalar.cmpi .sgt v15 c0_i32_7
  let v18 : BitVec 32 := Scalar.extui v17
  let c0_i32_8 : BitVec 32 := 0#32
  let v19 : BitVec 1 := Scalar.cmpi .slt v15 c0_i32_8
  let v20 : BitVec 32 := Scalar.extui v19
  let v21 : BitVec 32 := Scalar.subi v18 v20
  let c128_i32 : BitVec 32 := 128#32
  let c0_i32_9 : BitVec 32 := 0#32
  let v22 : BitVec 1 := Scalar.cmpi .sgt c128_i32 c0_i32_9
  let v23 : BitVec 32 := Scalar.extui v22
  let c0_i32_10 : BitVec 32 := 0#32
  let v24 : BitVec 1 := Scalar.cmpi .slt c128_i32 c0_i32_10
  let v25 : BitVec 32 := Scalar.extui v24
  let v26 : BitVec 32 := Scalar.subi v23 v25
  let v27 : BitVec 1 := Scalar.cmpi .ne v21 v26
  let v28 : BitVec 32 := Scalar.remsi v15 c128_i32
  let c0_i32_11 : BitVec 32 := 0#32
  let v29 : BitVec 1 := Scalar.cmpi .ne v28 c0_i32_11
  let v30 : BitVec 1 := Scalar.andi v27 v29
  let v16 : BitVec 32 := Scalar.divsi v15 c128_i32
  let c1_i32 : BitVec 32 := 1#32
  let v31 : BitVec 32 := Scalar.subi v16 c1_i32
  let v32 : BitVec 32 := Scalar.select v30 v31 v16
  let v33 : Index := Scalar.indexCast v32
  let c0_12 : Index := 0#32
  let c0_13 : Index := 0#32
  ![v33.toNat, 0, 0]
def k0_cond4 (i : grid0.Coords) : BitVec 1 :=
  let arg0 : BitVec 32 := BitVec.ofNat 32 (i 0).val
  let c74_i32_2 : BitVec 32 := 74#32
  let v6 : BitVec 1 := Scalar.cmpi .eq arg0 c74_i32_2
  let v7 : BitVec 32 := Scalar.extui v6
  let c0_i32_3 : BitVec 32 := 0#32
  let v8 : BitVec 1 := Scalar.cmpi .ne v7 c0_i32_3
  v8

def k0_off6 (i : grid0.Coords) (c0_i32_5 : BitVec 32) (c0_i32_6 : BitVec 32) : Fin 3 → Nat :=
  let arg0 : BitVec 32 := BitVec.ofNat 32 (i 0).val
  let c16_i32 : BitVec 32 := 16#32
  let v13 : BitVec 32 := Scalar.muli arg0 c16_i32
  let v14 : BitVec 32 := Scalar.addi v13 c0_i32_5
  let v15 : BitVec 32 := Scalar.addi v14 c0_i32_6
  let c0_i32_7 : BitVec 32 := 0#32
  let v17 : BitVec 1 := Scalar.cmpi .sgt v15 c0_i32_7
  let v18 : BitVec 32 := Scalar.extui v17
  let c0_i32_8 : BitVec 32 := 0#32
  let v19 : BitVec 1 := Scalar.cmpi .slt v15 c0_i32_8
  let v20 : BitVec 32 := Scalar.extui v19
  let v21 : BitVec 32 := Scalar.subi v18 v20
  let c128_i32 : BitVec 32 := 128#32
  let c0_i32_9 : BitVec 32 := 0#32
  let v22 : BitVec 1 := Scalar.cmpi .sgt c128_i32 c0_i32_9
  let v23 : BitVec 32 := Scalar.extui v22
  let c0_i32_10 : BitVec 32 := 0#32
  let v24 : BitVec 1 := Scalar.cmpi .slt c128_i32 c0_i32_10
  let v25 : BitVec 32 := Scalar.extui v24
  let v26 : BitVec 32 := Scalar.subi v23 v25
  let v27 : BitVec 1 := Scalar.cmpi .ne v21 v26
  let v28 : BitVec 32 := Scalar.remsi v15 c128_i32
  let c0_i32_11 : BitVec 32 := 0#32
  let v29 : BitVec 1 := Scalar.cmpi .ne v28 c0_i32_11
  let v30 : BitVec 1 := Scalar.andi v27 v29
  let v16 : BitVec 32 := Scalar.divsi v15 c128_i32
  let c1_i32 : BitVec 32 := 1#32
  let v31 : BitVec 32 := Scalar.subi v16 c1_i32
  let v32 : BitVec 32 := Scalar.select v30 v31 v16
  let v33 : Index := Scalar.indexCast v32
  let c0_12 : Index := 0#32
  let c0_13 : Index := 0#32
  ![v33.toNat, 0, 0]
def k0_off6_at (r : Fin 3) : BitVec 32 × BitVec 32 :=
  if r.val < 1 then
    (0#32, 0#32)
  else
    if r.val < 2 then
      (0#32, 1#32)
    else
      (2#32, 0#32)
def k0_off7 (i : grid0.Coords) : Fin 1 → Nat :=
  let arg0 : BitVec 32 := BitVec.ofNat 32 (i 0).val
  let v9 : Index := Scalar.indexCast arg0
  ![v9.toNat]
def k0_off8 (arg18 : BitVec 32) : Fin 2 → Nat :=
  let c0_4 : Index := 0#32
  let v15 : Index := Scalar.indexCast arg18
  ![0, v15.toNat]

def k0_off9 (i : grid0.Coords) (v12 : BitVec 32) (v16 : BitVec 32) : Fin 2 → Nat :=
  let arg0 : BitVec 32 := BitVec.ofNat 32 (i 0).val
  let c2048_i32 : BitVec 32 := 2048#32
  let v13 : BitVec 32 := Scalar.muli arg0 c2048_i32
  let v14 : BitVec 32 := Scalar.addi v12 v13
  let v17 : BitVec 32 := Scalar.subi v16 v14
  let v18 : Index := Scalar.indexCast v17
  let c0_5 : Index := 0#32
  ![v18.toNat, 0]

def k0_chk3 (i : grid0.Coords) (v12 : BitVec 32) (v16 : BitVec 32) : Prop :=
  (∀ a, (k0_off9 i v12 v16) a + S1x896.size a ≤ S2048x896.size a)
theorem k0_off9_inb : ∀ (i : grid0.Coords) (v12 : BitVec 32) (v16 : BitVec 32) (k0_hw3 : k0_chk3 i v12 v16), ∀ a, (k0_off9 i v12 v16) a + S1x896.size a ≤ S2048x896.size a := fun i v12 v16 k0_hw3 => k0_hw3

def k0_off10 (arg18 : BitVec 32) : Fin 2 → Nat :=
  let v21 : Index := Scalar.indexCast arg18
  let c0_6 : Index := 0#32
  ![v21.toNat, 0]
def k0_off11 (arg18 : BitVec 32) : Fin 1 → Nat :=
  let v26 : Index := Scalar.indexCast arg18
  ![v26.toNat]

def k0_chk2 (arg18 : BitVec 32) : Prop :=
  (∀ a, (k0_off8 arg18) a + S1x1.size a ≤ S1x256.size a) ∧
  (∀ a, (k0_off10 arg18) a + S1x896.size a ≤ S256x896.size a) ∧
  (∀ a, (k0_off11 arg18) a + S1.size a ≤ S256.size a)
theorem k0_off8_inb : ∀ (arg18 : BitVec 32) (k0_hw2 : k0_chk2 arg18), ∀ a, (k0_off8 arg18) a + S1x1.size a ≤ S1x256.size a := fun arg18 k0_hw2 => k0_hw2.1
theorem k0_off10_inb : ∀ (arg18 : BitVec 32) (k0_hw2 : k0_chk2 arg18), ∀ a, (k0_off10 arg18) a + S1x896.size a ≤ S256x896.size a := fun arg18 k0_hw2 => k0_hw2.2.1
theorem k0_off11_inb : ∀ (arg18 : BitVec 32) (k0_hw2 : k0_chk2 arg18), ∀ a, (k0_off11 arg18) a + S1.size a ≤ S256.size a := fun arg18 k0_hw2 => k0_hw2.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x896 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x896 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x256x151936 : Shape := ⟨3, ![1, 256, 151936]⟩
abbrev S1x256x1187 : Shape := ⟨3, ![1, 256, 1187]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S1 : Shape := ⟨1, ![1]⟩
abbrev S1x256x1187x128 : Shape := ⟨4, ![1, 256, 1187, 128]⟩
abbrev S1x256x1187x1 : Shape := ⟨4, ![1, 256, 1187, 1]⟩
abbrev S1x256x1 : Shape := ⟨3, ![1, 256, 1]⟩
abbrev S_ : Shape := ⟨0, ![]⟩
abbrev S256 : Shape := ⟨1, ![256]⟩
abbrev S256x896 : Shape := ⟨2, ![256, 896]⟩
abbrev S256x1 : Shape := ⟨2, ![256, 1]⟩
abbrev S151936x1 : Shape := ⟨2, ![151936, 1]⟩

abbrev nBuf : Space → Nat
  | .hbm => 55
  | .vmem => 6
  | .smem => 0
  | _ => 0

abbrev bufTy : (tb : Table) → Fin (tcTables nBuf tb) → BufTy
  | .hbm, ⟨0, _⟩ => ⟨S1x256x151936, .fp8e5m2⟩
  | .hbm, ⟨1, _⟩ => ⟨S1x256x1187, .f32⟩
  | .hbm, ⟨2, _⟩ => ⟨S1x256x896, .fp8e4m3⟩
  | .hbm, ⟨3, _⟩ => ⟨S1x256, .f32⟩
  | .hbm, ⟨4, _⟩ => ⟨S151936x896, .i8⟩
  | .hbm, ⟨5, _⟩ => ⟨S151936, .f32⟩
  | .hbm, ⟨6, _⟩ => ⟨S1x256, .i32⟩
  | .hbm, ⟨7, _⟩ => ⟨S1, .i32⟩
  | .hbm, ⟨8, _⟩ => ⟨S1x256x896, .bf16⟩
  | .hbm, ⟨9, _⟩ => ⟨S1x256x151936, .bf16⟩
  | .hbm, ⟨10, _⟩ => ⟨S1x256x896, .bf16⟩
  | .hbm, ⟨11, _⟩ => ⟨S151936x896, .bf16⟩
  | .hbm, ⟨12, _⟩ => ⟨S1x256x1187x128, .bf16⟩
  | .hbm, ⟨13, _⟩ => ⟨S1x256x1187, .bf16⟩
  | .hbm, ⟨14, _⟩ => ⟨S1x256x1187x1, .bf16⟩
  | .hbm, ⟨15, _⟩ => ⟨S1x256x1187x128, .bf16⟩
  | .hbm, ⟨16, _⟩ => ⟨S1x256x1187x128, .bf16⟩
  | .hbm, ⟨17, _⟩ => ⟨S1x256x151936, .bf16⟩
  | .hbm, ⟨18, _⟩ => ⟨S1x256, .bf16⟩
  | .hbm, ⟨19, _⟩ => ⟨S1x256x1, .bf16⟩
  | .hbm, ⟨20, _⟩ => ⟨S1x256x896, .bf16⟩
  | .hbm, ⟨21, _⟩ => ⟨S1x256x896, .bf16⟩
  | .hbm, ⟨22, _⟩ => ⟨S151936x896, .f32⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S1x256, .i1⟩
  | .hbm, ⟨31, _⟩ => ⟨S1x256, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S256, .i32⟩
  | .hbm, ⟨38, _⟩ => ⟨S256x896, .bf16⟩
  | .hbm, ⟨39, _⟩ => ⟨S256x896, .f32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S151936x896, .f32⟩
  | .hbm, ⟨49, _⟩ => ⟨S151936, .bf16⟩
  | .hbm, ⟨50, _⟩ => ⟨S151936x1, .bf16⟩
  | .hbm, ⟨51, _⟩ => ⟨S151936x896, .bf16⟩
  | .hbm, ⟨52, _⟩ => ⟨S151936x896, .bf16⟩
  | .hbm, ⟨53, _⟩ => ⟨S1x256x896, .f32⟩
  | .hbm, ⟨54, _⟩ => ⟨S1x256x896, .bf16⟩
  | .local _ .vmem, ⟨0, _⟩ => ⟨S1x256x151936, .fp8e5m2⟩
  | .local _ .vmem, ⟨1, _⟩ => ⟨S1x256x896, .fp8e4m3⟩
  | .local _ .vmem, ⟨2, _⟩ => ⟨S151936x896, .i8⟩
  | .local _ .vmem, ⟨3, _⟩ => ⟨S1x256x151936, .bf16⟩
  | .local _ .vmem, ⟨4, _⟩ => ⟨S1x256x896, .bf16⟩
  | .local _ .vmem, ⟨5, _⟩ => ⟨S151936x896, .bf16⟩
  | _, _ => ⟨S1x256x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x151936 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x151936 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S151936x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Segs.lean ====
/-
  The body of one grid point cut into the pieces it runs before walking the rows: `seg0` and `seg1` prepare the scratch
  buffers at the first point, `seg3` does the eight sub-blocks of a full block, `seg4` does the two sub-blocks of the
  last, short block and stores the second result.
-/
module

public import proofs.«01_k».proof.Proof.Gen.Kernel.Skeleton

@[expose] public section

noncomputable section

namespace Cert.Proof.K

open Idealize.ShloMosaic Idealize.SL.Sem
open Cert.Kernel Cert.Kernel.Gen

variable {F : FTy → Type} [FloatOps F]

variable (i : grid0.Coords)
variable (arg1 : Memref sig .tc .smem S1x256 .i32)
variable (harg1 : arg1.IsWhole)
variable (arg2 : Memref sig .tc .smem S1 .i32)
variable (harg2 : arg2.IsWhole)
variable (arg3 : Memref sig .tc .vmem S256x1280 .f32)
variable (harg3 : arg3.IsWhole)
variable (arg4 : Memref sig .tc .vmem S256x896 .fp8e4m3)
variable (harg4 : arg4.IsWhole)
variable (arg5 : Memref sig .tc .vmem S1x256 .f32)
variable (harg5 : arg5.IsWhole)
variable (arg6 : Memref sig .tc .vmem S256x896 .bf16)
variable (harg6 : arg6.IsWhole)
variable (arg7 : Memref sig .tc .vmem S256x2048 .fp8e5m2)
variable (harg7 : arg7.IsWhole)
variable (arg8 : Memref sig .tc .vmem S1x2048 .f32)
variable (harg8 : arg8.IsWhole)
variable (arg9 : Memref sig .tc .vmem S2048x896 .i8)
variable (harg9 : arg9.IsWhole)
variable (arg10 : Memref sig .tc .vmem S2048x896 .f32)
variable (harg10 : arg10.IsWhole)
variable (arg11 : Memref sig .tc .vmem S256x896 .bf16)
variable (harg11 : arg11.IsWhole)
variable (arg12 : Memref sig .tc .vmem S256x896 .bf16)
variable (harg12 : arg12.IsWhole)
variable (arg13 : Memref sig .tc .vmem S10x256x128 .f32)
variable (harg13 : arg13.IsWhole)
variable (arg14 : Memref sig .tc .vmem S256x896 .f32)
variable (harg14 : arg14.IsWhole)
variable (arg15 : Memref sig .tc .vmem S256x896 .f32)
variable (harg15 : arg15.IsWhole)
variable (arg16 : Memref sig .tc .smem S75 .i32)
variable (harg16 : arg16.IsWhole)
variable (arg17 : Memref sig .tc .smem S256 .i32)
variable (harg17 : arg17.IsWhole)

/-- What the first grid point does first: rescale `h`, tile the scales, widen the embedding gradient and
clear the accumulator. -/
def seg0 : Prog (TpuEff nD τ sig (Elt F) (Λ₀ F) .tc) PUnit := do
  let ⟨v16, v47⟩ : Σ' (v16 : FVec F S256x128 .bf16), FVec F S256x128 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v80 : Vec F S256x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v47
  let v111 : FVec F S256x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v80
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111

set_option cleanup.letToHave false in set_option maxHeartbeats 40000000 in
/-- What the first grid point does next: empty the lists of tokens and fill them. -/
def seg1 (k0_h1 : k0_cond1 i = 1#1) : Prog (TpuEff nD τ sig (Elt F) (Λ₀ F) .tc) PUnit := do
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1)
  let v147 : Elt F .i32 ← smemLoad arg2 (Rect.unit (s := S1) ![0] S1.size inb_S1_S1_0) numel1_S1 rfl
  Scf.Loop.for k0_t2_loop (k0_t2_ok i k0_h1) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v147)
  pure ⟨⟩

set_option cleanup.letToHave false in set_option maxHeartbeats 40000000 in
/-- What a full block of 2048 columns does. -/
def seg3 (k0_h3 : k0_cond3 i = 1#1) : Prog (TpuEff nD τ sig (Elt F) (Λ₀ F) .tc) PUnit := do
  let arg0 : BitVec 32 := BitVec.ofNat 32 (i 0).val
  let ⟨v789, v892, v893⟩ : Σ' (v789 : Vec F S256x896 .f32) (v892 : FVec F S256x256 .bf16), Vec F S256x896 .i8 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h3
  let v897 : Vec F S256x896 .f32 ← Prog.lift (.load arg15 (Rect.unit (s := S256x896) ![0, 0] S256x896.size inb_S256x896_S256x896_0_0).toLoadRect (View.loadsAt_vmem h_S256x896))
  Prog.lift (.store arg15 (Rect.unit (s := S256x896) ![0, 0] S256x896.size inb_S256x896_S256x896_0_0) (k0_pay1 v789 v892 v893) Finset.univ (View.stores_vmem_bits_univ h_S256x896 rfl) (.inl rfl))
  pure ⟨⟩

set_option cleanup.letToHave false in set_option maxHeartbeats 40000000 in
/-- What the last block, of 384 columns, does. -/
def seg4 (k0_h4 : k0_cond4 i = 1#1) : Prog (TpuEff nD τ sig (Elt F) (Λ₀ F) .tc) PUnit := do
  let arg0 : BitVec 32 := BitVec.ofNat 32 (i 0).val
  let ⟨v12, v35, v46, v48, v49⟩ : Σ' (v12 : Vec F S256x896 .f32) (v35 : FVec F S256x128 .f32) (v46 : IVec S256x128 32) (v48 : IVec S256x128 1), IVec S256x128 32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h4
  let ⟨v59, v82, v84, v85, v86, v89⟩ : Σ' (v59 : FVec F S256x128 .bf16) (v82 : FVec F S256x128 .f32) (v84 : BitVec 32) (v85 : BitVec 32) (v86 : BitVec 1), BitVec 1 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h4 v35 v46 v48 v49
  let ⟨v123, v126⟩ : Σ' (v123 : Vec F S256x896 .f32), BitVec 32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v12 v59 v82 v84 v85 v86 v89
  let ⟨v166, v167⟩ : Σ' (v166 : FVec F S256x128 .bf16), Vec F S256x128 .fp8e5m2 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h4 v126
  let v171 : Vec F S256x896 .bf16 ← Prog.lift (.load arg12 (Rect.unit (s := S256x896) ![0, 0] S256x896.size inb_S256x896_S256x896_0_0).toLoadRect (View.loadsAt_vmem h_S256x896))
  let v173 : Vec F S128x896 .f32 ← Prog.lift (.load arg10 (Rect.unit (s := S2048x896) ![256, 0] S128x896.size inb_S2048x896_S128x896_256_0).toLoadRect (View.loadsAt_vmem h_S128x896))
  Prog.lift (.store arg10 (Rect.unit (s := S2048x896) ![256, 0] S128x896.size inb_S2048x896_S128x896_256_0) (k0_pay3 v166 v167 v171) Finset.univ (View.stores_vmem_bits_univ h_S128x896 rfl) (.inl rfl))
  let v174 : Vec F S1x128 .f32 ← Prog.lift (.load arg8 (Rect.unit (s := S1x2048) ![0, 256] S1x128.size inb_S1x2048_S1x128_0_256).toLoadRect (View.loadsAt_vmem h_S1x128))
  let v179 : Vec F S128x896 .i8 ← Prog.lift (.load arg9 (Rect.unit (s := S2048x896) ![256, 0] S128x896.size inb_S2048x896_S128x896_256_0).toLoadRect (View.loadsAt_vmem h_S128x896))
  let v183 : Vec F S256x896 .f32 ← Prog.lift (.load arg15 (Rect.unit (s := S256x896) ![0, 0] S256x896.size inb_S256x896_S256x896_0_0).toLoadRect (View.loadsAt_vmem h_S256x896))
  Prog.lift (.store arg15 (Rect.unit (s := S256x896) ![0, 0] S256x896.size inb_S256x896_S256x896_0_0) (k0_pay4 v123 v166 v167 v174 v179) Finset.univ (View.stores_vmem_bits_univ h_S256x896 rfl) (.inl rfl))
  let v186 : Vec F S256x896 .f32 ← Prog.lift (.load arg15 (Rect.unit (s := S256x896) ![0, 0] S256x896.size inb_S256x896_S256x896_0_0).toLoadRect (View.loadsAt_vmem h_S256x896))
  let v188 : Vec F S256x896 .bf16 ← Prog.lift (.load arg11 (Rect.unit (s := S256x896) ![0, 0] S256x896.size inb_S256x896_S256x896_0_0).toLoadRect (View.loadsAt_vmem h_S256x896))
  Prog.lift (.store arg11 (Rect.unit (s := S256x896) ![0, 0] S256x896.size inb_S256x896_S256x896_0_0) (k0_pay5 v186) Finset.univ (View.stores_vmem h_S256x896 (harg11.storeExact_slice rfl _ packedbf16_S256x896_S256x896_0_0) (fun _ => rfl)) (.inl rfl))
  pure ⟨⟩

set_option maxRecDepth 65536 in
/-- The body is its three pieces and then the walk from the block's first row. -/
theorem skel_eq : cc0_tied_grad_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
  let _ ← (if h : k0_cond1 i = 1#1 then (do seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17; seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h) else pure ⟨⟩)
  let _ ← (if h : k0_cond3 i = 1#1 then seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
  let _ ← (if h : k0_cond4 i = 1#1 then seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
  let v10 : Elt F .i32 ← smemLoad arg16 (Rect.unit (s := S75) (k0_off7 i) S1.size (k0_off7_inb i)) numel1_S1 rfl
  let v11 : BitVec 32 ← Prog.lift (.call (1 : (Λ₀ F).Label) ⟨i, arg2, harg2, arg1, harg1, arg10, harg10, arg14, harg14, arg17, harg17, v10⟩)
  pure ⟨⟩) := by
  unfold cc0_tied_grad_skel seg0 seg1 seg3 seg4
  by_cases h1 : k0_cond1 i = 1#1 <;> by_cases h3 : k0_cond3 i = 1#1 <;> by_cases h4 : k0_cond4 i = 1#1 <;>
    simp only [h1, h3, h4, ↓reduceDIte, bind_assoc, pure_bind]

end Cert.Proof.K
-- ==== Proof.Shared.Chain.lean ====
/-
  Linked lists of tokens held in two tables of words. A list is entered at a word: a negative word (all ones) ends it, a
  word `t < 256` is the token `t`, followed by the list entered at `nx t`. Inserting the tokens 255, 254, …, 0 in this
  order, each at the front of the list of its bucket, leaves in bucket `b` the tokens of `b` in increasing order.
-/
module

public import Idealize.ShloMosaic.Lib.Pipeline.Kit

@[expose] public section

namespace Cert.Proof.Chain

/-- The list `ts` is what is met following the links `nx` from the word `v`. -/
inductive Chain (nx : ℕ → BitVec 32) : BitVec 32 → List ℕ → Prop
  | nil : Chain nx 4294967295#32 []
  | cons {t : ℕ} {ts : List ℕ} (ht : t < 256) (h : Chain nx (nx t) ts) : Chain nx (BitVec.ofNat 32 t) (t :: ts)

/-- A list depends only on the links of its own tokens. -/
theorem Chain.congr {nx nx' : ℕ → BitVec 32} {v : BitVec 32} {ts : List ℕ} (h : Chain nx v ts) (e : ∀ t ∈ ts, nx' t = nx t) : Chain nx' v ts := by
  induction h with
  | nil => exact .nil
  | cons ht h ih =>
    refine .cons ht ?_
    rw [e _ List.mem_cons_self]
    exact ih fun t ht => e t (List.mem_cons_of_mem _ ht)

/-- The tokens of a list are below 256. -/
theorem Chain.lt {nx : ℕ → BitVec 32} {v : BitVec 32} {ts : List ℕ} (h : Chain nx v ts) : ∀ t ∈ ts, t < 256 := by
  induction h with
  | nil => intro t ht; exact absurd ht List.not_mem_nil
  | cons ht _ ih =>
    intro t h
    rcases List.mem_cons.mp h with rfl | h
    · exact ht
    · exact ih t h

/-- The word `l` is a row of the shard: read signed, it lies in `[0, 151936)`. -/
def InShard (l : BitVec 32) : Prop := 0 ≤ l.toInt ∧ l.toInt < 151936

instance (l : BitVec 32) : Decidable (InShard l) := inferInstanceAs (Decidable (_ ∧ _))

theorem InShard.toNat_lt {l : BitVec 32} (h : InShard l) : l.toNat < 151936 := by
  have := h.1; have := h.2
  rw [BitVec.toInt_eq_toNat_cond] at *
  split at * <;> omega

theorem inShard_iff (l : BitVec 32) : InShard l ↔ l.toNat < 151936 := by
  refine ⟨InShard.toNat_lt, fun h => ?_⟩
  unfold InShard
  rw [BitVec.toInt_eq_toNat_cond]
  split <;> omega

/-- Among the tokens `256 - k, …, 255`, those whose row lies in the shard and in bucket `b` (rows `2048 b` to `2048 b + 2047`), in increasing order. -/
def bucket (L : ℕ → BitVec 32) (k b : ℕ) : List ℕ :=
  (List.range' (256 - k) k).filter fun t => decide ((L t).toNat < 151936 ∧ (L t).toNat / 2048 = b)

theorem mem_bucket {L : ℕ → BitVec 32} {k b t : ℕ} (hk : k ≤ 256) :
    t ∈ bucket L k b ↔ (256 - k ≤ t ∧ t < 256) ∧ (L t).toNat < 151936 ∧ (L t).toNat / 2048 = b := by
  unfold bucket
  rw [List.mem_filter, List.mem_range'_1, decide_eq_true_iff]
  constructor <;> rintro ⟨⟨h1, h2⟩, h3⟩ <;> exact ⟨⟨h1, by omega⟩, h3⟩

theorem bucket_zero (L : ℕ → BitVec 32) (b : ℕ) : bucket L 0 b = [] := rfl

theorem bucket_succ (L : ℕ → BitVec 32) (k b : ℕ) (hk : k < 256) :
    bucket L (k + 1) b = if (L (255 - k)).toNat < 151936 ∧ (L (255 - k)).toNat / 2048 = b then (255 - k) :: bucket L k b else bucket L k b := by
  unfold bucket
  rw [show 256 - (k + 1) = 255 - k by omega, List.range'_succ, show 255 - k + 1 = 256 - k by omega, List.filter_cons]
  simp only [decide_eq_true_eq]

/-- Before insertion `k` the table `hd` enters, for each bucket, the list of the bucket's tokens inserted so far. -/
def Lists (L : ℕ → BitVec 32) (k : ℕ) (hd nx : ℕ → BitVec 32) : Prop := ∀ b < 75, Chain nx (hd b) (bucket L k b)

theorem Lists.zero {L hd nx : ℕ → BitVec 32} (h : ∀ b < 75, hd b = 4294967295#32) : Lists L 0 hd nx := fun b hb => by
  rw [h b hb]; exact .nil

/-- A token outside the shard changes nothing. -/
theorem Lists.skip {L hd nx : ℕ → BitVec 32} {k : ℕ} (hk : k < 256) (h : Lists L k hd nx) (hn : ¬(L (255 - k)).toNat < 151936) : Lists L (k + 1) hd nx := fun b hb => by
  rw [bucket_succ L k b hk, if_neg fun h => hn h.1]; exact h b hb

/-- Inserting token `255 - k` at the front of its bucket's list. -/
theorem Lists.insert {L hd nx hd' nx' : ℕ → BitVec 32} {k b₀ : ℕ} (hk : k < 256) (h : Lists L k hd nx) (hi : (L (255 - k)).toNat < 151936)
    (hb : (L (255 - k)).toNat / 2048 = b₀) (hnx : ∀ t < 256, nx' t = if t = 255 - k then hd b₀ else nx t)
    (hhd : ∀ b < 75, hd' b = if b = b₀ then BitVec.ofNat 32 (255 - k) else hd b) : Lists L (k + 1) hd' nx' := fun b hb' => by
  have hc : Chain nx' (hd b) (bucket L k b) := (h b hb').congr fun t ht => by
    have := (mem_bucket (by omega)).1 ht
    rw [hnx t (by omega), if_neg (by omega)]
  rw [bucket_succ L k b hk, hhd b hb']
  by_cases e : b = b₀
  · rw [if_pos e, if_pos ⟨hi, by omega⟩]
    refine .cons (by omega) ?_
    rw [hnx _ (by omega), if_pos rfl, ← e]
    exact hc
  · rw [if_neg e, if_neg (by omega)]
    exact hc

/-- The row within its bucket of a token of bucket `b`, as the word `id - (start + b·2048)`. -/
theorem row_toNat (id start : BitVec 32) {b : ℕ} (hb : b < 75) (h : (id - start).toNat < 151936) (he : (id - start).toNat / 2048 = b) :
    (id - (start + BitVec.ofNat 32 b * 2048#32)).toNat = (id - start).toNat - 2048 * b := by
  rw [show id - (start + BitVec.ofNat 32 b * 2048#32) = (id - start) - BitVec.ofNat 32 b * 2048#32 by
    generalize BitVec.ofNat 32 b * 2048#32 = c; bv_omega]
  rw [BitVec.toNat_sub_of_le]
  · rw [BitVec.toNat_mul, BitVec.toNat_ofNat, BitVec.toNat_ofNat]; omega
  · rw [BitVec.le_def, BitVec.toNat_mul, BitVec.toNat_ofNat, BitVec.toNat_ofNat]; omega

end Cert.Proof.Chain
-- ==== Proof.K.Walk.lean ====
/-
  The list walk of one grid point: the while loop's label, entered at a word from which the links run through a list of
  tokens, adds to the block's rows the embedding rows of these tokens, one after the other, and ends.
-/
module

public import proofs.«01_k».proof.Proof.Gen.Kernel.Skeleton
public import proofs.«01_k».proof.Proof.Gen.Kernel.Loops
public import proofs.«01_k».proof.Proof.Shared.Chain
public import Idealize.ShloMosaic.Lib.Tactic
public import Idealize.ShloMosaic.Lib.WordCmp
public import Idealize.ShloMosaic.Lib.WritesUnit
public import Idealize.ShloMosaic.Lib.CellWrites
public import Idealize.ShloMosaic.Lib.Pointwise.Index
public import Idealize.ShloMosaic.Lib.Pipeline.FrameBody
public import Idealize.ShloMosaic.Lib.Pipeline.Value

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Loops are bounded by natural numbers. -/
abbrev 𝒱₀ : Variants := Variants.nat

/-! ### Words of the tables -/

/-- The word of token `t` in a row of 256 words. -/
def idAt (x : S1x256.Idx → BitVec 32) (t : ℕ) : BitVec 32 := x (ix2 (0 : Fin 1) (Fin.ofNat 256 t))

/-- The word of token `t` in a table of 256 words. -/
def nxAt (x : S256.Idx → BitVec 32) (t : ℕ) : BitVec 32 := x (ix1 (Fin.ofNat 256 t))

/-- The word of bucket `b` in the table of 75 words. -/
def hdAt (x : S75.Idx → BitVec 32) (b : ℕ) : BitVec 32 := x (ix1 (Fin.ofNat 75 b))

/-- The one word of a table of one. -/
def one (x : S1.Idx → BitVec 32) : BitVec 32 := x (ix1 (0 : Fin 1))

/-- The row of the shard token `t` names, as a word: its id less the shard's first. -/
def localAt (xs : S1.Idx → BitVec 32) (xi : S1x256.Idx → BitVec 32) (t : ℕ) : BitVec 32 := idAt xi t - one xs

/-! ### Rows added -/

/-- The block `x` with row `t` of `dm` added to its row `r`. -/
def addTok (dm : S256x896.Idx → Elt F .f32) (r t : ℕ) (x : S2048x896.Idx → Elt F .f32) : S2048x896.Idx → Elt F .f32 := fun y =>
  if (y 0).val = r then addf (s := S2048x896) (φ := .f32) x (fun z => dm (ix2 (Fin.ofNat 256 t) (z 1))) y else x y

/-- The rows of the tokens of a list added, one after the other: token `t` to row `id - (start + 2048 i)`. -/
def addToks (b : ℕ) (xs : S1.Idx → BitVec 32) (xi : S1x256.Idx → BitVec 32) (dm : S256x896.Idx → Elt F .f32) :
    List ℕ → (S2048x896.Idx → Elt F .f32) → S2048x896.Idx → Elt F .f32
  | [], x => x
  | t :: ts, x => addToks b xs xi dm ts (addTok dm (idAt xi t - (one xs + BitVec.ofNat 32 b * 2048#32)).toNat t x)

section Label

variable (c : Dev nD) (i : grid0.Coords)
  (arg2 : Memref sig .tc .smem S1 .i32) (harg2 : arg2.IsWhole) (arg1 : Memref sig .tc .smem S1x256 .i32) (harg1 : arg1.IsWhole)
  (arg10 : Memref sig .tc .vmem S2048x896 .f32) (harg10 : arg10.IsWhole) (arg14 : Memref sig .tc .vmem S256x896 .f32) (harg14 : arg14.IsWhole)
  (arg17 : Memref sig .tc .smem S256 .i32) (harg17 : arg17.IsWhole)
  (f2 : BufTy.Contents (Elt F) arg2.view.ty) (f1 : BufTy.Contents (Elt F) arg1.view.ty)
  (f14 : BufTy.Contents (Elt F) arg14.view.ty) (f17 : BufTy.Contents (Elt F) arg17.view.ty)

/-- The five buffers the walk touches: the shard's first id, the ids, the block, the embedding rows, the links. -/
def held (f10 : BufTy.Contents (Elt F) arg10.view.ty) : sProp 𝕄 :=
  iprop((arg2.view.loc (c : Thread nD τ) ↦[arg2.view.set]{fullShare} f2) ∗ (arg1.view.loc (c : Thread nD τ) ↦[arg1.view.set]{fullShare} f1)
    ∗ (arg10.view.loc (c : Thread nD τ) ↦[arg10.view.set]{fullShare} f10) ∗ (arg14.view.loc (c : Thread nD τ) ↦[arg14.view.set]{fullShare} f14)
    ∗ (arg17.view.loc (c : Thread nD τ) ↦[arg17.view.set]{fullShare} f17))

/-- Entered where the links run through `ts`: returns some word, the block left with the rows of `ts` added. -/
def spec (ts : List ℕ) (f10 : BufTy.Contents (Elt F) arg10.view.ty) : sWPT 𝕄 (BitVec 32) := do
  sWPT.consume (held c arg2 arg1 arg10 arg14 arg17 f2 f1 f14 f17 f10)
  let r ← sWPT.arbitrary
  let g ← sWPT.arbitrary
  sWPT.assume (arg10.view.read (Elt F) g
    = addToks (i 0).val (arg2.view.read (Elt F) f2) (arg1.view.read (Elt F) f1) (arg14.view.read (Elt F) f14) ts (arg10.view.read (Elt F) f10))
  sWPT.produce (held c arg2 arg1 arg10 arg14 arg17 f2 f1 f14 f17 g)
  pure r

theorem spec_apply (ts : List ℕ) (f10 : BufTy.Contents (Elt F) arg10.view.ty) (K : BitVec 32 → sProp 𝕄) :
    spec c i arg2 arg1 arg10 arg14 arg17 f2 f1 f14 f17 ts f10 K
      = iprop(held c arg2 arg1 arg10 arg14 arg17 f2 f1 f14 f17 f10 ∗ ∀ r : BitVec 32, ∀ g : BufTy.Contents (Elt F) arg10.view.ty,
          ⌜arg10.view.read (Elt F) g
            = addToks (i 0).val (arg2.view.read (Elt F) f2) (arg1.view.read (Elt F) f1) (arg14.view.read (Elt F) f14) ts (arg10.view.read (Elt F) f10)⌝
          -∗ (held c arg2 arg1 arg10 arg14 arg17 f2 f1 f14 f17 g -∗ K r)) := rfl

omit [FloatOps F] in
theorem off_tok {t : ℕ} (ht : t < 256) : k0_off8 (BitVec.ofNat 32 t) = ![0, t] ∧ k0_off10 (BitVec.ofNat 32 t) = ![t, 0] ∧ k0_off11 (BitVec.ofNat 32 t) = ![t] := by
  have h : (BitVec.ofNat 32 t).toNat = t := by rw [BitVec.toNat_ofNat]; omega
  refine ⟨?_, ?_, ?_⟩
  · show ![0, (BitVec.ofNat 32 t).toNat] = _; rw [h]
  · show ![(BitVec.ofNat 32 t).toNat, 0] = _; rw [h]
  · show ![(BitVec.ofNat 32 t).toNat] = _; rw [h]

omit [FloatOps F] in
theorem chk2_of_lt {t : ℕ} (ht : t < 256) : k0_chk2 (BitVec.ofNat 32 t) := by
  obtain ⟨h8, h10, h11⟩ := off_tok ht
  unfold k0_chk2
  rw [h8, h10, h11]
  refine ⟨?_, ?_, ?_⟩ <;> intro a <;> fin_cases a <;> simp <;> omega

omit [FloatOps F] in
theorem off9_eq (i : grid0.Coords) (s d : BitVec 32) : k0_off9 i s d = ![(d - (s + BitVec.ofNat 32 (i 0).val * 2048#32)).toNat, 0] := rfl

omit [FloatOps F] in
theorem chk3_of_lt (i : grid0.Coords) {s d : BitVec 32} (h : (d - (s + BitVec.ofNat 32 (i 0).val * 2048#32)).toNat < 2048) : k0_chk3 i s d := by
  unfold k0_chk3
  rw [off9_eq]
  generalize (d - (s + BitVec.ofNat 32 (i 0).val * 2048#32)).toNat = r at h ⊢
  intro a; fin_cases a <;> simp <;> omega

/-- The store of one token leaves the block with that token's row added. -/
theorem read_addTok (s d : BitVec 32) (t : ℕ) (ht : t < 256) (h3 : k0_chk3 i s d) (h2 : k0_chk2 (BitVec.ofNat 32 t))
    (f10 : BufTy.Contents (Elt F) arg10.view.ty) :
    arg10.view.read (Elt F) (arg10.view.writes (Elt F) f10 [⟨Rect.unit (s := S2048x896) (k0_off9 i s d) S1x896.size (k0_off9_inb i s d h3),
        k0_pay6 (arg10.view.readAt (Elt F) (Rect.unit (s := S2048x896) (k0_off9 i s d) S1x896.size (k0_off9_inb i s d h3)).toLoadRect f10)
          (arg14.view.readAt (Elt F) (Rect.unit (s := S256x896) (k0_off10 (BitVec.ofNat 32 t)) S1x896.size (k0_off10_inb (BitVec.ofNat 32 t) h2)).toLoadRect f14)⟩])
      = addTok (arg14.view.read (Elt F) f14) (d - (s + BitVec.ofNat 32 (i 0).val * 2048#32)).toNat t (arg10.view.read (Elt F) f10) := by
  funext y
  obtain ⟨-, h10, -⟩ := off_tok ht
  rw [View.read_writes_cons_rows arg10.view f10 (d := ![2048, 896]) (size := ![1, 896]) _ _ [] y (off9_eq i s d) (W := 1) rfl rfl]
  unfold addTok
  by_cases h : (y 0).val = (d - (s + BitVec.ofNat 32 (i 0).val * 2048#32)).toNat
  · rw [dif_pos (by omega), if_pos h]
    have e : ∀ (a b : S2048x896.Idx → Elt F .f32) (a' b' : S1x896.Idx → Elt F .f32) (z : S1x896.Idx), a' z = a y → b' z = b y →
        k0_pay6 (F := F) a' b' z = addf (s := S2048x896) (φ := .f32) a b y := by
      intro a b a' b' z ha hb
      have hs : shapeCast S1x896 a' shapeCasts_S1x896_S1x896 = a' := Idealize.ShloMosaic.shapeCast_self _ _
      show addf (s := S1x896) (φ := .f32) (shapeCast S1x896 a' shapeCasts_S1x896_S1x896) b' z = _
      rw [hs]
      show FloatOps.addf (F := F) (a' z) (b' z) = FloatOps.addf (F := F) (a y) (b y)
      rw [ha, hb]
    refine e _ _ _ _ _ ?_ ?_
    · refine congrArg (arg10.view.read (Elt F) f10) (funext fun a => Fin.ext ?_)
      fin_cases a
      · show k0_off9 i s d 0 + 1 * ((y 0).val - (d - (s + BitVec.ofNat 32 (i 0).val * 2048#32)).toNat) = (y 0).val
        rw [off9_eq]
        generalize (d - (s + BitVec.ofNat 32 (i 0).val * 2048#32)).toNat = r at h ⊢
        show r + _ = _
        omega
      · show k0_off9 i s d 1 + 1 * ((y 1).val - 0) = (y 1).val
        rw [off9_eq]
        show 0 + _ = _
        omega
    · refine congrArg (arg14.view.read (Elt F) f14) (funext fun a => Fin.ext ?_)
      fin_cases a
      · show k0_off10 (BitVec.ofNat 32 t) 0 + 1 * ((y 0).val - (d - (s + BitVec.ofNat 32 (i 0).val * 2048#32)).toNat) = t % 256
        rw [h10]
        generalize (d - (s + BitVec.ofNat 32 (i 0).val * 2048#32)).toNat = r at h ⊢
        show t + _ = _
        omega
      · show k0_off10 (BitVec.ofNat 32 t) 1 + 1 * ((y 1).val - 0) = (y 1).val
        rw [h10]
        show 0 + _ = _
        omega
  · rw [dif_neg (by omega), if_neg h]; rfl

/-- The word read from the row of ids at the offsets of token `t`. -/
theorem read_id {t : ℕ} (ht : t < 256) (h2 : k0_chk2 (BitVec.ofNat 32 t)) (x : (Rect.unit (s := S1x256) (k0_off8 (BitVec.ofNat 32 t)) S1x1.size (k0_off8_inb (BitVec.ofNat 32 t) h2)).shape.Idx) :
    (arg1.access (Rect.unit (s := S1x256) (k0_off8 (BitVec.ofNat 32 t)) S1x1.size (k0_off8_inb (BitVec.ofNat 32 t) h2))).read (Elt F) f1 x = idAt (arg1.view.read (Elt F) f1) t := by
  obtain ⟨h8, -, -⟩ := off_tok ht
  refine congrArg (arg1.view.read (Elt F) f1) (funext fun a => Fin.ext ?_)
  have hx := (x a).isLt
  fin_cases a
  · show k0_off8 (BitVec.ofNat 32 t) 0 + 1 * (x 0).val = 0
    have : (x 0).val < 1 := hx
    have := congrFun h8 0
    change k0_off8 (BitVec.ofNat 32 t) 0 = 0 at this
    omega
  · show k0_off8 (BitVec.ofNat 32 t) 1 + 1 * (x 1).val = t % 256
    have : (x 1).val < 1 := hx
    have := congrFun h8 1
    change k0_off8 (BitVec.ofNat 32 t) 1 = t at this
    omega

/-- The word read from the links at the offset of token `t`. -/
theorem read_nx {t : ℕ} (ht : t < 256) (h2 : k0_chk2 (BitVec.ofNat 32 t)) (x : (Rect.unit (s := S256) (k0_off11 (BitVec.ofNat 32 t)) S1.size (k0_off11_inb (BitVec.ofNat 32 t) h2)).shape.Idx) :
    (arg17.access (Rect.unit (s := S256) (k0_off11 (BitVec.ofNat 32 t)) S1.size (k0_off11_inb (BitVec.ofNat 32 t) h2))).read (Elt F) f17 x = nxAt (arg17.view.read (Elt F) f17) t := by
  obtain ⟨-, -, h11⟩ := off_tok ht
  refine congrArg (arg17.view.read (Elt F) f17) (funext fun a => Fin.ext ?_)
  have hx := (x a).isLt
  fin_cases a
  show k0_off11 (BitVec.ofNat 32 t) 0 + 1 * (x 0).val = t % 256
  have : (x 0).val < 1 := hx
  have := congrFun h11 0
  change k0_off11 (BitVec.ofNat 32 t) 0 = t at this
  omega

/-- The one word read of a table of one. -/
theorem read_one (x : (Rect.unit (s := S1) ![0] S1.size inb_S1_S1_0).shape.Idx) :
    (arg2.access (Rect.unit (s := S1) ![0] S1.size inb_S1_S1_0)).read (Elt F) f2 x = one (arg2.view.read (Elt F) f2) := by
  refine congrArg (arg2.view.read (Elt F) f2) (funext fun a => Fin.ext ?_)
  have hx := (x a).isLt
  fin_cases a
  show 0 + 1 * (x 0).val = 0
  have : (x 0).val < 1 := hx
  omega

/-- The label's body, entered where the links run through `ts`, each of whose tokens has its row inside the block, meets the
    specification for `ts`, with as many further calls allowed as `ts` has tokens. -/
theorem spec_le (E : Set ℕ) : ∀ (ts : List ℕ) (v : BitVec 32), Chain (nxAt (arg17.view.read (Elt F) f17)) v ts →
    (∀ t ∈ ts, (idAt (arg1.view.read (Elt F) f1) t - (one (arg2.view.read (Elt F) f2) + BitVec.ofNat 32 (i 0).val * 2048#32)).toNat < 2048) →
    ∀ f10 K, spec c i arg2 arg1 arg10 arg14 arg17 f2 f1 f14 f17 ts f10 K
      ⊢ wp frame (wpE (defs₀ (F := F)) 𝒱₀ (c : Thread nD τ) (some ts.length)) E
          (defs₀ (F := F) .tc 1 ⟨i, arg2, harg2, arg1, harg1, arg10, harg10, arg14, harg14, arg17, harg17, v⟩) K := by
  intro ts
  induction ts with
  | nil =>
    intro v hc hr f10 K
    cases hc
    rw [spec_apply]
    show _ ⊢ wp frame (wpE (defs₀ (F := F)) 𝒱₀ (c : Thread nD τ) (some 0)) E
      (cc0_while1 i arg2 harg2 arg1 harg1 arg10 harg10 arg14 harg14 arg17 harg17 4294967295#32) K
    unfold cc0_while1
    have htest : ¬Scalar.cmpi .sge (4294967295#32) (0#32) = 1#1 := by decide
    simp only [htest, ↓reduceIte, Prog.pure_eq_ret]
    iintro ⟨H, Hk⟩
    rw [wp_ret]; imodintro
    iapply Hk
    · ipureintro; rfl
    · iexact H
  | cons t ts ih =>
    intro v hc hr f10 K
    cases hc with
    | cons ht hc =>
    rw [spec_apply]
    show _ ⊢ wp frame (wpE (defs₀ (F := F)) 𝒱₀ (c : Thread nD τ) (some (ts.length + 1))) E
      (cc0_while1 i arg2 harg2 arg1 harg1 arg10 harg10 arg14 harg14 arg17 harg17 (BitVec.ofNat 32 t)) K
    simp only [cc0_while1_eq_skeleton]; unfold cc0_while1_skel
    have htest : Scalar.cmpi .sge (BitVec.ofNat 32 t) (0#32) = 1#1 := by
      refine (WordCmp.cmpi_sge_ofNat (a := t) (b := 0) (by omega) (by omega)).trans ?_
      rw [decide_eq_true (Nat.zero_le t)]; rfl
    have hr0 := hr t List.mem_cons_self
    have h2 := chk2_of_lt ht
    have h3 := chk3_of_lt i hr0
    simp only [htest, ↓reduceIte, smemLoad, smemLoadElt, Prog.lift, Prog.bind_op, Prog.bind_ret, Prog.pure_eq_ret]
    unfold held
    iintro ⟨⟨Hs, Hi, Ho, Hd, Hn⟩, Hk⟩
    iapply (wp_assume 𝒱₀ (c : Thread nD τ) (some (ts.length + 1)) E h2)
    sl_exec
    generalize hs : arg2.view.readAt (Elt F) (Rect.unit (s := S1) ![0] S1.size inb_S1_S1_0).toLoadRect f2 (Shape.Idx.first (numel1_S1.symm ▸ Nat.one_pos)) = ws
    generalize hd : arg1.view.readAt (Elt F) (Rect.unit (s := S1x256) (k0_off8 (BitVec.ofNat 32 t)) S1x1.size (k0_off8_inb (BitVec.ofNat 32 t) h2)).toLoadRect f1 (Shape.Idx.first (numel1_S1x1.symm ▸ Nat.one_pos)) = wd
    have hs' : ws = one (arg2.view.read (Elt F) f2) := hs.symm.trans (read_one arg2 f2 _)
    have hd' : wd = idAt (arg1.view.read (Elt F) f1) t := hd.symm.trans (read_id arg1 f1 ht h2 _)
    have h3 : k0_chk3 i ws wd := by rw [hs', hd']; exact h3
    sl_exec
    have hn : arg17.view.readAt (Elt F) (Rect.unit (s := S256) (k0_off11 (BitVec.ofNat 32 t)) S1.size (k0_off11_inb (BitVec.ofNat 32 t) h2)).toLoadRect f17 (Shape.Idx.first (numel1_S1.symm ▸ Nat.one_pos))
        = nxAt (arg17.view.read (Elt F) f17) t := read_nx arg17 f17 ht h2 _
    simp only [hn]
    iapply (wp_call_spec 𝒱₀ (c : Thread nD τ) (some (ts.length + 1)) E (spec c i arg2 arg1 arg10 arg14 arg17 f2 f1 f14 f17 ts _) ts.length
      (fun u hu => by cases hu; exact Nat.lt_succ_self _) (ih _ hc (fun t' h' => hr t' (List.mem_cons_of_mem _ h')) _))
    rw [spec_apply]; unfold held
    isplitl [Hs Hi Ho Hd Hn]
    · isplitl [Hs]; · iexact Hs
      isplitl [Hi]; · iexact Hi
      isplitl [Ho]; · iexact Ho
      isplitl [Hd]; · iexact Hd
      iexact Hn
    iintro %r %g %hg ⟨Hs, Hi, Ho, Hd, Hn⟩
    rw [wp_ret]; imodintro
    iapply Hk
    · ipureintro
      rw [hg, read_addTok i arg10 arg14 f14 ws wd t ht h3 h2, hs', hd']
      rfl
    · isplitl [Hs]; · iexact Hs
      isplitl [Hi]; · iexact Hi
      isplitl [Ho]; · iexact Ho
      isplitl [Hd]; · iexact Hd
      iexact Hn

end Label

end Cert.Proof.K
-- ==== Proof.K.Insert.lean ====
/-
  The lists of tokens, one list per block: the first loop empties them, the second goes over the tokens from the last to
  the first and puts each token of the shard at the head of its block's list.
-/
module

public import proofs.«01_k».proof.Proof.K.Segs
public import proofs.«01_k».proof.Proof.K.Walk

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Insert

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h1 : k0_cond1 i = 1#1)

omit [FloatOps F] in
theorem t1_trips : k0_t1_loop.trips = 75 := by decide

omit [FloatOps F] in
theorem t2_trips : k0_t2_loop.trips = 256 := by decide

/-- The lists before trip `k` of the first loop: the first `k` heads say "empty". -/
def inv1 (k : ℕ) : sProp 𝕄 :=
  iprop(∃ f16, (arg16.view.loc (c : Thread nD τ) ↦[arg16.view.set]{fullShare} f16) ∗ ⌜∀ b < k, b < 75 → hdAt (arg16.view.read (Elt F) f16) b = 4294967295#32⌝)

/-- The lists before trip `k` of the second loop: the tokens from `256 - k` on are in them. -/
def inv2 (v : BitVec 32) (f1 : BufTy.Contents (Elt F) arg1.view.ty) (k : ℕ) : sProp 𝕄 :=
  iprop(∃ f16 f17, (arg1.view.loc (c : Thread nD τ) ↦[arg1.view.set]{fullShare} f1) ∗ (arg16.view.loc (c : Thread nD τ) ↦[arg16.view.set]{fullShare} f16) ∗ (arg17.view.loc (c : Thread nD τ) ↦[arg17.view.set]{fullShare} f17)
    ∗ ⌜Lists (fun t => idAt (arg1.view.read (Elt F) f1) t - v) k (hdAt (arg16.view.read (Elt F) f16)) (nxAt (arg17.view.read (Elt F) f17))⌝)

theorem step1 (bd : Option 𝒱₀.V) (E : Set ℕ) (k : Fin k0_t1_loop.trips) (acc : Unit) :
    inv1 c arg16 (F := F) k.val ⊢ wp frame (wpE (defs₀ (F := F)) 𝒱₀ (c : Thread nD τ) bd) E
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k acc) (fun _ => inv1 c arg16 (F := F) (k.val + 1)) := by
  unfold k0_t1_body inv1
  iintro ⟨%f16, H, %h⟩
  sl_exec
  rw [wp_ret]; imodintro
  iexists _
  isplitl [H]
  · iexact H
  · ipureintro
    intro b hb hb'
    have hk : k.val < 75 := t1_trips ▸ k.isLt
    show arg16.view.read (Elt F) _ _ = _
    refine (View.read_writes_cons_cell (d := ![75]) arg16.view f16 _ _ [] _).trans ?_
    have h1 : k0_off1 k 0 = k.val := congrFun (k0_off1_eq k) 0
    rw [h1]
    split
    · rfl
    · rename_i hne
      have hv : ((ix1 (Fin.ofNat 75 b) : S75.Idx) 0).val = b := Nat.mod_eq_of_lt hb'
      refine h b ?_ hb'
      have : b ≠ k.val := fun e => hne (hv.trans e)
      omega

omit [FloatOps F] in
/-- The word read from the row of ids at trip `k`. -/
theorem read_id2 (f1 : BufTy.Contents (Elt F) arg1.view.ty) (k : Fin k0_t2_loop.trips) (x : (Rect.unit (s := S1x256) (k0_off2 k) S1x1.size (k0_off2_inb i k k0_h1)).shape.Idx) :
    arg1.view.readAt (Elt F) (Rect.unit (s := S1x256) (k0_off2 k) S1x1.size (k0_off2_inb i k k0_h1)).toLoadRect f1 x = idAt (arg1.view.read (Elt F) f1) (255 - k.val) := by
  have hk : k.val < 256 := t2_trips ▸ k.isLt
  refine congrArg (arg1.view.read (Elt F) f1) (funext fun a => Fin.ext ?_)
  have hx := (x a).isLt
  fin_cases a
  · show k0_off2 k 0 + 1 * (x 0).val = 0
    have : (x 0).val < 1 := hx
    have : k0_off2 k 0 = 0 := congrFun (k0_off2_eq k) 0
    omega
  · show k0_off2 k 1 + 1 * (x 1).val = (255 - k.val) % 256
    have : (x 1).val < 1 := hx
    have : k0_off2 k 1 = 255 - k.val := congrFun (k0_off2_eq k) 1
    omega

omit [FloatOps F] in
/-- The test of a trip: is the row the token names in the shard. -/
theorem cond2_iff (v d : BitVec 32) : k0_cond2 v d = 1#1 ↔ (d - v).toNat < 151936 := by
  rw [← inShard_iff]
  unfold k0_cond2 InShard
  show Scalar.cmpi .ne (Scalar.extui (Scalar.andi (Scalar.cmpi .sge (d - v) 0#32) (Scalar.cmpi .slt (d - v) 151936#32)) : BitVec 32) 0#32 = 1#1 ↔ _
  generalize d - v = l
  have e1 : Scalar.cmpi .sge l 0#32 = BitVec.ofBool (decide (0 ≤ l.toInt)) := WordCmp.cmpi_sge_eq l 0#32
  have e2 : Scalar.cmpi .slt l 151936#32 = BitVec.ofBool (decide (l.toInt < 151936)) := WordCmp.cmpi_slt_eq l 151936#32
  rw [e1, e2]
  by_cases h1 : (0 : ℤ) ≤ l.toInt <;> by_cases h2 : l.toInt < 151936 <;> simp only [h1, h2, decide_true, decide_false, and_self, and_true, and_false, true_and, false_and] <;> decide

omit [FloatOps F] in
theorem off3_eq (v d : BitVec 32) : k0_off3 v d = ![(d - v).toNat / 2048] := by
  show ![((d - v) >>> (11 : ℕ)).toNat] = _
  rw [BitVec.toNat_ushiftRight, Nat.shiftRight_eq_div_pow]

omit [FloatOps F] in
theorem chk1_of (v d : BitVec 32) : k0_chk1 i v d := by
  intro h1 h2 a
  rw [off3_eq]
  have h := (cond2_iff v d).1 h2
  generalize (d - v).toNat = r at h ⊢
  fin_cases a
  show r / 2048 + 1 ≤ 75
  omega

theorem step2 (bd : Option 𝒱₀.V) (E : Set ℕ) (v : BitVec 32) (f1 : BufTy.Contents (Elt F) arg1.view.ty) (k : Fin k0_t2_loop.trips) (acc : Unit) :
    inv2 c arg1 arg16 arg17 v f1 k.val ⊢ wp frame (wpE (defs₀ (F := F)) 𝒱₀ (c : Thread nD τ) bd) E
      (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v k acc) (fun _ => inv2 c arg1 arg16 arg17 v f1 (k.val + 1)) := by
  have hk : k.val < 256 := t2_trips ▸ k.isLt
  unfold k0_t2_body inv2
  iintro ⟨%f16, %f17, Hi, Hh, Hn, %h⟩
  sl_exec
  have hd : step2.sl.r i arg1 k0_h1 f1 k = idAt (arg1.view.read (Elt F) f1) (255 - k.val) := read_id2 i arg1 k0_h1 f1 k _
  have h1 : k0_chk1 i v (step2.sl.r i arg1 k0_h1 f1 k) := chk1_of i v _
  by_cases h2 : k0_cond2 v (step2.sl.r i arg1 k0_h1 f1 k) = 1#1
  · have hi : (idAt (arg1.view.read (Elt F) f1) (255 - k.val) - v).toNat < 151936 := by
      rw [← hd]; exact (cond2_iff v _).1 h2
    have h3 : k0_off3 v (step2.sl.r i arg1 k0_h1 f1 k) 0 = (idAt (arg1.view.read (Elt F) f1) (255 - k.val) - v).toNat / 2048 := by
      rw [← hd]; exact congrFun (off3_eq v _) 0
    have hb : (idAt (arg1.view.read (Elt F) f1) (255 - k.val) - v).toNat / 2048 < 75 := by omega
    sl_exec
    rw [wp_ret]; imodintro
    iexists _; iexists _
    isplitl [Hi]; · iexact Hi
    isplitl [Hh]; · iexact Hh
    isplitl [Hn]; · iexact Hn
    ipureintro
    refine Lists.insert hk h hi rfl ?_ ?_
    · intro t ht
      refine (View.read_writes_cons_cell (d := ![256]) arg17.view f17 _ _ [] _).trans ?_
      have h4 : k0_off4 k 0 = 255 - k.val := congrFun (k0_off4_eq k) 0
      have hv : ((ix1 (Fin.ofNat 256 t) : S256.Idx) 0).val = t := Nat.mod_eq_of_lt ht
      rw [h4, hv]
      split
      · refine congrArg (arg16.view.read (Elt F) f16) (funext fun a => Fin.ext ?_)
        fin_cases a
        show k0_off3 v (step2.sl.r i arg1 k0_h1 f1 k) 0 + 1 * 0 = _ % 75
        omega
      · rfl
    · intro b hb'
      refine (View.read_writes_cons_cell (d := ![75]) arg16.view f16 _ _ [] _).trans ?_
      have hv : ((ix1 (Fin.ofNat 75 b) : S75.Idx) 0).val = b := Nat.mod_eq_of_lt hb'
      rw [h3, hv]
      split
      · show Scalar.subi 255#32 (Scf.iv 0#32 1#32 k.val) = BitVec.ofNat 32 (255 - k.val)
        show 255#32 - (0#32 + BitVec.ofNat 32 k.val * 1#32) = BitVec.ofNat 32 (255 - k.val)
        bv_omega
      · rfl
  · have hi : ¬(idAt (arg1.view.read (Elt F) f1) (255 - k.val) - v).toNat < 151936 := by
      rw [← hd]; exact fun hh => h2 ((cond2_iff v _).2 hh)
    sl_exec
    rw [wp_ret]; imodintro
    iexists _; iexists _
    isplitl [Hi]; · iexact Hi
    isplitl [Hh]; · iexact Hh
    isplitl [Hn]; · iexact Hn
    ipureintro
    exact Lists.skip hk h hi

/-- The two loops leave the lists of all tokens of the shard, block by block. -/
theorem seg1_wp (E : Set ℕ) (f1 : BufTy.Contents (Elt F) arg1.view.ty) (f2 : BufTy.Contents (Elt F) arg2.view.ty)
    (f16 : BufTy.Contents (Elt F) arg16.view.ty) (f17 : BufTy.Contents (Elt F) arg17.view.ty) (K : PUnit → sProp 𝕄) :
    iprop((arg1.view.loc (c : Thread nD τ) ↦[arg1.view.set]{fullShare} f1) ∗ (arg2.view.loc (c : Thread nD τ) ↦[arg2.view.set]{fullShare} f2) ∗ (arg16.view.loc (c : Thread nD τ) ↦[arg16.view.set]{fullShare} f16) ∗ (arg17.view.loc (c : Thread nD τ) ↦[arg17.view.set]{fullShare} f17)
      ∗ (∀ g16 g17, ⌜Lists (localAt (arg2.view.read (Elt F) f2) (arg1.view.read (Elt F) f1)) 256 (hdAt (arg16.view.read (Elt F) g16)) (nxAt (arg17.view.read (Elt F) g17))⌝
        -∗ ((arg1.view.loc (c : Thread nD τ) ↦[arg1.view.set]{fullShare} f1) ∗ (arg2.view.loc (c : Thread nD τ) ↦[arg2.view.set]{fullShare} f2) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E (seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1) K := by
  unfold seg1
  iintro ⟨Hi, Hs, Hh, Hn, Hk⟩
  ihave H1 := (Scf.wp_for_bind frame (wpE (defs₀ (F := F)) 𝒱₀ (c : Thread nD τ) none) E k0_t1_loop.lb k0_t1_loop.ub k0_t1_loop.st (k0_t1_ok i k0_h1) ⟨⟩
    (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1) (fun k _ => inv1 c arg16 (F := F) k) (fun k acc => step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 none E k acc)) $$ [Hh]
  · unfold inv1
    iexists f16
    isplitl [Hh]; · iexact Hh
    ipureintro
    intro b hb; omega
  iapply H1
  iintro %acc H
  unfold inv1
  icases H with ⟨%h16, Hh, %h⟩
  sl_exec
  have hv : seg1_wp.sl.r arg2 f2 = one (arg2.view.read (Elt F) f2) := read_one arg2 f2 _
  ihave H2 := (Scf.wp_for_bind frame (wpE (defs₀ (F := F)) 𝒱₀ (c : Thread nD τ) none) E k0_t2_loop.lb k0_t2_loop.ub k0_t2_loop.st (k0_t2_ok i k0_h1) ⟨⟩
    (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (seg1_wp.sl.r arg2 f2)) (fun k _ => inv2 c arg1 arg16 arg17 (seg1_wp.sl.r arg2 f2) f1 k)
    (fun k acc => step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 none E _ f1 k acc)) $$ [Hi Hh Hn]
  · unfold inv2
    iexists h16; iexists f17
    isplitl [Hi]; · iexact Hi
    isplitl [Hh]; · iexact Hh
    isplitl [Hn]; · iexact Hn
    ipureintro
    refine Lists.zero fun b hb => h b ?_ hb
    rw [show Scf.trips k0_t1_loop.lb k0_t1_loop.ub k0_t1_loop.st = 75 from t1_trips]; exact hb
  iapply H2
  iintro %acc' H
  unfold inv2
  icases H with ⟨%g16, %g17, Hi, Hh, Hn, %hl⟩
  rw [show Scf.trips k0_t2_loop.lb k0_t2_loop.ub k0_t2_loop.st = 256 from t2_trips, hv] at hl
  simp only [Prog.pure_eq_ret]
  rw [wp_ret]; imodintro
  iapply Hk
  · ipureintro; exact hl
  · isplitl [Hi]; · iexact Hi
    isplitl [Hs]; · iexact Hs
    isplitl [Hh]; · iexact Hh
    iexact Hn

end Insert

end Cert.Proof.K
-- ==== Proof.K.Vals.lean ====
/-
  What the sub-blocks compute, entry by entry: the gathered scale of a column block, the scaled gradients, and the two
  products of a sub-block as functions of the whole arrays.
-/
module

public import proofs.«01_k».proof.Proof.Gen.Kernel.Skeleton
public import proofs.«01_k».proof.Proof.K.Walk
public import Idealize.ShloMosaic.Lib.PointwiseCore
public import Idealize.ShloMosaic.Lib.Pipeline.Value

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Values as functions of the arrays -/

/-- `h` rescaled: entry `(r, d)` is `h[r, d] · scale[r]`. -/
def hhOf (x4 : S256x896.Idx → Elt F .fp8e4m3) (x5 : S1x256.Idx → Elt F .f32) : S256x896.Idx → Elt F .bf16 :=
  mulf (s := S256x896) (φ := .bf16) (extf .bf16 x4 bitsLt_fp8e4m3_bf16)
    (truncf .bf16 (fun y : S256x896.Idx => x5 (ix2 (0 : Fin 1) (y 0))) bitsLt_bf16_f32)

/-- The scales rounded to the narrow format and kept in wide words. -/
def wid (a : Elt F .f32) : Elt F .f32 :=
  extf (s := S1) .f32 (truncf (s := S1) .bf16 (fun _ => a) bitsLt_bf16_f32) bitsLt_bf16_f32 (ix1 (0 : Fin 1))

/-- The scales laid out in tiles of 128 columns. -/
def tilesOf (x3 : S256x1280.Idx → Elt F .f32) : S10x256x128.Idx → Elt F .f32 :=
  fun y => wid (x3 (ix2 (y 1) (Fin.ofNat 1280 (128 * (y 0).val + (y 2).val))))

/-- A wide word narrowed. -/
def nar (a : Elt F .f32) : Elt F .bf16 := truncf (s := S1) .bf16 (fun _ => a) bitsLt_bf16_f32 (ix1 (0 : Fin 1))

/-- The scaled gradient of row `r`, column `v`. -/
def dlAt (A3 : S256x1187.Idx → Elt F .f32) (A6 : S256x151936.Idx → Elt F .fp8e5m2) (r v : ℕ) : Elt F .bf16 :=
  mulf (s := S1) (φ := .bf16) (extf .bf16 (fun _ => A6 (ix2 (Fin.ofNat 256 r) (Fin.ofNat 151936 v))) bitsLt_fp8e5m2_bf16)
    (fun _ => nar (wid (A3 (ix2 (Fin.ofNat 256 r) (Fin.ofNat 1187 (v / 128)))))) (ix1 (0 : Fin 1))

/-- Scaled gradients of columns `v₀ …`, 256 of them. -/
def dl256 (A3 : S256x1187.Idx → Elt F .f32) (A6 : S256x151936.Idx → Elt F .fp8e5m2) (v₀ : ℕ) : S256x256.Idx → Elt F .bf16 :=
  fun z => dlAt A3 A6 (z 0).val (v₀ + (z 1).val)

/-- Scaled gradients of columns `v₀ …`, 128 of them. -/
def dl128 (A3 : S256x1187.Idx → Elt F .f32) (A6 : S256x151936.Idx → Elt F .fp8e5m2) (v₀ : ℕ) : S256x128.Idx → Elt F .bf16 :=
  fun z => dlAt A3 A6 (z 0).val (v₀ + (z 1).val)

/-- The rows `v₀ …` of the first result, 256 of them, without the embedding rows. -/
def de256 (A3 : S256x1187.Idx → Elt F .f32) (A6 : S256x151936.Idx → Elt F .fp8e5m2) (hh : S256x896.Idx → Elt F .bf16) (v₀ : ℕ) :
    S256x896.Idx → Elt F .f32 :=
  matmul (φ₁ := .bf16) (φ₂ := .bf16) dot_S256x256_S256x896_S256x896_0_0_1_1_n_n none (dl256 A3 A6 v₀) hh (constant S256x896 .f32 0x00000000#32)

/-- The rows `v₀ …` of the first result, 128 of them, without the embedding rows. -/
def de128 (A3 : S256x1187.Idx → Elt F .f32) (A6 : S256x151936.Idx → Elt F .fp8e5m2) (hh : S256x896.Idx → Elt F .bf16) (v₀ : ℕ) :
    S128x896.Idx → Elt F .f32 :=
  matmul (φ₁ := .bf16) (φ₂ := .bf16) dot_S256x128_S256x896_S128x896_0_0_1_1_n_n none (dl128 A3 A6 v₀) hh (constant S128x896 .f32 0x00000000#32)

/-- The accumulator with the columns `v₀ …` added, 256 of them. -/
def acc256 (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : S256x896.Idx → Elt F .f32 :=
  addf (s := S256x896) (φ := .f32) acc
    (matmul (φ₁ := .bf16) (φ₂ := .bf16) dot_S256x256_S256x896_S256x896_1_0_0_1_n_n none
      (mulf (s := S256x256) (φ := .bf16) (dl256 A3 A6 v₀) (fun z => nar (A7 (ix2 (0 : Fin 1) (Fin.ofNat 151936 (v₀ + (z 1).val))))))
      (sitofp (s := S256x896) .bf16 (fun z => A8 (ix2 (Fin.ofNat 151936 (v₀ + (z 0).val)) (z 1))))
      (constant S256x896 .f32 0x00000000#32))

/-- The accumulator with the columns `v₀ …` added, 128 of them. -/
def acc128 (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : S256x896.Idx → Elt F .f32 :=
  addf (s := S256x896) (φ := .f32) acc
    (matmul (φ₁ := .bf16) (φ₂ := .bf16) dot_S256x128_S128x896_S256x896_1_0_0_1_n_n none
      (mulf (s := S256x128) (φ := .bf16) (dl128 A3 A6 v₀) (fun z => nar (A7 (ix2 (0 : Fin 1) (Fin.ofNat 151936 (v₀ + (z 1).val))))))
      (sitofp (s := S128x896) .bf16 (fun z => A8 (ix2 (Fin.ofNat 151936 (v₀ + (z 0).val)) (z 1))))
      (constant S256x896 .f32 0x00000000#32))

/-- The accumulator after the sub-blocks below `k` of the block starting at column `v₀`. -/
def accTo (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : ℕ → S256x896.Idx → Elt F .f32
  | 0 => acc
  | k + 1 => acc256 A3 A6 A7 A8 (v₀ + 256 * k) (accTo A3 A6 A7 A8 v₀ acc k)

/-- The accumulator after the full blocks below `n`. -/
def accAt (A3 : S256x1187.Idx → Elt F .f32) (A6 : S256x151936.Idx → Elt F .fp8e5m2) (A7 : S1x151936.Idx → Elt F .f32)
    (A8 : S151936x896.Idx → Elt F .i8) : ℕ → S256x896.Idx → Elt F .f32
  | 0 => fun _ => Scalar.ofBits .f32 0x00000000#32
  | n + 1 => accTo A3 A6 A7 A8 (2048 * n) (accAt A3 A6 A7 A8 n) 8

/-- The accumulator after the last, short block, from the one before it. -/
def endOf (A3 : S256x1187.Idx → Elt F .f32) (A6 : S256x151936.Idx → Elt F .fp8e5m2) (A7 : S1x151936.Idx → Elt F .f32)
    (A8 : S151936x896.Idx → Elt F .i8) (acc : S256x896.Idx → Elt F .f32) : S256x896.Idx → Elt F .f32 :=
  acc128 A3 A6 A7 A8 (2048 * 74 + 256) (acc256 A3 A6 A7 A8 (2048 * 74) acc)

/-- A block of 2048 rows of the first result, without the embedding rows. -/
def deBlk (A3 : S256x1187.Idx → Elt F .f32) (A6 : S256x151936.Idx → Elt F .fp8e5m2) (hh : S256x896.Idx → Elt F .bf16) (b : ℕ) :
    S2048x896.Idx → Elt F .f32 :=
  fun y => de256 A3 A6 hh (2048 * b + 256 * ((y 0).val / 256)) (ix2 (Fin.ofNat 256 (y 0).val) (y 1))

/-- The 384 rows of the last block of the first result, without the embedding rows. -/
def deEnd (A3 : S256x1187.Idx → Elt F .f32) (A6 : S256x151936.Idx → Elt F .fp8e5m2) (hh : S256x896.Idx → Elt F .bf16) :
    S2048x896.Idx → Elt F .f32 :=
  fun y => if (y 0).val < 256 then de256 A3 A6 hh (2048 * 74) (ix2 (Fin.ofNat 256 (y 0).val) (y 1))
    else de128 A3 A6 hh (2048 * 74 + 256) (ix2 (Fin.ofNat 128 (y 0).val) (y 1))

/-! ### The gather of the scales -/

/-- The lane a column block's scale is in, as computed from the block's number. -/
def laneWord (n : BitVec 32) : BitVec 32 :=
  let m := Scalar.select (Scalar.cmpi .eq 128#32 0#32) 1#32 128#32
  let r := Scalar.remsi n m
  Scalar.select (Scalar.andi (Scalar.xori (Scalar.cmpi .slt r 0#32) (Scalar.cmpi .slt m 0#32)) (Scalar.cmpi .ne r 0#32)) (Scalar.addi r m) r

theorem laneWord_eq : ∀ q : Fin 1187, laneWord (BitVec.ofNat 32 q.val) = BitVec.ofNat 32 (q.val % 128) := by decide +kernel

/-- The word gathered by, for a lane. -/
def laneSel (w : BitVec 32) : BitVec 32 := Scalar.select (Scalar.cmpi .slt w 0#32) (Scalar.addi w 128#32) w

theorem laneSel_eq : ∀ q : Fin 128, (laneSel (BitVec.ofNat 32 q.val)).toNat % 128 = q.val := by decide +kernel

/-- A column block scaled: the scale of each row is gathered from the tile at the block's lane. -/
def scaled (n : BitVec 32) (tile : Vec F S1x256x128 .f32) (d : Vec F S256x128 .fp8e5m2) : FVec F S256x128 .bf16 :=
  mulf (extf .bf16 (shapeCast S256x128 d shapeCasts_S256x128_S256x128) bitsLt_fp8e5m2_bf16)
    (truncf .bf16 (dynamicGather 1 (shapeCast S256x128 tile shapeCasts_S1x256x128_S256x128)
      (shapeCast S256x128 (shapeCast S256x128x1
        (select (cmpi .slt (broadcast S256x128 (laneWord n)) (broadcast S256x128 0#32))
          (addi (broadcast S256x128 (laneWord n)) (broadcast S256x128 128#32)) (broadcast S256x128 (laneWord n)))
        shapeCasts_S256x128_S256x128x1) shapeCasts_S256x128x1_S256x128)) bitsLt_bf16_f32)

theorem scaled_apply (q : ℕ) (hq : q < 1187) (tile : Vec F S1x256x128 .f32) (d : Vec F S256x128 .fp8e5m2) (z : S256x128.Idx) :
    scaled (BitVec.ofNat 32 q) tile d z
      = mulf (s := S1) (φ := .bf16) (extf .bf16 (fun _ => d z) bitsLt_fp8e5m2_bf16)
          (fun _ => nar (tile (ix3 (0 : Fin 1) (z 0) (Fin.ofNat 128 q)))) (ix1 (0 : Fin 1)) := by
  have h1 : laneWord (BitVec.ofNat 32 q) = BitVec.ofNat 32 (q % 128) := laneWord_eq ⟨q, hq⟩
  have h2 : (laneSel (BitVec.ofNat 32 (q % 128))).toNat % 128 = q % 128 := laneSel_eq ⟨q % 128, Nat.mod_lt _ (by decide)⟩
  have hd : shapeCast S256x128 d shapeCasts_S256x128_S256x128 = d := Idealize.ShloMosaic.shapeCast_self _ _
  unfold scaled
  rw [h1, hd]
  have hl : (shapeCast S256x128 (shapeCast S256x128x1
        (select (cmpi .slt (broadcast S256x128 (BitVec.ofNat 32 (q % 128))) (broadcast S256x128 0#32))
          (addi (broadcast S256x128 (BitVec.ofNat 32 (q % 128))) (broadcast S256x128 128#32)) (broadcast S256x128 (BitVec.ofNat 32 (q % 128))))
        shapeCasts_S256x128_S256x128x1) shapeCasts_S256x128x1_S256x128 : IVec S256x128 32) = fun _ => laneSel (BitVec.ofNat 32 (q % 128)) := rfl
  rw [hl]
  have hg : dynamicGather 1 (shapeCast S256x128 tile shapeCasts_S1x256x128_S256x128) (fun _ => laneSel (BitVec.ofNat 32 (q % 128))) z
      = tile (ix3 (0 : Fin 1) (z 0) (Fin.ofNat 128 q)) := by
    rw [dynamicGather_apply]
    refine (shapeCast_dropUnit_apply ![256, 128] tile _ _).trans ?_
    refine congrArg tile (funext fun a => ?_)
    match a with
    | ⟨0, _⟩ => rfl
    | ⟨1, _⟩ => rfl
    | ⟨2, _⟩ => exact Fin.ext h2
  show FloatOps.mulf (FloatOps.extf .bf16 bitsLt_fp8e5m2_bf16 (d z)) (FloatOps.truncf .bf16 bitsLt_bf16_f32 _)
    = FloatOps.mulf (FloatOps.extf .bf16 bitsLt_fp8e5m2_bf16 (d z)) (FloatOps.truncf .bf16 bitsLt_bf16_f32 _)
  rw [hg]

/-! ### One sub-block -/

/-- Two column blocks side by side. -/
def cat256 (a b : FVec F S256x128 .bf16) : FVec F S256x256 .bf16 :=
  concatenate S256x256 1 [⟨S256x128, a⟩, ⟨S256x128, b⟩] concatenates_S256x128_S256x128_S256x256_d1

theorem cat_eq (A3 : S256x1187.Idx → Elt F .f32) (A6 : S256x151936.Idx → Elt F .fp8e5m2) (v₀ : ℕ) (a b : FVec F S256x128 .bf16)
    (ha : a = dl128 A3 A6 v₀) (hb : b = dl128 A3 A6 (v₀ + 128)) : cat256 a b = dl256 A3 A6 v₀ := by
  subst ha hb
  funext z
  unfold cat256
  by_cases h : (z 1).val < 128
  · refine (concatenate_pair_apply_left (s₁ := S256x128) (s₂ := S256x128) 1 _ _ _ z rfl (ix2 (n0 := 256) (n1 := 128) (z 0) ⟨(z 1).val, h⟩ : S256x128.Idx) fun b => ?_).trans ?_
    · match b with
      | ⟨0, _⟩ => rfl
      | ⟨1, _⟩ => rfl
    · rfl
  · have hz : (z 1).val < 256 := (z 1).isLt
    refine (concatenate_pair_apply_right (s₁ := S256x128) (s₂ := S256x128) 1 _ _ _ z rfl rfl (ix2 (n0 := 256) (n1 := 128) (z 0) ⟨(z 1).val - 128, by omega⟩ : S256x128.Idx) (fun b hb => ?_) ?_).trans ?_
    · match b with
      | ⟨0, _⟩ => rfl
      | ⟨1, _⟩ => exact absurd rfl hb
    · show (z 1).val - 128 + 128 = (z 1).val; omega
    · show dlAt A3 A6 (z 0).val (v₀ + 128 + ((z 1).val - 128)) = dlAt A3 A6 (z 0).val (v₀ + (z 1).val)
      congr 1; omega

/-- A column block scaled, from what its loads read. -/
theorem scaled_eq (A3 : S256x1187.Idx → Elt F .f32) (A6 : S256x151936.Idx → Elt F .fp8e5m2) (q : ℕ) (hq : q < 1187)
    (n : BitVec 32) (hn : n = BitVec.ofNat 32 q) (tile : Vec F S1x256x128 .f32) (d : Vec F S256x128 .fp8e5m2)
    (ht : ∀ r : Fin 256, tile (ix3 (0 : Fin 1) r (Fin.ofNat 128 q)) = wid (A3 (ix2 r (Fin.ofNat 1187 q))))
    (hd : ∀ z : S256x128.Idx, d z = A6 (ix2 (z 0) (Fin.ofNat 151936 (128 * q + (z 1).val)))) :
    scaled n tile d = dl128 A3 A6 (128 * q) := by
  subst hn
  funext z
  refine (scaled_apply q hq tile d z).trans ?_
  have h1 : (z 1).val < 128 := (z 1).isLt
  have e : (128 * q + (z 1).val) / 128 = q := by omega
  have e0 : (Fin.ofNat 256 (z 0).val : Fin 256) = z 0 := Fin.ext (Nat.mod_eq_of_lt (z 0).isLt)
  have ht' := ht (z 0)
  unfold dl128 dlAt
  rw [e, e0, ← hd z, ← ht']

/-- The rows a sub-block stores, from what its loads read. -/
def subDe (n₀ n₁ : BitVec 32) (t₀ t₁ : Vec F S1x256x128 .f32) (d₀ d₁ : Vec F S256x128 .fp8e5m2) (hh : Vec F S256x896 .bf16) :
    FVec F S256x896 .f32 :=
  matmul (φ₁ := .bf16) (φ₂ := .bf16) dot_S256x256_S256x896_S256x896_0_0_1_1_n_n none (cat256 (scaled n₀ t₀ d₀) (scaled n₁ t₁ d₁)) hh (constant S256x896 .f32 0x00000000#32)

/-- The accumulator a sub-block stores, from what its loads read. -/
def subAcc (n₀ n₁ : BitVec 32) (t₀ t₁ : Vec F S1x256x128 .f32) (d₀ d₁ : Vec F S256x128 .fp8e5m2) (s : Vec F S1x256 .f32)
    (e : Vec F S256x896 .i8) (acc : Vec F S256x896 .f32) : FVec F S256x896 .f32 :=
  shapeCast S256x896 (addf acc (matmul (φ₁ := .bf16) (φ₂ := .bf16) dot_S256x256_S256x896_S256x896_1_0_0_1_n_n none
    (mulf (cat256 (scaled n₀ t₀ d₀) (scaled n₁ t₁ d₁))
      (broadcastTo S256x256 (truncf .bf16 (shapeCast S1x256 s shapeCasts_S1x256_S1x256) bitsLt_bf16_f32 : FVec F S1x256 .bf16) broadcasts_S1x256_S256x256))
    (sitofp .bf16 e) (constant S256x896 .f32 0x00000000#32))) shapeCasts_S256x896_S256x896

/-- The same for the last sub-block, of 128 columns. -/
def tailDe (n₀ : BitVec 32) (t₀ : Vec F S1x256x128 .f32) (d₀ : Vec F S256x128 .fp8e5m2) (hh : Vec F S256x896 .bf16) :
    FVec F S128x896 .f32 :=
  matmul (φ₁ := .bf16) (φ₂ := .bf16) dot_S256x128_S256x896_S128x896_0_0_1_1_n_n none (scaled n₀ t₀ d₀) hh (constant S128x896 .f32 0x00000000#32)

/-- The same for the last sub-block, of 128 columns. -/
def tailAcc (n₀ : BitVec 32) (t₀ : Vec F S1x256x128 .f32) (d₀ : Vec F S256x128 .fp8e5m2) (s : Vec F S1x128 .f32)
    (e : Vec F S128x896 .i8) (acc : Vec F S256x896 .f32) : FVec F S256x896 .f32 :=
  shapeCast S256x896 (addf acc (matmul (φ₁ := .bf16) (φ₂ := .bf16) dot_S256x128_S128x896_S256x896_1_0_0_1_n_n none
    (mulf (scaled n₀ t₀ d₀)
      (broadcastTo S256x128 (truncf .bf16 (shapeCast S1x128 s shapeCasts_S1x128_S1x128) bitsLt_bf16_f32 : FVec F S1x128 .bf16) broadcasts_S1x128_S256x128))
    (sitofp .bf16 e) (constant S256x896 .f32 0x00000000#32))) shapeCasts_S256x896_S256x896

theorem subAcc_eq (A3 : S256x1187.Idx → Elt F .f32) (A6 : S256x151936.Idx → Elt F .fp8e5m2) (A7 : S1x151936.Idx → Elt F .f32)
    (A8 : S151936x896.Idx → Elt F .i8) (v₀ : ℕ) (n₀ n₁ : BitVec 32) (t₀ t₁ : Vec F S1x256x128 .f32) (d₀ d₁ : Vec F S256x128 .fp8e5m2)
    (s : Vec F S1x256 .f32) (e : Vec F S256x896 .i8) (acc acc' : Vec F S256x896 .f32)
    (h : cat256 (scaled n₀ t₀ d₀) (scaled n₁ t₁ d₁) = dl256 A3 A6 v₀)
    (hs : ∀ z : S1x256.Idx, s z = A7 (ix2 (0 : Fin 1) (Fin.ofNat 151936 (v₀ + (z 1).val))))
    (he : ∀ z : S256x896.Idx, e z = A8 (ix2 (Fin.ofNat 151936 (v₀ + (z 0).val)) (z 1))) (ha : acc = acc') :
    subAcc n₀ n₁ t₀ t₁ d₀ d₁ s e acc = acc256 A3 A6 A7 A8 v₀ acc' := by
  subst ha
  have he' : e = fun z => A8 (ix2 (Fin.ofNat 151936 (v₀ + (z 0).val)) (z 1)) := funext he
  have hb : (broadcastTo S256x256 (truncf .bf16 (shapeCast S1x256 s shapeCasts_S1x256_S1x256) bitsLt_bf16_f32 : FVec F S1x256 .bf16) broadcasts_S1x256_S256x256)
      = fun z : S256x256.Idx => nar (A7 (ix2 (0 : Fin 1) (Fin.ofNat 151936 (v₀ + (z 1).val)))) := by
    funext z
    rw [Idealize.ShloMosaic.shapeCast_self]
    refine (broadcastTo_apply _ _ z (ix2 (0 : Fin 1) (z 1)) fun a => ?_).trans ?_
    · match a with
      | ⟨0, _⟩ => rfl
      | ⟨1, _⟩ => rfl
    · show FloatOps.truncf .bf16 bitsLt_bf16_f32 (s _) = FloatOps.truncf .bf16 bitsLt_bf16_f32 _
      exact congrArg (FloatOps.truncf .bf16 bitsLt_bf16_f32) (hs _)
  unfold subAcc acc256
  rw [h, hb, he', Idealize.ShloMosaic.shapeCast_self]

theorem tailAcc_eq (A3 : S256x1187.Idx → Elt F .f32) (A6 : S256x151936.Idx → Elt F .fp8e5m2) (A7 : S1x151936.Idx → Elt F .f32)
    (A8 : S151936x896.Idx → Elt F .i8) (v₀ : ℕ) (n₀ : BitVec 32) (t₀ : Vec F S1x256x128 .f32) (d₀ : Vec F S256x128 .fp8e5m2)
    (s : Vec F S1x128 .f32) (e : Vec F S128x896 .i8) (acc acc' : Vec F S256x896 .f32)
    (h : scaled n₀ t₀ d₀ = dl128 A3 A6 v₀)
    (hs : ∀ z : S1x128.Idx, s z = A7 (ix2 (0 : Fin 1) (Fin.ofNat 151936 (v₀ + (z 1).val))))
    (he : ∀ z : S128x896.Idx, e z = A8 (ix2 (Fin.ofNat 151936 (v₀ + (z 0).val)) (z 1))) (ha : acc = acc') :
    tailAcc n₀ t₀ d₀ s e acc = acc128 A3 A6 A7 A8 v₀ acc' := by
  subst ha
  have he' : e = fun z => A8 (ix2 (Fin.ofNat 151936 (v₀ + (z 0).val)) (z 1)) := funext he
  have hb : (broadcastTo S256x128 (truncf .bf16 (shapeCast S1x128 s shapeCasts_S1x128_S1x128) bitsLt_bf16_f32 : FVec F S1x128 .bf16) broadcasts_S1x128_S256x128)
      = fun z : S256x128.Idx => nar (A7 (ix2 (0 : Fin 1) (Fin.ofNat 151936 (v₀ + (z 1).val)))) := by
    funext z
    rw [Idealize.ShloMosaic.shapeCast_self]
    refine (broadcastTo_apply _ _ z (ix2 (0 : Fin 1) (z 1)) fun a => ?_).trans ?_
    · match a with
      | ⟨0, _⟩ => rfl
      | ⟨1, _⟩ => rfl
    · show FloatOps.truncf .bf16 bitsLt_bf16_f32 (s _) = FloatOps.truncf .bf16 bitsLt_bf16_f32 _
      exact congrArg (FloatOps.truncf .bf16 bitsLt_bf16_f32) (hs _)
  unfold tailAcc acc128
  rw [h, hb, he', Idealize.ShloMosaic.shapeCast_self]

/-! ### The windows of a grid point hold the columns of the arrays -/

/-- Block `b` of the arrays is in the windows, wherever the block is inside the arrays; the tiles hold the scales. -/
structure Good (A3 : S256x1187.Idx → Elt F .f32) (A6 : S256x151936.Idx → Elt F .fp8e5m2) (A7 : S1x151936.Idx → Elt F .f32)
    (A8 : S151936x896.Idx → Elt F .i8) (b : ℕ) (x7 : S256x2048.Idx → Elt F .fp8e5m2) (x8 : S1x2048.Idx → Elt F .f32)
    (x9 : S2048x896.Idx → Elt F .i8) (x13 : S10x256x128.Idx → Elt F .f32) : Prop where
  dl : ∀ y : S256x2048.Idx, 2048 * b + (y 1).val < 151936 → x7 y = A6 (ix2 (y 0) (Fin.ofNat 151936 (2048 * b + (y 1).val)))
  es : ∀ y : S1x2048.Idx, 2048 * b + (y 1).val < 151936 → x8 y = A7 (ix2 (0 : Fin 1) (Fin.ofNat 151936 (2048 * b + (y 1).val)))
  e : ∀ y : S2048x896.Idx, 2048 * b + (y 0).val < 151936 → x9 y = A8 (ix2 (Fin.ofNat 151936 (2048 * b + (y 0).val)) (y 1))
  tile : ∀ y : S10x256x128.Idx, 128 * (y 0).val + (y 2).val < 1187 → x13 y = wid (A3 (ix2 (y 1) (Fin.ofNat 1187 (128 * (y 0).val + (y 2).val))))

section Loads

variable {A3 : S256x1187.Idx → Elt F .f32} {A6 : S256x151936.Idx → Elt F .fp8e5m2} {A7 : S1x151936.Idx → Elt F .f32}
  {A8 : S151936x896.Idx → Elt F .i8} {b : ℕ}
  {arg7 : Memref sig .tc .vmem S256x2048 .fp8e5m2} {arg8 : Memref sig .tc .vmem S1x2048 .f32}
  {arg9 : Memref sig .tc .vmem S2048x896 .i8} {arg13 : Memref sig .tc .vmem S10x256x128 .f32}
  {f7 : BufTy.Contents (Elt F) arg7.view.ty} {f8 : BufTy.Contents (Elt F) arg8.view.ty}
  {f9 : BufTy.Contents (Elt F) arg9.view.ty} {f13 : BufTy.Contents (Elt F) arg13.view.ty}
  (G : Good A3 A6 A7 A8 b (arg7.view.read (Elt F) f7) (arg8.view.read (Elt F) f8) (arg9.view.read (Elt F) f9) (arg13.view.read (Elt F) f13))

include G

theorem load_dl (o : ℕ) (inb : ∀ a, (![0, o] : Fin 2 → ℕ) a + S256x128.size a ≤ S256x2048.size a) (h : 2048 * b + o + 128 ≤ 151936) (z : S256x128.Idx) :
    arg7.view.readAt (Elt F) (Rect.unit (s := S256x2048) ![0, o] S256x128.size inb).toLoadRect f7 z
      = A6 (ix2 (z 0) (Fin.ofNat 151936 (2048 * b + o + (z 1).val))) := by
  have hz : (z 1).val < 128 := (z 1).isLt
  have ho : o + 128 ≤ 2048 := inb 1
  have e1 : (Fin.ofNat 2048 (o + (z 1).val)).val = o + (z 1).val := Nat.mod_eq_of_lt (by omega)
  refine Eq.trans (b := arg7.view.read (Elt F) f7 (ix2 (z 0) (Fin.ofNat 2048 (o + (z 1).val)))) ?_ ?_
  · refine congrArg (arg7.view.read (Elt F) f7) (funext fun a => Fin.ext ?_)
    match a with
    | ⟨0, _⟩ => show 0 + 1 * (z 0).val = (z 0).val; omega
    | ⟨1, _⟩ => show o + 1 * (z 1).val = (Fin.ofNat 2048 (o + (z 1).val)).val; omega
  · refine (G.dl _ ?_).trans ?_
    · show 2048 * b + (Fin.ofNat 2048 (o + (z 1).val)).val < _; omega
    · show A6 (ix2 (z 0) (Fin.ofNat 151936 (2048 * b + (Fin.ofNat 2048 (o + (z 1).val)).val))) = _
      rw [e1, Nat.add_assoc]

theorem load_es (w : ℕ) (o : ℕ) (inb : ∀ a, (![0, o] : Fin 2 → ℕ) a + (![1, w] : Fin 2 → ℕ) a ≤ S1x2048.size a) (h : 2048 * b + o + w ≤ 151936)
    (z : (⟨2, ![1, w]⟩ : Shape).Idx) :
    arg8.view.readAt (Elt F) (Rect.unit (s := S1x2048) ![0, o] ![1, w] inb).toLoadRect f8 z
      = A7 (ix2 (0 : Fin 1) (Fin.ofNat 151936 (2048 * b + o + (z 1).val))) := by
  have hz : (z 1).val < w := (z 1).isLt
  have ho : o + w ≤ 2048 := inb 1
  have e1 : (Fin.ofNat 2048 (o + (z 1).val)).val = o + (z 1).val := Nat.mod_eq_of_lt (by omega)
  refine Eq.trans (b := arg8.view.read (Elt F) f8 (ix2 (0 : Fin 1) (Fin.ofNat 2048 (o + (z 1).val)))) ?_ ?_
  · refine congrArg (arg8.view.read (Elt F) f8) (funext fun a => Fin.ext ?_)
    match a with
    | ⟨0, _⟩ => have h0 : (z 0).val < 1 := (z 0).isLt; show 0 + 1 * (z 0).val = 0; omega
    | ⟨1, _⟩ => show o + 1 * (z 1).val = (Fin.ofNat 2048 (o + (z 1).val)).val; omega
  · refine (G.es _ ?_).trans ?_
    · show 2048 * b + (Fin.ofNat 2048 (o + (z 1).val)).val < _; omega
    · show A7 (ix2 (0 : Fin 1) (Fin.ofNat 151936 (2048 * b + (Fin.ofNat 2048 (o + (z 1).val)).val))) = _
      rw [e1, Nat.add_assoc]

theorem load_e (w : ℕ) (o : ℕ) (inb : ∀ a, (![o, 0] : Fin 2 → ℕ) a + (![w, 896] : Fin 2 → ℕ) a ≤ S2048x896.size a) (h : 2048 * b + o + w ≤ 151936)
    (z : (⟨2, ![w, 896]⟩ : Shape).Idx) :
    arg9.view.readAt (Elt F) (Rect.unit (s := S2048x896) ![o, 0] ![w, 896] inb).toLoadRect f9 z
      = A8 (ix2 (Fin.ofNat 151936 (2048 * b + o + (z 0).val)) (z 1)) := by
  have hz : (z 0).val < w := (z 0).isLt
  have ho : o + w ≤ 2048 := inb 0
  have e1 : (Fin.ofNat 2048 (o + (z 0).val)).val = o + (z 0).val := Nat.mod_eq_of_lt (by omega)
  refine Eq.trans (b := arg9.view.read (Elt F) f9 (ix2 (Fin.ofNat 2048 (o + (z 0).val)) (z 1))) ?_ ?_
  · refine congrArg (arg9.view.read (Elt F) f9) (funext fun a => Fin.ext ?_)
    match a with
    | ⟨0, _⟩ => show o + 1 * (z 0).val = (Fin.ofNat 2048 (o + (z 0).val)).val; omega
    | ⟨1, _⟩ => show 0 + 1 * (z 1).val = (z 1).val; omega
  · refine (G.e _ ?_).trans ?_
    · show 2048 * b + (Fin.ofNat 2048 (o + (z 0).val)).val < _; omega
    · show A8 (ix2 (Fin.ofNat 151936 (2048 * b + (Fin.ofNat 2048 (o + (z 0).val)).val)) (z 1)) = _
      rw [e1, Nat.add_assoc]

theorem load_tile (q : ℕ) (hq : q < 1187) (o : Fin 3 → ℕ) (ho : o = ![q / 128, 0, 0]) (inb : ∀ a, o a + S1x256x128.size a ≤ S10x256x128.size a) (r : Fin 256) :
    arg13.view.readAt (Elt F) (Rect.unit (s := S10x256x128) o S1x256x128.size inb).toLoadRect f13 (ix3 (0 : Fin 1) r (Fin.ofNat 128 q))
      = wid (A3 (ix2 r (Fin.ofNat 1187 q))) := by
  subst ho
  have e0 : (Fin.ofNat 10 (q / 128)).val = q / 128 := Nat.mod_eq_of_lt (by omega)
  have e2 : (Fin.ofNat 128 q).val = q % 128 := rfl
  refine Eq.trans (b := arg13.view.read (Elt F) f13 (ix3 (Fin.ofNat 10 (q / 128)) r (Fin.ofNat 128 q))) ?_ ?_
  · refine congrArg (arg13.view.read (Elt F) f13) (funext fun a => Fin.ext ?_)
    match a with
    | ⟨0, _⟩ => show q / 128 + 1 * 0 = (Fin.ofNat 10 (q / 128)).val; omega
    | ⟨1, _⟩ => show 0 + 1 * r.val = r.val; omega
    | ⟨2, _⟩ => show 0 + 1 * (Fin.ofNat 128 q).val = (Fin.ofNat 128 q).val; omega
  · have e : 128 * (Fin.ofNat 10 (q / 128)).val + (Fin.ofNat 128 q).val = q := by omega
    refine (G.tile _ ?_).trans ?_
    · show 128 * (Fin.ofNat 10 (q / 128)).val + (Fin.ofNat 128 q).val < _; omega
    · show wid (A3 (ix2 r (Fin.ofNat 1187 (128 * (Fin.ofNat 10 (q / 128)).val + (Fin.ofNat 128 q).val)))) = _
      rw [e]

/-- A column block of the windows, scaled. -/
theorem load_scaled (q o : ℕ) (hq : q < 1187) (ho : 2048 * b + o = 128 * q) (n : BitVec 32) (hn : n = BitVec.ofNat 32 q)
    (o3 : Fin 3 → ℕ) (ho3 : o3 = ![q / 128, 0, 0]) (inb3 : ∀ a, o3 a + S1x256x128.size a ≤ S10x256x128.size a)
    (inb : ∀ a, (![0, o] : Fin 2 → ℕ) a + S256x128.size a ≤ S256x2048.size a) :
    scaled n (arg13.view.readAt (Elt F) (Rect.unit (s := S10x256x128) o3 S1x256x128.size inb3).toLoadRect f13)
      (arg7.view.readAt (Elt F) (Rect.unit (s := S256x2048) ![0, o] S256x128.size inb).toLoadRect f7) = dl128 A3 A6 (2048 * b + o) := by
  rw [ho]
  refine scaled_eq A3 A6 q hq n hn _ _ (load_tile G q hq o3 ho3 inb3) fun z => ?_
  rw [load_dl G o inb (by omega), ho]

/-- Two column blocks of the windows, scaled, side by side. -/
theorem load_cat (q o o' : ℕ) (hq : q + 1 < 1187) (ho : 2048 * b + o = 128 * q) (ho' : o' = o + 128) (n n' : BitVec 32) (hn : n = BitVec.ofNat 32 q) (hn' : n' = BitVec.ofNat 32 (q + 1))
    (o3 o3' : Fin 3 → ℕ) (ho3 : o3 = ![q / 128, 0, 0]) (ho3' : o3' = ![(q + 1) / 128, 0, 0])
    (inb3 : ∀ a, o3 a + S1x256x128.size a ≤ S10x256x128.size a) (inb3' : ∀ a, o3' a + S1x256x128.size a ≤ S10x256x128.size a)
    (inb : ∀ a, (![0, o] : Fin 2 → ℕ) a + S256x128.size a ≤ S256x2048.size a) (inb' : ∀ a, (![0, o'] : Fin 2 → ℕ) a + S256x128.size a ≤ S256x2048.size a) :
    cat256 (scaled n (arg13.view.readAt (Elt F) (Rect.unit (s := S10x256x128) o3 S1x256x128.size inb3).toLoadRect f13)
        (arg7.view.readAt (Elt F) (Rect.unit (s := S256x2048) ![0, o] S256x128.size inb).toLoadRect f7))
      (scaled n' (arg13.view.readAt (Elt F) (Rect.unit (s := S10x256x128) o3' S1x256x128.size inb3').toLoadRect f13)
        (arg7.view.readAt (Elt F) (Rect.unit (s := S256x2048) ![0, o'] S256x128.size inb').toLoadRect f7)) = dl256 A3 A6 (2048 * b + o) := by
  subst ho'
  refine cat_eq A3 A6 _ _ _ (load_scaled G q o (by omega) ho n hn o3 ho3 inb3 inb) ?_
  rw [load_scaled G (q + 1) (o + 128) hq (by omega) n' hn' o3' ho3' inb3' inb', Nat.add_assoc]

end Loads

end Cert.Proof.K
-- ==== Proof.K.Full.lean ====
/-
  A full block of 2048 columns: eight sub-blocks of 256 columns, each stores its 256 rows of the first result and adds
  its product to the accumulator.
-/
module

public import proofs.«01_k».proof.Proof.K.Segs
public import proofs.«01_k».proof.Proof.K.Vals
public import Idealize.ShloMosaic.Lib.VecWindow
public import Idealize.ShloMosaic.Lib.Pipeline.FrameBody

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point with a given coordinate. -/
def pt0 (b : Fin 75) : grid0.Coords := fun a => match a with | ⟨0, _⟩ => b

set_option maxRecDepth 100000 in
theorem off5_dec : ∀ b : Fin 75, ∀ k : Fin 8, ∀ r : Fin 2,
    k0_off5 (pt0 b) (BitVec.ofNat 32 (2 * k.val)) (BitVec.ofNat 32 r.val) 0 = (16 * b.val + 2 * k.val + r.val) / 128 := by
  decide +kernel

theorem off6_dec : ∀ b : Fin 75, ∀ r : Fin 3,
    k0_off6 (pt0 b) (k0_off6_at r).1 (k0_off6_at r).2 0 = (16 * b.val + r.val) / 128 := by
  decide +kernel

/-- The tile a column block's scales are in. -/
theorem off5_eq (i : grid0.Coords) (k : Fin 8) (r : Fin 2) :
    k0_off5 i (BitVec.ofNat 32 (2 * k.val)) (BitVec.ofNat 32 r.val) = ![(16 * (i 0).val + 2 * k.val + r.val) / 128, 0, 0] := by
  funext a
  match a with
  | ⟨0, _⟩ => exact off5_dec (i 0) k r
  | ⟨1, _⟩ => rfl
  | ⟨2, _⟩ => rfl

/-- The tile a column block of the last block finds its scales in. -/
theorem off6_eq (i : grid0.Coords) (r : Fin 3) :
    k0_off6 i (k0_off6_at r).1 (k0_off6_at r).2 = ![(16 * (i 0).val + r.val) / 128, 0, 0] := by
  funext a
  match a with
  | ⟨0, _⟩ => exact off6_dec (i 0) r
  | ⟨1, _⟩ => rfl
  | ⟨2, _⟩ => rfl

/-- A column block's number as computed. -/
theorem word_eq (b j r : ℕ) :
    Scalar.addi (Scalar.addi (Scalar.muli (BitVec.ofNat 32 b) 16#32) (BitVec.ofNat 32 j)) (BitVec.ofNat 32 r) = BitVec.ofNat 32 (16 * b + j + r) := by
  show BitVec.ofNat 32 b * 16#32 + BitVec.ofNat 32 j + BitVec.ofNat 32 r = _
  rw [show (16#32 : BitVec 32) = BitVec.ofNat 32 16 from rfl, ← BitVec.ofNat_mul, ← BitVec.ofNat_add, ← BitVec.ofNat_add, Nat.mul_comm]

theorem cond3_iff : ∀ b : Fin 75, k0_cond3 (pt0 b) = 1#1 ↔ b.val < 74 := by decide +kernel

theorem cond4_iff : ∀ b : Fin 75, k0_cond4 (pt0 b) = 1#1 ↔ b.val = 74 := by decide +kernel

theorem cond1_iff : ∀ b : Fin 75, k0_cond1 (pt0 b) = 1#1 ↔ b.val = 0 := by decide +kernel

section Whole

variable {κ : Kind} {sp : Space} {s : Shape} {e : EltTy}

theorem emb_whole (off : Fin s.rank → ℕ) (h0 : ∀ a, off a = 0) (inb : ∀ a, off a + s.size a ≤ s.size a) (y : s.Idx) :
    (Rect.unit (s := s) off s.size inb).emb y = y :=
  funext fun a => Fin.ext (by show off a + 1 * (y a).val = (y a).val; rw [h0 a]; omega)

/-- A store of the whole buffer is read back. -/
theorem read_whole (v : View sig κ sp s e) (f : v.ty.Contents (Elt F)) (off : Fin s.rank → ℕ) (h0 : ∀ a, off a = 0) (inb : ∀ a, off a + s.size a ≤ s.size a)
    (w : s.Idx → Elt F e) (L : List (View.Piece (Elt F) s e)) :
    v.read (Elt F) (v.writes (Elt F) f (⟨Rect.unit off s.size inb, w⟩ :: L)) = w := by
  funext y
  have h := v.read_writes_cons_emb f (Rect.unit off s.size inb) w L y
  rwa [emb_whole off h0 inb y] at h

end Whole

theorem deBlk_piece (A3 : S256x1187.Idx → Elt F .f32) (A6 : S256x151936.Idx → Elt F .fp8e5m2) (hh : S256x896.Idx → Elt F .bf16) (b j o : ℕ) (hj : j < 8)
    (ho : o = 256 * j) (inb : ∀ a, (![o, 0] : Fin 2 → ℕ) a + S256x896.size a ≤ S2048x896.size a) (x : S256x896.Idx) :
    de256 A3 A6 hh (2048 * b + o) x = deBlk A3 A6 hh b ((Rect.unit (s := S2048x896) ![o, 0] S256x896.size inb).emb x) := by
  have h0 : ((Rect.unit (s := S2048x896) ![o, 0] S256x896.size inb).emb x 0).val = o + (x 0).val := by
    show o + 1 * (x 0).val = _; omega
  have h1 : (Rect.unit (s := S2048x896) ![o, 0] S256x896.size inb).emb x 1 = x 1 := Fin.ext (by show 0 + 1 * (x 1).val = _; omega)
  have hx : (x 0).val < 256 := (x 0).isLt
  unfold deBlk
  rw [h0, h1, show 256 * ((o + (x 0).val) / 256) = o by omega]
  refine congrArg _ (funext fun a => Fin.ext ?_)
  match a with
  | ⟨0, _⟩ => show (x 0).val = (o + (x 0).val) % 256; omega
  | ⟨1, _⟩ => rfl

section Full

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h3 : k0_cond3 i = 1#1)

set_option maxHeartbeats 400000 in
/-- A full block: the rows of the first result and the accumulator it leaves. -/
theorem seg3_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8) (hb : (i 0).val < 74)
    (G : Good A3 A6 A7 A8 (i 0).val (arg7.view.read (Elt F) f7) (arg8.view.read (Elt F) f8) (arg9.view.read (Elt F) f9) (arg13.view.read (Elt F) f13)) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g15, ⌜arg10.view.read (Elt F) g10 = deBlk A3 A6 (arg12.view.read (Elt F) f12) (i 0).val
            ∧ arg15.view.read (Elt F) g15 = accTo A3 A6 A7 A8 (2048 * (i 0).val) (arg15.view.read (Elt F) f15) 8⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E (seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h3) K := by
  unfold seg3
  iintro ⟨H7, H8, H9, H10, H12, H13, H15, Hk⟩
  sl_exec_parts
  have hc0 : cat256 (scaled (Scalar.addi (Scalar.addi (Scalar.muli (BitVec.ofNat 32 (i 0).val) 16#32) 0#32) 0#32) (arg13.view.readAt (Elt F) (Rect.unit (s := S10x256x128) (k0_off5 i 0#32 0#32) S1x256x128.size (k0_off5_inb i k0_h3 0 0)).toLoadRect f13) (arg7.view.readAt (Elt F) (Rect.unit (s := S256x2048) ![0, 0] S256x128.size inb_S256x2048_S256x128_0_0).toLoadRect f7)) (scaled (Scalar.addi (Scalar.addi (Scalar.muli (BitVec.ofNat 32 (i 0).val) 16#32) 0#32) 1#32) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 128] S256x128.size inb_S256x2048_S256x128_0_128).toLoadRect f7)) = dl256 A3 A6 (2048 * (i 0).val + 0) :=
    load_cat G (16 * (i 0).val + 0) 0 128 (by omega) (by omega) rfl _ _ (word_eq (i 0).val 0 0) (word_eq (i 0).val 0 1) _ _ (off5_eq i 0 0) (off5_eq i 0 1) _ _ _ _
  have hc1 : cat256 (scaled (Scalar.addi (Scalar.addi (Scalar.muli (BitVec.ofNat 32 (i 0).val) 16#32) 2#32) 0#32) (arg13.view.readAt (Elt F) (Rect.unit (s := S10x256x128) (k0_off5 i 2#32 0#32) S1x256x128.size (k0_off5_inb i k0_h3 1 0)).toLoadRect f13) (arg7.view.readAt (Elt F) (Rect.unit (s := S256x2048) ![0, 256] S256x128.size inb_S256x2048_S256x128_0_256).toLoadRect f7)) (scaled (Scalar.addi (Scalar.addi (Scalar.muli (BitVec.ofNat 32 (i 0).val) 16#32) 2#32) 1#32) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 384] S256x128.size inb_S256x2048_S256x128_0_384).toLoadRect f7)) = dl256 A3 A6 (2048 * (i 0).val + 256) :=
    load_cat G (16 * (i 0).val + 2) 256 384 (by omega) (by omega) rfl _ _ (word_eq (i 0).val 2 0) (word_eq (i 0).val 2 1) _ _ (off5_eq i 1 0) (off5_eq i 1 1) _ _ _ _
  have hc2 : cat256 (scaled (Scalar.addi (Scalar.addi (Scalar.muli (BitVec.ofNat 32 (i 0).val) 16#32) 4#32) 0#32) (arg13.view.readAt (Elt F) (Rect.unit (s := S10x256x128) (k0_off5 i 4#32 0#32) S1x256x128.size (k0_off5_inb i k0_h3 2 0)).toLoadRect f13) (arg7.view.readAt (Elt F) (Rect.unit (s := S256x2048) ![0, 512] S256x128.size inb_S256x2048_S256x128_0_512).toLoadRect f7)) (scaled (Scalar.addi (Scalar.addi (Scalar.muli (BitVec.ofNat 32 (i 0).val) 16#32) 4#32) 1#32) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 640] S256x128.size inb_S256x2048_S256x128_0_640).toLoadRect f7)) = dl256 A3 A6 (2048 * (i 0).val + 512) :=
    load_cat G (16 * (i 0).val + 4) 512 640 (by omega) (by omega) rfl _ _ (word_eq (i 0).val 4 0) (word_eq (i 0).val 4 1) _ _ (off5_eq i 2 0) (off5_eq i 2 1) _ _ _ _
  have hc3 : cat256 (scaled (Scalar.addi (Scalar.addi (Scalar.muli (BitVec.ofNat 32 (i 0).val) 16#32) 6#32) 0#32) (arg13.view.readAt (Elt F) (Rect.unit (s := S10x256x128) (k0_off5 i 6#32 0#32) S1x256x128.size (k0_off5_inb i k0_h3 3 0)).toLoadRect f13) (arg7.view.readAt (Elt F) (Rect.unit (s := S256x2048) ![0, 768] S256x128.size inb_S256x2048_S256x128_0_768).toLoadRect f7)) (scaled (Scalar.addi (Scalar.addi (Scalar.muli (BitVec.ofNat 32 (i 0).val) 16#32) 6#32) 1#32) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 896] S256x128.size inb_S256x2048_S256x128_0_896).toLoadRect f7)) = dl256 A3 A6 (2048 * (i 0).val + 768) :=
    load_cat G (16 * (i 0).val + 6) 768 896 (by omega) (by omega) rfl _ _ (word_eq (i 0).val 6 0) (word_eq (i 0).val 6 1) _ _ (off5_eq i 3 0) (off5_eq i 3 1) _ _ _ _
  have hc4 : cat256 (scaled (Scalar.addi (Scalar.addi (Scalar.muli (BitVec.ofNat 32 (i 0).val) 16#32) 8#32) 0#32) (arg13.view.readAt (Elt F) (Rect.unit (s := S10x256x128) (k0_off5 i 8#32 0#32) S1x256x128.size (k0_off5_inb i k0_h3 4 0)).toLoadRect f13) (arg7.view.readAt (Elt F) (Rect.unit (s := S256x2048) ![0, 1024] S256x128.size inb_S256x2048_S256x128_0_1024).toLoadRect f7)) (scaled (Scalar.addi (Scalar.addi (Scalar.muli (BitVec.ofNat 32 (i 0).val) 16#32) 8#32) 1#32) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1152] S256x128.size inb_S256x2048_S256x128_0_1152).toLoadRect f7)) = dl256 A3 A6 (2048 * (i 0).val + 1024) :=
    load_cat G (16 * (i 0).val + 8) 1024 1152 (by omega) (by omega) rfl _ _ (word_eq (i 0).val 8 0) (word_eq (i 0).val 8 1) _ _ (off5_eq i 4 0) (off5_eq i 4 1) _ _ _ _
  have hc5 : cat256 (scaled (Scalar.addi (Scalar.addi (Scalar.muli (BitVec.ofNat 32 (i 0).val) 16#32) 10#32) 0#32) (arg13.view.readAt (Elt F) (Rect.unit (s := S10x256x128) (k0_off5 i 10#32 0#32) S1x256x128.size (k0_off5_inb i k0_h3 5 0)).toLoadRect f13) (arg7.view.readAt (Elt F) (Rect.unit (s := S256x2048) ![0, 1280] S256x128.size inb_S256x2048_S256x128_0_1280).toLoadRect f7)) (scaled (Scalar.addi (Scalar.addi (Scalar.muli (BitVec.ofNat 32 (i 0).val) 16#32) 10#32) 1#32) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1408] S256x128.size inb_S256x2048_S256x128_0_1408).toLoadRect f7)) = dl256 A3 A6 (2048 * (i 0).val + 1280) :=
    load_cat G (16 * (i 0).val + 10) 1280 1408 (by omega) (by omega) rfl _ _ (word_eq (i 0).val 10 0) (word_eq (i 0).val 10 1) _ _ (off5_eq i 5 0) (off5_eq i 5 1) _ _ _ _
  have hc6 : cat256 (scaled (Scalar.addi (Scalar.addi (Scalar.muli (BitVec.ofNat 32 (i 0).val) 16#32) 12#32) 0#32) (arg13.view.readAt (Elt F) (Rect.unit (s := S10x256x128) (k0_off5 i 12#32 0#32) S1x256x128.size (k0_off5_inb i k0_h3 6 0)).toLoadRect f13) (arg7.view.readAt (Elt F) (Rect.unit (s := S256x2048) ![0, 1536] S256x128.size inb_S256x2048_S256x128_0_1536).toLoadRect f7)) (scaled (Scalar.addi (Scalar.addi (Scalar.muli (BitVec.ofNat 32 (i 0).val) 16#32) 12#32) 1#32) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1664] S256x128.size inb_S256x2048_S256x128_0_1664).toLoadRect f7)) = dl256 A3 A6 (2048 * (i 0).val + 1536) :=
    load_cat G (16 * (i 0).val + 12) 1536 1664 (by omega) (by omega) rfl _ _ (word_eq (i 0).val 12 0) (word_eq (i 0).val 12 1) _ _ (off5_eq i 6 0) (off5_eq i 6 1) _ _ _ _
  have hc7 : cat256 (scaled (Scalar.addi (Scalar.addi (Scalar.muli (BitVec.ofNat 32 (i 0).val) 16#32) 14#32) 0#32) (arg13.view.readAt (Elt F) (Rect.unit (s := S10x256x128) (k0_off5 i 14#32 0#32) S1x256x128.size (k0_off5_inb i k0_h3 7 0)).toLoadRect f13) (arg7.view.readAt (Elt F) (Rect.unit (s := S256x2048) ![0, 1792] S256x128.size inb_S256x2048_S256x128_0_1792).toLoadRect f7)) (scaled (Scalar.addi (Scalar.addi (Scalar.muli (BitVec.ofNat 32 (i 0).val) 16#32) 14#32) 1#32) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1920] S256x128.size inb_S256x2048_S256x128_0_1920).toLoadRect f7)) = dl256 A3 A6 (2048 * (i 0).val + 1792) :=
    load_cat G (16 * (i 0).val + 14) 1792 1920 (by omega) (by omega) rfl _ _ (word_eq (i 0).val 14 0) (word_eq (i 0).val 14 1) _ _ (off5_eq i 7 0) (off5_eq i 7 1) _ _ _ _
  have hL0 : seg3_wp.sl.H15_1 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off5 i 0#32 0#32) S1x256x128.size (k0_off5_inb i k0_h3 0 0)).toLoadRect f13) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7)
        (arg8.view.readAt (Elt F) (Rect.unit (s := S1x2048) ![0, 0] S1x256.size inb_S1x2048_S1x256_0_0).toLoadRect f8)
        (arg9.view.readAt (Elt F) (Rect.unit (s := S2048x896) ![0, 0] S256x896.size inb_S2048x896_S256x896_0_0).toLoadRect f9) (arg15.view.readAt (Elt F) (Rect.unit (s := S256x896) ![0, 0] S256x896.size inb_S256x896_S256x896_0_0).toLoadRect f15))⟩ :: [] := by
    delta seg3_wp.sl.H15_1
    rfl
  have hv0 : arg15.view.readCov (seg3_wp.sl.H15_1 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 1 := by
    rw [hL0]
    rw [View.readCov_cons_toLoadRect]
    exact (subAcc_eq A3 A6 A7 A8 (2048 * (i 0).val + 0) _ _ _ _ _ _ _ _ _ _ hc0 (load_es G 256 0 _ (by omega)) (load_e G 256 0 _ (by omega)) (View.readAt_full _ _ _))
  have hL1 : seg3_wp.sl.H15_2 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 2#32) 0#32) (Scalar.addi (Scalar.addi (Scalar.muli (BitVec.ofNat 32 (i 0).val) 16#32) 2#32) 1#32) (arg13.view.readAt (Elt F) (Rect.unit (s := S10x256x128) (k0_off5 i 2#32 0#32) S1x256x128.size (k0_off5_inb i k0_h3 1 0)).toLoadRect f13) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 256] S256x128.size inb_S256x2048_S256x128_0_256).toLoadRect f7) (arg7.view.readAt (Elt F) (Rect.unit (s := S256x2048) ![0, 384] S256x128.size inb_S256x2048_S256x128_0_384).toLoadRect f7)
        (arg8.view.readAt (Elt F) (Rect.unit (s := S1x2048) ![0, 256] S1x256.size inb_S1x2048_S1x256_0_256).toLoadRect f8)
        (arg9.view.readAt (Elt F) (Rect.unit (s := S2048x896) ![256, 0] S256x896.size inb_S2048x896_S256x896_256_0).toLoadRect f9) (arg15.view.readCov (seg3_wp.sl.H15_1 i arg7 arg8 arg9 arg13 arg15 k0_h3 f7 f8 f9 f13 f15) (Rect.unit (s := S256x896) ![0, 0] S256x896.size inb_S256x896_S256x896_0_0).toLoadRect))⟩ :: seg3_wp.sl.H15_1 i arg7 arg8 arg9 arg13 arg15 k0_h3 f7 f8 f9 f13 f15 := by
    delta seg3_wp.sl.H15_2
    rfl
  have hv1 : arg15.view.readCov (seg3_wp.sl.H15_2 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 2 := by
    rw [hL1]
    rw [View.readCov_cons_toLoadRect]
    exact (subAcc_eq A3 A6 A7 A8 (2048 * (i 0).val + 256) _ _ _ _ _ _ _ _ _ _ hc1 (load_es G 256 256 _ (by omega)) (load_e G 256 256 _ (by omega)) (hv0))
  have hL2 : seg3_wp.sl.H15_3 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 4#32) 0#32) (Scalar.addi (Scalar.addi (Scalar.muli (BitVec.ofNat 32 (i 0).val) 16#32) 4#32) 1#32) (arg13.view.readAt (Elt F) (Rect.unit (s := S10x256x128) (k0_off5 i 4#32 0#32) S1x256x128.size (k0_off5_inb i k0_h3 2 0)).toLoadRect f13) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 512] S256x128.size inb_S256x2048_S256x128_0_512).toLoadRect f7) (arg7.view.readAt (Elt F) (Rect.unit (s := S256x2048) ![0, 640] S256x128.size inb_S256x2048_S256x128_0_640).toLoadRect f7)
        (arg8.view.readAt (Elt F) (Rect.unit (s := S1x2048) ![0, 512] S1x256.size inb_S1x2048_S1x256_0_512).toLoadRect f8)
        (arg9.view.readAt (Elt F) (Rect.unit (s := S2048x896) ![512, 0] S256x896.size inb_S2048x896_S256x896_512_0).toLoadRect f9) (arg15.view.readCov (seg3_wp.sl.H15_2 i arg7 arg8 arg9 arg13 arg15 k0_h3 f7 f8 f9 f13 f15) (Rect.unit (s := S256x896) ![0, 0] S256x896.size inb_S256x896_S256x896_0_0).toLoadRect))⟩ :: seg3_wp.sl.H15_2 i arg7 arg8 arg9 arg13 arg15 k0_h3 f7 f8 f9 f13 f15 := by
    delta seg3_wp.sl.H15_3
    rfl
  have hv2 : arg15.view.readCov (seg3_wp.sl.H15_3 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 3 := by
    rw [hL2]
    rw [View.readCov_cons_toLoadRect]
    exact (subAcc_eq A3 A6 A7 A8 (2048 * (i 0).val + 512) _ _ _ _ _ _ _ _ _ _ hc2 (load_es G 256 512 _ (by omega)) (load_e G 256 512 _ (by omega)) (hv1))
  have hL3 : seg3_wp.sl.H15_4 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 6#32) 0#32) (Scalar.addi (Scalar.addi (Scalar.muli (BitVec.ofNat 32 (i 0).val) 16#32) 6#32) 1#32) (arg13.view.readAt (Elt F) (Rect.unit (s := S10x256x128) (k0_off5 i 6#32 0#32) S1x256x128.size (k0_off5_inb i k0_h3 3 0)).toLoadRect f13) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 768] S256x128.size inb_S256x2048_S256x128_0_768).toLoadRect f7) (arg7.view.readAt (Elt F) (Rect.unit (s := S256x2048) ![0, 896] S256x128.size inb_S256x2048_S256x128_0_896).toLoadRect f7)
        (arg8.view.readAt (Elt F) (Rect.unit (s := S1x2048) ![0, 768] S1x256.size inb_S1x2048_S1x256_0_768).toLoadRect f8)
        (arg9.view.readAt (Elt F) (Rect.unit (s := S2048x896) ![768, 0] S256x896.size inb_S2048x896_S256x896_768_0).toLoadRect f9) (arg15.view.readCov (seg3_wp.sl.H15_3 i arg7 arg8 arg9 arg13 arg15 k0_h3 f7 f8 f9 f13 f15) (Rect.unit (s := S256x896) ![0, 0] S256x896.size inb_S256x896_S256x896_0_0).toLoadRect))⟩ :: seg3_wp.sl.H15_3 i arg7 arg8 arg9 arg13 arg15 k0_h3 f7 f8 f9 f13 f15 := by
    delta seg3_wp.sl.H15_4
    rfl
  have hv3 : arg15.view.readCov (seg3_wp.sl.H15_4 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 4 := by
    rw [hL3]
    rw [View.readCov_cons_toLoadRect]
    exact (subAcc_eq A3 A6 A7 A8 (2048 * (i 0).val + 768) _ _ _ _ _ _ _ _ _ _ hc3 (load_es G 256 768 _ (by omega)) (load_e G 256 768 _ (by omega)) (hv2))
  have hL4 : seg3_wp.sl.H15_5 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 8#32) 0#32) (Scalar.addi (Scalar.addi (Scalar.muli (BitVec.ofNat 32 (i 0).val) 16#32) 8#32) 1#32) (arg13.view.readAt (Elt F) (Rect.unit (s := S10x256x128) (k0_off5 i 8#32 0#32) S1x256x128.size (k0_off5_inb i k0_h3 4 0)).toLoadRect f13) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1024] S256x128.size inb_S256x2048_S256x128_0_1024).toLoadRect f7) (arg7.view.readAt (Elt F) (Rect.unit (s := S256x2048) ![0, 1152] S256x128.size inb_S256x2048_S256x128_0_1152).toLoadRect f7)
        (arg8.view.readAt (Elt F) (Rect.unit (s := S1x2048) ![0, 1024] S1x256.size inb_S1x2048_S1x256_0_1024).toLoadRect f8)
        (arg9.view.readAt (Elt F) (Rect.unit (s := S2048x896) ![1024, 0] S256x896.size inb_S2048x896_S256x896_1024_0).toLoadRect f9) (arg15.view.readCov (seg3_wp.sl.H15_4 i arg7 arg8 arg9 arg13 arg15 k0_h3 f7 f8 f9 f13 f15) (Rect.unit (s := S256x896) ![0, 0] S256x896.size inb_S256x896_S256x896_0_0).toLoadRect))⟩ :: seg3_wp.sl.H15_4 i arg7 arg8 arg9 arg13 arg15 k0_h3 f7 f8 f9 f13 f15 := by
    delta seg3_wp.sl.H15_5
    rfl
  have hv4 : arg15.view.readCov (seg3_wp.sl.H15_5 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 5 := by
    rw [hL4]
    rw [View.readCov_cons_toLoadRect]
    exact (subAcc_eq A3 A6 A7 A8 (2048 * (i 0).val + 1024) _ _ _ _ _ _ _ _ _ _ hc4 (load_es G 256 1024 _ (by omega)) (load_e G 256 1024 _ (by omega)) (hv3))
  have hL5 : seg3_wp.sl.H15_6 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 10#32) 0#32) (Scalar.addi (Scalar.addi (Scalar.muli (BitVec.ofNat 32 (i 0).val) 16#32) 10#32) 1#32) (arg13.view.readAt (Elt F) (Rect.unit (s := S10x256x128) (k0_off5 i 10#32 0#32) S1x256x128.size (k0_off5_inb i k0_h3 5 0)).toLoadRect f13) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1280] S256x128.size inb_S256x2048_S256x128_0_1280).toLoadRect f7) (arg7.view.readAt (Elt F) (Rect.unit (s := S256x2048) ![0, 1408] S256x128.size inb_S256x2048_S256x128_0_1408).toLoadRect f7)
        (arg8.view.readAt (Elt F) (Rect.unit (s := S1x2048) ![0, 1280] S1x256.size inb_S1x2048_S1x256_0_1280).toLoadRect f8)
        (arg9.view.readAt (Elt F) (Rect.unit (s := S2048x896) ![1280, 0] S256x896.size inb_S2048x896_S256x896_1280_0).toLoadRect f9) (arg15.view.readCov (seg3_wp.sl.H15_5 i arg7 arg8 arg9 arg13 arg15 k0_h3 f7 f8 f9 f13 f15) (Rect.unit (s := S256x896) ![0, 0] S256x896.size inb_S256x896_S256x896_0_0).toLoadRect))⟩ :: seg3_wp.sl.H15_5 i arg7 arg8 arg9 arg13 arg15 k0_h3 f7 f8 f9 f13 f15 := by
    delta seg3_wp.sl.H15_6
    rfl
  have hv5 : arg15.view.readCov (seg3_wp.sl.H15_6 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 6 := by
    rw [hL5]
    rw [View.readCov_cons_toLoadRect]
    exact (subAcc_eq A3 A6 A7 A8 (2048 * (i 0).val + 1280) _ _ _ _ _ _ _ _ _ _ hc5 (load_es G 256 1280 _ (by omega)) (load_e G 256 1280 _ (by omega)) (hv4))
  have hL6 : seg3_wp.sl.H15_7 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 12#32) 0#32) (Scalar.addi (Scalar.addi (Scalar.muli (BitVec.ofNat 32 (i 0).val) 16#32) 12#32) 1#32) (arg13.view.readAt (Elt F) (Rect.unit (s := S10x256x128) (k0_off5 i 12#32 0#32) S1x256x128.size (k0_off5_inb i k0_h3 6 0)).toLoadRect f13) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1536] S256x128.size inb_S256x2048_S256x128_0_1536).toLoadRect f7) (arg7.view.readAt (Elt F) (Rect.unit (s := S256x2048) ![0, 1664] S256x128.size inb_S256x2048_S256x128_0_1664).toLoadRect f7)
        (arg8.view.readAt (Elt F) (Rect.unit (s := S1x2048) ![0, 1536] S1x256.size inb_S1x2048_S1x256_0_1536).toLoadRect f8)
        (arg9.view.readAt (Elt F) (Rect.unit (s := S2048x896) ![1536, 0] S256x896.size inb_S2048x896_S256x896_1536_0).toLoadRect f9) (arg15.view.readCov (seg3_wp.sl.H15_6 i arg7 arg8 arg9 arg13 arg15 k0_h3 f7 f8 f9 f13 f15) (Rect.unit (s := S256x896) ![0, 0] S256x896.size inb_S256x896_S256x896_0_0).toLoadRect))⟩ :: seg3_wp.sl.H15_6 i arg7 arg8 arg9 arg13 arg15 k0_h3 f7 f8 f9 f13 f15 := by
    delta seg3_wp.sl.H15_7
    rfl
  have hv6 : arg15.view.readCov (seg3_wp.sl.H15_7 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 7 := by
    rw [hL6]
    rw [View.readCov_cons_toLoadRect]
    exact (subAcc_eq A3 A6 A7 A8 (2048 * (i 0).val + 1536) _ _ _ _ _ _ _ _ _ _ hc6 (load_es G 256 1536 _ (by omega)) (load_e G 256 1536 _ (by omega)) (hv5))
  have hv7 : k0_pay1 (seg3_wp.sl.v i arg7 arg8 arg9 arg13 arg15 k0_h3 f7 f8 f9 f13 f15) (seg3_wp.sl.r_25 i arg7 arg8 arg13 k0_h3 f7 f8 f13) (seg3_wp.sl.r_26 arg9 f9) = accTo A3 A6 A7 A8 (2048 * (i 0).val) (arg15.view.read (Elt F) f15) 8 :=
    Eq.trans (b := (subAcc (Scalar.addi (Scalar.addi (Scalar.muli (BitVec.ofNat 32 (i 0).val) 16#32) 14#32) 0#32) (Scalar.addi (Scalar.addi (Scalar.muli (BitVec.ofNat 32 (i 0).val) 16#32) 14#32) 1#32) (arg13.view.readAt (Elt F) (Rect.unit (s := S10x256x128) (k0_off5 i 14#32 0#32) S1x256x128.size (k0_off5_inb i k0_h3 7 0)).toLoadRect f13) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1792] S256x128.size inb_S256x2048_S256x128_0_1792).toLoadRect f7) (arg7.view.readAt (Elt F) (Rect.unit (s := S256x2048) ![0, 1920] S256x128.size inb_S256x2048_S256x128_0_1920).toLoadRect f7)
        (arg8.view.readAt (Elt F) (Rect.unit (s := S1x2048) ![0, 1792] S1x256.size inb_S1x2048_S1x256_0_1792).toLoadRect f8)
        (arg9.view.readAt (Elt F) (Rect.unit (s := S2048x896) ![1792, 0] S256x896.size inb_S2048x896_S256x896_1792_0).toLoadRect f9) (arg15.view.readCov (seg3_wp.sl.H15_7 i arg7 arg8 arg9 arg13 arg15 k0_h3 f7 f8 f9 f13 f15) (Rect.unit (s := S256x896) ![0, 0] S256x896.size inb_S256x896_S256x896_0_0).toLoadRect))) rfl
      (subAcc_eq A3 A6 A7 A8 (2048 * (i 0).val + 1792) _ _ _ _ _ _ _ _ _ _ hc7 (load_es G 256 1792 _ (by omega)) (load_e G 256 1792 _ (by omega)) (hv6))
  have hd0 : subDe (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off5 i 0#32 0#32) S1x256x128.size (k0_off5_inb i k0_h3 0 0)).toLoadRect f13) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg12.view.readAt (Elt F) (Rect.unit (s := S256x896) ![0, 0] S256x896.size inb_S256x896_S256x896_0_0).toLoadRect f12)
      = de256 A3 A6 (arg12.view.read (Elt F) f12) (2048 * (i 0).val + 0) := by
    unfold subDe de256
    rw [hc0, View.readAt_full]
  have hM0 : seg3_wp.sl.H10_1 i arg7 arg12 arg13 k0_h3 f7 f12 f13 = ⟨(Rect.unit (s := S2048x896) ![0, 0] S256x896.size inb_S2048x896_S256x896_0_0), de256 A3 A6 (arg12.view.read (Elt F) f12) (2048 * (i 0).val + 0)⟩ :: [] := by
    delta seg3_wp.sl.H10_1
    rw [← hd0]
    rfl
  have hd1 : subDe (Scalar.addi (Scalar.addi (Scalar.muli (BitVec.ofNat 32 (i 0).val) 16#32) 2#32) 0#32) (Scalar.addi (Scalar.addi (Scalar.muli (BitVec.ofNat 32 (i 0).val) 16#32) 2#32) 1#32) (arg13.view.readAt (Elt F) (Rect.unit (s := S10x256x128) (k0_off5 i 2#32 0#32) S1x256x128.size (k0_off5_inb i k0_h3 1 0)).toLoadRect f13) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 256] S256x128.size inb_S256x2048_S256x128_0_256).toLoadRect f7) (arg7.view.readAt (Elt F) (Rect.unit (s := S256x2048) ![0, 384] S256x128.size inb_S256x2048_S256x128_0_384).toLoadRect f7) (arg12.view.readAt (Elt F) (Rect.unit (s := S256x896) ![0, 0] S256x896.size inb_S256x896_S256x896_0_0).toLoadRect f12)
      = de256 A3 A6 (arg12.view.read (Elt F) f12) (2048 * (i 0).val + 256) := by
    unfold subDe de256
    rw [hc1, View.readAt_full]
  have hM1 : seg3_wp.sl.H10_2 i arg7 arg12 arg13 k0_h3 f7 f12 f13 = ⟨(Rect.unit (s := S2048x896) ![256, 0] S256x896.size inb_S2048x896_S256x896_256_0), de256 A3 A6 (arg12.view.read (Elt F) f12) (2048 * (i 0).val + 256)⟩ :: seg3_wp.sl.H10_1 i arg7 arg12 arg13 k0_h3 f7 f12 f13 := by
    delta seg3_wp.sl.H10_2
    rw [← hd1]
    rfl
  have hd2 : subDe (Scalar.addi (Scalar.addi (Scalar.muli (BitVec.ofNat 32 (i 0).val) 16#32) 4#32) 0#32) (Scalar.addi (Scalar.addi (Scalar.muli (BitVec.ofNat 32 (i 0).val) 16#32) 4#32) 1#32) (arg13.view.readAt (Elt F) (Rect.unit (s := S10x256x128) (k0_off5 i 4#32 0#32) S1x256x128.size (k0_off5_inb i k0_h3 2 0)).toLoadRect f13) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 512] S256x128.size inb_S256x2048_S256x128_0_512).toLoadRect f7) (arg7.view.readAt (Elt F) (Rect.unit (s := S256x2048) ![0, 640] S256x128.size inb_S256x2048_S256x128_0_640).toLoadRect f7) (arg12.view.readAt (Elt F) (Rect.unit (s := S256x896) ![0, 0] S256x896.size inb_S256x896_S256x896_0_0).toLoadRect f12)
      = de256 A3 A6 (arg12.view.read (Elt F) f12) (2048 * (i 0).val + 512) := by
    unfold subDe de256
    rw [hc2, View.readAt_full]
  have hM2 : seg3_wp.sl.H10_3 i arg7 arg12 arg13 k0_h3 f7 f12 f13 = ⟨(Rect.unit (s := S2048x896) ![512, 0] S256x896.size inb_S2048x896_S256x896_512_0), de256 A3 A6 (arg12.view.read (Elt F) f12) (2048 * (i 0).val + 512)⟩ :: seg3_wp.sl.H10_2 i arg7 arg12 arg13 k0_h3 f7 f12 f13 := by
    delta seg3_wp.sl.H10_3
    rw [← hd2]
    rfl
  have hd3 : subDe (Scalar.addi (Scalar.addi (Scalar.muli (BitVec.ofNat 32 (i 0).val) 16#32) 6#32) 0#32) (Scalar.addi (Scalar.addi (Scalar.muli (BitVec.ofNat 32 (i 0).val) 16#32) 6#32) 1#32) (arg13.view.readAt (Elt F) (Rect.unit (s := S10x256x128) (k0_off5 i 6#32 0#32) S1x256x128.size (k0_off5_inb i k0_h3 3 0)).toLoadRect f13) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 768] S256x128.size inb_S256x2048_S256x128_0_768).toLoadRect f7) (arg7.view.readAt (Elt F) (Rect.unit (s := S256x2048) ![0, 896] S256x128.size inb_S256x2048_S256x128_0_896).toLoadRect f7) (arg12.view.readAt (Elt F) (Rect.unit (s := S256x896) ![0, 0] S256x896.size inb_S256x896_S256x896_0_0).toLoadRect f12)
      = de256 A3 A6 (arg12.view.read (Elt F) f12) (2048 * (i 0).val + 768) := by
    unfold subDe de256
    rw [hc3, View.readAt_full]
  have hM3 : seg3_wp.sl.H10_4 i arg7 arg12 arg13 k0_h3 f7 f12 f13 = ⟨(Rect.unit (s := S2048x896) ![768, 0] S256x896.size inb_S2048x896_S256x896_768_0), de256 A3 A6 (arg12.view.read (Elt F) f12) (2048 * (i 0).val + 768)⟩ :: seg3_wp.sl.H10_3 i arg7 arg12 arg13 k0_h3 f7 f12 f13 := by
    delta seg3_wp.sl.H10_4
    rw [← hd3]
    rfl
  have hd4 : subDe (Scalar.addi (Scalar.addi (Scalar.muli (BitVec.ofNat 32 (i 0).val) 16#32) 8#32) 0#32) (Scalar.addi (Scalar.addi (Scalar.muli (BitVec.ofNat 32 (i 0).val) 16#32) 8#32) 1#32) (arg13.view.readAt (Elt F) (Rect.unit (s := S10x256x128) (k0_off5 i 8#32 0#32) S1x256x128.size (k0_off5_inb i k0_h3 4 0)).toLoadRect f13) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1024] S256x128.size inb_S256x2048_S256x128_0_1024).toLoadRect f7) (arg7.view.readAt (Elt F) (Rect.unit (s := S256x2048) ![0, 1152] S256x128.size inb_S256x2048_S256x128_0_1152).toLoadRect f7) (arg12.view.readAt (Elt F) (Rect.unit (s := S256x896) ![0, 0] S256x896.size inb_S256x896_S256x896_0_0).toLoadRect f12)
      = de256 A3 A6 (arg12.view.read (Elt F) f12) (2048 * (i 0).val + 1024) := by
    unfold subDe de256
    rw [hc4, View.readAt_full]
  have hM4 : seg3_wp.sl.H10_5 i arg7 arg12 arg13 k0_h3 f7 f12 f13 = ⟨(Rect.unit (s := S2048x896) ![1024, 0] S256x896.size inb_S2048x896_S256x896_1024_0), de256 A3 A6 (arg12.view.read (Elt F) f12) (2048 * (i 0).val + 1024)⟩ :: seg3_wp.sl.H10_4 i arg7 arg12 arg13 k0_h3 f7 f12 f13 := by
    delta seg3_wp.sl.H10_5
    rw [← hd4]
    rfl
  have hd5 : subDe (Scalar.addi (Scalar.addi (Scalar.muli (BitVec.ofNat 32 (i 0).val) 16#32) 10#32) 0#32) (Scalar.addi (Scalar.addi (Scalar.muli (BitVec.ofNat 32 (i 0).val) 16#32) 10#32) 1#32) (arg13.view.readAt (Elt F) (Rect.unit (s := S10x256x128) (k0_off5 i 10#32 0#32) S1x256x128.size (k0_off5_inb i k0_h3 5 0)).toLoadRect f13) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1280] S256x128.size inb_S256x2048_S256x128_0_1280).toLoadRect f7) (arg7.view.readAt (Elt F) (Rect.unit (s := S256x2048) ![0, 1408] S256x128.size inb_S256x2048_S256x128_0_1408).toLoadRect f7) (arg12.view.readAt (Elt F) (Rect.unit (s := S256x896) ![0, 0] S256x896.size inb_S256x896_S256x896_0_0).toLoadRect f12)
      = de256 A3 A6 (arg12.view.read (Elt F) f12) (2048 * (i 0).val + 1280) := by
    unfold subDe de256
    rw [hc5, View.readAt_full]
  have hM5 : seg3_wp.sl.H10_6 i arg7 arg12 arg13 k0_h3 f7 f12 f13 = ⟨(Rect.unit (s := S2048x896) ![1280, 0] S256x896.size inb_S2048x896_S256x896_1280_0), de256 A3 A6 (arg12.view.read (Elt F) f12) (2048 * (i 0).val + 1280)⟩ :: seg3_wp.sl.H10_5 i arg7 arg12 arg13 k0_h3 f7 f12 f13 := by
    delta seg3_wp.sl.H10_6
    rw [← hd5]
    rfl
  have hd6 : subDe (Scalar.addi (Scalar.addi (Scalar.muli (BitVec.ofNat 32 (i 0).val) 16#32) 12#32) 0#32) (Scalar.addi (Scalar.addi (Scalar.muli (BitVec.ofNat 32 (i 0).val) 16#32) 12#32) 1#32) (arg13.view.readAt (Elt F) (Rect.unit (s := S10x256x128) (k0_off5 i 12#32 0#32) S1x256x128.size (k0_off5_inb i k0_h3 6 0)).toLoadRect f13) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1536] S256x128.size inb_S256x2048_S256x128_0_1536).toLoadRect f7) (arg7.view.readAt (Elt F) (Rect.unit (s := S256x2048) ![0, 1664] S256x128.size inb_S256x2048_S256x128_0_1664).toLoadRect f7) (arg12.view.readAt (Elt F) (Rect.unit (s := S256x896) ![0, 0] S256x896.size inb_S256x896_S256x896_0_0).toLoadRect f12)
      = de256 A3 A6 (arg12.view.read (Elt F) f12) (2048 * (i 0).val + 1536) := by
    unfold subDe de256
    rw [hc6, View.readAt_full]
  have hM6 : seg3_wp.sl.H10_7 i arg7 arg12 arg13 k0_h3 f7 f12 f13 = ⟨(Rect.unit (s := S2048x896) ![1536, 0] S256x896.size inb_S2048x896_S256x896_1536_0), de256 A3 A6 (arg12.view.read (Elt F) f12) (2048 * (i 0).val + 1536)⟩ :: seg3_wp.sl.H10_6 i arg7 arg12 arg13 k0_h3 f7 f12 f13 := by
    delta seg3_wp.sl.H10_7
    rw [← hd6]
    rfl
  have hd7 : subDe (Scalar.addi (Scalar.addi (Scalar.muli (BitVec.ofNat 32 (i 0).val) 16#32) 14#32) 0#32) (Scalar.addi (Scalar.addi (Scalar.muli (BitVec.ofNat 32 (i 0).val) 16#32) 14#32) 1#32) (arg13.view.readAt (Elt F) (Rect.unit (s := S10x256x128) (k0_off5 i 14#32 0#32) S1x256x128.size (k0_off5_inb i k0_h3 7 0)).toLoadRect f13) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1792] S256x128.size inb_S256x2048_S256x128_0_1792).toLoadRect f7) (arg7.view.readAt (Elt F) (Rect.unit (s := S256x2048) ![0, 1920] S256x128.size inb_S256x2048_S256x128_0_1920).toLoadRect f7) (arg12.view.readAt (Elt F) (Rect.unit (s := S256x896) ![0, 0] S256x896.size inb_S256x896_S256x896_0_0).toLoadRect f12)
      = de256 A3 A6 (arg12.view.read (Elt F) f12) (2048 * (i 0).val + 1792) := by
    unfold subDe de256
    rw [hc7, View.readAt_full]
  have hM7 : k0_pay78 (seg3_wp.sl.r_23 i arg7 arg13 k0_h3 f7 f13) (seg3_wp.sl.r_24 i arg13 k0_h3 f13) (seg3_wp.sl.v869 i) (arg7.view.readAt (Elt F) (Rect.unit (s := S256x2048) ![0, 1920] S256x128.size inb_S256x2048_S256x128_0_1920).toLoadRect f7) (arg12.view.readAt (Elt F) (Rect.unit (s := S256x896) ![0, 0] S256x896.size inb_S256x896_S256x896_0_0).toLoadRect f12)
      = de256 A3 A6 (arg12.view.read (Elt F) f12) (2048 * (i 0).val + 1792) := by
    rw [← hd7]
    rfl
  rw [hM7, hM6, hM5, hM4, hM3, hM2, hM1, hM0]
  simp only [Prog.pure_eq_ret]
  rw [wp_ret]; imodintro
  iapply Hk
  swap
  · isplitl [H7]; · iexact H7
    isplitl [H8]; · iexact H8
    isplitl [H9]; · iexact H9
    isplitl [H10]; · iexact H10
    isplitl [H12]; · iexact H12
    isplitl [H13]; · iexact H13
    iexact H15
  · ipureintro
    constructor
    · funext y
      refine View.read_writes_apply_of_pieces arg10.view f10 (deBlk A3 A6 (arg12.view.read (Elt F) f12) (i 0).val) _ ?_ y ?_
      swap
      · refine View.cover_of_tiled (s := S2048x896) _ S256x896.size ?_ y
        rfl
      have hp := fun (j o : ℕ) (hj : j < 8) (ho : o = 256 * j) (inb : ∀ a, (![o, 0] : Fin 2 → ℕ) a + S256x896.size a ≤ S2048x896.size a) =>
        deBlk_piece A3 A6 (arg12.view.read (Elt F) f12) (i 0).val j o hj ho inb
      simp only [List.forall_mem_cons]
      exact ⟨hp 7 _ (by decide) rfl _, hp 6 _ (by decide) rfl _, hp 5 _ (by decide) rfl _, hp 4 _ (by decide) rfl _, hp 3 _ (by decide) rfl _,
        hp 2 _ (by decide) rfl _, hp 1 _ (by decide) rfl _, hp 0 _ (by decide) rfl _, fun p hp => nomatch hp⟩
    · rw [← hv7]
      exact read_whole arg15.view f15 ![0, 0] (fun a => by match a with | ⟨0, _⟩ => rfl | ⟨1, _⟩ => rfl) inb_S256x896_S256x896_0_0 _ _

end Full

end Cert.Proof.K
-- ==== Proof.K.Prep.lean ====
/-
  The first grid point: `h` is rescaled, the scales are laid out in tiles, the embedding gradient is widened, the
  accumulator is cleared.
-/
module

public import proofs.«01_k».proof.Proof.K.Full

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A column block of the rescaled `h`, from what its loads read. -/
def hhPiece (s : Vec F S1x256 .f32) (h : Vec F S256x128 .fp8e4m3) : FVec F S256x128 .bf16 :=
  shapeCast S256x128 (mulf (extf .bf16 (shapeCast S256x128 h shapeCasts_S256x128_S256x128 : FVec F S256x128 .fp8e4m3) bitsLt_fp8e4m3_bf16)
    (truncf .bf16 (transpose S256x128 [1, 0] (broadcastTo S128x256 (shapeCast S1x256 s shapeCasts_S1x256_S1x256) broadcasts_S1x256_S128x256 : FVec F S128x256 .f32)
      transposes_S128x256_p1_0_S256x128 : FVec F S256x128 .f32) bitsLt_bf16_f32)) shapeCasts_S256x128_S256x128

/-- A tile of scales, from what its load reads. -/
def tilePiece (s : Vec F S256x128 .f32) : FVec F S1x256x128 .f32 :=
  shapeCast S1x256x128 (extf .f32 (truncf .bf16 (shapeCast S256x128 s shapeCasts_S256x128_S256x128 : FVec F S256x128 .f32) bitsLt_bf16_f32 : FVec F S256x128 .bf16) bitsLt_bf16_f32)
    shapeCasts_S256x128_S1x256x128

theorem hhPiece_eq (arg4 : Memref sig .tc .vmem S256x896 .fp8e4m3) (arg5 : Memref sig .tc .vmem S1x256 .f32)
    (f4 : BufTy.Contents (Elt F) arg4.view.ty) (f5 : BufTy.Contents (Elt F) arg5.view.ty) (o : ℕ)
    (inb : ∀ a, (![0, o] : Fin 2 → ℕ) a + S256x128.size a ≤ S256x896.size a) (inb5 : ∀ a, (![0, 0] : Fin 2 → ℕ) a + S1x256.size a ≤ S1x256.size a) (x : S256x128.Idx) :
    hhPiece (arg5.view.readAt (Elt F) (Rect.unit (s := S1x256) ![0, 0] S1x256.size inb5).toLoadRect f5)
        (arg4.view.readAt (Elt F) (Rect.unit (s := S256x896) ![0, o] S256x128.size inb).toLoadRect f4) x
      = hhOf (arg4.view.read (Elt F) f4) (arg5.view.read (Elt F) f5) ((Rect.unit (s := S256x896) ![0, o] S256x128.size inb).emb x) := by
  rw [View.readAt_full]
  unfold hhPiece
  rw [Idealize.ShloMosaic.shapeCast_self, Idealize.ShloMosaic.shapeCast_self, Idealize.ShloMosaic.shapeCast_self]
  have h0 : (Rect.unit (s := S256x896) ![0, o] S256x128.size inb).emb x 0 = x 0 := Fin.ext (by show 0 + 1 * (x 0).val = _; omega)
  have hb : (transpose S256x128 [1, 0] (broadcastTo S128x256 (arg5.view.read (Elt F) f5) broadcasts_S1x256_S128x256 : FVec F S128x256 .f32)
      transposes_S128x256_p1_0_S256x128 : FVec F S256x128 .f32) x = arg5.view.read (Elt F) f5 (ix2 (0 : Fin 1) ((Rect.unit (s := S256x896) ![0, o] S256x128.size inb).emb x 0)) := by
    rw [h0]
    unfold transpose
    refine broadcastTo_apply _ _ _ (ix2 (0 : Fin 1) (x 0)) fun a => ?_
    match a with
    | ⟨0, _⟩ => rfl
    | ⟨1, _⟩ => rfl
  exact congrArg (fun w => FloatOps.mulf (FloatOps.extf .bf16 bitsLt_fp8e4m3_bf16 (arg4.view.read (Elt F) f4 ((Rect.unit (s := S256x896) ![0, o] S256x128.size inb).emb x))) (FloatOps.truncf .bf16 bitsLt_bf16_f32 w)) hb

theorem tilePiece_eq (arg3 : Memref sig .tc .vmem S256x1280 .f32) (f3 : BufTy.Contents (Elt F) arg3.view.ty) (k o : ℕ) (ho : o = 128 * k)
    (inb : ∀ a, (![0, o] : Fin 2 → ℕ) a + S256x128.size a ≤ S256x1280.size a) (inb' : ∀ a, (![k, 0, 0] : Fin 3 → ℕ) a + S1x256x128.size a ≤ S10x256x128.size a) (x : S1x256x128.Idx) :
    tilePiece (arg3.view.readAt (Elt F) (Rect.unit (s := S256x1280) ![0, o] S256x128.size inb).toLoadRect f3) x
      = tilesOf (arg3.view.read (Elt F) f3) ((Rect.unit (s := S10x256x128) ![k, 0, 0] S1x256x128.size inb').emb x) := by
  unfold tilePiece
  rw [Idealize.ShloMosaic.shapeCast_self]
  have hk : k + 1 ≤ 10 := inb' 0
  have h0 : (x 0).val < 1 := (x 0).isLt
  have h2 : (x 2).val < 128 := (x 2).isLt
  have e0 : ((Rect.unit (s := S10x256x128) ![k, 0, 0] S1x256x128.size inb').emb x 0).val = k := by show k + 1 * (x 0).val = k; omega
  have e1 : (Rect.unit (s := S10x256x128) ![k, 0, 0] S1x256x128.size inb').emb x 1 = x 1 := Fin.ext (by show 0 + 1 * (x 1).val = _; omega)
  have e2 : ((Rect.unit (s := S10x256x128) ![k, 0, 0] S1x256x128.size inb').emb x 2).val = (x 2).val := by show 0 + 1 * (x 2).val = _; omega
  unfold tilesOf
  rw [e0, e1, e2]
  refine (shapeCast_addUnit_apply ![256, 128] _ _ x).trans ?_
  refine congrArg (fun i => wid (arg3.view.read (Elt F) f3 i)) (funext fun a => Fin.ext ?_)
  match a with
  | ⟨0, _⟩ => show 0 + 1 * (x 1).val = (x 1).val; omega
  | ⟨1, _⟩ => show o + 1 * (x 2).val = (128 * k + (x 2).val) % 1280; omega

section Prep

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

set_option maxHeartbeats 400000 in
/-- What the first grid point prepares. -/
theorem seg0_wp (E : Set ℕ) (f3 : BufTy.Contents (Elt F) arg3.view.ty) (f4 : BufTy.Contents (Elt F) arg4.view.ty) (f5 : BufTy.Contents (Elt F) arg5.view.ty) (f6 : BufTy.Contents (Elt F) arg6.view.ty) (f12 : BufTy.Contents (Elt F) arg12.view.ty) (f13 : BufTy.Contents (Elt F) arg13.view.ty) (f14 : BufTy.Contents (Elt F) arg14.view.ty) (f15 : BufTy.Contents (Elt F) arg15.view.ty) (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
      ∗ (∀ g12 g13 g14 g15, ⌜arg12.view.read (Elt F) g12 = hhOf (arg4.view.read (Elt F) f4) (arg5.view.read (Elt F) f5)
            ∧ arg13.view.read (Elt F) g13 = tilesOf (arg3.view.read (Elt F) f3)
            ∧ arg14.view.read (Elt F) g14 = extf (s := S256x896) .f32 (arg6.view.read (Elt F) f6) bitsLt_bf16_f32
            ∧ arg15.view.read (Elt F) g15 = fun _ => Scalar.ofBits .f32 0x00000000#32⌝
          -∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15)) -∗ K ⟨⟩))
      ⊢ wp frame (wpE (defs₀ (F := F)) 𝒱₀ (c : Thread nD τ) none) E (seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold seg0
  iintro ⟨H3, H4, H5, H6, H12, H13, H14, H15, Hk⟩
  sl_exec_parts
  simp only [Prog.pure_eq_ret]
  rw [wp_ret]; imodintro
  iapply Hk
  swap
  · isplitl [H3]; · iexact H3
    isplitl [H4]; · iexact H4
    isplitl [H5]; · iexact H5
    isplitl [H6]; · iexact H6
    isplitl [H12]; · iexact H12
    isplitl [H13]; · iexact H13
    isplitl [H14]; · iexact H14
    iexact H15
  · ipureintro
    refine ⟨?_, ?_, ?_, ?_⟩
    · funext y
      refine View.read_writes_apply_of_pieces arg12.view f12 (hhOf (arg4.view.read (Elt F) f4) (arg5.view.read (Elt F) f5)) [⟨(Rect.unit (s := S256x896) ![0, 768] S256x128.size inb_S256x896_S256x128_0_768), hhPiece (arg5.view.readAt (Elt F) (Rect.unit (s := S1x256) ![0, 0] S1x256.size inb_S1x256_S1x256_0_0).toLoadRect f5) (arg4.view.readAt (Elt F) (Rect.unit (s := S256x896) ![0, 768] S256x128.size inb_S256x896_S256x128_0_768).toLoadRect f4)⟩, ⟨(Rect.unit (s := S256x896) ![0, 640] S256x128.size inb_S256x896_S256x128_0_640), hhPiece (arg5.view.readAt (Elt F) (Rect.unit (s := S1x256) ![0, 0] S1x256.size inb_S1x256_S1x256_0_0).toLoadRect f5) (arg4.view.readAt (Elt F) (Rect.unit (s := S256x896) ![0, 640] S256x128.size inb_S256x896_S256x128_0_640).toLoadRect f4)⟩, ⟨(Rect.unit (s := S256x896) ![0, 512] S256x128.size inb_S256x896_S256x128_0_512), hhPiece (arg5.view.readAt (Elt F) (Rect.unit (s := S1x256) ![0, 0] S1x256.size inb_S1x256_S1x256_0_0).toLoadRect f5) (arg4.view.readAt (Elt F) (Rect.unit (s := S256x896) ![0, 512] S256x128.size inb_S256x896_S256x128_0_512).toLoadRect f4)⟩, ⟨(Rect.unit (s := S256x896) ![0, 384] S256x128.size inb_S256x896_S256x128_0_384), hhPiece (arg5.view.readAt (Elt F) (Rect.unit (s := S1x256) ![0, 0] S1x256.size inb_S1x256_S1x256_0_0).toLoadRect f5) (arg4.view.readAt (Elt F) (Rect.unit (s := S256x896) ![0, 384] S256x128.size inb_S256x896_S256x128_0_384).toLoadRect f4)⟩, ⟨(Rect.unit (s := S256x896) ![0, 256] S256x128.size inb_S256x896_S256x128_0_256), hhPiece (arg5.view.readAt (Elt F) (Rect.unit (s := S1x256) ![0, 0] S1x256.size inb_S1x256_S1x256_0_0).toLoadRect f5) (arg4.view.readAt (Elt F) (Rect.unit (s := S256x896) ![0, 256] S256x128.size inb_S256x896_S256x128_0_256).toLoadRect f4)⟩, ⟨(Rect.unit (s := S256x896) ![0, 128] S256x128.size inb_S256x896_S256x128_0_128), hhPiece (arg5.view.readAt (Elt F) (Rect.unit (s := S1x256) ![0, 0] S1x256.size inb_S1x256_S1x256_0_0).toLoadRect f5) (arg4.view.readAt (Elt F) (Rect.unit (s := S256x896) ![0, 128] S256x128.size inb_S256x896_S256x128_0_128).toLoadRect f4)⟩, ⟨(Rect.unit (s := S256x896) ![0, 0] S256x128.size inb_S256x896_S256x128_0_0), hhPiece (arg5.view.readAt (Elt F) (Rect.unit (s := S1x256) ![0, 0] S1x256.size inb_S1x256_S1x256_0_0).toLoadRect f5) (arg4.view.readAt (Elt F) (Rect.unit (s := S256x896) ![0, 0] S256x128.size inb_S256x896_S256x128_0_0).toLoadRect f4)⟩] ?_ y ?_
      · simp only [List.forall_mem_cons]
        exact ⟨fun x => hhPiece_eq arg4 arg5 f4 f5 768 _ _ x, fun x => hhPiece_eq arg4 arg5 f4 f5 640 _ _ x, fun x => hhPiece_eq arg4 arg5 f4 f5 512 _ _ x, fun x => hhPiece_eq arg4 arg5 f4 f5 384 _ _ x, fun x => hhPiece_eq arg4 arg5 f4 f5 256 _ _ x, fun x => hhPiece_eq arg4 arg5 f4 f5 128 _ _ x, fun x => hhPiece_eq arg4 arg5 f4 f5 0 _ _ x, fun p hp => nomatch hp⟩
      · refine View.cover_of_tiled (s := S256x896) _ S256x128.size ?_ y
        rfl
    · funext y
      refine View.read_writes_apply_of_pieces arg13.view f13 (tilesOf (arg3.view.read (Elt F) f3)) [⟨(Rect.unit (s := S10x256x128) ![9, 0, 0] S1x256x128.size inb_S10x256x128_S1x256x128_9_0_0), tilePiece (arg3.view.readAt (Elt F) (Rect.unit (s := S256x1280) ![0, 1152] S256x128.size inb_S256x1280_S256x128_0_1152).toLoadRect f3)⟩, ⟨(Rect.unit (s := S10x256x128) ![8, 0, 0] S1x256x128.size inb_S10x256x128_S1x256x128_8_0_0), tilePiece (arg3.view.readAt (Elt F) (Rect.unit (s := S256x1280) ![0, 1024] S256x128.size inb_S256x1280_S256x128_0_1024).toLoadRect f3)⟩, ⟨(Rect.unit (s := S10x256x128) ![7, 0, 0] S1x256x128.size inb_S10x256x128_S1x256x128_7_0_0), tilePiece (arg3.view.readAt (Elt F) (Rect.unit (s := S256x1280) ![0, 896] S256x128.size inb_S256x1280_S256x128_0_896).toLoadRect f3)⟩, ⟨(Rect.unit (s := S10x256x128) ![6, 0, 0] S1x256x128.size inb_S10x256x128_S1x256x128_6_0_0), tilePiece (arg3.view.readAt (Elt F) (Rect.unit (s := S256x1280) ![0, 768] S256x128.size inb_S256x1280_S256x128_0_768).toLoadRect f3)⟩, ⟨(Rect.unit (s := S10x256x128) ![5, 0, 0] S1x256x128.size inb_S10x256x128_S1x256x128_5_0_0), tilePiece (arg3.view.readAt (Elt F) (Rect.unit (s := S256x1280) ![0, 640] S256x128.size inb_S256x1280_S256x128_0_640).toLoadRect f3)⟩, ⟨(Rect.unit (s := S10x256x128) ![4, 0, 0] S1x256x128.size inb_S10x256x128_S1x256x128_4_0_0), tilePiece (arg3.view.readAt (Elt F) (Rect.unit (s := S256x1280) ![0, 512] S256x128.size inb_S256x1280_S256x128_0_512).toLoadRect f3)⟩, ⟨(Rect.unit (s := S10x256x128) ![3, 0, 0] S1x256x128.size inb_S10x256x128_S1x256x128_3_0_0), tilePiece (arg3.view.readAt (Elt F) (Rect.unit (s := S256x1280) ![0, 384] S256x128.size inb_S256x1280_S256x128_0_384).toLoadRect f3)⟩, ⟨(Rect.unit (s := S10x256x128) ![2, 0, 0] S1x256x128.size inb_S10x256x128_S1x256x128_2_0_0), tilePiece (arg3.view.readAt (Elt F) (Rect.unit (s := S256x1280) ![0, 256] S256x128.size inb_S256x1280_S256x128_0_256).toLoadRect f3)⟩, ⟨(Rect.unit (s := S10x256x128) ![1, 0, 0] S1x256x128.size inb_S10x256x128_S1x256x128_1_0_0), tilePiece (arg3.view.readAt (Elt F) (Rect.unit (s := S256x1280) ![0, 128] S256x128.size inb_S256x1280_S256x128_0_128).toLoadRect f3)⟩, ⟨(Rect.unit (s := S10x256x128) ![0, 0, 0] S1x256x128.size inb_S10x256x128_S1x256x128_0_0_0), tilePiece (arg3.view.readAt (Elt F) (Rect.unit (s := S256x1280) ![0, 0] S256x128.size inb_S256x1280_S256x128_0_0).toLoadRect f3)⟩] ?_ y ?_
      · simp only [List.forall_mem_cons]
        exact ⟨fun x => tilePiece_eq arg3 f3 9 1152 rfl _ _ x, fun x => tilePiece_eq arg3 f3 8 1024 rfl _ _ x, fun x => tilePiece_eq arg3 f3 7 896 rfl _ _ x, fun x => tilePiece_eq arg3 f3 6 768 rfl _ _ x, fun x => tilePiece_eq arg3 f3 5 640 rfl _ _ x, fun x => tilePiece_eq arg3 f3 4 512 rfl _ _ x, fun x => tilePiece_eq arg3 f3 3 384 rfl _ _ x, fun x => tilePiece_eq arg3 f3 2 256 rfl _ _ x, fun x => tilePiece_eq arg3 f3 1 128 rfl _ _ x, fun x => tilePiece_eq arg3 f3 0 0 rfl _ _ x, fun p hp => nomatch hp⟩
      · refine View.cover_of_tiled (s := S10x256x128) _ S1x256x128.size ?_ y
        rfl
    · refine (read_whole arg14.view f14 ![0, 0] (fun a => by match a with | ⟨0, _⟩ => rfl | ⟨1, _⟩ => rfl) inb_S256x896_S256x896_0_0 _ _).trans ?_
      unfold k0_pay27
      rw [View.readAt_full]
      refine (Idealize.ShloMosaic.shapeCast_self _ _).trans ?_
      exact congrArg (fun z => extf (s := S256x896) .f32 z bitsLt_bf16_f32) (Idealize.ShloMosaic.shapeCast_self (arg6.view.read (Elt F) f6) shapeCasts_S256x896_S256x896)
    · refine (read_whole arg15.view f15 ![0, 0] (fun a => by match a with | ⟨0, _⟩ => rfl | ⟨1, _⟩ => rfl) inb_S256x896_S256x896_0_0 _ _).trans ?_
      exact Idealize.ShloMosaic.shapeCast_self _ _

end Prep

end Cert.Proof.K
-- ==== Proof.K.Tail.lean ====
/-
  The last block, of 384 columns: a sub-block of 256 columns, one of 128, and the second result stored.
-/
module

public import proofs.«01_k».proof.Proof.K.Full

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem deEnd_piece0 (A3 : S256x1187.Idx → Elt F .f32) (A6 : S256x151936.Idx → Elt F .fp8e5m2) (hh : S256x896.Idx → Elt F .bf16)
    (inb : ∀ a, (![0, 0] : Fin 2 → ℕ) a + S256x896.size a ≤ S2048x896.size a) (x : S256x896.Idx) :
    de256 A3 A6 hh (2048 * 74) x = deEnd A3 A6 hh ((Rect.unit (s := S2048x896) ![0, 0] S256x896.size inb).emb x) := by
  have h0 : ((Rect.unit (s := S2048x896) ![0, 0] S256x896.size inb).emb x 0).val = (x 0).val := by
    show 0 + 1 * (x 0).val = _; omega
  have h1 : (Rect.unit (s := S2048x896) ![0, 0] S256x896.size inb).emb x 1 = x 1 := Fin.ext (by show 0 + 1 * (x 1).val = _; omega)
  have hx : (x 0).val < 256 := (x 0).isLt
  unfold deEnd
  rw [h0, h1, if_pos hx]
  refine congrArg _ (funext fun a => Fin.ext ?_)
  match a with
  | ⟨0, _⟩ => show (x 0).val = (x 0).val % 256; omega
  | ⟨1, _⟩ => rfl

theorem deEnd_piece1 (A3 : S256x1187.Idx → Elt F .f32) (A6 : S256x151936.Idx → Elt F .fp8e5m2) (hh : S256x896.Idx → Elt F .bf16)
    (inb : ∀ a, (![256, 0] : Fin 2 → ℕ) a + S128x896.size a ≤ S2048x896.size a) (x : S128x896.Idx) :
    de128 A3 A6 hh (2048 * 74 + 256) x = deEnd A3 A6 hh ((Rect.unit (s := S2048x896) ![256, 0] S128x896.size inb).emb x) := by
  have h0 : ((Rect.unit (s := S2048x896) ![256, 0] S128x896.size inb).emb x 0).val = 256 + (x 0).val := by
    show 256 + 1 * (x 0).val = _; omega
  have h1 : (Rect.unit (s := S2048x896) ![256, 0] S128x896.size inb).emb x 1 = x 1 := Fin.ext (by show 0 + 1 * (x 1).val = _; omega)
  have hx : (x 0).val < 128 := (x 0).isLt
  unfold deEnd
  rw [h0, h1, if_neg (by omega)]
  refine congrArg _ (funext fun a => Fin.ext ?_)
  match a with
  | ⟨0, _⟩ => show (x 0).val = (256 + (x 0).val) % 128; omega
  | ⟨1, _⟩ => rfl

section Tail

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h4 : k0_cond4 i = 1#1)

set_option maxHeartbeats 400000 in
/-- The last block: the 384 rows of the first result, the accumulator and the second result it leaves. -/
theorem seg4_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8) (hb : (i 0).val = 74)
    (G : Good A3 A6 A7 A8 (i 0).val (arg7.view.read (Elt F) f7) (arg8.view.read (Elt F) f8) (arg9.view.read (Elt F) f9) (arg13.view.read (Elt F) f13)) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g11 g15, ⌜(∀ y : S2048x896.Idx, (y 0).val < 384 → arg10.view.read (Elt F) g10 y = deEnd A3 A6 (arg12.view.read (Elt F) f12) y)
            ∧ arg15.view.read (Elt F) g15 = endOf A3 A6 A7 A8 (arg15.view.read (Elt F) f15)
            ∧ arg11.view.read (Elt F) g11 = truncf (s := S256x896) .bf16 (endOf A3 A6 A7 A8 (arg15.view.read (Elt F) f15)) bitsLt_bf16_f32⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E (seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h4) K := by
  unfold seg4
  iintro ⟨H7, H8, H9, H10, H11, H12, H13, H15, Hk⟩
  sl_exec_parts
  have hc0 : cat256 (scaled (Scalar.addi (Scalar.addi (Scalar.muli (BitVec.ofNat 32 (i 0).val) 16#32) 0#32) 0#32) (arg13.view.readAt (Elt F) (Rect.unit (s := S10x256x128) (k0_off6 i 0#32 0#32) S1x256x128.size (k0_off6_inb i k0_h4 0)).toLoadRect f13) (arg7.view.readAt (Elt F) (Rect.unit (s := S256x2048) ![0, 0] S256x128.size inb_S256x2048_S256x128_0_0).toLoadRect f7)) (scaled (Scalar.addi (Scalar.addi (Scalar.muli (BitVec.ofNat 32 (i 0).val) 16#32) 0#32) 1#32) (arg13.view.readAt (Elt F) (Rect.unit (s := S10x256x128) (k0_off6 i 0#32 1#32) S1x256x128.size (k0_off6_inb i k0_h4 1)).toLoadRect f13) (arg7.view.readAt (Elt F) (Rect.unit (s := S256x2048) ![0, 128] S256x128.size inb_S256x2048_S256x128_0_128).toLoadRect f7)) = dl256 A3 A6 (2048 * 74) := by
    have h := load_cat G (16 * (i 0).val + 0) 0 128 (by omega) (by omega) rfl _ _ (word_eq (i 0).val 0 0) (word_eq (i 0).val 0 1) _ _ (off6_eq i 0) (off6_eq i 1)
      (k0_off6_inb i k0_h4 0) (k0_off6_inb i k0_h4 1) inb_S256x2048_S256x128_0_0 inb_S256x2048_S256x128_0_128
    rw [hb] at h ⊢
    exact h
  have hc1 : scaled (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) = dl128 A3 A6 (2048 * 74 + 256) := by
    have h := load_scaled G (16 * (i 0).val + 2) 256 (by omega) (by omega) _ (word_eq (i 0).val 2 0) _ (off6_eq i 2)
      (k0_off6_inb i k0_h4 2) inb_S256x2048_S256x128_0_256
    rw [hb] at h ⊢
    exact h
  have hs0 := load_es G 256 0 inb_S1x2048_S1x256_0_0 (by omega)
  have hs1 := load_es G 128 256 inb_S1x2048_S1x128_0_256 (by omega)
  have he0 := load_e G 256 0 inb_S2048x896_S256x896_0_0 (by omega)
  have he1 := load_e G 128 256 inb_S2048x896_S128x896_256_0 (by omega)
  rw [hb] at hs0 hs1 he0 he1
  have hL0 : seg4_wp.sl.H15_1 i arg7 arg8 arg9 arg13 arg15 k0_h4 f7 f8 f9 f13 f15 = [⟨(Rect.unit (s := S256x896) ![0, 0] S256x896.size inb_S256x896_S256x896_0_0), (subAcc (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off6 i 0#32 0#32) S1x256x128.size (k0_off6_inb i k0_h4 0)).toLoadRect f13) (arg13.view.readAt (Elt F) (Rect.unit (s := S10x256x128) (k0_off6 i 0#32 1#32) S1x256x128.size (k0_off6_inb i k0_h4 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg8.view.readAt (Elt F) (Rect.unit (s := S1x2048) ![0, 0] S1x256.size inb_S1x2048_S1x256_0_0).toLoadRect f8) (arg9.view.readAt (Elt F) (Rect.unit (s := S2048x896) ![0, 0] S256x896.size inb_S2048x896_S256x896_0_0).toLoadRect f9) (arg15.view.readAt (Elt F) (Rect.unit (s := S256x896) ![0, 0] S256x896.size inb_S256x896_S256x896_0_0).toLoadRect f15))⟩] := by
    delta seg4_wp.sl.H15_1
    rfl
  have hv0 : arg15.view.readCov (seg4_wp.sl.H15_1 i arg7 arg8 arg9 arg13 arg15 k0_h4 f7 f8 f9 f13 f15) (Rect.unit (s := S256x896) ![0, 0] S256x896.size inb_S256x896_S256x896_0_0).toLoadRect = acc256 A3 A6 A7 A8 (2048 * 74) (arg15.view.read (Elt F) f15) := by
    rw [hL0]
    rw [View.readCov_cons_toLoadRect]
    exact subAcc_eq A3 A6 A7 A8 (2048 * 74) _ _ _ _ _ _ _ _ _ _ hc0 hs0 he0 (View.readAt_full _ _ _)
  have hw1 : (tailAcc (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) (arg8.view.readAt (Elt F) (Rect.unit (s := S1x2048) ![0, 256] S1x128.size inb_S1x2048_S1x128_0_256).toLoadRect f8) (arg9.view.readAt (Elt F) (Rect.unit (s := S2048x896) ![256, 0] S128x896.size inb_S2048x896_S128x896_256_0).toLoadRect f9) (arg15.view.readCov (seg4_wp.sl.H15_1 i arg7 arg8 arg9 arg13 arg15 k0_h4 f7 f8 f9 f13 f15) (Rect.unit (s := S256x896) ![0, 0] S256x896.size inb_S256x896_S256x896_0_0).toLoadRect)) = endOf A3 A6 A7 A8 (arg15.view.read (Elt F) f15) :=
    tailAcc_eq A3 A6 A7 A8 (2048 * 74 + 256) _ _ _ _ _ _ _ hc1 hs1 he1 hv0
  have hL1 : seg4_wp.sl.H15_2 i arg7 arg8 arg9 arg13 arg15 k0_h4 f7 f8 f9 f13 f15 = ⟨(Rect.unit (s := S256x896) ![0, 0] S256x896.size inb_S256x896_S256x896_0_0), endOf A3 A6 A7 A8 (arg15.view.read (Elt F) f15)⟩ :: seg4_wp.sl.H15_1 i arg7 arg8 arg9 arg13 arg15 k0_h4 f7 f8 f9 f13 f15 := by
    delta seg4_wp.sl.H15_2
    rw [← hw1]
    rfl
  have hv1 : arg15.view.readCov (seg4_wp.sl.H15_2 i arg7 arg8 arg9 arg13 arg15 k0_h4 f7 f8 f9 f13 f15) (Rect.unit (s := S256x896) ![0, 0] S256x896.size inb_S256x896_S256x896_0_0).toLoadRect = endOf A3 A6 A7 A8 (arg15.view.read (Elt F) f15) := by
    rw [hL1]
    rw [View.readCov_cons_toLoadRect]
  have hD0 : seg4_wp.sl.H10_1 i arg7 arg12 arg13 k0_h4 f7 f12 f13
      = [⟨Rect.unit (s := S2048x896) ![0, 0] S256x896.size inb_S2048x896_S256x896_0_0, de256 A3 A6 (arg12.view.read (Elt F) f12) (2048 * 74)⟩] := by
    have h : subDe (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off6 i 0#32 0#32) S1x256x128.size (k0_off6_inb i k0_h4 0)).toLoadRect f13) (arg13.view.readAt (Elt F) (Rect.unit (s := S10x256x128) (k0_off6 i 0#32 1#32) S1x256x128.size (k0_off6_inb i k0_h4 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg12.view.readAt (Elt F) (Rect.unit (s := S256x896) ![0, 0] S256x896.size inb_S256x896_S256x896_0_0).toLoadRect f12)
        = de256 A3 A6 (arg12.view.read (Elt F) f12) (2048 * 74) := by
      unfold subDe de256
      rw [hc0, View.readAt_full]
    delta seg4_wp.sl.H10_1
    rw [← h]
    rfl
  have hD1 : tailDe (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) (arg12.view.readAt (Elt F) (Rect.unit (s := S256x896) ![0, 0] S256x896.size inb_S256x896_S256x896_0_0).toLoadRect f12)
      = de128 A3 A6 (arg12.view.read (Elt F) f12) (2048 * 74 + 256) := by
    unfold tailDe de128
    rw [hc1, View.readAt_full]
  have hD1' : k0_pay3 (seg4_wp.sl.r_3 i arg13 k0_h4 f13) (seg4_wp.sl.r_4 arg7 f7) (arg12.view.readAt (Elt F) (Rect.unit (s := S256x896) ![0, 0] S256x896.size inb_S256x896_S256x896_0_0).toLoadRect f12)
      = de128 A3 A6 (arg12.view.read (Elt F) f12) (2048 * 74 + 256) := by
    rw [← hD1]
    rfl
  rw [hD1', hD0, hL1]
  simp only [Prog.pure_eq_ret]
  rw [wp_ret]; imodintro
  iapply Hk
  swap
  · isplitl [H7]; · iexact H7
    isplitl [H8]; · iexact H8
    isplitl [H9]; · iexact H9
    isplitl [H10]; · iexact H10
    isplitl [H11]; · iexact H11
    isplitl [H12]; · iexact H12
    isplitl [H13]; · iexact H13
    iexact H15
  · ipureintro
    refine ⟨fun y hy => ?_, ?_, ?_⟩
    · refine View.read_writes_apply_of_pieces arg10.view f10 (deEnd A3 A6 (arg12.view.read (Elt F) f12)) _ ?_ y ?_
      · simp only [List.forall_mem_cons]
        exact ⟨fun x => deEnd_piece1 A3 A6 (arg12.view.read (Elt F) f12) _ x, fun x => deEnd_piece0 A3 A6 (arg12.view.read (Elt F) f12) _ x, fun p hp => nomatch hp⟩
      · by_cases h : (y 0).val < 256
        · refine ⟨_, List.mem_cons_of_mem _ List.mem_cons_self, ?_⟩
          exact (Rect.mem_set_unit (inb := inb_S2048x896_S256x896_0_0)).2 fun a => by
            match a with
            | ⟨0, _⟩ => exact ⟨Nat.zero_le _, (by show (y 0).val < 0 + 256; omega)⟩
            | ⟨1, _⟩ => exact ⟨Nat.zero_le _, (by have : (y 1).val < 896 := (y 1).isLt; show (y 1).val < 0 + 896; omega)⟩
        · refine ⟨_, List.mem_cons_self, ?_⟩
          exact (Rect.mem_set_unit (inb := inb_S2048x896_S128x896_256_0)).2 fun a => by
            match a with
            | ⟨0, _⟩ => exact ⟨(by show 256 ≤ (y 0).val; omega), (by show (y 0).val < 256 + 128; omega)⟩
            | ⟨1, _⟩ => exact ⟨Nat.zero_le _, (by have : (y 1).val < 896 := (y 1).isLt; show (y 1).val < 0 + 896; omega)⟩
    · exact read_whole arg15.view f15 ![0, 0] (fun a => by match a with | ⟨0, _⟩ => rfl | ⟨1, _⟩ => rfl) inb_S256x896_S256x896_0_0 _ _
    · refine (read_whole arg11.view f11 ![0, 0] (fun a => by match a with | ⟨0, _⟩ => rfl | ⟨1, _⟩ => rfl) inb_S256x896_S256x896_0_0 _ _).trans ?_
      exact congrArg (fun a => truncf (s := S256x896) .bf16 a bitsLt_bf16_f32) hv1

end Tail

end Cert.Proof.K
-- ==== Proof.K.Body.lean ====
/-
  The body of one grid point, whole: from a scratch state that is `Ready` for the point (or any, at the first point) and
  windows that hold the point's blocks, to the point's rows of the first result, at the last point the second result, and a
  scratch state ready for the next point.
-/
module

public import proofs.«01_k».proof.Proof.K.Segs
public import proofs.«01_k».proof.Proof.K.Insert
public import proofs.«01_k».proof.Proof.K.Prep
public import proofs.«01_k».proof.Proof.K.Tail

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffers hold what the points before `n` leave: the rescaled `h`, the tiled scales, the widened embedding
    gradient, the accumulator (up to the last point), and the lists of tokens. -/
structure Ready (A3 : S256x1187.Idx → Elt F .f32) (A6 : S256x151936.Idx → Elt F .fp8e5m2) (A7 : S1x151936.Idx → Elt F .f32)
    (A8 : S151936x896.Idx → Elt F .i8) (xi : S1x256.Idx → BitVec 32) (xs : S1.Idx → BitVec 32) (x4 : S256x896.Idx → Elt F .fp8e4m3)
    (x5 : S1x256.Idx → Elt F .f32) (x6 : S256x896.Idx → Elt F .bf16) (n : ℕ) (x12 : S256x896.Idx → Elt F .bf16)
    (x13 : S10x256x128.Idx → Elt F .f32) (x14 x15 : S256x896.Idx → Elt F .f32) (x16 : S75.Idx → BitVec 32)
    (x17 : S256.Idx → BitVec 32) : Prop where
  hh : x12 = hhOf x4 x5
  tile : ∀ y : S10x256x128.Idx, 128 * (y 0).val + (y 2).val < 1187 → x13 y = wid (A3 (ix2 (y 1) (Fin.ofNat 1187 (128 * (y 0).val + (y 2).val))))
  dm : x14 = extf (s := S256x896) .f32 x6 bitsLt_bf16_f32
  acc : n ≤ 74 → x15 = accAt A3 A6 A7 A8 n
  lists : Lists (localAt xs xi) 256 (hdAt x16) (nxAt x17)

/-- Row `v₀ + …` of the first result's block `b`: the product's rows with the embedding rows of the block's tokens added. -/
def deVal (A3 : S256x1187.Idx → Elt F .f32) (A6 : S256x151936.Idx → Elt F .fp8e5m2) (xi : S1x256.Idx → BitVec 32) (xs : S1.Idx → BitVec 32)
    (hh : S256x896.Idx → Elt F .bf16) (dm : S256x896.Idx → Elt F .f32) (b : ℕ) : S2048x896.Idx → Elt F .f32 :=
  addToks b xs xi dm (bucket (localAt xs xi) 256 b) (if b < 74 then deBlk A3 A6 hh b else deEnd A3 A6 hh)

/-- Adding rows changes a row by what it holds alone. -/
theorem addToks_congr (b : ℕ) (xs : S1.Idx → BitVec 32) (xi : S1x256.Idx → BitVec 32) (dm : S256x896.Idx → Elt F .f32) (y : S2048x896.Idx) :
    ∀ (ts : List ℕ) (x x' : S2048x896.Idx → Elt F .f32), x y = x' y → addToks b xs xi dm ts x y = addToks b xs xi dm ts x' y := by
  intro ts
  induction ts with
  | nil => intro x x' h; exact h
  | cons t ts ih =>
    intro x x' h
    refine ih _ _ ?_
    unfold addTok
    split
    · exact congrArg (fun a => FloatOps.addf a (dm (ix2 (Fin.ofNat 256 t) (y 1)))) h
    · exact h

section Body

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

/-- The first point's preparation, and at every other point nothing: the scratch is ready either way. -/
theorem init_wp (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → (arg3.view.read (Elt F) f3) y = A3 (ix2 (y 0) (Fin.ofNat 1187 (y 1).val)))
    (hR : (i 0).val = 0 ∨ Ready A3 A6 A7 A8 (arg1.view.read (Elt F) f1) (arg2.view.read (Elt F) f2) (arg4.view.read (Elt F) f4) (arg5.view.read (Elt F) f5) (arg6.view.read (Elt F) f6) (i 0).val (arg12.view.read (Elt F) f12) (arg13.view.read (Elt F) f13) (arg14.view.read (Elt F) f14) (arg15.view.read (Elt F) f15) (arg16.view.read (Elt F) f16) (arg17.view.read (Elt F) f17)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (∀ g12 g13 g14 g15 g16 g17, ⌜Ready A3 A6 A7 A8 (arg1.view.read (Elt F) f1) (arg2.view.read (Elt F) f2) (arg4.view.read (Elt F) f4) (arg5.view.read (Elt F) f5) (arg6.view.read (Elt F) f6) (i 0).val (arg12.view.read (Elt F) g12) (arg13.view.read (Elt F) g13) (arg14.view.read (Elt F) g14) (arg15.view.read (Elt F) g15) (arg16.view.read (Elt F) g16) (arg17.view.read (Elt F) g17)⌝
          -∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E
        (if h : k0_cond1 i = 1#1 then (do seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17; seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h) else pure ⟨⟩) K := by
  have hc : k0_cond1 i = 1#1 ↔ (i 0).val = 0 := cond1_iff (i 0)
  iintro ⟨H1, H2, H3, H4, H5, H6, H12, H13, H14, H15, H16, H17, Hk⟩
  by_cases h : k0_cond1 i = 1#1
  · rw [dif_pos h, wp_bind]
    iapply (seg0_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f3 f4 f5 f6 f12 f13 f14 f15 _)
    isplitl [H3]; · iexact H3
    isplitl [H4]; · iexact H4
    isplitl [H5]; · iexact H5
    isplitl [H6]; · iexact H6
    isplitl [H12]; · iexact H12
    isplitl [H13]; · iexact H13
    isplitl [H14]; · iexact H14
    isplitl [H15]; · iexact H15
    iintro %g12 %g13 %g14 %g15 %hg ⟨H3, H4, H5, H6, H12, H13, H14, H15⟩
    iapply (seg1_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h E f1 f2 f16 f17 _)
    isplitl [H1]; · iexact H1
    isplitl [H2]; · iexact H2
    isplitl [H16]; · iexact H16
    isplitl [H17]; · iexact H17
    iintro %g16 %g17 %hl ⟨H1, H2, H16, H17⟩
    iapply Hk
    swap
    · isplitl [H1]; · iexact H1
      isplitl [H2]; · iexact H2
      isplitl [H3]; · iexact H3
      isplitl [H4]; · iexact H4
      isplitl [H5]; · iexact H5
      isplitl [H6]; · iexact H6
      isplitl [H12]; · iexact H12
      isplitl [H13]; · iexact H13
      isplitl [H14]; · iexact H14
      isplitl [H15]; · iexact H15
      isplitl [H16]; · iexact H16
      iexact H17
    · ipureintro
      obtain ⟨h12, h13, h14, h15⟩ := hg
      refine ⟨h12, fun y hy => ?_, h14, fun _ => ?_, hl⟩
      · rw [h13]
        refine congrArg wid ((h3 _ ?_).trans ?_)
        · show (128 * (y 0).val + (y 2).val) % 1280 < 1187; omega
        · refine congrArg A3 (congrArg (ix2 (y 1)) (congrArg (Fin.ofNat 1187) ?_))
          show (128 * (y 0).val + (y 2).val) % 1280 = _; omega
      · rw [h15, hc.1 h]; rfl
  · rw [dif_neg h]
    simp only [Prog.pure_eq_ret]
    rw [wp_ret]; imodintro
    iapply Hk
    swap
    · isplitl [H1]; · iexact H1
      isplitl [H2]; · iexact H2
      isplitl [H3]; · iexact H3
      isplitl [H4]; · iexact H4
      isplitl [H5]; · iexact H5
      isplitl [H6]; · iexact H6
      isplitl [H12]; · iexact H12
      isplitl [H13]; · iexact H13
      isplitl [H14]; · iexact H14
      isplitl [H15]; · iexact H15
      isplitl [H16]; · iexact H16
      iexact H17
    · ipureintro
      exact hR.resolve_left fun e => h (hc.2 e)

/-- The columns of one block: the product's rows, the accumulator past the block, at the last block the second result. -/
theorem mid_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (G : Good A3 A6 A7 A8 (i 0).val (arg7.view.read (Elt F) f7) (arg8.view.read (Elt F) f8) (arg9.view.read (Elt F) f9) (arg13.view.read (Elt F) f13)) (hacc : (arg15.view.read (Elt F) f15) = accAt A3 A6 A7 A8 (i 0).val) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g11 g15, ⌜(∀ y : S2048x896.Idx, 2048 * (i 0).val + (y 0).val < 151936 → (arg10.view.read (Elt F) g10) y = (if (i 0).val < 74 then deBlk A3 A6 (arg12.view.read (Elt F) f12) (i 0).val else deEnd A3 A6 (arg12.view.read (Elt F) f12)) y)
            ∧ ((i 0).val = 74 → (arg11.view.read (Elt F) g11) = truncf (s := S256x896) .bf16 (endOf A3 A6 A7 A8 (accAt A3 A6 A7 A8 74)) bitsLt_bf16_f32)
            ∧ ((i 0).val < 74 → g11 = f11 ∧ (arg15.view.read (Elt F) g15) = accAt A3 A6 A7 A8 ((i 0).val + 1))⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E
        (do
          let _ ← (if h : k0_cond3 i = 1#1 then seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
          (if h : k0_cond4 i = 1#1 then seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)) K := by
  have hc3 : k0_cond3 i = 1#1 ↔ (i 0).val < 74 := cond3_iff (i 0)
  have hc4 : k0_cond4 i = 1#1 ↔ (i 0).val = 74 := cond4_iff (i 0)
  have hi : (i 0).val < 75 := (i 0).isLt
  iintro ⟨H7, H8, H9, H10, H11, H12, H13, H15, Hk⟩
  rw [wp_bind]
  by_cases h : k0_cond3 i = 1#1
  · rw [dif_pos h]
    have hlt := hc3.1 h
    have h4 : ¬k0_cond4 i = 1#1 := fun e => by have := hc4.1 e; omega
    iapply (seg3_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h E f7 f8 f9 f10 f12 f13 f15 _ A3 A6 A7 A8 hlt G)
    isplitl [H7]; · iexact H7
    isplitl [H8]; · iexact H8
    isplitl [H9]; · iexact H9
    isplitl [H10]; · iexact H10
    isplitl [H12]; · iexact H12
    isplitl [H13]; · iexact H13
    isplitl [H15]; · iexact H15
    iintro %g10 %g15 %hg ⟨H7, H8, H9, H10, H12, H13, H15⟩
    rw [dif_neg h4]
    simp only [Prog.pure_eq_ret]
    rw [wp_ret]; imodintro
    iapply Hk
    swap
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H15
    · ipureintro
      obtain ⟨h10, h15⟩ := hg
      refine ⟨fun y _ => ?_, fun e => by omega, fun _ => ⟨rfl, ?_⟩⟩
      · rw [if_pos hlt, h10]
      · rw [h15, hacc]; rfl
  · rw [dif_neg h]
    have heq : (i 0).val = 74 := by
      have := mt hc3.2 h; omega
    simp only [Prog.pure_eq_ret]
    rw [wp_ret]; imodintro
    rw [dif_pos (hc4.2 heq)]
    iapply (seg4_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (hc4.2 heq) E f7 f8 f9 f10 f11 f12 f13 f15 _ A3 A6 A7 A8 heq G)
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    iintro %g10 %g11 %g15 %hg ⟨H7, H8, H9, H10, H11, H12, H13, H15⟩
    iapply Hk
    swap
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H15
    · ipureintro
      obtain ⟨h10, h15, h11⟩ := hg
      refine ⟨fun y hy => ?_, fun _ => ?_, fun e => by omega⟩
      · rw [if_neg (by omega)]; exact h10 y (by omega)
      · rw [h11, hacc, heq]

set_option maxHeartbeats 1600000 in
/-- The body of one grid point. -/
theorem body_wp (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → (arg3.view.read (Elt F) f3) y = A3 (ix2 (y 0) (Fin.ofNat 1187 (y 1).val)))
    (h7 : ∀ y : S256x2048.Idx, 2048 * (i 0).val + (y 1).val < 151936 → (arg7.view.read (Elt F) f7) y = A6 (ix2 (y 0) (Fin.ofNat 151936 (2048 * (i 0).val + (y 1).val))))
    (h8 : ∀ y : S1x2048.Idx, 2048 * (i 0).val + (y 1).val < 151936 → (arg8.view.read (Elt F) f8) y = A7 (ix2 (0 : Fin 1) (Fin.ofNat 151936 (2048 * (i 0).val + (y 1).val))))
    (h9 : ∀ y : S2048x896.Idx, 2048 * (i 0).val + (y 0).val < 151936 → (arg9.view.read (Elt F) f9) y = A8 (ix2 (Fin.ofNat 151936 (2048 * (i 0).val + (y 0).val)) (y 1)))
    (hR : (i 0).val = 0 ∨ Ready A3 A6 A7 A8 (arg1.view.read (Elt F) f1) (arg2.view.read (Elt F) f2) (arg4.view.read (Elt F) f4) (arg5.view.read (Elt F) f5) (arg6.view.read (Elt F) f6) (i 0).val (arg12.view.read (Elt F) f12) (arg13.view.read (Elt F) f13) (arg14.view.read (Elt F) f14) (arg15.view.read (Elt F) f15) (arg16.view.read (Elt F) f16) (arg17.view.read (Elt F) f17)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (∀ g10 g11 g12 g13 g14 g15 g16 g17, ⌜(∀ y : S2048x896.Idx, 2048 * (i 0).val + (y 0).val < 151936 → (arg10.view.read (Elt F) g10) y
                = deVal A3 A6 (arg1.view.read (Elt F) f1) (arg2.view.read (Elt F) f2) (hhOf (arg4.view.read (Elt F) f4) (arg5.view.read (Elt F) f5)) (extf (s := S256x896) .f32 (arg6.view.read (Elt F) f6) bitsLt_bf16_f32) (i 0).val y)
            ∧ ((i 0).val = 74 → (arg11.view.read (Elt F) g11) = truncf (s := S256x896) .bf16 (endOf A3 A6 A7 A8 (accAt A3 A6 A7 A8 74)) bitsLt_bf16_f32)
            ∧ ((i 0).val < 74 → g11 = f11)
            ∧ Ready A3 A6 A7 A8 (arg1.view.read (Elt F) f1) (arg2.view.read (Elt F) f2) (arg4.view.read (Elt F) f4) (arg5.view.read (Elt F) f5) (arg6.view.read (Elt F) f6) ((i 0).val + 1) (arg12.view.read (Elt F) g12) (arg13.view.read (Elt F) g13) (arg14.view.read (Elt F) g14) (arg15.view.read (Elt F) g15) (arg16.view.read (Elt F) g16) (arg17.view.read (Elt F) g17)⌝
          -∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E (cc0_tied_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hi : (i 0).val < 75 := (i 0).isLt
  rw [cc0_tied_grad_eq_skeleton, skel_eq]
  iintro ⟨H1, H2, H3, H4, H5, H6, H7, H8, H9, H10, H11, H12, H13, H14, H15, H16, H17, Hk⟩
  rw [wp_bind]
  iapply (init_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f1 f2 f3 f4 f5 f6 f12 f13 f14 f15 f16 f17 _ A3 A6 A7 A8 h3 hR)
  isplitl [H1]; · iexact H1
  isplitl [H2]; · iexact H2
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [H16]; · iexact H16
  isplitl [H17]; · iexact H17
  iintro %k12 %k13 %k14 %k15 %k16 %k17 %hr ⟨H1, H2, H3, H4, H5, H6, H12, H13, H14, H15, H16, H17⟩
  have hassoc : ∀ (p q : Prog (TpuEff nD τ sig (Elt F) (Λ₀ F) .tc) PUnit) (r : Prog (TpuEff nD τ sig (Elt F) (Λ₀ F) .tc) PUnit),
      (do let _ ← p; let _ ← q; r) = (do let _ ← (do let _ ← p; q); r) := fun p q r => (bind_assoc p _ _).symm
  rw [hassoc, wp_bind]
  iapply (mid_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f7 f8 f9 f10 f11 k12 k13 k15 _ A3 A6 A7 A8 ⟨h7, h8, h9, hr.tile⟩ (hr.acc (by omega)))
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  iintro %g10 %g11 %g15 %hm ⟨H7, H8, H9, H10, H11, H12, H13, H15⟩
  have hoff : ∀ x : (Rect.unit (s := S75) (k0_off7 i) S1.size (k0_off7_inb i)).shape.Idx, (arg16.access (Rect.unit (s := S75) (k0_off7 i) S1.size (k0_off7_inb i))).read (Elt F) k16 x
      = hdAt (arg16.view.read (Elt F) k16) (i 0).val := fun x => by
    refine congrArg (arg16.view.read (Elt F) k16) (funext fun a => Fin.ext ?_)
    have hx := (x a).isLt
    match a with
    | ⟨0, _⟩ =>
      show k0_off7 i 0 + 1 * (x 0).val = (i 0).val % 75
      have h0 : (x 0).val < 1 := hx
      have h1 : k0_off7 i 0 = (i 0).val := by
        show (BitVec.ofNat 32 (i 0).val).toNat = _
        rw [BitVec.toNat_ofNat]; omega
      omega
  simp only [smemLoad, smemLoadElt, Prog.lift, Prog.bind_op, Prog.bind_ret, Prog.pure_eq_ret]
  sl_exec
  have hn : arg16.view.readAt (Elt F) (Rect.unit (s := S75) (k0_off7 i) S1.size (k0_off7_inb i)).toLoadRect k16 (Shape.Idx.first (numel1_S1.symm ▸ Nat.one_pos))
      = hdAt (arg16.view.read (Elt F) k16) (i 0).val := hoff _
  simp only [hn]
  have hts : ∀ t ∈ bucket (localAt (arg2.view.read (Elt F) f2) (arg1.view.read (Elt F) f1)) 256 (i 0).val,
      (idAt (arg1.view.read (Elt F) f1) t - (one (arg2.view.read (Elt F) f2) + BitVec.ofNat 32 (i 0).val * 2048#32)).toNat < 2048 := fun t ht => by
    obtain ⟨-, hv, hd⟩ := (mem_bucket (Nat.le_refl 256)).1 ht
    rw [row_toNat _ _ hi hv hd]
    have hv' : (idAt (arg1.view.read (Elt F) f1) t - one (arg2.view.read (Elt F) f2)).toNat / 2048 = (i 0).val := hd
    omega
  iapply (wp_call_spec 𝒱₀ (c : Thread nD τ) none E (spec c i arg2 arg1 arg10 arg14 arg17 f2 f1 k14 k17 (bucket (localAt (arg2.view.read (Elt F) f2) (arg1.view.read (Elt F) f1)) 256 (i 0).val) _)
    (bucket (localAt (arg2.view.read (Elt F) f2) (arg1.view.read (Elt F) f1)) 256 (i 0).val).length (fun u hu => nomatch hu)
    (spec_le c i arg2 harg2 arg1 harg1 arg10 harg10 arg14 harg14 arg17 harg17 f2 f1 k14 k17 E _ _ (hr.lists _ hi) hts _))
  rw [spec_apply]; unfold held
  isplitl [H1 H2 H10 H14 H17]
  · isplitl [H2]; · iexact H2
    isplitl [H1]; · iexact H1
    isplitl [H10]; · iexact H10
    isplitl [H14]; · iexact H14
    iexact H17
  iintro %r %g %hg ⟨H2, H1, H10, H14, H17⟩
  rw [wp_ret]; imodintro
  iapply Hk
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · ipureintro
    obtain ⟨m10, m11, m15⟩ := hm
    refine ⟨fun y hy => ?_, m11, fun e => (m15 e).1, ⟨hr.hh, hr.tile, hr.dm, fun e => (m15 (by omega)).2, hr.lists⟩⟩
    rw [hg, hr.dm]
    refine addToks_congr _ _ _ _ y _ _ _ ?_
    rw [m10 y hy, hr.hh]

end Body

end Cert.Proof.K
-- ==== Proof.K.Kern.lean ====
/-
  The body of one grid point over owned buffers, each at the values it holds.
-/
module

public import proofs.«01_k».proof.Proof.K.Body

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

set_option maxHeartbeats 1600000 in
/-- One point of the kernel: the windows hold the point's blocks and the scratch is ready (or it is the first point); after
    the body the first result's block holds the point's rows, the second result's block its final value at the last point
    (and what it held before any other), and the scratch is ready for the next point. -/
theorem kernel_wp (E : Set ℕ) (x1 : S1x256.Idx → Elt F .i32) (x2 : S1.Idx → Elt F .i32) (x3 : S256x1280.Idx → Elt F .f32) (x4 : S256x896.Idx → Elt F .fp8e4m3) (x5 : S1x256.Idx → Elt F .f32) (x6 : S256x896.Idx → Elt F .bf16) (x7 : S256x2048.Idx → Elt F .fp8e5m2) (x8 : S1x2048.Idx → Elt F .f32) (x9 : S2048x896.Idx → Elt F .i8) (x10 : S2048x896.Idx → Elt F .f32) (x11 : S256x896.Idx → Elt F .bf16) (x12 : S256x896.Idx → Elt F .bf16) (x13 : S10x256x128.Idx → Elt F .f32) (x14 : S256x896.Idx → Elt F .f32) (x15 : S256x896.Idx → Elt F .f32) (x16 : S75.Idx → Elt F .i32) (x17 : S256.Idx → Elt F .i32)
    (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → x3 y = A3 (ix2 (y 0) (Fin.ofNat 1187 (y 1).val)))
    (h7 : ∀ y : S256x2048.Idx, 2048 * (i 0).val + (y 1).val < 151936 → x7 y = A6 (ix2 (y 0) (Fin.ofNat 151936 (2048 * (i 0).val + (y 1).val))))
    (h8 : ∀ y : S1x2048.Idx, 2048 * (i 0).val + (y 1).val < 151936 → x8 y = A7 (ix2 (0 : Fin 1) (Fin.ofNat 151936 (2048 * (i 0).val + (y 1).val))))
    (h9 : ∀ y : S2048x896.Idx, 2048 * (i 0).val + (y 0).val < 151936 → x9 y = A8 (ix2 (Fin.ofNat 151936 (2048 * (i 0).val + (y 0).val)) (y 1)))
    (hR : (i 0).val = 0 ∨ Ready A3 A6 A7 A8 x1 x2 x4 x5 x6 (i 0).val x12 x13 x14 x15 x16 x17) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (∀ (y10 : S2048x896.Idx → Elt F .f32) (y11 : S256x896.Idx → Elt F .bf16) (y12 : S256x896.Idx → Elt F .bf16) (y13 : S10x256x128.Idx → Elt F .f32) (y14 : S256x896.Idx → Elt F .f32) (y15 : S256x896.Idx → Elt F .f32) (y16 : S75.Idx → Elt F .i32) (y17 : S256.Idx → Elt F .i32), ⌜(∀ y : S2048x896.Idx, 2048 * (i 0).val + (y 0).val < 151936 → y10 y
                = deVal A3 A6 x1 x2 (hhOf x4 x5) (extf (s := S256x896) .f32 x6 bitsLt_bf16_f32) (i 0).val y)
            ∧ ((i 0).val = 74 → y11 = truncf (s := S256x896) .bf16 (endOf A3 A6 A7 A8 (accAt A3 A6 A7 A8 74)) bitsLt_bf16_f32)
            ∧ ((i 0).val < 74 → y11 = x11)
            ∧ Ready A3 A6 A7 A8 x1 x2 x4 x5 x6 ((i 0).val + 1) y12 y13 y14 y15 y16 y17⌝
          -∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17) -∗ K ⟨⟩))
      ⊢ wp frame (wpE (defs₀ (F := F)) 𝒱₀ (c : Thread nD τ) none) E (cc0_tied_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  iapply (body_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f1 f2 f3 f4 f5 f6 f7 f8 f9 f10 f11 f12 f13 f14 f15 f16 f17 K A3 A6 A7 A8 h3 h7 h8 h9 hR)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro %g10 %g11 %g12 %g13 %g14 %g15 %g16 %g17 %hfacts ⟨H1, H2, H3, H4, H5, H6, H7, H8, H9, H10, H11, H12, H13, H14, H15, H16, H17⟩
  ispecialize Hk $$ %(arg10.view.read (Elt F) g10) %(arg11.view.read (Elt F) g11) %(arg12.view.read (Elt F) g12) %(arg13.view.read (Elt F) g13) %(arg14.view.read (Elt F) g14) %(arg15.view.read (Elt F) g15) %(arg16.view.read (Elt F) g16) %(arg17.view.read (Elt F) g17)
  iapply Hk
  swap
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists g10; isplitr; · ipureintro; rfl
      iexact H10
    isplitl [H11]
    · iexists g11; isplitr; · ipureintro; rfl
      iexact H11
    isplitl [H12]
    · iexists g12; isplitr; · ipureintro; rfl
      iexact H12
    isplitl [H13]
    · iexists g13; isplitr; · ipureintro; rfl
      iexact H13
    isplitl [H14]
    · iexists g14; isplitr; · ipureintro; rfl
      iexact H14
    isplitl [H15]
    · iexists g15; isplitr; · ipureintro; rfl
      iexact H15
    isplitl [H16]
    · iexists g16; isplitr; · ipureintro; rfl
      iexact H16
    iexists g17; isplitr; · ipureintro; rfl
    iexact H17
  · ipureintro
    exact ⟨hfacts.1, hfacts.2.1, fun h => congrArg (arg11.view.read (Elt F)) (hfacts.2.2.1 h), hfacts.2.2.2⟩

end Cert.Proof.K

end
-- ==== Proof.K.Host.lean ====
/-
  The lines of @main before and after the launch: what they leave in each buffer, and the frame claim from a run to the
  launch's postcondition.
-/
module

public import proofs.«01_k».proof.Proof.Gen.Kernel.Launch
public import proofs.«01_k».proof.Proof.Gen.Kernel.Points
public import proofs.«01_k».proof.Proof.K.Walk
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg)

/-- Core `c`'s buffers when the launch is entered: after the reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- The line after the launch allocates nothing. -/
theorem hostOps1_fresh : (hostOps1 : List (HloOp τ sig (Elt F))).Forall fun op => op.fresh = ∅ := by
  simp only [List.Forall]; repeat' constructor

set_option maxHeartbeats 800000 in
/-- @main is the lines before the launch, the launch, and the line after it. -/
theorem hmain (𝒱 : Variants) : Pipeline.HMainK (Ix := Unit) (Name := ℕ) (U := UR sig nD τ) (Lvl := ℕ) cfgs 0 defs₀ 𝒱 m (main (F := F)) (V m)
      (fun _ => Pipeline.chain ([hostOps1].map StableHlo.seq)) :=
  Pipeline.hmain_around cfgs 0 defs₀ 𝒱 m main [hostOps0] [hostOps1] (by simp only [List.Forall]; exact hostOps0_sub)
    (by simp only [List.Forall]; exact hostOps0_fresh) main_chain

/-- The line after the launch touches only the launch's arrays and the buffers it passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;>
    exact StableHlo.devRef_ne_of_ne (by decide)

/-- The lines before the launch leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The line after the launch leaves argument 0, which the launch does not stage, as launched. -/
theorem W_main_arg0 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The line after the launch leaves argument 1, which the launch does not stage, as launched. -/
theorem W_main_arg1 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The line after the launch leaves argument 2, which the launch does not stage, as launched. -/
theorem W_main_arg2 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The line after the launch leaves argument 5, which the launch does not stage, as launched. -/
theorem W_main_arg5 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- The line after the launch leaves argument 8, which the launch does not stage, as launched. -/
theorem W_main_arg8 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The nine argument arrays of a final state are those of the launch. -/
def Unchanged (m : (ℓ : Loc nD τ sig) → Buf (Elt F) ℓ) (m' : (ℓ : Loc nD τ sig) → Buf (Elt F) ℓ) : Prop := ∀ c : Dev nD,
      m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)

/-- A final state that meets the launch's postcondition has its arguments unchanged. -/
theorem unchanged_of (dats : (p : Fin 1) → (c : Dev nD) → Dat τ (Elt F) Unit ℕ (UR sig nD τ) ℕ (cfgs (F := F) p) c)
    (hA : ∀ c w, (dats 0 c).A w = V m c (Pipeline.arrRef spec0 w))
    (r : PUnit × MemSt nD τ sig (Elt F))
    (h : Pipeline.FramePost (cfgs (F := F)) dats 0 (Pipeline.afterTail₀ (cfgs (F := F)) dats 0 (V0 m) [hostOps1]) r) : Unchanged m r.2.mem :=
  fun c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c)),
      (((h c).2 main_arg2 (Pipeline.mem_restRefs_of main_arg2 (by decide) (by exact (by decide : ∀ w, Pipeline.arrRef spec0 w ≠ main_arg2)))).trans (W_main_arg2 m dats c)),
      ((h c).1 4).trans (((dats 0 c).arrAt_in 4 rfl _).trans ((hA c 4).trans (V_main_arg3 m c))),
      ((h c).1 8).trans (((dats 0 c).arrAt_in 8 rfl _).trans ((hA c 8).trans (V_main_arg4 m c))),
      (((h c).2 main_arg5 (Pipeline.mem_restRefs_of main_arg5 (by decide) (by exact (by decide : ∀ w, Pipeline.arrRef spec0 w ≠ main_arg5)))).trans (W_main_arg5 m dats c)),
      ((h c).1 0).trans (((dats 0 c).arrAt_in 0 rfl _).trans ((hA c 0).trans (V_main_arg6 m c))),
      ((h c).1 1).trans (((dats 0 c).arrAt_in 1 rfl _).trans ((hA c 1).trans (V_main_arg7 m c))),
      (((h c).2 main_arg8 (Pipeline.mem_restRefs_of main_arg8 (by decide) (by exact (by decide : ∀ w, Pipeline.arrRef spec0 w ≠ main_arg8)))).trans (W_main_arg8 m dats c))⟩

end Cert.Proof.K

end
-- ==== Proof.K.Data.lean ====
/-
  What each window of the launch holds at each grid point, read off the launch's arrays.
-/
module

public import proofs.«01_k».proof.Proof.K.Host
public import proofs.«01_k».proof.Proof.K.Vals

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg) (c : Dev nD)

/-- Window `w`'s block at point `t`, cut at the array's end, read off its array as the launch finds it. -/
def iblk (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The token ids, as the launch finds them. -/
def aIds : S1x256.Idx → Elt F .i32 := V m c main_arg6
/-- The shard's first id. -/
def aStart : S1.Idx → Elt F .i32 := V m c main_arg7
/-- The cotangent's block scales. -/
def aDls : S256x1187.Idx → Elt F .f32 := V m c main_v0
/-- The hidden state's codes. -/
def aH : S256x896.Idx → Elt F .fp8e4m3 := V m c main_v1
/-- The hidden state's token scales. -/
def aHs : S1x256.Idx → Elt F .f32 := V m c main_arg3
/-- The input embedding's cotangent. -/
def aDemb : S256x896.Idx → Elt F .bf16 := V m c main_v2
/-- The logits' cotangent codes. -/
def aDl : S256x151936.Idx → Elt F .fp8e5m2 := V m c main_v3
/-- The table's row scales. -/
def aEs : S1x151936.Idx → Elt F .f32 := V m c main_v4
/-- The table's codes. -/
def aE : S151936x896.Idx → Elt F .i8 := V m c main_arg4

/-- The grid's one coordinate is the point's number. -/
theorem coords_val : ∀ t : Fin grid0.N, (grid0.coords t 0).val = t.val := by decide +kernel

/-- Window 0 holds its whole array at every point. -/
theorem iblk_0 (t : Fin (cfg0 (F := F)).N) : iblk m c 0 t = aIds m c := by
  funext y
  unfold iblk
  refine congrArg (aIds m c) (?_ : _ = y)
  funext a; apply Fin.ext
  fin_cases a <;> first | exact Nat.zero_add _ | (show 0 * _ + 1 * (y _).val = (y _).val; omega)
/-- Window 1 holds its whole array at every point. -/
theorem iblk_1 (t : Fin (cfg0 (F := F)).N) : iblk m c 1 t = aStart m c := by
  funext y
  unfold iblk
  refine congrArg (aStart m c) (?_ : _ = y)
  funext a; apply Fin.ext
  fin_cases a <;> first | exact Nat.zero_add _ | (show 0 * _ + 1 * (y _).val = (y _).val; omega)
/-- Window 3 holds its whole array at every point. -/
theorem iblk_3 (t : Fin (cfg0 (F := F)).N) : iblk m c 3 t = aH m c := by
  funext y
  unfold iblk
  refine congrArg (aH m c) (?_ : _ = y)
  funext a; apply Fin.ext
  fin_cases a <;> first | exact Nat.zero_add _ | (show 0 * _ + 1 * (y _).val = (y _).val; omega)
/-- Window 4 holds its whole array at every point. -/
theorem iblk_4 (t : Fin (cfg0 (F := F)).N) : iblk m c 4 t = aHs m c := by
  funext y
  unfold iblk
  refine congrArg (aHs m c) (?_ : _ = y)
  funext a; apply Fin.ext
  fin_cases a <;> first | exact Nat.zero_add _ | (show 0 * _ + 1 * (y _).val = (y _).val; omega)
/-- Window 5 holds its whole array at every point. -/
theorem iblk_5 (t : Fin (cfg0 (F := F)).N) : iblk m c 5 t = aDemb m c := by
  funext y
  unfold iblk
  refine congrArg (aDemb m c) (?_ : _ = y)
  funext a; apply Fin.ext
  fin_cases a <;> first | exact Nat.zero_add _ | (show 0 * _ + 1 * (y _).val = (y _).val; omega)

/-- Point `t`'s number in the launch's own index type. -/
abbrev pt (t : Fin (cfg0 (F := F)).N) : grid0.Coords := (cfg0 (F := F)).grid.coords t

/-- How much of window 2's block is inside its array. -/
theorem xsize_2 : ∀ t : Fin grid0.N, win0_2.xsize (grid0.coords t) 0 = 256 ∧ win0_2.xsize (grid0.coords t) 1 = 1187 := by decide +kernel
/-- How much of window 6's block is inside its array. -/
theorem xsize_6 : ∀ t : Fin grid0.N, win0_6.xsize (grid0.coords t) 0 = 256 ∧ win0_6.xsize (grid0.coords t) 1 = if t.val < 74 then 2048 else 384 := by decide +kernel
/-- How much of window 7's block is inside its array. -/
theorem xsize_7 : ∀ t : Fin grid0.N, win0_7.xsize (grid0.coords t) 0 = 1 ∧ win0_7.xsize (grid0.coords t) 1 = if t.val < 74 then 2048 else 384 := by decide +kernel
/-- How much of window 8's block is inside its array. -/
theorem xsize_8 : ∀ t : Fin grid0.N, win0_8.xsize (grid0.coords t) 1 = 896 ∧ win0_8.xsize (grid0.coords t) 0 = if t.val < 74 then 2048 else 384 := by decide +kernel
/-- How much of window 9's block is inside its array. -/
theorem xsize_9 : ∀ t : Fin grid0.N, win0_9.xsize (grid0.coords t) 1 = 896 ∧ win0_9.xsize (grid0.coords t) 0 = if t.val < 74 then 2048 else 384 := by decide +kernel

/-- A filled block at a coordinate the transfer moves is what the transfer moves there. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g (fun a => ⟨(j a).val, h a⟩) := by
  unfold Window.fill
  rw [dif_pos ((w.moved_iff i j).mpr h)]

/-- Window 2 holds the block scales inside its array. -/
theorem fill_2 (t : Fin (cfg0 (F := F)).N) (d : S256x1280.Idx → Elt F .f32) (y : S256x1280.Idx) (hy : (y 1).val < 1187) :
    ((cfg0 (F := F)).win 2).fill ((cfg0 (F := F)).grid.coords t) d (iblk m c 2 t) y = aDls m c (ix2 (y 0) (Fin.ofNat 1187 (y 1).val)) := by
  obtain ⟨h0, h1⟩ := xsize_2 t
  have hm : ∀ a, (y a).val < ((cfg0 (F := F)).win 2).xsize ((cfg0 (F := F)).grid.coords t) a := by
    intro a
    fin_cases a
    · exact lt_of_lt_of_eq (y 0).isLt h0.symm
    · exact lt_of_lt_of_eq hy h1.symm
  refine (fill_of_lt ((cfg0 (F := F)).win 2) ((cfg0 (F := F)).grid.coords t) d (iblk m c 2 t) y hm).trans ?_
  unfold iblk
  refine congrArg (aDls m c) (?_ : _ = ix2 (y 0) (Fin.ofNat 1187 (y 1).val))
  funext a; apply Fin.ext
  fin_cases a
  · show 0 * _ + 1 * (y 0).val = (y 0).val; omega
  · show 0 * _ + 1 * (y 1).val = (y 1).val % 1187; omega

/-- Window 6 holds the point's columns of the logits' cotangent codes. -/
theorem fill_6 (t : Fin (cfg0 (F := F)).N) (d : S256x2048.Idx → Elt F .fp8e5m2) (y : S256x2048.Idx) (hy : 2048 * t.val + (y 1).val < 151936) :
    ((cfg0 (F := F)).win 6).fill ((cfg0 (F := F)).grid.coords t) d (iblk m c 6 t) y = aDl m c (ix2 (y 0) (Fin.ofNat 151936 (2048 * t.val + (y 1).val))) := by
  obtain ⟨h0, h1⟩ := xsize_6 t
  have ht : t.val < 75 := t.isLt
  have hl : (y 1).val < 2048 := (y 1).isLt
  have hc : ((cfg0 (F := F)).grid.coords t 0).val = t.val := coords_val t
  have hm : ∀ a, (y a).val < ((cfg0 (F := F)).win 6).xsize ((cfg0 (F := F)).grid.coords t) a := by
    intro a
    fin_cases a
    · exact lt_of_lt_of_eq (y 0).isLt h0.symm
    · refine lt_of_lt_of_eq (?_ : (y 1).val < if t.val < 74 then 2048 else 384) h1.symm
      split <;> omega
  refine (fill_of_lt ((cfg0 (F := F)).win 6) ((cfg0 (F := F)).grid.coords t) d (iblk m c 6 t) y hm).trans ?_
  unfold iblk
  refine congrArg (aDl m c) (?_ : _ = ix2 (y 0) (Fin.ofNat 151936 (2048 * t.val + (y 1).val)))
  funext a; apply Fin.ext
  fin_cases a
  · show 0 * _ + 1 * (y 0).val = (y 0).val; omega
  · show ((cfg0 (F := F)).grid.coords t 0).val % 4294967296 * 2048 + 1 * (y 1).val = (2048 * t.val + (y 1).val) % 151936
    rw [hc, Nat.mod_eq_of_lt hy, Nat.mod_eq_of_lt (by omega : t.val < 4294967296)]; omega

/-- Window 7 holds the point's row scales. -/
theorem fill_7 (t : Fin (cfg0 (F := F)).N) (d : S1x2048.Idx → Elt F .f32) (y : S1x2048.Idx) (hy : 2048 * t.val + (y 1).val < 151936) :
    ((cfg0 (F := F)).win 7).fill ((cfg0 (F := F)).grid.coords t) d (iblk m c 7 t) y = aEs m c (ix2 (0 : Fin 1) (Fin.ofNat 151936 (2048 * t.val + (y 1).val))) := by
  obtain ⟨h0, h1⟩ := xsize_7 t
  have ht : t.val < 75 := t.isLt
  have hl : (y 1).val < 2048 := (y 1).isLt
  have hz : (y 0).val < 1 := (y 0).isLt
  have hc : ((cfg0 (F := F)).grid.coords t 0).val = t.val := coords_val t
  have hm : ∀ a, (y a).val < ((cfg0 (F := F)).win 7).xsize ((cfg0 (F := F)).grid.coords t) a := by
    intro a
    fin_cases a
    · exact lt_of_lt_of_eq (y 0).isLt h0.symm
    · refine lt_of_lt_of_eq (?_ : (y 1).val < if t.val < 74 then 2048 else 384) h1.symm
      split <;> omega
  refine (fill_of_lt ((cfg0 (F := F)).win 7) ((cfg0 (F := F)).grid.coords t) d (iblk m c 7 t) y hm).trans ?_
  unfold iblk
  refine congrArg (aEs m c) (?_ : _ = ix2 (0 : Fin 1) (Fin.ofNat 151936 (2048 * t.val + (y 1).val)))
  funext a; apply Fin.ext
  fin_cases a
  · show 0 * _ + 1 * (y 0).val = 0; omega
  · show ((cfg0 (F := F)).grid.coords t 0).val % 4294967296 * 2048 + 1 * (y 1).val = (2048 * t.val + (y 1).val) % 151936
    rw [hc, Nat.mod_eq_of_lt hy, Nat.mod_eq_of_lt (by omega : t.val < 4294967296)]; omega

/-- Window 8 holds the point's rows of the table's codes. -/
theorem fill_8 (t : Fin (cfg0 (F := F)).N) (d : S2048x896.Idx → Elt F .i8) (y : S2048x896.Idx) (hy : 2048 * t.val + (y 0).val < 151936) :
    ((cfg0 (F := F)).win 8).fill ((cfg0 (F := F)).grid.coords t) d (iblk m c 8 t) y = aE m c (ix2 (Fin.ofNat 151936 (2048 * t.val + (y 0).val)) (y 1)) := by
  obtain ⟨h0, h1⟩ := xsize_8 t
  have ht : t.val < 75 := t.isLt
  have hl : (y 0).val < 2048 := (y 0).isLt
  have hc : ((cfg0 (F := F)).grid.coords t 0).val = t.val := coords_val t
  have hm : ∀ a, (y a).val < ((cfg0 (F := F)).win 8).xsize ((cfg0 (F := F)).grid.coords t) a := by
    intro a
    fin_cases a
    · refine lt_of_lt_of_eq (?_ : (y 0).val < if t.val < 74 then 2048 else 384) h1.symm
      split <;> omega
    · exact lt_of_lt_of_eq (y 1).isLt h0.symm
  refine (fill_of_lt ((cfg0 (F := F)).win 8) ((cfg0 (F := F)).grid.coords t) d (iblk m c 8 t) y hm).trans ?_
  unfold iblk
  refine congrArg (aE m c) (?_ : _ = ix2 (Fin.ofNat 151936 (2048 * t.val + (y 0).val)) (y 1))
  funext a; apply Fin.ext
  fin_cases a
  · show ((cfg0 (F := F)).grid.coords t 0).val % 4294967296 * 2048 + 1 * (y 0).val = (2048 * t.val + (y 0).val) % 151936
    rw [hc, Nat.mod_eq_of_lt hy, Nat.mod_eq_of_lt (by omega : t.val < 4294967296)]; omega
  · show 0 * _ + 1 * (y 1).val = (y 1).val; omega

end Cert.Proof.K

end
-- ==== Proof.K.Run.lean ====
/-
  The launch: what the pipeline's windows and scratch hold at every grid point, the body's obligation at each point, and the
  run of @main to the launch's postcondition with every semaphore counter at zero.
-/
module

public import proofs.«01_k».proof.Proof.K.Kern
public import proofs.«01_k».proof.Proof.K.Data

@[expose] public section

noncomputable section

namespace Cert.Proof.K

open Cert.Kernel Cert.Kernel.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg)

/-- The rows of the first result at point `n`. -/
def deRows (c : Dev nD) (n : ℕ) : S2048x896.Idx → Elt F .f32 :=
  deVal (aDls m c) (aDl m c) (aIds m c) (aStart m c) (hhOf (aH m c) (aHs m c)) (extf (s := S256x896) .f32 (aDemb m c) bitsLt_bf16_f32) n

/-- The second result. -/
def dhVal (c : Dev nD) : S256x896.Idx → Elt F .bf16 :=
  truncf (s := S256x896) .bf16 (endOf (aDls m c) (aDl m c) (aEs m c) (aE m c) (accAt (aDls m c) (aDl m c) (aEs m c) (aE m c) 74)) bitsLt_bf16_f32

/-- The scratch between the points: ready for point `n`, or anything before the first. -/
def scr (c : Dev nD) (n : ℕ) : sProp 𝕄 :=
  iprop(∃ (x12 : S256x896.Idx → Elt F .bf16) (x13 : S10x256x128.Idx → Elt F .f32) (x14 : S256x896.Idx → Elt F .f32) (x15 : S256x896.Idx → Elt F .f32) (x16 : S75.Idx → Elt F .i32) (x17 : S256.Idx → Elt F .i32), ⌜n = 0 ∨ Ready (aDls m c) (aDl m c) (aEs m c) (aE m c) (aIds m c) (aStart m c) (aH m c) (aHs m c) (aDemb m c) n x12 x13 x14 x15 x16 x17⌝
    ∗ owns (c : Thread nD τ) (Memref.whole cc0_scratch0) fullShare x12 ∗ owns (c : Thread nD τ) (Memref.whole cc0_scratch1) fullShare x13 ∗ owns (c : Thread nD τ) (Memref.whole cc0_scratch2) fullShare x14 ∗ owns (c : Thread nD τ) (Memref.whole cc0_scratch3) fullShare x15 ∗ owns (c : Thread nD τ) (Memref.whole cc0_scratch4) fullShare x16 ∗ owns (c : Thread nD τ) (Memref.whole cc0_scratch5) fullShare x17)

/-- The proof data of the launch on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => ((cfg0 (F := F)).win 2).fill ((cfg0 (F := F)).grid.coords t) (fun _ => Classical.arbitrary _) (iblk m c 2 t)
    | ⟨3, _⟩ => iblk m c 3 t
    | ⟨4, _⟩ => iblk m c 4 t
    | ⟨5, _⟩ => iblk m c 5 t
    | ⟨6, _⟩ => ((cfg0 (F := F)).win 6).fill ((cfg0 (F := F)).grid.coords t) (fun _ => Classical.arbitrary _) (iblk m c 6 t)
    | ⟨7, _⟩ => ((cfg0 (F := F)).win 7).fill ((cfg0 (F := F)).grid.coords t) (fun _ => Classical.arbitrary _) (iblk m c 7 t)
    | ⟨8, _⟩ => ((cfg0 (F := F)).win 8).fill ((cfg0 (F := F)).grid.coords t) (fun _ => Classical.arbitrary _) (iblk m c 8 t)
    | ⟨9, _⟩ => deRows m c t.val
    | ⟨10, _⟩ => dhVal m c
  Φ n := iprop(scr m c n.val ∗ ∃ r, prngReg c r)
  q _ := fullShare
  owed _ := 0

/-- The proof data's arrays are what the launch finds. -/
theorem A_eq (c : Dev nD) (w : Fin (cfg0 (F := F)).W) : (dats m 0 c).A w = V m c (Pipeline.arrRef spec0 w) := by
  dsimp only [dats]

/-- What the body leaves in window 0. -/
theorem after_0 (c : Dev nD) (t : Fin (cfg0 (F := F)).N) : (dats m 0 c).after 0 t = iblk m c 0 t := by dsimp only [dats]; rfl
/-- What the body leaves in window 1. -/
theorem after_1 (c : Dev nD) (t : Fin (cfg0 (F := F)).N) : (dats m 0 c).after 1 t = iblk m c 1 t := by dsimp only [dats]; rfl
/-- What the body leaves in window 3. -/
theorem after_3 (c : Dev nD) (t : Fin (cfg0 (F := F)).N) : (dats m 0 c).after 3 t = iblk m c 3 t := by dsimp only [dats]; rfl
/-- What the body leaves in window 4. -/
theorem after_4 (c : Dev nD) (t : Fin (cfg0 (F := F)).N) : (dats m 0 c).after 4 t = iblk m c 4 t := by dsimp only [dats]; rfl
/-- What the body leaves in window 5. -/
theorem after_5 (c : Dev nD) (t : Fin (cfg0 (F := F)).N) : (dats m 0 c).after 5 t = iblk m c 5 t := by dsimp only [dats]; rfl
/-- What the body leaves in window 9. -/
theorem after_9 (c : Dev nD) (t : Fin (cfg0 (F := F)).N) : (dats m 0 c).after 9 t = deRows m c t.val := by dsimp only [dats]; rfl
/-- What the body leaves in window 10. -/
theorem after_10 (c : Dev nD) (t : Fin (cfg0 (F := F)).N) : (dats m 0 c).after 10 t = dhVal m c := by dsimp only [dats]; rfl
/-- What the body leaves in window 2, on the part inside the array. -/
theorem cut_after_2 (c : Dev nD) (t : Fin (cfg0 (F := F)).N) :
    ((cfg0 (F := F)).win 2).cut ((cfg0 (F := F)).grid.coords t) ((dats m 0 c).after 2 t) = iblk m c 2 t := by
  dsimp only [dats]; exact Window.cut_fill ((cfg0 (F := F)).win 2) ((cfg0 (F := F)).grid.coords t) (fun _ => Classical.arbitrary _) (iblk m c 2 t)
/-- What the body leaves in window 6, on the part inside the array. -/
theorem cut_after_6 (c : Dev nD) (t : Fin (cfg0 (F := F)).N) :
    ((cfg0 (F := F)).win 6).cut ((cfg0 (F := F)).grid.coords t) ((dats m 0 c).after 6 t) = iblk m c 6 t := by
  dsimp only [dats]; exact Window.cut_fill ((cfg0 (F := F)).win 6) ((cfg0 (F := F)).grid.coords t) (fun _ => Classical.arbitrary _) (iblk m c 6 t)
/-- What the body leaves in window 7, on the part inside the array. -/
theorem cut_after_7 (c : Dev nD) (t : Fin (cfg0 (F := F)).N) :
    ((cfg0 (F := F)).win 7).cut ((cfg0 (F := F)).grid.coords t) ((dats m 0 c).after 7 t) = iblk m c 7 t := by
  dsimp only [dats]; exact Window.cut_fill ((cfg0 (F := F)).win 7) ((cfg0 (F := F)).grid.coords t) (fun _ => Classical.arbitrary _) (iblk m c 7 t)
/-- What the body leaves in window 8, on the part inside the array. -/
theorem cut_after_8 (c : Dev nD) (t : Fin (cfg0 (F := F)).N) :
    ((cfg0 (F := F)).win 8).cut ((cfg0 (F := F)).grid.coords t) ((dats m 0 c).after 8 t) = iblk m c 8 t := by
  dsimp only [dats]; exact Window.cut_fill ((cfg0 (F := F)).win 8) ((cfg0 (F := F)).grid.coords t) (fun _ => Classical.arbitrary _) (iblk m c 8 t)
/-- Window 0's buffer holds its array at every point. -/
theorem before_0 (c : Dev nD) (t : Fin (cfg0 (F := F)).N) (d) : (dats m 0 c).before 0 t d = aIds m c :=
  (((dats m 0 c).before_in_eq_fetched 0 rfl (fun _ => rfl) (fun _ _ _ => rfl) (fun t => by rw [after_0]; unfold Dat.blockOf iblk; rw [A_eq]; try rfl) t d).trans
    (by unfold Dat.fetched Dat.blockOf; rw [A_eq]; try rfl : (dats m 0 c).fetched 0 t d = iblk m c 0 t)).trans (iblk_0 m c t)
/-- Window 1's buffer holds its array at every point. -/
theorem before_1 (c : Dev nD) (t : Fin (cfg0 (F := F)).N) (d) : (dats m 0 c).before 1 t d = aStart m c :=
  (((dats m 0 c).before_in_eq_fetched 1 rfl (fun _ => rfl) (fun _ _ _ => rfl) (fun t => by rw [after_1]; unfold Dat.blockOf iblk; rw [A_eq]; try rfl) t d).trans
    (by unfold Dat.fetched Dat.blockOf; rw [A_eq]; try rfl : (dats m 0 c).fetched 1 t d = iblk m c 1 t)).trans (iblk_1 m c t)
/-- Window 3's buffer holds its array at every point. -/
theorem before_3 (c : Dev nD) (t : Fin (cfg0 (F := F)).N) (d) : (dats m 0 c).before 3 t d = aH m c :=
  (((dats m 0 c).before_in_eq_fetched 3 rfl (fun _ => rfl) (fun _ _ _ => rfl) (fun t => by rw [after_3]; unfold Dat.blockOf iblk; rw [A_eq]; try rfl) t d).trans
    (by unfold Dat.fetched Dat.blockOf; rw [A_eq]; try rfl : (dats m 0 c).fetched 3 t d = iblk m c 3 t)).trans (iblk_3 m c t)
/-- Window 4's buffer holds its array at every point. -/
theorem before_4 (c : Dev nD) (t : Fin (cfg0 (F := F)).N) (d) : (dats m 0 c).before 4 t d = aHs m c :=
  (((dats m 0 c).before_in_eq_fetched 4 rfl (fun _ => rfl) (fun _ _ _ => rfl) (fun t => by rw [after_4]; unfold Dat.blockOf iblk; rw [A_eq]; try rfl) t d).trans
    (by unfold Dat.fetched Dat.blockOf; rw [A_eq]; try rfl : (dats m 0 c).fetched 4 t d = iblk m c 4 t)).trans (iblk_4 m c t)
/-- Window 5's buffer holds its array at every point. -/
theorem before_5 (c : Dev nD) (t : Fin (cfg0 (F := F)).N) (d) : (dats m 0 c).before 5 t d = aDemb m c :=
  (((dats m 0 c).before_in_eq_fetched 5 rfl (fun _ => rfl) (fun _ _ _ => rfl) (fun t => by rw [after_5]; unfold Dat.blockOf iblk; rw [A_eq]; try rfl) t d).trans
    (by unfold Dat.fetched Dat.blockOf; rw [A_eq]; try rfl : (dats m 0 c).fetched 5 t d = iblk m c 5 t)).trans (iblk_5 m c t)
/-- Window 2's clipping depends only on the block's index. -/
theorem clip_2 : ∀ t t' : Fin (cfg0 (F := F)).N, ((cfg0 (F := F)).win 2).index t = ((cfg0 (F := F)).win 2).index t'
    → ((cfg0 (F := F)).win 2).clip ((cfg0 (F := F)).grid.coords t) = ((cfg0 (F := F)).win 2).clip ((cfg0 (F := F)).grid.coords t') :=
  (by decide +kernel : ∀ t t' : Fin grid0.N, win0_2.index t = win0_2.index t' → win0_2.clip (grid0.coords t) = win0_2.clip (grid0.coords t'))
/-- Window 2's buffer holds the point's block on the part inside the array. -/
theorem before_2 (c : Dev nD) (t : Fin (cfg0 (F := F)).N) (d) : (dats m 0 c).before 2 t d = ((cfg0 (F := F)).win 2).fill ((cfg0 (F := F)).grid.coords t) d (iblk m c 2 t) :=
  ((dats m 0 c).before_in_eq_fetched 2 rfl (fun _ => rfl) clip_2 (fun t => by rw [cut_after_2]; unfold Dat.blockOf iblk; rw [A_eq]; try rfl) t d).trans
    (by unfold Dat.fetched Dat.blockOf iblk; rw [A_eq]; try rfl)
/-- Window 6's clipping depends only on the block's index. -/
theorem clip_6 : ∀ t t' : Fin (cfg0 (F := F)).N, ((cfg0 (F := F)).win 6).index t = ((cfg0 (F := F)).win 6).index t'
    → ((cfg0 (F := F)).win 6).clip ((cfg0 (F := F)).grid.coords t) = ((cfg0 (F := F)).win 6).clip ((cfg0 (F := F)).grid.coords t') :=
  (by decide +kernel : ∀ t t' : Fin grid0.N, win0_6.index t = win0_6.index t' → win0_6.clip (grid0.coords t) = win0_6.clip (grid0.coords t'))
/-- Window 6's buffer holds the point's block on the part inside the array. -/
theorem before_6 (c : Dev nD) (t : Fin (cfg0 (F := F)).N) (d) : (dats m 0 c).before 6 t d = ((cfg0 (F := F)).win 6).fill ((cfg0 (F := F)).grid.coords t) d (iblk m c 6 t) :=
  ((dats m 0 c).before_in_eq_fetched 6 rfl (fun _ => rfl) clip_6 (fun t => by rw [cut_after_6]; unfold Dat.blockOf iblk; rw [A_eq]; try rfl) t d).trans
    (by unfold Dat.fetched Dat.blockOf iblk; rw [A_eq]; try rfl)
/-- Window 7's clipping depends only on the block's index. -/
theorem clip_7 : ∀ t t' : Fin (cfg0 (F := F)).N, ((cfg0 (F := F)).win 7).index t = ((cfg0 (F := F)).win 7).index t'
    → ((cfg0 (F := F)).win 7).clip ((cfg0 (F := F)).grid.coords t) = ((cfg0 (F := F)).win 7).clip ((cfg0 (F := F)).grid.coords t') :=
  (by decide +kernel : ∀ t t' : Fin grid0.N, win0_7.index t = win0_7.index t' → win0_7.clip (grid0.coords t) = win0_7.clip (grid0.coords t'))
/-- Window 7's buffer holds the point's block on the part inside the array. -/
theorem before_7 (c : Dev nD) (t : Fin (cfg0 (F := F)).N) (d) : (dats m 0 c).before 7 t d = ((cfg0 (F := F)).win 7).fill ((cfg0 (F := F)).grid.coords t) d (iblk m c 7 t) :=
  ((dats m 0 c).before_in_eq_fetched 7 rfl (fun _ => rfl) clip_7 (fun t => by rw [cut_after_7]; unfold Dat.blockOf iblk; rw [A_eq]; try rfl) t d).trans
    (by unfold Dat.fetched Dat.blockOf iblk; rw [A_eq]; try rfl)
/-- Window 8's clipping depends only on the block's index. -/
theorem clip_8 : ∀ t t' : Fin (cfg0 (F := F)).N, ((cfg0 (F := F)).win 8).index t = ((cfg0 (F := F)).win 8).index t'
    → ((cfg0 (F := F)).win 8).clip ((cfg0 (F := F)).grid.coords t) = ((cfg0 (F := F)).win 8).clip ((cfg0 (F := F)).grid.coords t') :=
  (by decide +kernel : ∀ t t' : Fin grid0.N, win0_8.index t = win0_8.index t' → win0_8.clip (grid0.coords t) = win0_8.clip (grid0.coords t'))
/-- Window 8's buffer holds the point's block on the part inside the array. -/
theorem before_8 (c : Dev nD) (t : Fin (cfg0 (F := F)).N) (d) : (dats m 0 c).before 8 t d = ((cfg0 (F := F)).win 8).fill ((cfg0 (F := F)).grid.coords t) d (iblk m c 8 t) :=
  ((dats m 0 c).before_in_eq_fetched 8 rfl (fun _ => rfl) clip_8 (fun t => by rw [cut_after_8]; unfold Dat.blockOf iblk; rw [A_eq]; try rfl) t d).trans
    (by unfold Dat.fetched Dat.blockOf iblk; rw [A_eq]; try rfl)

/-- What the body is called with at point `t`, window by window. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (((cfg0 (F := F)).win 2).fill ((cfg0 (F := F)).grid.coords t) d (((cfg0 (F := F)).win 2).cut ((cfg0 (F := F)).grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (((cfg0 (F := F)).win 6).fill ((cfg0 (F := F)).grid.coords t) d (((cfg0 (F := F)).win 6).cut ((cfg0 (F := F)).grid.coords t) ((dats m 0 c).after 6 t))))
    ∗ (∃ d, owns (c : Thread nD τ) (st0_7 t) fullShare (((cfg0 (F := F)).win 7).fill ((cfg0 (F := F)).grid.coords t) d (((cfg0 (F := F)).win 7).cut ((cfg0 (F := F)).grid.coords t) ((dats m 0 c).after 7 t))))
    ∗ (∃ d, owns (c : Thread nD τ) (st0_8 t) fullShare (((cfg0 (F := F)).win 8).fill ((cfg0 (F := F)).grid.coords t) d (((cfg0 (F := F)).win 8).cut ((cfg0 (F := F)).grid.coords t) ((dats m 0 c).after 8 t))))
    ∗ (∃ d, owns (c : Thread nD τ) (st0_9 t) fullShare (((cfg0 (F := F)).win 9).fill ((cfg0 (F := F)).grid.coords t) d (((cfg0 (F := F)).win 9).cut ((cfg0 (F := F)).grid.coords t) ((dats m 0 c).after 9 t))))
    ∗ (dats m 0 c).leaves 10 t)

/-- Before the last point window 10 is left alone. -/
theorem idle_10 : ∀ t : Fin grid0.N, t.val < 74 → idle0 10 (grid0.coords t) = true := by decide +kernel
/-- At the last point it is written. -/
theorem live_10 : ∀ t : Fin grid0.N, t.val = 74 → idle0 10 (grid0.coords t) = false := by decide +kernel

/-- Window 10 after the body. -/
theorem leaves_10 (c : Dev nD) (t : Fin (cfg0 (F := F)).N) (d : S256x896.Idx → Elt F .bf16) (y : S256x896.Idx → Elt F .bf16)
    (h₁ : t.val = 74 → y = dhVal m c) (h₂ : t.val < 74 → y = (dats m 0 c).before 10 t d) :
    owns (c : Thread nD τ) (st0_10 t) fullShare y ⊢ ((dats m 0 c).leaves 10 t : sProp 𝕄) := by
  have ht : t.val < 75 := t.isLt
  rcases Nat.lt_or_ge t.val 74 with h | h
  · have hf : ((cfg0 (F := F)).win 10).flush t = false := by
      rw [Bool.eq_false_iff]; intro hc; have := (flush0_10 (F := F) t).mp hc; omega
    rw [Dat.leaves_idle (dats m 0 c) 10 t (show (cfg0 (F := F)).idle 10 ((cfg0 (F := F)).grid.coords t) = true from idle_10 t h) hf, h₂ h]
    iintro H; iexists d; iexact H
  · have h74 : t.val = 74 := by omega
    have hl : (dats m 0 c).leaves 10 t = (owns (c : Thread nD τ) (st0_10 t) fullShare ((dats m 0 c).after 10 t) : sProp 𝕄) := by
      unfold Dat.leaves
      rw [show (cfg0 (F := F)).idle 10 ((cfg0 (F := F)).grid.coords t) = false from live_10 t h74]
      rfl
    rw [hl, after_10, h₁ h74]

/-- Window 9's buffer at rows that agree with the point's on the part inside the array. -/
theorem fill_rows (c : Dev nD) (t : Fin (cfg0 (F := F)).N) (y10 : S2048x896.Idx → Elt F .f32)
    (h : ∀ y : S2048x896.Idx, 2048 * t.val + (y 0).val < 151936 → y10 y = deRows m c t.val y) :
    ((cfg0 (F := F)).win 9).fill ((cfg0 (F := F)).grid.coords t) y10 (((cfg0 (F := F)).win 9).cut ((cfg0 (F := F)).grid.coords t) (deRows m c t.val)) = y10 := by
  have ht : t.val < 75 := t.isLt
  have key : ∀ z : S2048x896.Idx, (∀ a : Fin 2, (z a).val < win0_9.xsize (grid0.coords t) a) → deRows m c t.val z = y10 z := by
    intro z hz
    have hlt := hz 0
    rw [(xsize_9 t).2] at hlt
    have hy : 2048 * t.val + (z 0).val < 151936 := by split at hlt <;> omega
    exact (h z hy).symm
  funext y
  unfold Window.fill
  split
  · rename_i hm
    exact key y ((((cfg0 (F := F)).win 9).moved_iff _ _).mp hm)
  · rfl

/-- Window 9 after the body. -/
theorem leaves_9 (c : Dev nD) (t : Fin (cfg0 (F := F)).N) (y10 : S2048x896.Idx → Elt F .f32)
    (h : ∀ y : S2048x896.Idx, 2048 * t.val + (y 0).val < 151936 → y10 y = deRows m c t.val y) :
    (owns (c : Thread nD τ) (st0_9 t) fullShare y10 : sProp 𝕄)
      ⊢ iprop(∃ d, owns (c : Thread nD τ) (st0_9 t) fullShare (((cfg0 (F := F)).win 9).fill ((cfg0 (F := F)).grid.coords t) d (((cfg0 (F := F)).win 9).cut ((cfg0 (F := F)).grid.coords t) (deRows m c t.val)))) := by
  have e := congrArg (fun X => (owns (c : Thread nD τ) (st0_9 t) fullShare X : sProp 𝕄)) (fill_rows m c t y10 h)
  iintro H
  iexists y10
  iapply (Eq.subst (motive := fun Z => (owns (c : Thread nD τ) (st0_9 t) fullShare y10 : sProp 𝕄) ⊢ Z) e.symm .rfl)
  iexact H

set_option maxHeartbeats 3200000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  have hc : (grid0.coords t 0).val = t.val := coords_val t
  unfold bodyPre bodyPost bodyAt0
  simp only [before_0, before_1, before_2, before_3, before_4, before_5, before_6, before_7, before_8]
  rw [show (dats m 0 c).Φ t.succ = iprop(scr m c (t.val + 1) ∗ ∃ r, prngReg c r) from rfl,
    show (dats m 0 c).Φ t.castSucc = iprop(scr m c t.val ∗ ∃ r, prngReg c r) from rfl,
    show (dats m 0 c).owesAt () t.succ = (dats m 0 c).owesAt () t.castSucc from rfl,
    after_0, after_1, after_3, after_4, after_5, iblk_0, iblk_1, iblk_3, iblk_4, iblk_5, cut_after_2, cut_after_6, cut_after_7, cut_after_8, after_9]
  unfold scr
  iintro ⟨⟨⟨%x12 , %x13 , %x14 , %x15 , %x16 , %x17, %hR, S12, S13, S14, S15, S16, S17⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel_wp c (grid0.coords t) _ _ _ _ _ _ _ _ _ _ _ _ _ _ _ _ _ _ _ _ _ _ _ _ _ _ _ _ _ _ _ _ _ _ Set.univ (aIds m c) (aStart m c) (((cfg0 (F := F)).win 2).fill ((cfg0 (F := F)).grid.coords t) d2 (iblk m c 2 t)) (aH m c) (aHs m c) (aDemb m c) (((cfg0 (F := F)).win 6).fill ((cfg0 (F := F)).grid.coords t) d6 (iblk m c 6 t)) (((cfg0 (F := F)).win 7).fill ((cfg0 (F := F)).grid.coords t) d7 (iblk m c 7 t)) (((cfg0 (F := F)).win 8).fill ((cfg0 (F := F)).grid.coords t) d8 (iblk m c 8 t)) ((dats m 0 c).before 9 t d9) ((dats m 0 c).before 10 t d10) x12 x13 x14 x15 x16 x17 _
    (aDls m c) (aDl m c) (aEs m c) (aE m c)
    (fun y hy => fill_2 m c t d2 y hy)
    (fun y hy => by rw [hc] at hy ⊢; exact fill_6 m c t d6 y hy)
    (fun y hy => by rw [hc] at hy ⊢; exact fill_7 m c t d7 y hy)
    (fun y hy => by rw [hc] at hy ⊢; exact fill_8 m c t d8 y hy)
    (by rw [hc]; exact hR))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S12]; · iexact S12
  isplitl [S13]; · iexact S13
  isplitl [S14]; · iexact S14
  isplitl [S15]; · iexact S15
  isplitl [S16]; · iexact S16
  isplitl [S17]; · iexact S17
  iintro %y10 %y11 %y12 %y13 %y14 %y15 %y16 %y17 %hfacts ⟨H0, H1, H2, H3, H4, H5, H6, H7, H8, H9, H10, S12, S13, S14, S15, S16, S17⟩
  rw [hc] at hfacts
  isplitl [Hr S12 S13 S14 S15 S16 S17]
  · isplitr [Hr]; swap; · iexact Hr
    iexists y12, y13, y14, y15, y16, y17
    isplitr
    · ipureintro; exact Or.inr hfacts.2.2.2
    isplitl [S12]; · iexact S12
    isplitl [S13]; · iexact S13
    isplitl [S14]; · iexact S14
    isplitl [S15]; · iexact S15
    isplitl [S16]; · iexact S16
    iexact S17
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexists d6; iexact H6
  isplitl [H7]; · iexists d7; iexact H7
  isplitl [H8]; · iexists d8; iexact H8
  isplitl [H9]
  · iapply (leaves_9 m c t y10 hfacts.1)
    iexact H9
  iapply (leaves_10 m c t d10 y11 hfacts.2.1 hfacts.2.2.1)
  iexact H10

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation, at every point. -/
theorem body_obligation (c : Dev nD) : BodyObligationLoose (dats (F := F) m 0 c) (defs₀ (F := F)) 𝒱₀ () Set.univ := fun t => by
  rw [bigSep_W0, bigSep_W0, defs₀_row]
  exact triple_restated (sound_body m c t) rfl .rfl fun _ => .rfl

/-- The launch hands the body its scratch. -/
theorem scr_in (c : Dev nD) : Pipeline.ΦA (cfg0 (F := F)).spec c ⊢ ((dats m 0 c).Φ 0 : sProp 𝕄) := by
  show Pipeline.ΦA spec0 c ⊢ (iprop(scr m c 0 ∗ ∃ r, prngReg c r) : sProp 𝕄)
  unfold Pipeline.ΦA scr
  rw [scopedRest0_eq]
  iintro ⟨⟨⟨%x12, S12⟩, ⟨%x13, S13⟩, ⟨%x14, S14⟩, ⟨%x15, S15⟩, ⟨%x16, S16⟩, ⟨%x17, S17⟩⟩, Hr⟩
  isplitr [Hr]; swap; · iexact Hr
  iexists x12, x13, x14, x15, x16, x17
  isplitr; · ipureintro; exact Or.inl rfl
  isplitl [S12]; · rw [owns_whole]; iexact S12
  isplitl [S13]; · rw [owns_whole]; iexact S13
  isplitl [S14]; · rw [owns_whole]; iexact S14
  isplitl [S15]; · rw [owns_whole]; iexact S15
  isplitl [S16]; · rw [owns_whole]; iexact S16
  rw [owns_whole]; iexact S17

/-- And takes it back. -/
theorem scr_out (c : Dev nD) : (dats m 0 c).Φ (Fin.last (cfg0 (F := F)).N) ⊢ (Pipeline.ΦA (cfg0 (F := F)).spec c : sProp 𝕄) := by
  show iprop(scr m c (cfg0 (F := F)).N ∗ ∃ r, prngReg c r) ⊢ (Pipeline.ΦA spec0 c : sProp 𝕄)
  unfold Pipeline.ΦA scr
  rw [scopedRest0_eq]
  iintro ⟨⟨%x12, %x13, %x14, %x15, %x16, %x17, %hR, S12, S13, S14, S15, S16, S17⟩, Hr⟩
  isplitr [Hr]; swap; · iexact Hr
  isplitl [S12]; · iexists x12; rw [← owns_whole]; iexact S12
  isplitl [S13]; · iexists x13; rw [← owns_whole]; iexact S13
  isplitl [S14]; · iexists x14; rw [← owns_whole]; iexact S14
  isplitl [S15]; · iexists x15; rw [← owns_whole]; iexact S15
  isplitl [S16]; · iexists x16; rw [← owns_whole]; iexact S16
  iexists x17; rw [← owns_whole]; iexact S17

set_option backward.isDefEq.respectTransparency.types false in
set_option maxHeartbeats 1600000 in
/-- Every run of @main ends at the launch's postcondition with every semaphore counter at zero. -/
theorem run_main : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around_track (Q' := _) cfgs (dats m) (0 : Fin 1) launch0 defs₀ 𝒱₀ m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := scr_in m) (hout := scr_out m) (hQ' := fun _ h => h)

/-- Every run of @main ends with the arguments unchanged and every semaphore counter at zero. -/
theorem frame : θ_run defs (onTc (τ := τ) (main (F := F))) ⟨m, fun _ => 0, ρ⟩ (fun r => Unchanged m r.2.mem ∧ r.2.sem = fun _ => 0) :=
  (θ_run defs _ _).mono (fun r h => ⟨unchanged_of m (dats m) (A_eq m) r h.1, h.2⟩) (run_main m ρ)

end Cert.Proof.K

end
-- ==== Proof.KI.Segs.lean ====
/-
  The body of one grid point cut into the pieces it runs before walking the rows: `seg0` and `seg1` prepare the scratch
  buffers at the first point, `seg3` does the eight sub-blocks of a full block, `seg4` does the two sub-blocks of the
  last, short block and stores the second result.
-/
module

public import proofs.«01_k».proof.Proof.Gen.KernelIdeal.Skeleton

@[expose] public section

noncomputable section

namespace Cert.Proof.KI

open Idealize.ShloMosaic Idealize.SL.Sem
open Cert.KernelIdeal Cert.KernelIdeal.Gen

variable {F : FTy → Type} [FloatOps F]

variable (i : grid0.Coords)
variable (arg1 : Memref sig .tc .smem S1x256 .i32)
variable (harg1 : arg1.IsWhole)
variable (arg2 : Memref sig .tc .smem S1 .i32)
variable (harg2 : arg2.IsWhole)
variable (arg3 : Memref sig .tc .vmem S256x1280 .f32)
variable (harg3 : arg3.IsWhole)
variable (arg4 : Memref sig .tc .vmem S256x896 .fp8e4m3)
variable (harg4 : arg4.IsWhole)
variable (arg5 : Memref sig .tc .vmem S1x256 .f32)
variable (harg5 : arg5.IsWhole)
variable (arg6 : Memref sig .tc .vmem S256x896 .bf16)
variable (harg6 : arg6.IsWhole)
variable (arg7 : Memref sig .tc .vmem S256x2048 .fp8e5m2)
variable (harg7 : arg7.IsWhole)
variable (arg8 : Memref sig .tc .vmem S1x2048 .f32)
variable (harg8 : arg8.IsWhole)
variable (arg9 : Memref sig .tc .vmem S2048x896 .i8)
variable (harg9 : arg9.IsWhole)
variable (arg10 : Memref sig .tc .vmem S2048x896 .f32)
variable (harg10 : arg10.IsWhole)
variable (arg11 : Memref sig .tc .vmem S256x896 .bf16)
variable (harg11 : arg11.IsWhole)
variable (arg12 : Memref sig .tc .vmem S256x896 .bf16)
variable (harg12 : arg12.IsWhole)
variable (arg13 : Memref sig .tc .vmem S10x256x128 .f32)
variable (harg13 : arg13.IsWhole)
variable (arg14 : Memref sig .tc .vmem S256x896 .f32)
variable (harg14 : arg14.IsWhole)
variable (arg15 : Memref sig .tc .vmem S256x896 .f32)
variable (harg15 : arg15.IsWhole)
variable (arg16 : Memref sig .tc .smem S75 .i32)
variable (harg16 : arg16.IsWhole)
variable (arg17 : Memref sig .tc .smem S256 .i32)
variable (harg17 : arg17.IsWhole)

/-- What the first grid point does first: rescale `h`, tile the scales, widen the embedding gradient and
clear the accumulator. -/
def seg0 : Prog (TpuEff nD τ sig (Elt F) (Λ₀ F) .tc) PUnit := do
  let ⟨v16, v47⟩ : Σ' (v16 : FVec F S256x128 .bf16), FVec F S256x128 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v80 : Vec F S256x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v47
  let v111 : FVec F S256x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v80
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111

set_option cleanup.letToHave false in set_option maxHeartbeats 40000000 in
/-- What the first grid point does next: empty the lists of tokens and fill them. -/
def seg1 (k0_h1 : k0_cond1 i = 1#1) : Prog (TpuEff nD τ sig (Elt F) (Λ₀ F) .tc) PUnit := do
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1)
  let v147 : Elt F .i32 ← smemLoad arg2 (Rect.unit (s := S1) ![0] S1.size inb_S1_S1_0) numel1_S1 rfl
  Scf.Loop.for k0_t2_loop (k0_t2_ok i k0_h1) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v147)
  pure ⟨⟩

set_option cleanup.letToHave false in set_option maxHeartbeats 40000000 in
/-- What a full block of 2048 columns does. -/
def seg3 (k0_h3 : k0_cond3 i = 1#1) : Prog (TpuEff nD τ sig (Elt F) (Λ₀ F) .tc) PUnit := do
  let arg0 : BitVec 32 := BitVec.ofNat 32 (i 0).val
  let ⟨v789, v892, v893⟩ : Σ' (v789 : Vec F S256x896 .f32) (v892 : FVec F S256x256 .bf16), Vec F S256x896 .i8 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h3
  let v897 : Vec F S256x896 .f32 ← Prog.lift (.load arg15 (Rect.unit (s := S256x896) ![0, 0] S256x896.size inb_S256x896_S256x896_0_0).toLoadRect (View.loadsAt_vmem h_S256x896))
  Prog.lift (.store arg15 (Rect.unit (s := S256x896) ![0, 0] S256x896.size inb_S256x896_S256x896_0_0) (k0_pay1 v789 v892 v893) Finset.univ (View.stores_vmem_bits_univ h_S256x896 rfl) (.inl rfl))
  pure ⟨⟩

set_option cleanup.letToHave false in set_option maxHeartbeats 40000000 in
/-- What the last block, of 384 columns, does. -/
def seg4 (k0_h4 : k0_cond4 i = 1#1) : Prog (TpuEff nD τ sig (Elt F) (Λ₀ F) .tc) PUnit := do
  let arg0 : BitVec 32 := BitVec.ofNat 32 (i 0).val
  let ⟨v12, v35, v46, v48, v49⟩ : Σ' (v12 : Vec F S256x896 .f32) (v35 : FVec F S256x128 .f32) (v46 : IVec S256x128 32) (v48 : IVec S256x128 1), IVec S256x128 32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h4
  let ⟨v59, v82, v84, v85, v86, v89⟩ : Σ' (v59 : FVec F S256x128 .bf16) (v82 : FVec F S256x128 .f32) (v84 : BitVec 32) (v85 : BitVec 32) (v86 : BitVec 1), BitVec 1 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 k0_h4 v35 v46 v48 v49
  let ⟨v123, v126⟩ : Σ' (v123 : Vec F S256x896 .f32), BitVec 32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v12 v59 v82 v84 v85 v86 v89
  let ⟨v166, v167⟩ : Σ' (v166 : FVec F S256x128 .bf16), Vec F S256x128 .fp8e5m2 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h4 v126
  let v171 : Vec F S256x896 .bf16 ← Prog.lift (.load arg12 (Rect.unit (s := S256x896) ![0, 0] S256x896.size inb_S256x896_S256x896_0_0).toLoadRect (View.loadsAt_vmem h_S256x896))
  let v173 : Vec F S128x896 .f32 ← Prog.lift (.load arg10 (Rect.unit (s := S2048x896) ![256, 0] S128x896.size inb_S2048x896_S128x896_256_0).toLoadRect (View.loadsAt_vmem h_S128x896))
  Prog.lift (.store arg10 (Rect.unit (s := S2048x896) ![256, 0] S128x896.size inb_S2048x896_S128x896_256_0) (k0_pay3 v166 v167 v171) Finset.univ (View.stores_vmem_bits_univ h_S128x896 rfl) (.inl rfl))
  let v174 : Vec F S1x128 .f32 ← Prog.lift (.load arg8 (Rect.unit (s := S1x2048) ![0, 256] S1x128.size inb_S1x2048_S1x128_0_256).toLoadRect (View.loadsAt_vmem h_S1x128))
  let v179 : Vec F S128x896 .i8 ← Prog.lift (.load arg9 (Rect.unit (s := S2048x896) ![256, 0] S128x896.size inb_S2048x896_S128x896_256_0).toLoadRect (View.loadsAt_vmem h_S128x896))
  let v183 : Vec F S256x896 .f32 ← Prog.lift (.load arg15 (Rect.unit (s := S256x896) ![0, 0] S256x896.size inb_S256x896_S256x896_0_0).toLoadRect (View.loadsAt_vmem h_S256x896))
  Prog.lift (.store arg15 (Rect.unit (s := S256x896) ![0, 0] S256x896.size inb_S256x896_S256x896_0_0) (k0_pay4 v123 v166 v167 v174 v179) Finset.univ (View.stores_vmem_bits_univ h_S256x896 rfl) (.inl rfl))
  let v186 : Vec F S256x896 .f32 ← Prog.lift (.load arg15 (Rect.unit (s := S256x896) ![0, 0] S256x896.size inb_S256x896_S256x896_0_0).toLoadRect (View.loadsAt_vmem h_S256x896))
  let v188 : Vec F S256x896 .bf16 ← Prog.lift (.load arg11 (Rect.unit (s := S256x896) ![0, 0] S256x896.size inb_S256x896_S256x896_0_0).toLoadRect (View.loadsAt_vmem h_S256x896))
  Prog.lift (.store arg11 (Rect.unit (s := S256x896) ![0, 0] S256x896.size inb_S256x896_S256x896_0_0) (k0_pay5 v186) Finset.univ (View.stores_vmem h_S256x896 (harg11.storeExact_slice rfl _ packedbf16_S256x896_S256x896_0_0) (fun _ => rfl)) (.inl rfl))
  pure ⟨⟩

set_option maxRecDepth 65536 in
/-- The body is its three pieces and then the walk from the block's first row. -/
theorem skel_eq : cc0_tied_grad_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
  let _ ← (if h : k0_cond1 i = 1#1 then (do seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17; seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h) else pure ⟨⟩)
  let _ ← (if h : k0_cond3 i = 1#1 then seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
  let _ ← (if h : k0_cond4 i = 1#1 then seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
  let v10 : Elt F .i32 ← smemLoad arg16 (Rect.unit (s := S75) (k0_off7 i) S1.size (k0_off7_inb i)) numel1_S1 rfl
  let v11 : BitVec 32 ← Prog.lift (.call (1 : (Λ₀ F).Label) ⟨i, arg2, harg2, arg1, harg1, arg10, harg10, arg14, harg14, arg17, harg17, v10⟩)
  pure ⟨⟩) := by
  unfold cc0_tied_grad_skel seg0 seg1 seg3 seg4
  by_cases h1 : k0_cond1 i = 1#1 <;> by_cases h3 : k0_cond3 i = 1#1 <;> by_cases h4 : k0_cond4 i = 1#1 <;>
    simp only [h1, h3, h4, ↓reduceDIte, bind_assoc, pure_bind]

end Cert.Proof.KI
-- ==== Proof.KI.Walk.lean ====
/-
  The list walk of one grid point: the while loop's label, entered at a word from which the links run through a list of
  tokens, adds to the block's rows the embedding rows of these tokens, one after the other, and ends.
-/
module

public import proofs.«01_k».proof.Proof.Gen.KernelIdeal.Skeleton
public import proofs.«01_k».proof.Proof.Gen.KernelIdeal.Loops
public import proofs.«01_k».proof.Proof.Shared.Chain
public import Idealize.ShloMosaic.Lib.Tactic
public import Idealize.ShloMosaic.Lib.WordCmp
public import Idealize.ShloMosaic.Lib.WritesUnit
public import Idealize.ShloMosaic.Lib.CellWrites
public import Idealize.ShloMosaic.Lib.Pointwise.Index
public import Idealize.ShloMosaic.Lib.Pipeline.FrameBody
public import Idealize.ShloMosaic.Lib.Pipeline.Value

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Loops are bounded by natural numbers. -/
abbrev 𝒱₀ : Variants := Variants.nat

/-! ### Words of the tables -/

/-- The word of token `t` in a row of 256 words. -/
def idAt (x : S1x256.Idx → BitVec 32) (t : ℕ) : BitVec 32 := x (ix2 (0 : Fin 1) (Fin.ofNat 256 t))

/-- The word of token `t` in a table of 256 words. -/
def nxAt (x : S256.Idx → BitVec 32) (t : ℕ) : BitVec 32 := x (ix1 (Fin.ofNat 256 t))

/-- The word of bucket `b` in the table of 75 words. -/
def hdAt (x : S75.Idx → BitVec 32) (b : ℕ) : BitVec 32 := x (ix1 (Fin.ofNat 75 b))

/-- The one word of a table of one. -/
def one (x : S1.Idx → BitVec 32) : BitVec 32 := x (ix1 (0 : Fin 1))

/-- The row of the shard token `t` names, as a word: its id less the shard's first. -/
def localAt (xs : S1.Idx → BitVec 32) (xi : S1x256.Idx → BitVec 32) (t : ℕ) : BitVec 32 := idAt xi t - one xs

/-! ### Rows added -/

/-- The block `x` with row `t` of `dm` added to its row `r`. -/
def addTok (dm : S256x896.Idx → Elt F .f32) (r t : ℕ) (x : S2048x896.Idx → Elt F .f32) : S2048x896.Idx → Elt F .f32 := fun y =>
  if (y 0).val = r then addf (s := S2048x896) (φ := .f32) x (fun z => dm (ix2 (Fin.ofNat 256 t) (z 1))) y else x y

/-- The rows of the tokens of a list added, one after the other: token `t` to row `id - (start + 2048 i)`. -/
def addToks (b : ℕ) (xs : S1.Idx → BitVec 32) (xi : S1x256.Idx → BitVec 32) (dm : S256x896.Idx → Elt F .f32) :
    List ℕ → (S2048x896.Idx → Elt F .f32) → S2048x896.Idx → Elt F .f32
  | [], x => x
  | t :: ts, x => addToks b xs xi dm ts (addTok dm (idAt xi t - (one xs + BitVec.ofNat 32 b * 2048#32)).toNat t x)

section Label

variable (c : Dev nD) (i : grid0.Coords)
  (arg2 : Memref sig .tc .smem S1 .i32) (harg2 : arg2.IsWhole) (arg1 : Memref sig .tc .smem S1x256 .i32) (harg1 : arg1.IsWhole)
  (arg10 : Memref sig .tc .vmem S2048x896 .f32) (harg10 : arg10.IsWhole) (arg14 : Memref sig .tc .vmem S256x896 .f32) (harg14 : arg14.IsWhole)
  (arg17 : Memref sig .tc .smem S256 .i32) (harg17 : arg17.IsWhole)
  (f2 : BufTy.Contents (Elt F) arg2.view.ty) (f1 : BufTy.Contents (Elt F) arg1.view.ty)
  (f14 : BufTy.Contents (Elt F) arg14.view.ty) (f17 : BufTy.Contents (Elt F) arg17.view.ty)

/-- The five buffers the walk touches: the shard's first id, the ids, the block, the embedding rows, the links. -/
def held (f10 : BufTy.Contents (Elt F) arg10.view.ty) : sProp 𝕄 :=
  iprop((arg2.view.loc (c : Thread nD τ) ↦[arg2.view.set]{fullShare} f2) ∗ (arg1.view.loc (c : Thread nD τ) ↦[arg1.view.set]{fullShare} f1)
    ∗ (arg10.view.loc (c : Thread nD τ) ↦[arg10.view.set]{fullShare} f10) ∗ (arg14.view.loc (c : Thread nD τ) ↦[arg14.view.set]{fullShare} f14)
    ∗ (arg17.view.loc (c : Thread nD τ) ↦[arg17.view.set]{fullShare} f17))

/-- Entered where the links run through `ts`: returns some word, the block left with the rows of `ts` added. -/
def spec (ts : List ℕ) (f10 : BufTy.Contents (Elt F) arg10.view.ty) : sWPT 𝕄 (BitVec 32) := do
  sWPT.consume (held c arg2 arg1 arg10 arg14 arg17 f2 f1 f14 f17 f10)
  let r ← sWPT.arbitrary
  let g ← sWPT.arbitrary
  sWPT.assume (arg10.view.read (Elt F) g
    = addToks (i 0).val (arg2.view.read (Elt F) f2) (arg1.view.read (Elt F) f1) (arg14.view.read (Elt F) f14) ts (arg10.view.read (Elt F) f10))
  sWPT.produce (held c arg2 arg1 arg10 arg14 arg17 f2 f1 f14 f17 g)
  pure r

theorem spec_apply (ts : List ℕ) (f10 : BufTy.Contents (Elt F) arg10.view.ty) (K : BitVec 32 → sProp 𝕄) :
    spec c i arg2 arg1 arg10 arg14 arg17 f2 f1 f14 f17 ts f10 K
      = iprop(held c arg2 arg1 arg10 arg14 arg17 f2 f1 f14 f17 f10 ∗ ∀ r : BitVec 32, ∀ g : BufTy.Contents (Elt F) arg10.view.ty,
          ⌜arg10.view.read (Elt F) g
            = addToks (i 0).val (arg2.view.read (Elt F) f2) (arg1.view.read (Elt F) f1) (arg14.view.read (Elt F) f14) ts (arg10.view.read (Elt F) f10)⌝
          -∗ (held c arg2 arg1 arg10 arg14 arg17 f2 f1 f14 f17 g -∗ K r)) := rfl

omit [FloatOps F] in
theorem off_tok {t : ℕ} (ht : t < 256) : k0_off8 (BitVec.ofNat 32 t) = ![0, t] ∧ k0_off10 (BitVec.ofNat 32 t) = ![t, 0] ∧ k0_off11 (BitVec.ofNat 32 t) = ![t] := by
  have h : (BitVec.ofNat 32 t).toNat = t := by rw [BitVec.toNat_ofNat]; omega
  refine ⟨?_, ?_, ?_⟩
  · show ![0, (BitVec.ofNat 32 t).toNat] = _; rw [h]
  · show ![(BitVec.ofNat 32 t).toNat, 0] = _; rw [h]
  · show ![(BitVec.ofNat 32 t).toNat] = _; rw [h]

omit [FloatOps F] in
theorem chk2_of_lt {t : ℕ} (ht : t < 256) : k0_chk2 (BitVec.ofNat 32 t) := by
  obtain ⟨h8, h10, h11⟩ := off_tok ht
  unfold k0_chk2
  rw [h8, h10, h11]
  refine ⟨?_, ?_, ?_⟩ <;> intro a <;> fin_cases a <;> simp <;> omega

omit [FloatOps F] in
theorem off9_eq (i : grid0.Coords) (s d : BitVec 32) : k0_off9 i s d = ![(d - (s + BitVec.ofNat 32 (i 0).val * 2048#32)).toNat, 0] := rfl

omit [FloatOps F] in
theorem chk3_of_lt (i : grid0.Coords) {s d : BitVec 32} (h : (d - (s + BitVec.ofNat 32 (i 0).val * 2048#32)).toNat < 2048) : k0_chk3 i s d := by
  unfold k0_chk3
  rw [off9_eq]
  generalize (d - (s + BitVec.ofNat 32 (i 0).val * 2048#32)).toNat = r at h ⊢
  intro a; fin_cases a <;> simp <;> omega

/-- The store of one token leaves the block with that token's row added. -/
theorem read_addTok (s d : BitVec 32) (t : ℕ) (ht : t < 256) (h3 : k0_chk3 i s d) (h2 : k0_chk2 (BitVec.ofNat 32 t))
    (f10 : BufTy.Contents (Elt F) arg10.view.ty) :
    arg10.view.read (Elt F) (arg10.view.writes (Elt F) f10 [⟨Rect.unit (s := S2048x896) (k0_off9 i s d) S1x896.size (k0_off9_inb i s d h3),
        k0_pay6 (arg10.view.readAt (Elt F) (Rect.unit (s := S2048x896) (k0_off9 i s d) S1x896.size (k0_off9_inb i s d h3)).toLoadRect f10)
          (arg14.view.readAt (Elt F) (Rect.unit (s := S256x896) (k0_off10 (BitVec.ofNat 32 t)) S1x896.size (k0_off10_inb (BitVec.ofNat 32 t) h2)).toLoadRect f14)⟩])
      = addTok (arg14.view.read (Elt F) f14) (d - (s + BitVec.ofNat 32 (i 0).val * 2048#32)).toNat t (arg10.view.read (Elt F) f10) := by
  funext y
  obtain ⟨-, h10, -⟩ := off_tok ht
  rw [View.read_writes_cons_rows arg10.view f10 (d := ![2048, 896]) (size := ![1, 896]) _ _ [] y (off9_eq i s d) (W := 1) rfl rfl]
  unfold addTok
  by_cases h : (y 0).val = (d - (s + BitVec.ofNat 32 (i 0).val * 2048#32)).toNat
  · rw [dif_pos (by omega), if_pos h]
    have e : ∀ (a b : S2048x896.Idx → Elt F .f32) (a' b' : S1x896.Idx → Elt F .f32) (z : S1x896.Idx), a' z = a y → b' z = b y →
        k0_pay6 (F := F) a' b' z = addf (s := S2048x896) (φ := .f32) a b y := by
      intro a b a' b' z ha hb
      have hs : shapeCast S1x896 a' shapeCasts_S1x896_S1x896 = a' := Idealize.ShloMosaic.shapeCast_self _ _
      show addf (s := S1x896) (φ := .f32) (shapeCast S1x896 a' shapeCasts_S1x896_S1x896) b' z = _
      rw [hs]
      show FloatOps.addf (F := F) (a' z) (b' z) = FloatOps.addf (F := F) (a y) (b y)
      rw [ha, hb]
    refine e _ _ _ _ _ ?_ ?_
    · refine congrArg (arg10.view.read (Elt F) f10) (funext fun a => Fin.ext ?_)
      fin_cases a
      · show k0_off9 i s d 0 + 1 * ((y 0).val - (d - (s + BitVec.ofNat 32 (i 0).val * 2048#32)).toNat) = (y 0).val
        rw [off9_eq]
        generalize (d - (s + BitVec.ofNat 32 (i 0).val * 2048#32)).toNat = r at h ⊢
        show r + _ = _
        omega
      · show k0_off9 i s d 1 + 1 * ((y 1).val - 0) = (y 1).val
        rw [off9_eq]
        show 0 + _ = _
        omega
    · refine congrArg (arg14.view.read (Elt F) f14) (funext fun a => Fin.ext ?_)
      fin_cases a
      · show k0_off10 (BitVec.ofNat 32 t) 0 + 1 * ((y 0).val - (d - (s + BitVec.ofNat 32 (i 0).val * 2048#32)).toNat) = t % 256
        rw [h10]
        generalize (d - (s + BitVec.ofNat 32 (i 0).val * 2048#32)).toNat = r at h ⊢
        show t + _ = _
        omega
      · show k0_off10 (BitVec.ofNat 32 t) 1 + 1 * ((y 1).val - 0) = (y 1).val
        rw [h10]
        show 0 + _ = _
        omega
  · rw [dif_neg (by omega), if_neg h]; rfl

/-- The word read from the row of ids at the offsets of token `t`. -/
theorem read_id {t : ℕ} (ht : t < 256) (h2 : k0_chk2 (BitVec.ofNat 32 t)) (x : (Rect.unit (s := S1x256) (k0_off8 (BitVec.ofNat 32 t)) S1x1.size (k0_off8_inb (BitVec.ofNat 32 t) h2)).shape.Idx) :
    (arg1.access (Rect.unit (s := S1x256) (k0_off8 (BitVec.ofNat 32 t)) S1x1.size (k0_off8_inb (BitVec.ofNat 32 t) h2))).read (Elt F) f1 x = idAt (arg1.view.read (Elt F) f1) t := by
  obtain ⟨h8, -, -⟩ := off_tok ht
  refine congrArg (arg1.view.read (Elt F) f1) (funext fun a => Fin.ext ?_)
  have hx := (x a).isLt
  fin_cases a
  · show k0_off8 (BitVec.ofNat 32 t) 0 + 1 * (x 0).val = 0
    have : (x 0).val < 1 := hx
    have := congrFun h8 0
    change k0_off8 (BitVec.ofNat 32 t) 0 = 0 at this
    omega
  · show k0_off8 (BitVec.ofNat 32 t) 1 + 1 * (x 1).val = t % 256
    have : (x 1).val < 1 := hx
    have := congrFun h8 1
    change k0_off8 (BitVec.ofNat 32 t) 1 = t at this
    omega

/-- The word read from the links at the offset of token `t`. -/
theorem read_nx {t : ℕ} (ht : t < 256) (h2 : k0_chk2 (BitVec.ofNat 32 t)) (x : (Rect.unit (s := S256) (k0_off11 (BitVec.ofNat 32 t)) S1.size (k0_off11_inb (BitVec.ofNat 32 t) h2)).shape.Idx) :
    (arg17.access (Rect.unit (s := S256) (k0_off11 (BitVec.ofNat 32 t)) S1.size (k0_off11_inb (BitVec.ofNat 32 t) h2))).read (Elt F) f17 x = nxAt (arg17.view.read (Elt F) f17) t := by
  obtain ⟨-, -, h11⟩ := off_tok ht
  refine congrArg (arg17.view.read (Elt F) f17) (funext fun a => Fin.ext ?_)
  have hx := (x a).isLt
  fin_cases a
  show k0_off11 (BitVec.ofNat 32 t) 0 + 1 * (x 0).val = t % 256
  have : (x 0).val < 1 := hx
  have := congrFun h11 0
  change k0_off11 (BitVec.ofNat 32 t) 0 = t at this
  omega

/-- The one word read of a table of one. -/
theorem read_one (x : (Rect.unit (s := S1) ![0] S1.size inb_S1_S1_0).shape.Idx) :
    (arg2.access (Rect.unit (s := S1) ![0] S1.size inb_S1_S1_0)).read (Elt F) f2 x = one (arg2.view.read (Elt F) f2) := by
  refine congrArg (arg2.view.read (Elt F) f2) (funext fun a => Fin.ext ?_)
  have hx := (x a).isLt
  fin_cases a
  show 0 + 1 * (x 0).val = 0
  have : (x 0).val < 1 := hx
  omega

/-- The label's body, entered where the links run through `ts`, each of whose tokens has its row inside the block, meets the
    specification for `ts`, with as many further calls allowed as `ts` has tokens. -/
theorem spec_le (E : Set ℕ) : ∀ (ts : List ℕ) (v : BitVec 32), Chain (nxAt (arg17.view.read (Elt F) f17)) v ts →
    (∀ t ∈ ts, (idAt (arg1.view.read (Elt F) f1) t - (one (arg2.view.read (Elt F) f2) + BitVec.ofNat 32 (i 0).val * 2048#32)).toNat < 2048) →
    ∀ f10 K, spec c i arg2 arg1 arg10 arg14 arg17 f2 f1 f14 f17 ts f10 K
      ⊢ wp frame (wpE (defs₀ (F := F)) 𝒱₀ (c : Thread nD τ) (some ts.length)) E
          (defs₀ (F := F) .tc 1 ⟨i, arg2, harg2, arg1, harg1, arg10, harg10, arg14, harg14, arg17, harg17, v⟩) K := by
  intro ts
  induction ts with
  | nil =>
    intro v hc hr f10 K
    cases hc
    rw [spec_apply]
    show _ ⊢ wp frame (wpE (defs₀ (F := F)) 𝒱₀ (c : Thread nD τ) (some 0)) E
      (cc0_while1 i arg2 harg2 arg1 harg1 arg10 harg10 arg14 harg14 arg17 harg17 4294967295#32) K
    unfold cc0_while1
    have htest : ¬Scalar.cmpi .sge (4294967295#32) (0#32) = 1#1 := by decide
    simp only [htest, ↓reduceIte, Prog.pure_eq_ret]
    iintro ⟨H, Hk⟩
    rw [wp_ret]; imodintro
    iapply Hk
    · ipureintro; rfl
    · iexact H
  | cons t ts ih =>
    intro v hc hr f10 K
    cases hc with
    | cons ht hc =>
    rw [spec_apply]
    show _ ⊢ wp frame (wpE (defs₀ (F := F)) 𝒱₀ (c : Thread nD τ) (some (ts.length + 1))) E
      (cc0_while1 i arg2 harg2 arg1 harg1 arg10 harg10 arg14 harg14 arg17 harg17 (BitVec.ofNat 32 t)) K
    simp only [cc0_while1_eq_skeleton]; unfold cc0_while1_skel
    have htest : Scalar.cmpi .sge (BitVec.ofNat 32 t) (0#32) = 1#1 := by
      refine (WordCmp.cmpi_sge_ofNat (a := t) (b := 0) (by omega) (by omega)).trans ?_
      rw [decide_eq_true (Nat.zero_le t)]; rfl
    have hr0 := hr t List.mem_cons_self
    have h2 := chk2_of_lt ht
    have h3 := chk3_of_lt i hr0
    simp only [htest, ↓reduceIte, smemLoad, smemLoadElt, Prog.lift, Prog.bind_op, Prog.bind_ret, Prog.pure_eq_ret]
    unfold held
    iintro ⟨⟨Hs, Hi, Ho, Hd, Hn⟩, Hk⟩
    iapply (wp_assume 𝒱₀ (c : Thread nD τ) (some (ts.length + 1)) E h2)
    sl_exec
    generalize hs : arg2.view.readAt (Elt F) (Rect.unit (s := S1) ![0] S1.size inb_S1_S1_0).toLoadRect f2 (Shape.Idx.first (numel1_S1.symm ▸ Nat.one_pos)) = ws
    generalize hd : arg1.view.readAt (Elt F) (Rect.unit (s := S1x256) (k0_off8 (BitVec.ofNat 32 t)) S1x1.size (k0_off8_inb (BitVec.ofNat 32 t) h2)).toLoadRect f1 (Shape.Idx.first (numel1_S1x1.symm ▸ Nat.one_pos)) = wd
    have hs' : ws = one (arg2.view.read (Elt F) f2) := hs.symm.trans (read_one arg2 f2 _)
    have hd' : wd = idAt (arg1.view.read (Elt F) f1) t := hd.symm.trans (read_id arg1 f1 ht h2 _)
    have h3 : k0_chk3 i ws wd := by rw [hs', hd']; exact h3
    sl_exec
    have hn : arg17.view.readAt (Elt F) (Rect.unit (s := S256) (k0_off11 (BitVec.ofNat 32 t)) S1.size (k0_off11_inb (BitVec.ofNat 32 t) h2)).toLoadRect f17 (Shape.Idx.first (numel1_S1.symm ▸ Nat.one_pos))
        = nxAt (arg17.view.read (Elt F) f17) t := read_nx arg17 f17 ht h2 _
    simp only [hn]
    iapply (wp_call_spec 𝒱₀ (c : Thread nD τ) (some (ts.length + 1)) E (spec c i arg2 arg1 arg10 arg14 arg17 f2 f1 f14 f17 ts _) ts.length
      (fun u hu => by cases hu; exact Nat.lt_succ_self _) (ih _ hc (fun t' h' => hr t' (List.mem_cons_of_mem _ h')) _))
    rw [spec_apply]; unfold held
    isplitl [Hs Hi Ho Hd Hn]
    · isplitl [Hs]; · iexact Hs
      isplitl [Hi]; · iexact Hi
      isplitl [Ho]; · iexact Ho
      isplitl [Hd]; · iexact Hd
      iexact Hn
    iintro %r %g %hg ⟨Hs, Hi, Ho, Hd, Hn⟩
    rw [wp_ret]; imodintro
    iapply Hk
    · ipureintro
      rw [hg, read_addTok i arg10 arg14 f14 ws wd t ht h3 h2, hs', hd']
      rfl
    · isplitl [Hs]; · iexact Hs
      isplitl [Hi]; · iexact Hi
      isplitl [Ho]; · iexact Ho
      isplitl [Hd]; · iexact Hd
      iexact Hn

end Label

end Cert.Proof.KI
-- ==== Proof.KI.Insert.lean ====
/-
  The lists of tokens, one list per block: the first loop empties them, the second goes over the tokens from the last to
  the first and puts each token of the shard at the head of its block's list.
-/
module

public import proofs.«01_k».proof.Proof.KI.Segs
public import proofs.«01_k».proof.Proof.KI.Walk

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Insert

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h1 : k0_cond1 i = 1#1)

omit [FloatOps F] in
theorem t1_trips : k0_t1_loop.trips = 75 := by decide

omit [FloatOps F] in
theorem t2_trips : k0_t2_loop.trips = 256 := by decide

/-- The lists before trip `k` of the first loop: the first `k` heads say "empty". -/
def inv1 (k : ℕ) : sProp 𝕄 :=
  iprop(∃ f16, (arg16.view.loc (c : Thread nD τ) ↦[arg16.view.set]{fullShare} f16) ∗ ⌜∀ b < k, b < 75 → hdAt (arg16.view.read (Elt F) f16) b = 4294967295#32⌝)

/-- The lists before trip `k` of the second loop: the tokens from `256 - k` on are in them. -/
def inv2 (v : BitVec 32) (f1 : BufTy.Contents (Elt F) arg1.view.ty) (k : ℕ) : sProp 𝕄 :=
  iprop(∃ f16 f17, (arg1.view.loc (c : Thread nD τ) ↦[arg1.view.set]{fullShare} f1) ∗ (arg16.view.loc (c : Thread nD τ) ↦[arg16.view.set]{fullShare} f16) ∗ (arg17.view.loc (c : Thread nD τ) ↦[arg17.view.set]{fullShare} f17)
    ∗ ⌜Lists (fun t => idAt (arg1.view.read (Elt F) f1) t - v) k (hdAt (arg16.view.read (Elt F) f16)) (nxAt (arg17.view.read (Elt F) f17))⌝)

theorem step1 (bd : Option 𝒱₀.V) (E : Set ℕ) (k : Fin k0_t1_loop.trips) (acc : Unit) :
    inv1 c arg16 (F := F) k.val ⊢ wp frame (wpE (defs₀ (F := F)) 𝒱₀ (c : Thread nD τ) bd) E
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k acc) (fun _ => inv1 c arg16 (F := F) (k.val + 1)) := by
  unfold k0_t1_body inv1
  iintro ⟨%f16, H, %h⟩
  sl_exec
  rw [wp_ret]; imodintro
  iexists _
  isplitl [H]
  · iexact H
  · ipureintro
    intro b hb hb'
    have hk : k.val < 75 := t1_trips ▸ k.isLt
    show arg16.view.read (Elt F) _ _ = _
    refine (View.read_writes_cons_cell (d := ![75]) arg16.view f16 _ _ [] _).trans ?_
    have h1 : k0_off1 k 0 = k.val := congrFun (k0_off1_eq k) 0
    rw [h1]
    split
    · rfl
    · rename_i hne
      have hv : ((ix1 (Fin.ofNat 75 b) : S75.Idx) 0).val = b := Nat.mod_eq_of_lt hb'
      refine h b ?_ hb'
      have : b ≠ k.val := fun e => hne (hv.trans e)
      omega

omit [FloatOps F] in
/-- The word read from the row of ids at trip `k`. -/
theorem read_id2 (f1 : BufTy.Contents (Elt F) arg1.view.ty) (k : Fin k0_t2_loop.trips) (x : (Rect.unit (s := S1x256) (k0_off2 k) S1x1.size (k0_off2_inb i k k0_h1)).shape.Idx) :
    arg1.view.readAt (Elt F) (Rect.unit (s := S1x256) (k0_off2 k) S1x1.size (k0_off2_inb i k k0_h1)).toLoadRect f1 x = idAt (arg1.view.read (Elt F) f1) (255 - k.val) := by
  have hk : k.val < 256 := t2_trips ▸ k.isLt
  refine congrArg (arg1.view.read (Elt F) f1) (funext fun a => Fin.ext ?_)
  have hx := (x a).isLt
  fin_cases a
  · show k0_off2 k 0 + 1 * (x 0).val = 0
    have : (x 0).val < 1 := hx
    have : k0_off2 k 0 = 0 := congrFun (k0_off2_eq k) 0
    omega
  · show k0_off2 k 1 + 1 * (x 1).val = (255 - k.val) % 256
    have : (x 1).val < 1 := hx
    have : k0_off2 k 1 = 255 - k.val := congrFun (k0_off2_eq k) 1
    omega

omit [FloatOps F] in
/-- The test of a trip: is the row the token names in the shard. -/
theorem cond2_iff (v d : BitVec 32) : k0_cond2 v d = 1#1 ↔ (d - v).toNat < 151936 := by
  rw [← inShard_iff]
  unfold k0_cond2 InShard
  show Scalar.cmpi .ne (Scalar.extui (Scalar.andi (Scalar.cmpi .sge (d - v) 0#32) (Scalar.cmpi .slt (d - v) 151936#32)) : BitVec 32) 0#32 = 1#1 ↔ _
  generalize d - v = l
  have e1 : Scalar.cmpi .sge l 0#32 = BitVec.ofBool (decide (0 ≤ l.toInt)) := WordCmp.cmpi_sge_eq l 0#32
  have e2 : Scalar.cmpi .slt l 151936#32 = BitVec.ofBool (decide (l.toInt < 151936)) := WordCmp.cmpi_slt_eq l 151936#32
  rw [e1, e2]
  by_cases h1 : (0 : ℤ) ≤ l.toInt <;> by_cases h2 : l.toInt < 151936 <;> simp only [h1, h2, decide_true, decide_false, and_self, and_true, and_false, true_and, false_and] <;> decide

omit [FloatOps F] in
theorem off3_eq (v d : BitVec 32) : k0_off3 v d = ![(d - v).toNat / 2048] := by
  show ![((d - v) >>> (11 : ℕ)).toNat] = _
  rw [BitVec.toNat_ushiftRight, Nat.shiftRight_eq_div_pow]

omit [FloatOps F] in
theorem chk1_of (v d : BitVec 32) : k0_chk1 i v d := by
  intro h1 h2 a
  rw [off3_eq]
  have h := (cond2_iff v d).1 h2
  generalize (d - v).toNat = r at h ⊢
  fin_cases a
  show r / 2048 + 1 ≤ 75
  omega

theorem step2 (bd : Option 𝒱₀.V) (E : Set ℕ) (v : BitVec 32) (f1 : BufTy.Contents (Elt F) arg1.view.ty) (k : Fin k0_t2_loop.trips) (acc : Unit) :
    inv2 c arg1 arg16 arg17 v f1 k.val ⊢ wp frame (wpE (defs₀ (F := F)) 𝒱₀ (c : Thread nD τ) bd) E
      (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v k acc) (fun _ => inv2 c arg1 arg16 arg17 v f1 (k.val + 1)) := by
  have hk : k.val < 256 := t2_trips ▸ k.isLt
  unfold k0_t2_body inv2
  iintro ⟨%f16, %f17, Hi, Hh, Hn, %h⟩
  sl_exec
  have hd : step2.sl.r i arg1 k0_h1 f1 k = idAt (arg1.view.read (Elt F) f1) (255 - k.val) := read_id2 i arg1 k0_h1 f1 k _
  have h1 : k0_chk1 i v (step2.sl.r i arg1 k0_h1 f1 k) := chk1_of i v _
  by_cases h2 : k0_cond2 v (step2.sl.r i arg1 k0_h1 f1 k) = 1#1
  · have hi : (idAt (arg1.view.read (Elt F) f1) (255 - k.val) - v).toNat < 151936 := by
      rw [← hd]; exact (cond2_iff v _).1 h2
    have h3 : k0_off3 v (step2.sl.r i arg1 k0_h1 f1 k) 0 = (idAt (arg1.view.read (Elt F) f1) (255 - k.val) - v).toNat / 2048 := by
      rw [← hd]; exact congrFun (off3_eq v _) 0
    have hb : (idAt (arg1.view.read (Elt F) f1) (255 - k.val) - v).toNat / 2048 < 75 := by omega
    sl_exec
    rw [wp_ret]; imodintro
    iexists _; iexists _
    isplitl [Hi]; · iexact Hi
    isplitl [Hh]; · iexact Hh
    isplitl [Hn]; · iexact Hn
    ipureintro
    refine Lists.insert hk h hi rfl ?_ ?_
    · intro t ht
      refine (View.read_writes_cons_cell (d := ![256]) arg17.view f17 _ _ [] _).trans ?_
      have h4 : k0_off4 k 0 = 255 - k.val := congrFun (k0_off4_eq k) 0
      have hv : ((ix1 (Fin.ofNat 256 t) : S256.Idx) 0).val = t := Nat.mod_eq_of_lt ht
      rw [h4, hv]
      split
      · refine congrArg (arg16.view.read (Elt F) f16) (funext fun a => Fin.ext ?_)
        fin_cases a
        show k0_off3 v (step2.sl.r i arg1 k0_h1 f1 k) 0 + 1 * 0 = _ % 75
        omega
      · rfl
    · intro b hb'
      refine (View.read_writes_cons_cell (d := ![75]) arg16.view f16 _ _ [] _).trans ?_
      have hv : ((ix1 (Fin.ofNat 75 b) : S75.Idx) 0).val = b := Nat.mod_eq_of_lt hb'
      rw [h3, hv]
      split
      · show Scalar.subi 255#32 (Scf.iv 0#32 1#32 k.val) = BitVec.ofNat 32 (255 - k.val)
        show 255#32 - (0#32 + BitVec.ofNat 32 k.val * 1#32) = BitVec.ofNat 32 (255 - k.val)
        bv_omega
      · rfl
  · have hi : ¬(idAt (arg1.view.read (Elt F) f1) (255 - k.val) - v).toNat < 151936 := by
      rw [← hd]; exact fun hh => h2 ((cond2_iff v _).2 hh)
    sl_exec
    rw [wp_ret]; imodintro
    iexists _; iexists _
    isplitl [Hi]; · iexact Hi
    isplitl [Hh]; · iexact Hh
    isplitl [Hn]; · iexact Hn
    ipureintro
    exact Lists.skip hk h hi

/-- The two loops leave the lists of all tokens of the shard, block by block. -/
theorem seg1_wp (E : Set ℕ) (f1 : BufTy.Contents (Elt F) arg1.view.ty) (f2 : BufTy.Contents (Elt F) arg2.view.ty)
    (f16 : BufTy.Contents (Elt F) arg16.view.ty) (f17 : BufTy.Contents (Elt F) arg17.view.ty) (K : PUnit → sProp 𝕄) :
    iprop((arg1.view.loc (c : Thread nD τ) ↦[arg1.view.set]{fullShare} f1) ∗ (arg2.view.loc (c : Thread nD τ) ↦[arg2.view.set]{fullShare} f2) ∗ (arg16.view.loc (c : Thread nD τ) ↦[arg16.view.set]{fullShare} f16) ∗ (arg17.view.loc (c : Thread nD τ) ↦[arg17.view.set]{fullShare} f17)
      ∗ (∀ g16 g17, ⌜Lists (localAt (arg2.view.read (Elt F) f2) (arg1.view.read (Elt F) f1)) 256 (hdAt (arg16.view.read (Elt F) g16)) (nxAt (arg17.view.read (Elt F) g17))⌝
        -∗ ((arg1.view.loc (c : Thread nD τ) ↦[arg1.view.set]{fullShare} f1) ∗ (arg2.view.loc (c : Thread nD τ) ↦[arg2.view.set]{fullShare} f2) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E (seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1) K := by
  unfold seg1
  iintro ⟨Hi, Hs, Hh, Hn, Hk⟩
  ihave H1 := (Scf.wp_for_bind frame (wpE (defs₀ (F := F)) 𝒱₀ (c : Thread nD τ) none) E k0_t1_loop.lb k0_t1_loop.ub k0_t1_loop.st (k0_t1_ok i k0_h1) ⟨⟩
    (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1) (fun k _ => inv1 c arg16 (F := F) k) (fun k acc => step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 none E k acc)) $$ [Hh]
  · unfold inv1
    iexists f16
    isplitl [Hh]; · iexact Hh
    ipureintro
    intro b hb; omega
  iapply H1
  iintro %acc H
  unfold inv1
  icases H with ⟨%h16, Hh, %h⟩
  sl_exec
  have hv : seg1_wp.sl.r arg2 f2 = one (arg2.view.read (Elt F) f2) := read_one arg2 f2 _
  ihave H2 := (Scf.wp_for_bind frame (wpE (defs₀ (F := F)) 𝒱₀ (c : Thread nD τ) none) E k0_t2_loop.lb k0_t2_loop.ub k0_t2_loop.st (k0_t2_ok i k0_h1) ⟨⟩
    (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (seg1_wp.sl.r arg2 f2)) (fun k _ => inv2 c arg1 arg16 arg17 (seg1_wp.sl.r arg2 f2) f1 k)
    (fun k acc => step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 none E _ f1 k acc)) $$ [Hi Hh Hn]
  · unfold inv2
    iexists h16; iexists f17
    isplitl [Hi]; · iexact Hi
    isplitl [Hh]; · iexact Hh
    isplitl [Hn]; · iexact Hn
    ipureintro
    refine Lists.zero fun b hb => h b ?_ hb
    rw [show Scf.trips k0_t1_loop.lb k0_t1_loop.ub k0_t1_loop.st = 75 from t1_trips]; exact hb
  iapply H2
  iintro %acc' H
  unfold inv2
  icases H with ⟨%g16, %g17, Hi, Hh, Hn, %hl⟩
  rw [show Scf.trips k0_t2_loop.lb k0_t2_loop.ub k0_t2_loop.st = 256 from t2_trips, hv] at hl
  simp only [Prog.pure_eq_ret]
  rw [wp_ret]; imodintro
  iapply Hk
  · ipureintro; exact hl
  · isplitl [Hi]; · iexact Hi
    isplitl [Hs]; · iexact Hs
    isplitl [Hh]; · iexact Hh
    iexact Hn

end Insert

end Cert.Proof.KI
-- ==== Proof.KI.Vals.lean ====
/-
  What the sub-blocks compute, entry by entry: the gathered scale of a column block, the scaled gradients, and the two
  products of a sub-block as functions of the whole arrays.
-/
module

public import proofs.«01_k».proof.Proof.Gen.KernelIdeal.Skeleton
public import proofs.«01_k».proof.Proof.KI.Walk
public import Idealize.ShloMosaic.Lib.PointwiseCore
public import Idealize.ShloMosaic.Lib.Pipeline.Value

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Values as functions of the arrays -/

/-- `h` rescaled: entry `(r, d)` is `h[r, d] · scale[r]`. -/
def hhOf (x4 : S256x896.Idx → Elt F .fp8e4m3) (x5 : S1x256.Idx → Elt F .f32) : S256x896.Idx → Elt F .bf16 :=
  mulf (s := S256x896) (φ := .bf16) (extf .bf16 x4 bitsLt_fp8e4m3_bf16)
    (truncf .bf16 (fun y : S256x896.Idx => x5 (ix2 (0 : Fin 1) (y 0))) bitsLt_bf16_f32)

/-- The scales rounded to the narrow format and kept in wide words. -/
def wid (a : Elt F .f32) : Elt F .f32 :=
  extf (s := S1) .f32 (truncf (s := S1) .bf16 (fun _ => a) bitsLt_bf16_f32) bitsLt_bf16_f32 (ix1 (0 : Fin 1))

/-- The scales laid out in tiles of 128 columns. -/
def tilesOf (x3 : S256x1280.Idx → Elt F .f32) : S10x256x128.Idx → Elt F .f32 :=
  fun y => wid (x3 (ix2 (y 1) (Fin.ofNat 1280 (128 * (y 0).val + (y 2).val))))

/-- A wide word narrowed. -/
def nar (a : Elt F .f32) : Elt F .bf16 := truncf (s := S1) .bf16 (fun _ => a) bitsLt_bf16_f32 (ix1 (0 : Fin 1))

/-- The scaled gradient of row `r`, column `v`. -/
def dlAt (A3 : S256x1187.Idx → Elt F .f32) (A6 : S256x151936.Idx → Elt F .fp8e5m2) (r v : ℕ) : Elt F .bf16 :=
  mulf (s := S1) (φ := .bf16) (extf .bf16 (fun _ => A6 (ix2 (Fin.ofNat 256 r) (Fin.ofNat 151936 v))) bitsLt_fp8e5m2_bf16)
    (fun _ => nar (wid (A3 (ix2 (Fin.ofNat 256 r) (Fin.ofNat 1187 (v / 128)))))) (ix1 (0 : Fin 1))

/-- Scaled gradients of columns `v₀ …`, 256 of them. -/
def dl256 (A3 : S256x1187.Idx → Elt F .f32) (A6 : S256x151936.Idx → Elt F .fp8e5m2) (v₀ : ℕ) : S256x256.Idx → Elt F .bf16 :=
  fun z => dlAt A3 A6 (z 0).val (v₀ + (z 1).val)

/-- Scaled gradients of columns `v₀ …`, 128 of them. -/
def dl128 (A3 : S256x1187.Idx → Elt F .f32) (A6 : S256x151936.Idx → Elt F .fp8e5m2) (v₀ : ℕ) : S256x128.Idx → Elt F .bf16 :=
  fun z => dlAt A3 A6 (z 0).val (v₀ + (z 1).val)

/-- The rows `v₀ …` of the first result, 256 of them, without the embedding rows. -/
def de256 (A3 : S256x1187.Idx → Elt F .f32) (A6 : S256x151936.Idx → Elt F .fp8e5m2) (hh : S256x896.Idx → Elt F .bf16) (v₀ : ℕ) :
    S256x896.Idx → Elt F .f32 :=
  matmul (φ₁ := .bf16) (φ₂ := .bf16) dot_S256x256_S256x896_S256x896_0_0_1_1_n_n none (dl256 A3 A6 v₀) hh (constant S256x896 .f32 0x00000000#32)

/-- The rows `v₀ …` of the first result, 128 of them, without the embedding rows. -/
def de128 (A3 : S256x1187.Idx → Elt F .f32) (A6 : S256x151936.Idx → Elt F .fp8e5m2) (hh : S256x896.Idx → Elt F .bf16) (v₀ : ℕ) :
    S128x896.Idx → Elt F .f32 :=
  matmul (φ₁ := .bf16) (φ₂ := .bf16) dot_S256x128_S256x896_S128x896_0_0_1_1_n_n none (dl128 A3 A6 v₀) hh (constant S128x896 .f32 0x00000000#32)

/-- The accumulator with the columns `v₀ …` added, 256 of them. -/
def acc256 (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : S256x896.Idx → Elt F .f32 :=
  addf (s := S256x896) (φ := .f32) acc
    (matmul (φ₁ := .bf16) (φ₂ := .bf16) dot_S256x256_S256x896_S256x896_1_0_0_1_n_n none
      (mulf (s := S256x256) (φ := .bf16) (dl256 A3 A6 v₀) (fun z => nar (A7 (ix2 (0 : Fin 1) (Fin.ofNat 151936 (v₀ + (z 1).val))))))
      (sitofp (s := S256x896) .bf16 (fun z => A8 (ix2 (Fin.ofNat 151936 (v₀ + (z 0).val)) (z 1))))
      (constant S256x896 .f32 0x00000000#32))

/-- The accumulator with the columns `v₀ …` added, 128 of them. -/
def acc128 (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : S256x896.Idx → Elt F .f32 :=
  addf (s := S256x896) (φ := .f32) acc
    (matmul (φ₁ := .bf16) (φ₂ := .bf16) dot_S256x128_S128x896_S256x896_1_0_0_1_n_n none
      (mulf (s := S256x128) (φ := .bf16) (dl128 A3 A6 v₀) (fun z => nar (A7 (ix2 (0 : Fin 1) (Fin.ofNat 151936 (v₀ + (z 1).val))))))
      (sitofp (s := S128x896) .bf16 (fun z => A8 (ix2 (Fin.ofNat 151936 (v₀ + (z 0).val)) (z 1))))
      (constant S256x896 .f32 0x00000000#32))

/-- The accumulator after the sub-blocks below `k` of the block starting at column `v₀`. -/
def accTo (A3 : S256x1187.Idx → Elt F .f32) (A6 : S256x151936.Idx → Elt F .fp8e5m2) (A7 : S1x151936.Idx → Elt F .f32)
    (A8 : S151936x896.Idx → Elt F .i8) (v₀ : ℕ) (acc : S256x896.Idx → Elt F .f32) : ℕ → S256x896.Idx → Elt F .f32
  | 0 => acc
  | k + 1 => acc256 A3 A6 A7 A8 (v₀ + 256 * k) (accTo A3 A6 A7 A8 v₀ acc k)

/-- The accumulator after the full blocks below `n`. -/
def accAt (A3 : S256x1187.Idx → Elt F .f32) (A6 : S256x151936.Idx → Elt F .fp8e5m2) (A7 : S1x151936.Idx → Elt F .f32)
    (A8 : S151936x896.Idx → Elt F .i8) : ℕ → S256x896.Idx → Elt F .f32
  | 0 => fun _ => Scalar.ofBits .f32 0x00000000#32
  | n + 1 => accTo A3 A6 A7 A8 (2048 * n) (accAt A3 A6 A7 A8 n) 8

/-- The accumulator after the last, short block, from the one before it. -/
def endOf (A3 : S256x1187.Idx → Elt F .f32) (A6 : S256x151936.Idx → Elt F .fp8e5m2) (A7 : S1x151936.Idx → Elt F .f32)
    (A8 : S151936x896.Idx → Elt F .i8) (acc : S256x896.Idx → Elt F .f32) : S256x896.Idx → Elt F .f32 :=
  acc128 A3 A6 A7 A8 (2048 * 74 + 256) (acc256 A3 A6 A7 A8 (2048 * 74) acc)

/-- A block of 2048 rows of the first result, without the embedding rows. -/
def deBlk (A3 : S256x1187.Idx → Elt F .f32) (A6 : S256x151936.Idx → Elt F .fp8e5m2) (hh : S256x896.Idx → Elt F .bf16) (b : ℕ) :
    S2048x896.Idx → Elt F .f32 :=
  fun y => de256 A3 A6 hh (2048 * b + 256 * ((y 0).val / 256)) (ix2 (Fin.ofNat 256 (y 0).val) (y 1))

/-- The 384 rows of the last block of the first result, without the embedding rows. -/
def deEnd (A3 : S256x1187.Idx → Elt F .f32) (A6 : S256x151936.Idx → Elt F .fp8e5m2) (hh : S256x896.Idx → Elt F .bf16) :
    S2048x896.Idx → Elt F .f32 :=
  fun y => if (y 0).val < 256 then de256 A3 A6 hh (2048 * 74) (ix2 (Fin.ofNat 256 (y 0).val) (y 1))
    else de128 A3 A6 hh (2048 * 74 + 256) (ix2 (Fin.ofNat 128 (y 0).val) (y 1))

/-! ### The gather of the scales -/

/-- The lane a column block's scale is in, as computed from the block's number. -/
def laneWord (n : BitVec 32) : BitVec 32 :=
  let m := Scalar.select (Scalar.cmpi .eq 128#32 0#32) 1#32 128#32
  let r := Scalar.remsi n m
  Scalar.select (Scalar.andi (Scalar.xori (Scalar.cmpi .slt r 0#32) (Scalar.cmpi .slt m 0#32)) (Scalar.cmpi .ne r 0#32)) (Scalar.addi r m) r

theorem laneWord_eq : ∀ q : Fin 1187, laneWord (BitVec.ofNat 32 q.val) = BitVec.ofNat 32 (q.val % 128) := by decide +kernel

/-- The word gathered by, for a lane. -/
def laneSel (w : BitVec 32) : BitVec 32 := Scalar.select (Scalar.cmpi .slt w 0#32) (Scalar.addi w 128#32) w

theorem laneSel_eq : ∀ q : Fin 128, (laneSel (BitVec.ofNat 32 q.val)).toNat % 128 = q.val := by decide +kernel

/-- A column block scaled: the scale of each row is gathered from the tile at the block's lane. -/
def scaled (n : BitVec 32) (tile : Vec F S1x256x128 .f32) (d : Vec F S256x128 .fp8e5m2) : FVec F S256x128 .bf16 :=
  mulf (extf .bf16 (shapeCast S256x128 d shapeCasts_S256x128_S256x128) bitsLt_fp8e5m2_bf16)
    (truncf .bf16 (dynamicGather 1 (shapeCast S256x128 tile shapeCasts_S1x256x128_S256x128)
      (shapeCast S256x128 (shapeCast S256x128x1
        (select (cmpi .slt (broadcast S256x128 (laneWord n)) (broadcast S256x128 0#32))
          (addi (broadcast S256x128 (laneWord n)) (broadcast S256x128 128#32)) (broadcast S256x128 (laneWord n)))
        shapeCasts_S256x128_S256x128x1) shapeCasts_S256x128x1_S256x128)) bitsLt_bf16_f32)

theorem scaled_apply (q : ℕ) (hq : q < 1187) (tile : Vec F S1x256x128 .f32) (d : Vec F S256x128 .fp8e5m2) (z : S256x128.Idx) :
    scaled (BitVec.ofNat 32 q) tile d z
      = mulf (s := S1) (φ := .bf16) (extf .bf16 (fun _ => d z) bitsLt_fp8e5m2_bf16)
          (fun _ => nar (tile (ix3 (0 : Fin 1) (z 0) (Fin.ofNat 128 q)))) (ix1 (0 : Fin 1)) := by
  have h1 : laneWord (BitVec.ofNat 32 q) = BitVec.ofNat 32 (q % 128) := laneWord_eq ⟨q, hq⟩
  have h2 : (laneSel (BitVec.ofNat 32 (q % 128))).toNat % 128 = q % 128 := laneSel_eq ⟨q % 128, Nat.mod_lt _ (by decide)⟩
  have hd : shapeCast S256x128 d shapeCasts_S256x128_S256x128 = d := Idealize.ShloMosaic.shapeCast_self _ _
  unfold scaled
  rw [h1, hd]
  have hl : (shapeCast S256x128 (shapeCast S256x128x1
        (select (cmpi .slt (broadcast S256x128 (BitVec.ofNat 32 (q % 128))) (broadcast S256x128 0#32))
          (addi (broadcast S256x128 (BitVec.ofNat 32 (q % 128))) (broadcast S256x128 128#32)) (broadcast S256x128 (BitVec.ofNat 32 (q % 128))))
        shapeCasts_S256x128_S256x128x1) shapeCasts_S256x128x1_S256x128 : IVec S256x128 32) = fun _ => laneSel (BitVec.ofNat 32 (q % 128)) := rfl
  rw [hl]
  have hg : dynamicGather 1 (shapeCast S256x128 tile shapeCasts_S1x256x128_S256x128) (fun _ => laneSel (BitVec.ofNat 32 (q % 128))) z
      = tile (ix3 (0 : Fin 1) (z 0) (Fin.ofNat 128 q)) := by
    rw [dynamicGather_apply]
    refine (shapeCast_dropUnit_apply ![256, 128] tile _ _).trans ?_
    refine congrArg tile (funext fun a => ?_)
    match a with
    | ⟨0, _⟩ => rfl
    | ⟨1, _⟩ => rfl
    | ⟨2, _⟩ => exact Fin.ext h2
  show FloatOps.mulf (FloatOps.extf .bf16 bitsLt_fp8e5m2_bf16 (d z)) (FloatOps.truncf .bf16 bitsLt_bf16_f32 _)
    = FloatOps.mulf (FloatOps.extf .bf16 bitsLt_fp8e5m2_bf16 (d z)) (FloatOps.truncf .bf16 bitsLt_bf16_f32 _)
  rw [hg]

/-! ### One sub-block -/

/-- Two column blocks side by side. -/
def cat256 (a b : FVec F S256x128 .bf16) : FVec F S256x256 .bf16 :=
  concatenate S256x256 1 [⟨S256x128, a⟩, ⟨S256x128, b⟩] concatenates_S256x128_S256x128_S256x256_d1

theorem cat_eq (A3 : S256x1187.Idx → Elt F .f32) (A6 : S256x151936.Idx → Elt F .fp8e5m2) (v₀ : ℕ) (a b : FVec F S256x128 .bf16)
    (ha : a = dl128 A3 A6 v₀) (hb : b = dl128 A3 A6 (v₀ + 128)) : cat256 a b = dl256 A3 A6 v₀ := by
  subst ha hb
  funext z
  unfold cat256
  by_cases h : (z 1).val < 128
  · refine (concatenate_pair_apply_left (s₁ := S256x128) (s₂ := S256x128) 1 _ _ _ z rfl (ix2 (n0 := 256) (n1 := 128) (z 0) ⟨(z 1).val, h⟩ : S256x128.Idx) fun b => ?_).trans ?_
    · match b with
      | ⟨0, _⟩ => rfl
      | ⟨1, _⟩ => rfl
    · rfl
  · have hz : (z 1).val < 256 := (z 1).isLt
    refine (concatenate_pair_apply_right (s₁ := S256x128) (s₂ := S256x128) 1 _ _ _ z rfl rfl (ix2 (n0 := 256) (n1 := 128) (z 0) ⟨(z 1).val - 128, by omega⟩ : S256x128.Idx) (fun b hb => ?_) ?_).trans ?_
    · match b with
      | ⟨0, _⟩ => rfl
      | ⟨1, _⟩ => exact absurd rfl hb
    · show (z 1).val - 128 + 128 = (z 1).val; omega
    · show dlAt A3 A6 (z 0).val (v₀ + 128 + ((z 1).val - 128)) = dlAt A3 A6 (z 0).val (v₀ + (z 1).val)
      congr 1; omega

/-- A column block scaled, from what its loads read. -/
theorem scaled_eq (A3 : S256x1187.Idx → Elt F .f32) (A6 : S256x151936.Idx → Elt F .fp8e5m2) (q : ℕ) (hq : q < 1187)
    (n : BitVec 32) (hn : n = BitVec.ofNat 32 q) (tile : Vec F S1x256x128 .f32) (d : Vec F S256x128 .fp8e5m2)
    (ht : ∀ r : Fin 256, tile (ix3 (0 : Fin 1) r (Fin.ofNat 128 q)) = wid (A3 (ix2 r (Fin.ofNat 1187 q))))
    (hd : ∀ z : S256x128.Idx, d z = A6 (ix2 (z 0) (Fin.ofNat 151936 (128 * q + (z 1).val)))) :
    scaled n tile d = dl128 A3 A6 (128 * q) := by
  subst hn
  funext z
  refine (scaled_apply q hq tile d z).trans ?_
  have h1 : (z 1).val < 128 := (z 1).isLt
  have e : (128 * q + (z 1).val) / 128 = q := by omega
  have e0 : (Fin.ofNat 256 (z 0).val : Fin 256) = z 0 := Fin.ext (Nat.mod_eq_of_lt (z 0).isLt)
  have ht' := ht (z 0)
  unfold dl128 dlAt
  rw [e, e0, ← hd z, ← ht']

/-- The rows a sub-block stores, from what its loads read. -/
def subDe (n₀ n₁ : BitVec 32) (t₀ t₁ : Vec F S1x256x128 .f32) (d₀ d₁ : Vec F S256x128 .fp8e5m2) (hh : Vec F S256x896 .bf16) :
    FVec F S256x896 .f32 :=
  matmul (φ₁ := .bf16) (φ₂ := .bf16) dot_S256x256_S256x896_S256x896_0_0_1_1_n_n none (cat256 (scaled n₀ t₀ d₀) (scaled n₁ t₁ d₁)) hh (constant S256x896 .f32 0x00000000#32)

/-- The accumulator a sub-block stores, from what its loads read. -/
def subAcc (n₀ n₁ : BitVec 32) (t₀ t₁ : Vec F S1x256x128 .f32) (d₀ d₁ : Vec F S256x128 .fp8e5m2) (s : Vec F S1x256 .f32)
    (e : Vec F S256x896 .i8) (acc : Vec F S256x896 .f32) : FVec F S256x896 .f32 :=
  shapeCast S256x896 (addf acc (matmul (φ₁ := .bf16) (φ₂ := .bf16) dot_S256x256_S256x896_S256x896_1_0_0_1_n_n none
    (mulf (cat256 (scaled n₀ t₀ d₀) (scaled n₁ t₁ d₁))
      (broadcastTo S256x256 (truncf .bf16 (shapeCast S1x256 s shapeCasts_S1x256_S1x256) bitsLt_bf16_f32 : FVec F S1x256 .bf16) broadcasts_S1x256_S256x256))
    (sitofp .bf16 e) (constant S256x896 .f32 0x00000000#32))) shapeCasts_S256x896_S256x896

/-- The same for the last sub-block, of 128 columns. -/
def tailDe (n₀ : BitVec 32) (t₀ : Vec F S1x256x128 .f32) (d₀ : Vec F S256x128 .fp8e5m2) (hh : Vec F S256x896 .bf16) :
    FVec F S128x896 .f32 :=
  matmul (φ₁ := .bf16) (φ₂ := .bf16) dot_S256x128_S256x896_S128x896_0_0_1_1_n_n none (scaled n₀ t₀ d₀) hh (constant S128x896 .f32 0x00000000#32)

/-- The same for the last sub-block, of 128 columns. -/
def tailAcc (n₀ : BitVec 32) (t₀ : Vec F S1x256x128 .f32) (d₀ : Vec F S256x128 .fp8e5m2) (s : Vec F S1x128 .f32)
    (e : Vec F S128x896 .i8) (acc : Vec F S256x896 .f32) : FVec F S256x896 .f32 :=
  shapeCast S256x896 (addf acc (matmul (φ₁ := .bf16) (φ₂ := .bf16) dot_S256x128_S128x896_S256x896_1_0_0_1_n_n none
    (mulf (scaled n₀ t₀ d₀)
      (broadcastTo S256x128 (truncf .bf16 (shapeCast S1x128 s shapeCasts_S1x128_S1x128) bitsLt_bf16_f32 : FVec F S1x128 .bf16) broadcasts_S1x128_S256x128))
    (sitofp .bf16 e) (constant S256x896 .f32 0x00000000#32))) shapeCasts_S256x896_S256x896

theorem subAcc_eq (A3 : S256x1187.Idx → Elt F .f32) (A6 : S256x151936.Idx → Elt F .fp8e5m2) (A7 : S1x151936.Idx → Elt F .f32)
    (A8 : S151936x896.Idx → Elt F .i8) (v₀ : ℕ) (n₀ n₁ : BitVec 32) (t₀ t₁ : Vec F S1x256x128 .f32) (d₀ d₁ : Vec F S256x128 .fp8e5m2)
    (s : Vec F S1x256 .f32) (e : Vec F S256x896 .i8) (acc acc' : Vec F S256x896 .f32)
    (h : cat256 (scaled n₀ t₀ d₀) (scaled n₁ t₁ d₁) = dl256 A3 A6 v₀)
    (hs : ∀ z : S1x256.Idx, s z = A7 (ix2 (0 : Fin 1) (Fin.ofNat 151936 (v₀ + (z 1).val))))
    (he : ∀ z : S256x896.Idx, e z = A8 (ix2 (Fin.ofNat 151936 (v₀ + (z 0).val)) (z 1))) (ha : acc = acc') :
    subAcc n₀ n₁ t₀ t₁ d₀ d₁ s e acc = acc256 A3 A6 A7 A8 v₀ acc' := by
  subst ha
  have he' : e = fun z => A8 (ix2 (Fin.ofNat 151936 (v₀ + (z 0).val)) (z 1)) := funext he
  have hb : (broadcastTo S256x256 (truncf .bf16 (shapeCast S1x256 s shapeCasts_S1x256_S1x256) bitsLt_bf16_f32 : FVec F S1x256 .bf16) broadcasts_S1x256_S256x256)
      = fun z : S256x256.Idx => nar (A7 (ix2 (0 : Fin 1) (Fin.ofNat 151936 (v₀ + (z 1).val)))) := by
    funext z
    rw [Idealize.ShloMosaic.shapeCast_self]
    refine (broadcastTo_apply _ _ z (ix2 (0 : Fin 1) (z 1)) fun a => ?_).trans ?_
    · match a with
      | ⟨0, _⟩ => rfl
      | ⟨1, _⟩ => rfl
    · show FloatOps.truncf .bf16 bitsLt_bf16_f32 (s _) = FloatOps.truncf .bf16 bitsLt_bf16_f32 _
      exact congrArg (FloatOps.truncf .bf16 bitsLt_bf16_f32) (hs _)
  unfold subAcc acc256
  rw [h, hb, he', Idealize.ShloMosaic.shapeCast_self]

theorem tailAcc_eq (A3 : S256x1187.Idx → Elt F .f32) (A6 : S256x151936.Idx → Elt F .fp8e5m2) (A7 : S1x151936.Idx → Elt F .f32)
    (A8 : S151936x896.Idx → Elt F .i8) (v₀ : ℕ) (n₀ : BitVec 32) (t₀ : Vec F S1x256x128 .f32) (d₀ : Vec F S256x128 .fp8e5m2)
    (s : Vec F S1x128 .f32) (e : Vec F S128x896 .i8) (acc acc' : Vec F S256x896 .f32)
    (h : scaled n₀ t₀ d₀ = dl128 A3 A6 v₀)
    (hs : ∀ z : S1x128.Idx, s z = A7 (ix2 (0 : Fin 1) (Fin.ofNat 151936 (v₀ + (z 1).val))))
    (he : ∀ z : S128x896.Idx, e z = A8 (ix2 (Fin.ofNat 151936 (v₀ + (z 0).val)) (z 1))) (ha : acc = acc') :
    tailAcc n₀ t₀ d₀ s e acc = acc128 A3 A6 A7 A8 v₀ acc' := by
  subst ha
  have he' : e = fun z => A8 (ix2 (Fin.ofNat 151936 (v₀ + (z 0).val)) (z 1)) := funext he
  have hb : (broadcastTo S256x128 (truncf .bf16 (shapeCast S1x128 s shapeCasts_S1x128_S1x128) bitsLt_bf16_f32 : FVec F S1x128 .bf16) broadcasts_S1x128_S256x128)
      = fun z : S256x128.Idx => nar (A7 (ix2 (0 : Fin 1) (Fin.ofNat 151936 (v₀ + (z 1).val)))) := by
    funext z
    rw [Idealize.ShloMosaic.shapeCast_self]
    refine (broadcastTo_apply _ _ z (ix2 (0 : Fin 1) (z 1)) fun a => ?_).trans ?_
    · match a with
      | ⟨0, _⟩ => rfl
      | ⟨1, _⟩ => rfl
    · show FloatOps.truncf .bf16 bitsLt_bf16_f32 (s _) = FloatOps.truncf .bf16 bitsLt_bf16_f32 _
      exact congrArg (FloatOps.truncf .bf16 bitsLt_bf16_f32) (hs _)
  unfold tailAcc acc128
  rw [h, hb, he', Idealize.ShloMosaic.shapeCast_self]

/-! ### The windows of a grid point hold the columns of the arrays -/

/-- Block `b` of the arrays is in the windows, wherever the block is inside the arrays; the tiles hold the scales. -/
structure Good (A3 : S256x1187.Idx → Elt F .f32) (A6 : S256x151936.Idx → Elt F .fp8e5m2) (A7 : S1x151936.Idx → Elt F .f32)
    (A8 : S151936x896.Idx → Elt F .i8) (b : ℕ) (x7 : S256x2048.Idx → Elt F .fp8e5m2) (x8 : S1x2048.Idx → Elt F .f32)
    (x9 : S2048x896.Idx → Elt F .i8) (x13 : S10x256x128.Idx → Elt F .f32) : Prop where
  dl : ∀ y : S256x2048.Idx, 2048 * b + (y 1).val < 151936 → x7 y = A6 (ix2 (y 0) (Fin.ofNat 151936 (2048 * b + (y 1).val)))
  es : ∀ y : S1x2048.Idx, 2048 * b + (y 1).val < 151936 → x8 y = A7 (ix2 (0 : Fin 1) (Fin.ofNat 151936 (2048 * b + (y 1).val)))
  e : ∀ y : S2048x896.Idx, 2048 * b + (y 0).val < 151936 → x9 y = A8 (ix2 (Fin.ofNat 151936 (2048 * b + (y 0).val)) (y 1))
  tile : ∀ y : S10x256x128.Idx, 128 * (y 0).val + (y 2).val < 1187 → x13 y = wid (A3 (ix2 (y 1) (Fin.ofNat 1187 (128 * (y 0).val + (y 2).val))))

section Loads

variable {A3 : S256x1187.Idx → Elt F .f32} {A6 : S256x151936.Idx → Elt F .fp8e5m2} {A7 : S1x151936.Idx → Elt F .f32}
  {A8 : S151936x896.Idx → Elt F .i8} {b : ℕ}
  {arg7 : Memref sig .tc .vmem S256x2048 .fp8e5m2} {arg8 : Memref sig .tc .vmem S1x2048 .f32}
  {arg9 : Memref sig .tc .vmem S2048x896 .i8} {arg13 : Memref sig .tc .vmem S10x256x128 .f32}
  {f7 : BufTy.Contents (Elt F) arg7.view.ty} {f8 : BufTy.Contents (Elt F) arg8.view.ty}
  {f9 : BufTy.Contents (Elt F) arg9.view.ty} {f13 : BufTy.Contents (Elt F) arg13.view.ty}
  (G : Good A3 A6 A7 A8 b (arg7.view.read (Elt F) f7) (arg8.view.read (Elt F) f8) (arg9.view.read (Elt F) f9) (arg13.view.read (Elt F) f13))

include G

theorem load_dl (o : ℕ) (inb : ∀ a, (![0, o] : Fin 2 → ℕ) a + S256x128.size a ≤ S256x2048.size a) (h : 2048 * b + o + 128 ≤ 151936) (z : S256x128.Idx) :
    arg7.view.readAt (Elt F) (Rect.unit (s := S256x2048) ![0, o] S256x128.size inb).toLoadRect f7 z
      = A6 (ix2 (z 0) (Fin.ofNat 151936 (2048 * b + o + (z 1).val))) := by
  have hz : (z 1).val < 128 := (z 1).isLt
  have ho : o + 128 ≤ 2048 := inb 1
  have e1 : (Fin.ofNat 2048 (o + (z 1).val)).val = o + (z 1).val := Nat.mod_eq_of_lt (by omega)
  refine Eq.trans (b := arg7.view.read (Elt F) f7 (ix2 (z 0) (Fin.ofNat 2048 (o + (z 1).val)))) ?_ ?_
  · refine congrArg (arg7.view.read (Elt F) f7) (funext fun a => Fin.ext ?_)
    match a with
    | ⟨0, _⟩ => show 0 + 1 * (z 0).val = (z 0).val; omega
    | ⟨1, _⟩ => show o + 1 * (z 1).val = (Fin.ofNat 2048 (o + (z 1).val)).val; omega
  · refine (G.dl _ ?_).trans ?_
    · show 2048 * b + (Fin.ofNat 2048 (o + (z 1).val)).val < _; omega
    · show A6 (ix2 (z 0) (Fin.ofNat 151936 (2048 * b + (Fin.ofNat 2048 (o + (z 1).val)).val))) = _
      rw [e1, Nat.add_assoc]

theorem load_es (w : ℕ) (o : ℕ) (inb : ∀ a, (![0, o] : Fin 2 → ℕ) a + (![1, w] : Fin 2 → ℕ) a ≤ S1x2048.size a) (h : 2048 * b + o + w ≤ 151936)
    (z : (⟨2, ![1, w]⟩ : Shape).Idx) :
    arg8.view.readAt (Elt F) (Rect.unit (s := S1x2048) ![0, o] ![1, w] inb).toLoadRect f8 z
      = A7 (ix2 (0 : Fin 1) (Fin.ofNat 151936 (2048 * b + o + (z 1).val))) := by
  have hz : (z 1).val < w := (z 1).isLt
  have ho : o + w ≤ 2048 := inb 1
  have e1 : (Fin.ofNat 2048 (o + (z 1).val)).val = o + (z 1).val := Nat.mod_eq_of_lt (by omega)
  refine Eq.trans (b := arg8.view.read (Elt F) f8 (ix2 (0 : Fin 1) (Fin.ofNat 2048 (o + (z 1).val)))) ?_ ?_
  · refine congrArg (arg8.view.read (Elt F) f8) (funext fun a => Fin.ext ?_)
    match a with
    | ⟨0, _⟩ => have h0 : (z 0).val < 1 := (z 0).isLt; show 0 + 1 * (z 0).val = 0; omega
    | ⟨1, _⟩ => show o + 1 * (z 1).val = (Fin.ofNat 2048 (o + (z 1).val)).val; omega
  · refine (G.es _ ?_).trans ?_
    · show 2048 * b + (Fin.ofNat 2048 (o + (z 1).val)).val < _; omega
    · show A7 (ix2 (0 : Fin 1) (Fin.ofNat 151936 (2048 * b + (Fin.ofNat 2048 (o + (z 1).val)).val))) = _
      rw [e1, Nat.add_assoc]

theorem load_e (w : ℕ) (o : ℕ) (inb : ∀ a, (![o, 0] : Fin 2 → ℕ) a + (![w, 896] : Fin 2 → ℕ) a ≤ S2048x896.size a) (h : 2048 * b + o + w ≤ 151936)
    (z : (⟨2, ![w, 896]⟩ : Shape).Idx) :
    arg9.view.readAt (Elt F) (Rect.unit (s := S2048x896) ![o, 0] ![w, 896] inb).toLoadRect f9 z
      = A8 (ix2 (Fin.ofNat 151936 (2048 * b + o + (z 0).val)) (z 1)) := by
  have hz : (z 0).val < w := (z 0).isLt
  have ho : o + w ≤ 2048 := inb 0
  have e1 : (Fin.ofNat 2048 (o + (z 0).val)).val = o + (z 0).val := Nat.mod_eq_of_lt (by omega)
  refine Eq.trans (b := arg9.view.read (Elt F) f9 (ix2 (Fin.ofNat 2048 (o + (z 0).val)) (z 1))) ?_ ?_
  · refine congrArg (arg9.view.read (Elt F) f9) (funext fun a => Fin.ext ?_)
    match a with
    | ⟨0, _⟩ => show o + 1 * (z 0).val = (Fin.ofNat 2048 (o + (z 0).val)).val; omega
    | ⟨1, _⟩ => show 0 + 1 * (z 1).val = (z 1).val; omega
  · refine (G.e _ ?_).trans ?_
    · show 2048 * b + (Fin.ofNat 2048 (o + (z 0).val)).val < _; omega
    · show A8 (ix2 (Fin.ofNat 151936 (2048 * b + (Fin.ofNat 2048 (o + (z 0).val)).val)) (z 1)) = _
      rw [e1, Nat.add_assoc]

theorem load_tile (q : ℕ) (hq : q < 1187) (o : Fin 3 → ℕ) (ho : o = ![q / 128, 0, 0]) (inb : ∀ a, o a + S1x256x128.size a ≤ S10x256x128.size a) (r : Fin 256) :
    arg13.view.readAt (Elt F) (Rect.unit (s := S10x256x128) o S1x256x128.size inb).toLoadRect f13 (ix3 (0 : Fin 1) r (Fin.ofNat 128 q))
      = wid (A3 (ix2 r (Fin.ofNat 1187 q))) := by
  subst ho
  have e0 : (Fin.ofNat 10 (q / 128)).val = q / 128 := Nat.mod_eq_of_lt (by omega)
  have e2 : (Fin.ofNat 128 q).val = q % 128 := rfl
  refine Eq.trans (b := arg13.view.read (Elt F) f13 (ix3 (Fin.ofNat 10 (q / 128)) r (Fin.ofNat 128 q))) ?_ ?_
  · refine congrArg (arg13.view.read (Elt F) f13) (funext fun a => Fin.ext ?_)
    match a with
    | ⟨0, _⟩ => show q / 128 + 1 * 0 = (Fin.ofNat 10 (q / 128)).val; omega
    | ⟨1, _⟩ => show 0 + 1 * r.val = r.val; omega
    | ⟨2, _⟩ => show 0 + 1 * (Fin.ofNat 128 q).val = (Fin.ofNat 128 q).val; omega
  · have e : 128 * (Fin.ofNat 10 (q / 128)).val + (Fin.ofNat 128 q).val = q := by omega
    refine (G.tile _ ?_).trans ?_
    · show 128 * (Fin.ofNat 10 (q / 128)).val + (Fin.ofNat 128 q).val < _; omega
    · show wid (A3 (ix2 r (Fin.ofNat 1187 (128 * (Fin.ofNat 10 (q / 128)).val + (Fin.ofNat 128 q).val)))) = _
      rw [e]

/-- A column block of the windows, scaled. -/
theorem load_scaled (q o : ℕ) (hq : q < 1187) (ho : 2048 * b + o = 128 * q) (n : BitVec 32) (hn : n = BitVec.ofNat 32 q)
    (o3 : Fin 3 → ℕ) (ho3 : o3 = ![q / 128, 0, 0]) (inb3 : ∀ a, o3 a + S1x256x128.size a ≤ S10x256x128.size a)
    (inb : ∀ a, (![0, o] : Fin 2 → ℕ) a + S256x128.size a ≤ S256x2048.size a) :
    scaled n (arg13.view.readAt (Elt F) (Rect.unit (s := S10x256x128) o3 S1x256x128.size inb3).toLoadRect f13)
      (arg7.view.readAt (Elt F) (Rect.unit (s := S256x2048) ![0, o] S256x128.size inb).toLoadRect f7) = dl128 A3 A6 (2048 * b + o) := by
  rw [ho]
  refine scaled_eq A3 A6 q hq n hn _ _ (load_tile G q hq o3 ho3 inb3) fun z => ?_
  rw [load_dl G o inb (by omega), ho]

/-- Two column blocks of the windows, scaled, side by side. -/
theorem load_cat (q o o' : ℕ) (hq : q + 1 < 1187) (ho : 2048 * b + o = 128 * q) (ho' : o' = o + 128) (n n' : BitVec 32) (hn : n = BitVec.ofNat 32 q) (hn' : n' = BitVec.ofNat 32 (q + 1))
    (o3 o3' : Fin 3 → ℕ) (ho3 : o3 = ![q / 128, 0, 0]) (ho3' : o3' = ![(q + 1) / 128, 0, 0])
    (inb3 : ∀ a, o3 a + S1x256x128.size a ≤ S10x256x128.size a) (inb3' : ∀ a, o3' a + S1x256x128.size a ≤ S10x256x128.size a)
    (inb : ∀ a, (![0, o] : Fin 2 → ℕ) a + S256x128.size a ≤ S256x2048.size a) (inb' : ∀ a, (![0, o'] : Fin 2 → ℕ) a + S256x128.size a ≤ S256x2048.size a) :
    cat256 (scaled n (arg13.view.readAt (Elt F) (Rect.unit (s := S10x256x128) o3 S1x256x128.size inb3).toLoadRect f13)
        (arg7.view.readAt (Elt F) (Rect.unit (s := S256x2048) ![0, o] S256x128.size inb).toLoadRect f7))
      (scaled n' (arg13.view.readAt (Elt F) (Rect.unit (s := S10x256x128) o3' S1x256x128.size inb3').toLoadRect f13)
        (arg7.view.readAt (Elt F) (Rect.unit (s := S256x2048) ![0, o'] S256x128.size inb').toLoadRect f7)) = dl256 A3 A6 (2048 * b + o) := by
  subst ho'
  refine cat_eq A3 A6 _ _ _ (load_scaled G q o (by omega) ho n hn o3 ho3 inb3 inb) ?_
  rw [load_scaled G (q + 1) (o + 128) hq (by omega) n' hn' o3' ho3' inb3' inb', Nat.add_assoc]

end Loads

end Cert.Proof.KI
-- ==== Proof.KI.Full.lean ====
/-
  A full block of 2048 columns: eight sub-blocks of 256 columns, each stores its 256 rows of the first result and adds
  its product to the accumulator.
-/
module

public import proofs.«01_k».proof.Proof.KI.Segs
public import proofs.«01_k».proof.Proof.KI.Vals
public import Idealize.ShloMosaic.Lib.VecWindow
public import Idealize.ShloMosaic.Lib.Pipeline.FrameBody

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point with a given coordinate. -/
def pt0 (b : Fin 75) : grid0.Coords := fun a => match a with | ⟨0, _⟩ => b

set_option maxRecDepth 100000 in
theorem off5_dec : ∀ b : Fin 75, ∀ k : Fin 8, ∀ r : Fin 2,
    k0_off5 (pt0 b) (BitVec.ofNat 32 (2 * k.val)) (BitVec.ofNat 32 r.val) 0 = (16 * b.val + 2 * k.val + r.val) / 128 := by
  decide +kernel

theorem off6_dec : ∀ b : Fin 75, ∀ r : Fin 3,
    k0_off6 (pt0 b) (k0_off6_at r).1 (k0_off6_at r).2 0 = (16 * b.val + r.val) / 128 := by
  decide +kernel

/-- The tile a column block's scales are in. -/
theorem off5_eq (i : grid0.Coords) (k : Fin 8) (r : Fin 2) :
    k0_off5 i (BitVec.ofNat 32 (2 * k.val)) (BitVec.ofNat 32 r.val) = ![(16 * (i 0).val + 2 * k.val + r.val) / 128, 0, 0] := by
  funext a
  match a with
  | ⟨0, _⟩ => exact off5_dec (i 0) k r
  | ⟨1, _⟩ => rfl
  | ⟨2, _⟩ => rfl

/-- The tile a column block of the last block finds its scales in. -/
theorem off6_eq (i : grid0.Coords) (r : Fin 3) :
    k0_off6 i (k0_off6_at r).1 (k0_off6_at r).2 = ![(16 * (i 0).val + r.val) / 128, 0, 0] := by
  funext a
  match a with
  | ⟨0, _⟩ => exact off6_dec (i 0) r
  | ⟨1, _⟩ => rfl
  | ⟨2, _⟩ => rfl

/-- A column block's number as computed. -/
theorem word_eq (b j r : ℕ) :
    Scalar.addi (Scalar.addi (Scalar.muli (BitVec.ofNat 32 b) 16#32) (BitVec.ofNat 32 j)) (BitVec.ofNat 32 r) = BitVec.ofNat 32 (16 * b + j + r) := by
  show BitVec.ofNat 32 b * 16#32 + BitVec.ofNat 32 j + BitVec.ofNat 32 r = _
  rw [show (16#32 : BitVec 32) = BitVec.ofNat 32 16 from rfl, ← BitVec.ofNat_mul, ← BitVec.ofNat_add, ← BitVec.ofNat_add, Nat.mul_comm]

theorem cond3_iff : ∀ b : Fin 75, k0_cond3 (pt0 b) = 1#1 ↔ b.val < 74 := by decide +kernel

theorem cond4_iff : ∀ b : Fin 75, k0_cond4 (pt0 b) = 1#1 ↔ b.val = 74 := by decide +kernel

theorem cond1_iff : ∀ b : Fin 75, k0_cond1 (pt0 b) = 1#1 ↔ b.val = 0 := by decide +kernel

section Whole

variable {κ : Kind} {sp : Space} {s : Shape} {e : EltTy}

theorem emb_whole (off : Fin s.rank → ℕ) (h0 : ∀ a, off a = 0) (inb : ∀ a, off a + s.size a ≤ s.size a) (y : s.Idx) :
    (Rect.unit (s := s) off s.size inb).emb y = y :=
  funext fun a => Fin.ext (by show off a + 1 * (y a).val = (y a).val; rw [h0 a]; omega)

/-- A store of the whole buffer is read back. -/
theorem read_whole (v : View sig κ sp s e) (f : v.ty.Contents (Elt F)) (off : Fin s.rank → ℕ) (h0 : ∀ a, off a = 0) (inb : ∀ a, off a + s.size a ≤ s.size a)
    (w : s.Idx → Elt F e) (L : List (View.Piece (Elt F) s e)) :
    v.read (Elt F) (v.writes (Elt F) f (⟨Rect.unit off s.size inb, w⟩ :: L)) = w := by
  funext y
  have h := v.read_writes_cons_emb f (Rect.unit off s.size inb) w L y
  rwa [emb_whole off h0 inb y] at h

end Whole

theorem deBlk_piece (A3 : S256x1187.Idx → Elt F .f32) (A6 : S256x151936.Idx → Elt F .fp8e5m2) (hh : S256x896.Idx → Elt F .bf16) (b j o : ℕ) (hj : j < 8)
    (ho : o = 256 * j) (inb : ∀ a, (![o, 0] : Fin 2 → ℕ) a + S256x896.size a ≤ S2048x896.size a) (x : S256x896.Idx) :
    de256 A3 A6 hh (2048 * b + o) x = deBlk A3 A6 hh b ((Rect.unit (s := S2048x896) ![o, 0] S256x896.size inb).emb x) := by
  have h0 : ((Rect.unit (s := S2048x896) ![o, 0] S256x896.size inb).emb x 0).val = o + (x 0).val := by
    show o + 1 * (x 0).val = _; omega
  have h1 : (Rect.unit (s := S2048x896) ![o, 0] S256x896.size inb).emb x 1 = x 1 := Fin.ext (by show 0 + 1 * (x 1).val = _; omega)
  have hx : (x 0).val < 256 := (x 0).isLt
  unfold deBlk
  rw [h0, h1, show 256 * ((o + (x 0).val) / 256) = o by omega]
  refine congrArg _ (funext fun a => Fin.ext ?_)
  match a with
  | ⟨0, _⟩ => show (x 0).val = (o + (x 0).val) % 256; omega
  | ⟨1, _⟩ => rfl

section Full

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h3 : k0_cond3 i = 1#1)

set_option maxHeartbeats 400000 in
/-- A full block: the rows of the first result and the accumulator it leaves. -/
theorem seg3_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8) (hb : (i 0).val < 74)
    (G : Good A3 A6 A7 A8 (i 0).val (arg7.view.read (Elt F) f7) (arg8.view.read (Elt F) f8) (arg9.view.read (Elt F) f9) (arg13.view.read (Elt F) f13)) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g15, ⌜arg10.view.read (Elt F) g10 = deBlk A3 A6 (arg12.view.read (Elt F) f12) (i 0).val
            ∧ arg15.view.read (Elt F) g15 = accTo A3 A6 A7 A8 (2048 * (i 0).val) (arg15.view.read (Elt F) f15) 8⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E (seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h3) K := by
  unfold seg3
  iintro ⟨H7, H8, H9, H10, H12, H13, H15, Hk⟩
  sl_exec_parts
  have hc0 : cat256 (scaled (Scalar.addi (Scalar.addi (Scalar.muli (BitVec.ofNat 32 (i 0).val) 16#32) 0#32) 0#32) (arg13.view.readAt (Elt F) (Rect.unit (s := S10x256x128) (k0_off5 i 0#32 0#32) S1x256x128.size (k0_off5_inb i k0_h3 0 0)).toLoadRect f13) (arg7.view.readAt (Elt F) (Rect.unit (s := S256x2048) ![0, 0] S256x128.size inb_S256x2048_S256x128_0_0).toLoadRect f7)) (scaled (Scalar.addi (Scalar.addi (Scalar.muli (BitVec.ofNat 32 (i 0).val) 16#32) 0#32) 1#32) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 128] S256x128.size inb_S256x2048_S256x128_0_128).toLoadRect f7)) = dl256 A3 A6 (2048 * (i 0).val + 0) :=
    load_cat G (16 * (i 0).val + 0) 0 128 (by omega) (by omega) rfl _ _ (word_eq (i 0).val 0 0) (word_eq (i 0).val 0 1) _ _ (off5_eq i 0 0) (off5_eq i 0 1) _ _ _ _
  have hc1 : cat256 (scaled (Scalar.addi (Scalar.addi (Scalar.muli (BitVec.ofNat 32 (i 0).val) 16#32) 2#32) 0#32) (arg13.view.readAt (Elt F) (Rect.unit (s := S10x256x128) (k0_off5 i 2#32 0#32) S1x256x128.size (k0_off5_inb i k0_h3 1 0)).toLoadRect f13) (arg7.view.readAt (Elt F) (Rect.unit (s := S256x2048) ![0, 256] S256x128.size inb_S256x2048_S256x128_0_256).toLoadRect f7)) (scaled (Scalar.addi (Scalar.addi (Scalar.muli (BitVec.ofNat 32 (i 0).val) 16#32) 2#32) 1#32) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 384] S256x128.size inb_S256x2048_S256x128_0_384).toLoadRect f7)) = dl256 A3 A6 (2048 * (i 0).val + 256) :=
    load_cat G (16 * (i 0).val + 2) 256 384 (by omega) (by omega) rfl _ _ (word_eq (i 0).val 2 0) (word_eq (i 0).val 2 1) _ _ (off5_eq i 1 0) (off5_eq i 1 1) _ _ _ _
  have hc2 : cat256 (scaled (Scalar.addi (Scalar.addi (Scalar.muli (BitVec.ofNat 32 (i 0).val) 16#32) 4#32) 0#32) (arg13.view.readAt (Elt F) (Rect.unit (s := S10x256x128) (k0_off5 i 4#32 0#32) S1x256x128.size (k0_off5_inb i k0_h3 2 0)).toLoadRect f13) (arg7.view.readAt (Elt F) (Rect.unit (s := S256x2048) ![0, 512] S256x128.size inb_S256x2048_S256x128_0_512).toLoadRect f7)) (scaled (Scalar.addi (Scalar.addi (Scalar.muli (BitVec.ofNat 32 (i 0).val) 16#32) 4#32) 1#32) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 640] S256x128.size inb_S256x2048_S256x128_0_640).toLoadRect f7)) = dl256 A3 A6 (2048 * (i 0).val + 512) :=
    load_cat G (16 * (i 0).val + 4) 512 640 (by omega) (by omega) rfl _ _ (word_eq (i 0).val 4 0) (word_eq (i 0).val 4 1) _ _ (off5_eq i 2 0) (off5_eq i 2 1) _ _ _ _
  have hc3 : cat256 (scaled (Scalar.addi (Scalar.addi (Scalar.muli (BitVec.ofNat 32 (i 0).val) 16#32) 6#32) 0#32) (arg13.view.readAt (Elt F) (Rect.unit (s := S10x256x128) (k0_off5 i 6#32 0#32) S1x256x128.size (k0_off5_inb i k0_h3 3 0)).toLoadRect f13) (arg7.view.readAt (Elt F) (Rect.unit (s := S256x2048) ![0, 768] S256x128.size inb_S256x2048_S256x128_0_768).toLoadRect f7)) (scaled (Scalar.addi (Scalar.addi (Scalar.muli (BitVec.ofNat 32 (i 0).val) 16#32) 6#32) 1#32) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 896] S256x128.size inb_S256x2048_S256x128_0_896).toLoadRect f7)) = dl256 A3 A6 (2048 * (i 0).val + 768) :=
    load_cat G (16 * (i 0).val + 6) 768 896 (by omega) (by omega) rfl _ _ (word_eq (i 0).val 6 0) (word_eq (i 0).val 6 1) _ _ (off5_eq i 3 0) (off5_eq i 3 1) _ _ _ _
  have hc4 : cat256 (scaled (Scalar.addi (Scalar.addi (Scalar.muli (BitVec.ofNat 32 (i 0).val) 16#32) 8#32) 0#32) (arg13.view.readAt (Elt F) (Rect.unit (s := S10x256x128) (k0_off5 i 8#32 0#32) S1x256x128.size (k0_off5_inb i k0_h3 4 0)).toLoadRect f13) (arg7.view.readAt (Elt F) (Rect.unit (s := S256x2048) ![0, 1024] S256x128.size inb_S256x2048_S256x128_0_1024).toLoadRect f7)) (scaled (Scalar.addi (Scalar.addi (Scalar.muli (BitVec.ofNat 32 (i 0).val) 16#32) 8#32) 1#32) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1152] S256x128.size inb_S256x2048_S256x128_0_1152).toLoadRect f7)) = dl256 A3 A6 (2048 * (i 0).val + 1024) :=
    load_cat G (16 * (i 0).val + 8) 1024 1152 (by omega) (by omega) rfl _ _ (word_eq (i 0).val 8 0) (word_eq (i 0).val 8 1) _ _ (off5_eq i 4 0) (off5_eq i 4 1) _ _ _ _
  have hc5 : cat256 (scaled (Scalar.addi (Scalar.addi (Scalar.muli (BitVec.ofNat 32 (i 0).val) 16#32) 10#32) 0#32) (arg13.view.readAt (Elt F) (Rect.unit (s := S10x256x128) (k0_off5 i 10#32 0#32) S1x256x128.size (k0_off5_inb i k0_h3 5 0)).toLoadRect f13) (arg7.view.readAt (Elt F) (Rect.unit (s := S256x2048) ![0, 1280] S256x128.size inb_S256x2048_S256x128_0_1280).toLoadRect f7)) (scaled (Scalar.addi (Scalar.addi (Scalar.muli (BitVec.ofNat 32 (i 0).val) 16#32) 10#32) 1#32) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1408] S256x128.size inb_S256x2048_S256x128_0_1408).toLoadRect f7)) = dl256 A3 A6 (2048 * (i 0).val + 1280) :=
    load_cat G (16 * (i 0).val + 10) 1280 1408 (by omega) (by omega) rfl _ _ (word_eq (i 0).val 10 0) (word_eq (i 0).val 10 1) _ _ (off5_eq i 5 0) (off5_eq i 5 1) _ _ _ _
  have hc6 : cat256 (scaled (Scalar.addi (Scalar.addi (Scalar.muli (BitVec.ofNat 32 (i 0).val) 16#32) 12#32) 0#32) (arg13.view.readAt (Elt F) (Rect.unit (s := S10x256x128) (k0_off5 i 12#32 0#32) S1x256x128.size (k0_off5_inb i k0_h3 6 0)).toLoadRect f13) (arg7.view.readAt (Elt F) (Rect.unit (s := S256x2048) ![0, 1536] S256x128.size inb_S256x2048_S256x128_0_1536).toLoadRect f7)) (scaled (Scalar.addi (Scalar.addi (Scalar.muli (BitVec.ofNat 32 (i 0).val) 16#32) 12#32) 1#32) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1664] S256x128.size inb_S256x2048_S256x128_0_1664).toLoadRect f7)) = dl256 A3 A6 (2048 * (i 0).val + 1536) :=
    load_cat G (16 * (i 0).val + 12) 1536 1664 (by omega) (by omega) rfl _ _ (word_eq (i 0).val 12 0) (word_eq (i 0).val 12 1) _ _ (off5_eq i 6 0) (off5_eq i 6 1) _ _ _ _
  have hc7 : cat256 (scaled (Scalar.addi (Scalar.addi (Scalar.muli (BitVec.ofNat 32 (i 0).val) 16#32) 14#32) 0#32) (arg13.view.readAt (Elt F) (Rect.unit (s := S10x256x128) (k0_off5 i 14#32 0#32) S1x256x128.size (k0_off5_inb i k0_h3 7 0)).toLoadRect f13) (arg7.view.readAt (Elt F) (Rect.unit (s := S256x2048) ![0, 1792] S256x128.size inb_S256x2048_S256x128_0_1792).toLoadRect f7)) (scaled (Scalar.addi (Scalar.addi (Scalar.muli (BitVec.ofNat 32 (i 0).val) 16#32) 14#32) 1#32) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1920] S256x128.size inb_S256x2048_S256x128_0_1920).toLoadRect f7)) = dl256 A3 A6 (2048 * (i 0).val + 1792) :=
    load_cat G (16 * (i 0).val + 14) 1792 1920 (by omega) (by omega) rfl _ _ (word_eq (i 0).val 14 0) (word_eq (i 0).val 14 1) _ _ (off5_eq i 7 0) (off5_eq i 7 1) _ _ _ _
  have hL0 : seg3_wp.sl.H15_1 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off5 i 0#32 0#32) S1x256x128.size (k0_off5_inb i k0_h3 0 0)).toLoadRect f13) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7)
        (arg8.view.readAt (Elt F) (Rect.unit (s := S1x2048) ![0, 0] S1x256.size inb_S1x2048_S1x256_0_0).toLoadRect f8)
        (arg9.view.readAt (Elt F) (Rect.unit (s := S2048x896) ![0, 0] S256x896.size inb_S2048x896_S256x896_0_0).toLoadRect f9) (arg15.view.readAt (Elt F) (Rect.unit (s := S256x896) ![0, 0] S256x896.size inb_S256x896_S256x896_0_0).toLoadRect f15))⟩ :: [] := by
    delta seg3_wp.sl.H15_1
    rfl
  have hv0 : arg15.view.readCov (seg3_wp.sl.H15_1 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 1 := by
    rw [hL0]
    rw [View.readCov_cons_toLoadRect]
    exact (subAcc_eq A3 A6 A7 A8 (2048 * (i 0).val + 0) _ _ _ _ _ _ _ _ _ _ hc0 (load_es G 256 0 _ (by omega)) (load_e G 256 0 _ (by omega)) (View.readAt_full _ _ _))
  have hL1 : seg3_wp.sl.H15_2 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 2#32) 0#32) (Scalar.addi (Scalar.addi (Scalar.muli (BitVec.ofNat 32 (i 0).val) 16#32) 2#32) 1#32) (arg13.view.readAt (Elt F) (Rect.unit (s := S10x256x128) (k0_off5 i 2#32 0#32) S1x256x128.size (k0_off5_inb i k0_h3 1 0)).toLoadRect f13) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 256] S256x128.size inb_S256x2048_S256x128_0_256).toLoadRect f7) (arg7.view.readAt (Elt F) (Rect.unit (s := S256x2048) ![0, 384] S256x128.size inb_S256x2048_S256x128_0_384).toLoadRect f7)
        (arg8.view.readAt (Elt F) (Rect.unit (s := S1x2048) ![0, 256] S1x256.size inb_S1x2048_S1x256_0_256).toLoadRect f8)
        (arg9.view.readAt (Elt F) (Rect.unit (s := S2048x896) ![256, 0] S256x896.size inb_S2048x896_S256x896_256_0).toLoadRect f9) (arg15.view.readCov (seg3_wp.sl.H15_1 i arg7 arg8 arg9 arg13 arg15 k0_h3 f7 f8 f9 f13 f15) (Rect.unit (s := S256x896) ![0, 0] S256x896.size inb_S256x896_S256x896_0_0).toLoadRect))⟩ :: seg3_wp.sl.H15_1 i arg7 arg8 arg9 arg13 arg15 k0_h3 f7 f8 f9 f13 f15 := by
    delta seg3_wp.sl.H15_2
    rfl
  have hv1 : arg15.view.readCov (seg3_wp.sl.H15_2 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 2 := by
    rw [hL1]
    rw [View.readCov_cons_toLoadRect]
    exact (subAcc_eq A3 A6 A7 A8 (2048 * (i 0).val + 256) _ _ _ _ _ _ _ _ _ _ hc1 (load_es G 256 256 _ (by omega)) (load_e G 256 256 _ (by omega)) (hv0))
  have hL2 : seg3_wp.sl.H15_3 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 4#32) 0#32) (Scalar.addi (Scalar.addi (Scalar.muli (BitVec.ofNat 32 (i 0).val) 16#32) 4#32) 1#32) (arg13.view.readAt (Elt F) (Rect.unit (s := S10x256x128) (k0_off5 i 4#32 0#32) S1x256x128.size (k0_off5_inb i k0_h3 2 0)).toLoadRect f13) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 512] S256x128.size inb_S256x2048_S256x128_0_512).toLoadRect f7) (arg7.view.readAt (Elt F) (Rect.unit (s := S256x2048) ![0, 640] S256x128.size inb_S256x2048_S256x128_0_640).toLoadRect f7)
        (arg8.view.readAt (Elt F) (Rect.unit (s := S1x2048) ![0, 512] S1x256.size inb_S1x2048_S1x256_0_512).toLoadRect f8)
        (arg9.view.readAt (Elt F) (Rect.unit (s := S2048x896) ![512, 0] S256x896.size inb_S2048x896_S256x896_512_0).toLoadRect f9) (arg15.view.readCov (seg3_wp.sl.H15_2 i arg7 arg8 arg9 arg13 arg15 k0_h3 f7 f8 f9 f13 f15) (Rect.unit (s := S256x896) ![0, 0] S256x896.size inb_S256x896_S256x896_0_0).toLoadRect))⟩ :: seg3_wp.sl.H15_2 i arg7 arg8 arg9 arg13 arg15 k0_h3 f7 f8 f9 f13 f15 := by
    delta seg3_wp.sl.H15_3
    rfl
  have hv2 : arg15.view.readCov (seg3_wp.sl.H15_3 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 3 := by
    rw [hL2]
    rw [View.readCov_cons_toLoadRect]
    exact (subAcc_eq A3 A6 A7 A8 (2048 * (i 0).val + 512) _ _ _ _ _ _ _ _ _ _ hc2 (load_es G 256 512 _ (by omega)) (load_e G 256 512 _ (by omega)) (hv1))
  have hL3 : seg3_wp.sl.H15_4 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 6#32) 0#32) (Scalar.addi (Scalar.addi (Scalar.muli (BitVec.ofNat 32 (i 0).val) 16#32) 6#32) 1#32) (arg13.view.readAt (Elt F) (Rect.unit (s := S10x256x128) (k0_off5 i 6#32 0#32) S1x256x128.size (k0_off5_inb i k0_h3 3 0)).toLoadRect f13) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 768] S256x128.size inb_S256x2048_S256x128_0_768).toLoadRect f7) (arg7.view.readAt (Elt F) (Rect.unit (s := S256x2048) ![0, 896] S256x128.size inb_S256x2048_S256x128_0_896).toLoadRect f7)
        (arg8.view.readAt (Elt F) (Rect.unit (s := S1x2048) ![0, 768] S1x256.size inb_S1x2048_S1x256_0_768).toLoadRect f8)
        (arg9.view.readAt (Elt F) (Rect.unit (s := S2048x896) ![768, 0] S256x896.size inb_S2048x896_S256x896_768_0).toLoadRect f9) (arg15.view.readCov (seg3_wp.sl.H15_3 i arg7 arg8 arg9 arg13 arg15 k0_h3 f7 f8 f9 f13 f15) (Rect.unit (s := S256x896) ![0, 0] S256x896.size inb_S256x896_S256x896_0_0).toLoadRect))⟩ :: seg3_wp.sl.H15_3 i arg7 arg8 arg9 arg13 arg15 k0_h3 f7 f8 f9 f13 f15 := by
    delta seg3_wp.sl.H15_4
    rfl
  have hv3 : arg15.view.readCov (seg3_wp.sl.H15_4 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 4 := by
    rw [hL3]
    rw [View.readCov_cons_toLoadRect]
    exact (subAcc_eq A3 A6 A7 A8 (2048 * (i 0).val + 768) _ _ _ _ _ _ _ _ _ _ hc3 (load_es G 256 768 _ (by omega)) (load_e G 256 768 _ (by omega)) (hv2))
  have hL4 : seg3_wp.sl.H15_5 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 8#32) 0#32) (Scalar.addi (Scalar.addi (Scalar.muli (BitVec.ofNat 32 (i 0).val) 16#32) 8#32) 1#32) (arg13.view.readAt (Elt F) (Rect.unit (s := S10x256x128) (k0_off5 i 8#32 0#32) S1x256x128.size (k0_off5_inb i k0_h3 4 0)).toLoadRect f13) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1024] S256x128.size inb_S256x2048_S256x128_0_1024).toLoadRect f7) (arg7.view.readAt (Elt F) (Rect.unit (s := S256x2048) ![0, 1152] S256x128.size inb_S256x2048_S256x128_0_1152).toLoadRect f7)
        (arg8.view.readAt (Elt F) (Rect.unit (s := S1x2048) ![0, 1024] S1x256.size inb_S1x2048_S1x256_0_1024).toLoadRect f8)
        (arg9.view.readAt (Elt F) (Rect.unit (s := S2048x896) ![1024, 0] S256x896.size inb_S2048x896_S256x896_1024_0).toLoadRect f9) (arg15.view.readCov (seg3_wp.sl.H15_4 i arg7 arg8 arg9 arg13 arg15 k0_h3 f7 f8 f9 f13 f15) (Rect.unit (s := S256x896) ![0, 0] S256x896.size inb_S256x896_S256x896_0_0).toLoadRect))⟩ :: seg3_wp.sl.H15_4 i arg7 arg8 arg9 arg13 arg15 k0_h3 f7 f8 f9 f13 f15 := by
    delta seg3_wp.sl.H15_5
    rfl
  have hv4 : arg15.view.readCov (seg3_wp.sl.H15_5 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 5 := by
    rw [hL4]
    rw [View.readCov_cons_toLoadRect]
    exact (subAcc_eq A3 A6 A7 A8 (2048 * (i 0).val + 1024) _ _ _ _ _ _ _ _ _ _ hc4 (load_es G 256 1024 _ (by omega)) (load_e G 256 1024 _ (by omega)) (hv3))
  have hL5 : seg3_wp.sl.H15_6 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 10#32) 0#32) (Scalar.addi (Scalar.addi (Scalar.muli (BitVec.ofNat 32 (i 0).val) 16#32) 10#32) 1#32) (arg13.view.readAt (Elt F) (Rect.unit (s := S10x256x128) (k0_off5 i 10#32 0#32) S1x256x128.size (k0_off5_inb i k0_h3 5 0)).toLoadRect f13) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1280] S256x128.size inb_S256x2048_S256x128_0_1280).toLoadRect f7) (arg7.view.readAt (Elt F) (Rect.unit (s := S256x2048) ![0, 1408] S256x128.size inb_S256x2048_S256x128_0_1408).toLoadRect f7)
        (arg8.view.readAt (Elt F) (Rect.unit (s := S1x2048) ![0, 1280] S1x256.size inb_S1x2048_S1x256_0_1280).toLoadRect f8)
        (arg9.view.readAt (Elt F) (Rect.unit (s := S2048x896) ![1280, 0] S256x896.size inb_S2048x896_S256x896_1280_0).toLoadRect f9) (arg15.view.readCov (seg3_wp.sl.H15_5 i arg7 arg8 arg9 arg13 arg15 k0_h3 f7 f8 f9 f13 f15) (Rect.unit (s := S256x896) ![0, 0] S256x896.size inb_S256x896_S256x896_0_0).toLoadRect))⟩ :: seg3_wp.sl.H15_5 i arg7 arg8 arg9 arg13 arg15 k0_h3 f7 f8 f9 f13 f15 := by
    delta seg3_wp.sl.H15_6
    rfl
  have hv5 : arg15.view.readCov (seg3_wp.sl.H15_6 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 6 := by
    rw [hL5]
    rw [View.readCov_cons_toLoadRect]
    exact (subAcc_eq A3 A6 A7 A8 (2048 * (i 0).val + 1280) _ _ _ _ _ _ _ _ _ _ hc5 (load_es G 256 1280 _ (by omega)) (load_e G 256 1280 _ (by omega)) (hv4))
  have hL6 : seg3_wp.sl.H15_7 i arg7 arg8 arg9 arg13 arg15 k0_h3 f7 f8 f9 f13 f15 = ⟨(Rect.unit (s := S256x896) ![0, 0] S256x896.size inb_S256x896_S256x896_0_0), (subAcc (Scalar.addi (Scalar.addi (Scalar.muli (BitVec.ofNat 32 (i 0).val) 16#32) 12#32) 0#32) (Scalar.addi (Scalar.addi (Scalar.muli (BitVec.ofNat 32 (i 0).val) 16#32) 12#32) 1#32) (arg13.view.readAt (Elt F) (Rect.unit (s := S10x256x128) (k0_off5 i 12#32 0#32) S1x256x128.size (k0_off5_inb i k0_h3 6 0)).toLoadRect f13) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1536] S256x128.size inb_S256x2048_S256x128_0_1536).toLoadRect f7) (arg7.view.readAt (Elt F) (Rect.unit (s := S256x2048) ![0, 1664] S256x128.size inb_S256x2048_S256x128_0_1664).toLoadRect f7)
        (arg8.view.readAt (Elt F) (Rect.unit (s := S1x2048) ![0, 1536] S1x256.size inb_S1x2048_S1x256_0_1536).toLoadRect f8)
        (arg9.view.readAt (Elt F) (Rect.unit (s := S2048x896) ![1536, 0] S256x896.size inb_S2048x896_S256x896_1536_0).toLoadRect f9) (arg15.view.readCov (seg3_wp.sl.H15_6 i arg7 arg8 arg9 arg13 arg15 k0_h3 f7 f8 f9 f13 f15) (Rect.unit (s := S256x896) ![0, 0] S256x896.size inb_S256x896_S256x896_0_0).toLoadRect))⟩ :: seg3_wp.sl.H15_6 i arg7 arg8 arg9 arg13 arg15 k0_h3 f7 f8 f9 f13 f15 := by
    delta seg3_wp.sl.H15_7
    rfl
  have hv6 : arg15.view.readCov (seg3_wp.sl.H15_7 i arg7 arg8 arg9 arg13 arg15 k0_h3 f7 f8 f9 f13 f15) (Rect.unit (s := S256x896) ![0, 0] S256x896.size inb_S256x896_S256x896_0_0).toLoadRect = accTo A3 A6 A7 A8 (2048 * (i 0).val) (arg15.view.read (Elt F) f15) 7 := by
    rw [hL6]
    rw [View.readCov_cons_toLoadRect]
    exact (subAcc_eq A3 A6 A7 A8 (2048 * (i 0).val + 1536) _ _ _ _ _ _ _ _ _ _ hc6 (load_es G 256 1536 _ (by omega)) (load_e G 256 1536 _ (by omega)) (hv5))
  have hv7 : k0_pay1 (seg3_wp.sl.v i arg7 arg8 arg9 arg13 arg15 k0_h3 f7 f8 f9 f13 f15) (seg3_wp.sl.r_25 i arg7 arg8 arg13 k0_h3 f7 f8 f13) (seg3_wp.sl.r_26 arg9 f9) = accTo A3 A6 A7 A8 (2048 * (i 0).val) (arg15.view.read (Elt F) f15) 8 :=
    Eq.trans (b := (subAcc (Scalar.addi (Scalar.addi (Scalar.muli (BitVec.ofNat 32 (i 0).val) 16#32) 14#32) 0#32) (Scalar.addi (Scalar.addi (Scalar.muli (BitVec.ofNat 32 (i 0).val) 16#32) 14#32) 1#32) (arg13.view.readAt (Elt F) (Rect.unit (s := S10x256x128) (k0_off5 i 14#32 0#32) S1x256x128.size (k0_off5_inb i k0_h3 7 0)).toLoadRect f13) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1792] S256x128.size inb_S256x2048_S256x128_0_1792).toLoadRect f7) (arg7.view.readAt (Elt F) (Rect.unit (s := S256x2048) ![0, 1920] S256x128.size inb_S256x2048_S256x128_0_1920).toLoadRect f7)
        (arg8.view.readAt (Elt F) (Rect.unit (s := S1x2048) ![0, 1792] S1x256.size inb_S1x2048_S1x256_0_1792).toLoadRect f8)
        (arg9.view.readAt (Elt F) (Rect.unit (s := S2048x896) ![1792, 0] S256x896.size inb_S2048x896_S256x896_1792_0).toLoadRect f9) (arg15.view.readCov (seg3_wp.sl.H15_7 i arg7 arg8 arg9 arg13 arg15 k0_h3 f7 f8 f9 f13 f15) (Rect.unit (s := S256x896) ![0, 0] S256x896.size inb_S256x896_S256x896_0_0).toLoadRect))) rfl
      (subAcc_eq A3 A6 A7 A8 (2048 * (i 0).val + 1792) _ _ _ _ _ _ _ _ _ _ hc7 (load_es G 256 1792 _ (by omega)) (load_e G 256 1792 _ (by omega)) (hv6))
  have hd0 : subDe (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off5 i 0#32 0#32) S1x256x128.size (k0_off5_inb i k0_h3 0 0)).toLoadRect f13) (arg13.view.readAt (Elt F) (Rect.unit (s := S10x256x128) (k0_off5 i 0#32 1#32) S1x256x128.size (k0_off5_inb i k0_h3 0 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg12.view.readAt (Elt F) (Rect.unit (s := S256x896) ![0, 0] S256x896.size inb_S256x896_S256x896_0_0).toLoadRect f12)
      = de256 A3 A6 (arg12.view.read (Elt F) f12) (2048 * (i 0).val + 0) := by
    unfold subDe de256
    rw [hc0, View.readAt_full]
  have hM0 : seg3_wp.sl.H10_1 i arg7 arg12 arg13 k0_h3 f7 f12 f13 = ⟨(Rect.unit (s := S2048x896) ![0, 0] S256x896.size inb_S2048x896_S256x896_0_0), de256 A3 A6 (arg12.view.read (Elt F) f12) (2048 * (i 0).val + 0)⟩ :: [] := by
    delta seg3_wp.sl.H10_1
    rw [← hd0]
    rfl
  have hd1 : subDe (Scalar.addi (Scalar.addi (Scalar.muli (BitVec.ofNat 32 (i 0).val) 16#32) 2#32) 0#32) (Scalar.addi (Scalar.addi (Scalar.muli (BitVec.ofNat 32 (i 0).val) 16#32) 2#32) 1#32) (arg13.view.readAt (Elt F) (Rect.unit (s := S10x256x128) (k0_off5 i 2#32 0#32) S1x256x128.size (k0_off5_inb i k0_h3 1 0)).toLoadRect f13) (arg13.view.readAt (Elt F) (Rect.unit (s := S10x256x128) (k0_off5 i 2#32 1#32) S1x256x128.size (k0_off5_inb i k0_h3 1 1)).toLoadRect f13) (arg7.view.readAt (Elt F) (Rect.unit (s := S256x2048) ![0, 256] S256x128.size inb_S256x2048_S256x128_0_256).toLoadRect f7) (arg7.view.readAt (Elt F) (Rect.unit (s := S256x2048) ![0, 384] S256x128.size inb_S256x2048_S256x128_0_384).toLoadRect f7) (arg12.view.readAt (Elt F) (Rect.unit (s := S256x896) ![0, 0] S256x896.size inb_S256x896_S256x896_0_0).toLoadRect f12)
      = de256 A3 A6 (arg12.view.read (Elt F) f12) (2048 * (i 0).val + 256) := by
    unfold subDe de256
    rw [hc1, View.readAt_full]
  have hM1 : seg3_wp.sl.H10_2 i arg7 arg12 arg13 k0_h3 f7 f12 f13 = ⟨(Rect.unit (s := S2048x896) ![256, 0] S256x896.size inb_S2048x896_S256x896_256_0), de256 A3 A6 (arg12.view.read (Elt F) f12) (2048 * (i 0).val + 256)⟩ :: seg3_wp.sl.H10_1 i arg7 arg12 arg13 k0_h3 f7 f12 f13 := by
    delta seg3_wp.sl.H10_2
    rw [← hd1]
    rfl
  have hd2 : subDe (Scalar.addi (Scalar.addi (Scalar.muli (BitVec.ofNat 32 (i 0).val) 16#32) 4#32) 0#32) (Scalar.addi (Scalar.addi (Scalar.muli (BitVec.ofNat 32 (i 0).val) 16#32) 4#32) 1#32) (arg13.view.readAt (Elt F) (Rect.unit (s := S10x256x128) (k0_off5 i 4#32 0#32) S1x256x128.size (k0_off5_inb i k0_h3 2 0)).toLoadRect f13) (arg13.view.readAt (Elt F) (Rect.unit (s := S10x256x128) (k0_off5 i 4#32 1#32) S1x256x128.size (k0_off5_inb i k0_h3 2 1)).toLoadRect f13) (arg7.view.readAt (Elt F) (Rect.unit (s := S256x2048) ![0, 512] S256x128.size inb_S256x2048_S256x128_0_512).toLoadRect f7) (arg7.view.readAt (Elt F) (Rect.unit (s := S256x2048) ![0, 640] S256x128.size inb_S256x2048_S256x128_0_640).toLoadRect f7) (arg12.view.readAt (Elt F) (Rect.unit (s := S256x896) ![0, 0] S256x896.size inb_S256x896_S256x896_0_0).toLoadRect f12)
      = de256 A3 A6 (arg12.view.read (Elt F) f12) (2048 * (i 0).val + 512) := by
    unfold subDe de256
    rw [hc2, View.readAt_full]
  have hM2 : seg3_wp.sl.H10_3 i arg7 arg12 arg13 k0_h3 f7 f12 f13 = ⟨(Rect.unit (s := S2048x896) ![512, 0] S256x896.size inb_S2048x896_S256x896_512_0), de256 A3 A6 (arg12.view.read (Elt F) f12) (2048 * (i 0).val + 512)⟩ :: seg3_wp.sl.H10_2 i arg7 arg12 arg13 k0_h3 f7 f12 f13 := by
    delta seg3_wp.sl.H10_3
    rw [← hd2]
    rfl
  have hd3 : subDe (Scalar.addi (Scalar.addi (Scalar.muli (BitVec.ofNat 32 (i 0).val) 16#32) 6#32) 0#32) (Scalar.addi (Scalar.addi (Scalar.muli (BitVec.ofNat 32 (i 0).val) 16#32) 6#32) 1#32) (arg13.view.readAt (Elt F) (Rect.unit (s := S10x256x128) (k0_off5 i 6#32 0#32) S1x256x128.size (k0_off5_inb i k0_h3 3 0)).toLoadRect f13) (arg13.view.readAt (Elt F) (Rect.unit (s := S10x256x128) (k0_off5 i 6#32 1#32) S1x256x128.size (k0_off5_inb i k0_h3 3 1)).toLoadRect f13) (arg7.view.readAt (Elt F) (Rect.unit (s := S256x2048) ![0, 768] S256x128.size inb_S256x2048_S256x128_0_768).toLoadRect f7) (arg7.view.readAt (Elt F) (Rect.unit (s := S256x2048) ![0, 896] S256x128.size inb_S256x2048_S256x128_0_896).toLoadRect f7) (arg12.view.readAt (Elt F) (Rect.unit (s := S256x896) ![0, 0] S256x896.size inb_S256x896_S256x896_0_0).toLoadRect f12)
      = de256 A3 A6 (arg12.view.read (Elt F) f12) (2048 * (i 0).val + 768) := by
    unfold subDe de256
    rw [hc3, View.readAt_full]
  have hM3 : seg3_wp.sl.H10_4 i arg7 arg12 arg13 k0_h3 f7 f12 f13 = ⟨(Rect.unit (s := S2048x896) ![768, 0] S256x896.size inb_S2048x896_S256x896_768_0), de256 A3 A6 (arg12.view.read (Elt F) f12) (2048 * (i 0).val + 768)⟩ :: seg3_wp.sl.H10_3 i arg7 arg12 arg13 k0_h3 f7 f12 f13 := by
    delta seg3_wp.sl.H10_4
    rw [← hd3]
    rfl
  have hd4 : subDe (Scalar.addi (Scalar.addi (Scalar.muli (BitVec.ofNat 32 (i 0).val) 16#32) 8#32) 0#32) (Scalar.addi (Scalar.addi (Scalar.muli (BitVec.ofNat 32 (i 0).val) 16#32) 8#32) 1#32) (arg13.view.readAt (Elt F) (Rect.unit (s := S10x256x128) (k0_off5 i 8#32 0#32) S1x256x128.size (k0_off5_inb i k0_h3 4 0)).toLoadRect f13) (arg13.view.readAt (Elt F) (Rect.unit (s := S10x256x128) (k0_off5 i 8#32 1#32) S1x256x128.size (k0_off5_inb i k0_h3 4 1)).toLoadRect f13) (arg7.view.readAt (Elt F) (Rect.unit (s := S256x2048) ![0, 1024] S256x128.size inb_S256x2048_S256x128_0_1024).toLoadRect f7) (arg7.view.readAt (Elt F) (Rect.unit (s := S256x2048) ![0, 1152] S256x128.size inb_S256x2048_S256x128_0_1152).toLoadRect f7) (arg12.view.readAt (Elt F) (Rect.unit (s := S256x896) ![0, 0] S256x896.size inb_S256x896_S256x896_0_0).toLoadRect f12)
      = de256 A3 A6 (arg12.view.read (Elt F) f12) (2048 * (i 0).val + 1024) := by
    unfold subDe de256
    rw [hc4, View.readAt_full]
  have hM4 : seg3_wp.sl.H10_5 i arg7 arg12 arg13 k0_h3 f7 f12 f13 = ⟨(Rect.unit (s := S2048x896) ![1024, 0] S256x896.size inb_S2048x896_S256x896_1024_0), de256 A3 A6 (arg12.view.read (Elt F) f12) (2048 * (i 0).val + 1024)⟩ :: seg3_wp.sl.H10_4 i arg7 arg12 arg13 k0_h3 f7 f12 f13 := by
    delta seg3_wp.sl.H10_5
    rw [← hd4]
    rfl
  have hd5 : subDe (Scalar.addi (Scalar.addi (Scalar.muli (BitVec.ofNat 32 (i 0).val) 16#32) 10#32) 0#32) (Scalar.addi (Scalar.addi (Scalar.muli (BitVec.ofNat 32 (i 0).val) 16#32) 10#32) 1#32) (arg13.view.readAt (Elt F) (Rect.unit (s := S10x256x128) (k0_off5 i 10#32 0#32) S1x256x128.size (k0_off5_inb i k0_h3 5 0)).toLoadRect f13) (arg13.view.readAt (Elt F) (Rect.unit (s := S10x256x128) (k0_off5 i 10#32 1#32) S1x256x128.size (k0_off5_inb i k0_h3 5 1)).toLoadRect f13) (arg7.view.readAt (Elt F) (Rect.unit (s := S256x2048) ![0, 1280] S256x128.size inb_S256x2048_S256x128_0_1280).toLoadRect f7) (arg7.view.readAt (Elt F) (Rect.unit (s := S256x2048) ![0, 1408] S256x128.size inb_S256x2048_S256x128_0_1408).toLoadRect f7) (arg12.view.readAt (Elt F) (Rect.unit (s := S256x896) ![0, 0] S256x896.size inb_S256x896_S256x896_0_0).toLoadRect f12)
      = de256 A3 A6 (arg12.view.read (Elt F) f12) (2048 * (i 0).val + 1280) := by
    unfold subDe de256
    rw [hc5, View.readAt_full]
  have hM5 : seg3_wp.sl.H10_6 i arg7 arg12 arg13 k0_h3 f7 f12 f13 = ⟨(Rect.unit (s := S2048x896) ![1280, 0] S256x896.size inb_S2048x896_S256x896_1280_0), de256 A3 A6 (arg12.view.read (Elt F) f12) (2048 * (i 0).val + 1280)⟩ :: seg3_wp.sl.H10_5 i arg7 arg12 arg13 k0_h3 f7 f12 f13 := by
    delta seg3_wp.sl.H10_6
    rw [← hd5]
    rfl
  have hd6 : subDe (Scalar.addi (Scalar.addi (Scalar.muli (BitVec.ofNat 32 (i 0).val) 16#32) 12#32) 0#32) (Scalar.addi (Scalar.addi (Scalar.muli (BitVec.ofNat 32 (i 0).val) 16#32) 12#32) 1#32) (arg13.view.readAt (Elt F) (Rect.unit (s := S10x256x128) (k0_off5 i 12#32 0#32) S1x256x128.size (k0_off5_inb i k0_h3 6 0)).toLoadRect f13) (arg13.view.readAt (Elt F) (Rect.unit (s := S10x256x128) (k0_off5 i 12#32 1#32) S1x256x128.size (k0_off5_inb i k0_h3 6 1)).toLoadRect f13) (arg7.view.readAt (Elt F) (Rect.unit (s := S256x2048) ![0, 1536] S256x128.size inb_S256x2048_S256x128_0_1536).toLoadRect f7) (arg7.view.readAt (Elt F) (Rect.unit (s := S256x2048) ![0, 1664] S256x128.size inb_S256x2048_S256x128_0_1664).toLoadRect f7) (arg12.view.readAt (Elt F) (Rect.unit (s := S256x896) ![0, 0] S256x896.size inb_S256x896_S256x896_0_0).toLoadRect f12)
      = de256 A3 A6 (arg12.view.read (Elt F) f12) (2048 * (i 0).val + 1536) := by
    unfold subDe de256
    rw [hc6, View.readAt_full]
  have hM6 : seg3_wp.sl.H10_7 i arg7 arg12 arg13 k0_h3 f7 f12 f13 = ⟨(Rect.unit (s := S2048x896) ![1536, 0] S256x896.size inb_S2048x896_S256x896_1536_0), de256 A3 A6 (arg12.view.read (Elt F) f12) (2048 * (i 0).val + 1536)⟩ :: seg3_wp.sl.H10_6 i arg7 arg12 arg13 k0_h3 f7 f12 f13 := by
    delta seg3_wp.sl.H10_7
    rw [← hd6]
    rfl
  have hd7 : subDe (Scalar.addi (Scalar.addi (Scalar.muli (BitVec.ofNat 32 (i 0).val) 16#32) 14#32) 0#32) (Scalar.addi (Scalar.addi (Scalar.muli (BitVec.ofNat 32 (i 0).val) 16#32) 14#32) 1#32) (arg13.view.readAt (Elt F) (Rect.unit (s := S10x256x128) (k0_off5 i 14#32 0#32) S1x256x128.size (k0_off5_inb i k0_h3 7 0)).toLoadRect f13) (arg13.view.readAt (Elt F) (Rect.unit (s := S10x256x128) (k0_off5 i 14#32 1#32) S1x256x128.size (k0_off5_inb i k0_h3 7 1)).toLoadRect f13) (arg7.view.readAt (Elt F) (Rect.unit (s := S256x2048) ![0, 1792] S256x128.size inb_S256x2048_S256x128_0_1792).toLoadRect f7) (arg7.view.readAt (Elt F) (Rect.unit (s := S256x2048) ![0, 1920] S256x128.size inb_S256x2048_S256x128_0_1920).toLoadRect f7) (arg12.view.readAt (Elt F) (Rect.unit (s := S256x896) ![0, 0] S256x896.size inb_S256x896_S256x896_0_0).toLoadRect f12)
      = de256 A3 A6 (arg12.view.read (Elt F) f12) (2048 * (i 0).val + 1792) := by
    unfold subDe de256
    rw [hc7, View.readAt_full]
  have hM7 : k0_pay78 (seg3_wp.sl.r_23 i arg7 arg13 k0_h3 f7 f13) (seg3_wp.sl.r_24 i arg13 k0_h3 f13) (seg3_wp.sl.v869 i) (arg7.view.readAt (Elt F) (Rect.unit (s := S256x2048) ![0, 1920] S256x128.size inb_S256x2048_S256x128_0_1920).toLoadRect f7) (arg12.view.readAt (Elt F) (Rect.unit (s := S256x896) ![0, 0] S256x896.size inb_S256x896_S256x896_0_0).toLoadRect f12)
      = de256 A3 A6 (arg12.view.read (Elt F) f12) (2048 * (i 0).val + 1792) := by
    rw [← hd7]
    rfl
  rw [hM7, hM6, hM5, hM4, hM3, hM2, hM1, hM0]
  simp only [Prog.pure_eq_ret]
  rw [wp_ret]; imodintro
  iapply Hk
  swap
  · isplitl [H7]; · iexact H7
    isplitl [H8]; · iexact H8
    isplitl [H9]; · iexact H9
    isplitl [H10]; · iexact H10
    isplitl [H12]; · iexact H12
    isplitl [H13]; · iexact H13
    iexact H15
  · ipureintro
    constructor
    · funext y
      refine View.read_writes_apply_of_pieces arg10.view f10 (deBlk A3 A6 (arg12.view.read (Elt F) f12) (i 0).val) _ ?_ y ?_
      swap
      · refine View.cover_of_tiled (s := S2048x896) _ S256x896.size ?_ y
        rfl
      have hp := fun (j o : ℕ) (hj : j < 8) (ho : o = 256 * j) (inb : ∀ a, (![o, 0] : Fin 2 → ℕ) a + S256x896.size a ≤ S2048x896.size a) =>
        deBlk_piece A3 A6 (arg12.view.read (Elt F) f12) (i 0).val j o hj ho inb
      simp only [List.forall_mem_cons]
      exact ⟨hp 7 _ (by decide) rfl _, hp 6 _ (by decide) rfl _, hp 5 _ (by decide) rfl _, hp 4 _ (by decide) rfl _, hp 3 _ (by decide) rfl _,
        hp 2 _ (by decide) rfl _, hp 1 _ (by decide) rfl _, hp 0 _ (by decide) rfl _, fun p hp => nomatch hp⟩
    · rw [← hv7]
      exact read_whole arg15.view f15 ![0, 0] (fun a => by match a with | ⟨0, _⟩ => rfl | ⟨1, _⟩ => rfl) inb_S256x896_S256x896_0_0 _ _

end Full

end Cert.Proof.KI
-- ==== Proof.KI.Prep.lean ====
/-
  The first grid point: `h` is rescaled, the scales are laid out in tiles, the embedding gradient is widened, the
  accumulator is cleared.
-/
module

public import proofs.«01_k».proof.Proof.KI.Full

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A column block of the rescaled `h`, from what its loads read. -/
def hhPiece (s : Vec F S1x256 .f32) (h : Vec F S256x128 .fp8e4m3) : FVec F S256x128 .bf16 :=
  shapeCast S256x128 (mulf (extf .bf16 (shapeCast S256x128 h shapeCasts_S256x128_S256x128 : FVec F S256x128 .fp8e4m3) bitsLt_fp8e4m3_bf16)
    (truncf .bf16 (transpose S256x128 [1, 0] (broadcastTo S128x256 (shapeCast S1x256 s shapeCasts_S1x256_S1x256) broadcasts_S1x256_S128x256 : FVec F S128x256 .f32)
      transposes_S128x256_p1_0_S256x128 : FVec F S256x128 .f32) bitsLt_bf16_f32)) shapeCasts_S256x128_S256x128

/-- A tile of scales, from what its load reads. -/
def tilePiece (s : Vec F S256x128 .f32) : FVec F S1x256x128 .f32 :=
  shapeCast S1x256x128 (extf .f32 (truncf .bf16 (shapeCast S256x128 s shapeCasts_S256x128_S256x128 : FVec F S256x128 .f32) bitsLt_bf16_f32 : FVec F S256x128 .bf16) bitsLt_bf16_f32)
    shapeCasts_S256x128_S1x256x128

theorem hhPiece_eq (arg4 : Memref sig .tc .vmem S256x896 .fp8e4m3) (arg5 : Memref sig .tc .vmem S1x256 .f32)
    (f4 : BufTy.Contents (Elt F) arg4.view.ty) (f5 : BufTy.Contents (Elt F) arg5.view.ty) (o : ℕ)
    (inb : ∀ a, (![0, o] : Fin 2 → ℕ) a + S256x128.size a ≤ S256x896.size a) (inb5 : ∀ a, (![0, 0] : Fin 2 → ℕ) a + S1x256.size a ≤ S1x256.size a) (x : S256x128.Idx) :
    hhPiece (arg5.view.readAt (Elt F) (Rect.unit (s := S1x256) ![0, 0] S1x256.size inb5).toLoadRect f5)
        (arg4.view.readAt (Elt F) (Rect.unit (s := S256x896) ![0, o] S256x128.size inb).toLoadRect f4) x
      = hhOf (arg4.view.read (Elt F) f4) (arg5.view.read (Elt F) f5) ((Rect.unit (s := S256x896) ![0, o] S256x128.size inb).emb x) := by
  rw [View.readAt_full]
  unfold hhPiece
  rw [Idealize.ShloMosaic.shapeCast_self, Idealize.ShloMosaic.shapeCast_self, Idealize.ShloMosaic.shapeCast_self]
  have h0 : (Rect.unit (s := S256x896) ![0, o] S256x128.size inb).emb x 0 = x 0 := Fin.ext (by show 0 + 1 * (x 0).val = _; omega)
  have hb : (transpose S256x128 [1, 0] (broadcastTo S128x256 (arg5.view.read (Elt F) f5) broadcasts_S1x256_S128x256 : FVec F S128x256 .f32)
      transposes_S128x256_p1_0_S256x128 : FVec F S256x128 .f32) x = arg5.view.read (Elt F) f5 (ix2 (0 : Fin 1) ((Rect.unit (s := S256x896) ![0, o] S256x128.size inb).emb x 0)) := by
    rw [h0]
    unfold transpose
    refine broadcastTo_apply _ _ _ (ix2 (0 : Fin 1) (x 0)) fun a => ?_
    match a with
    | ⟨0, _⟩ => rfl
    | ⟨1, _⟩ => rfl
  exact congrArg (fun w => FloatOps.mulf (FloatOps.extf .bf16 bitsLt_fp8e4m3_bf16 (arg4.view.read (Elt F) f4 ((Rect.unit (s := S256x896) ![0, o] S256x128.size inb).emb x))) (FloatOps.truncf .bf16 bitsLt_bf16_f32 w)) hb

theorem tilePiece_eq (arg3 : Memref sig .tc .vmem S256x1280 .f32) (f3 : BufTy.Contents (Elt F) arg3.view.ty) (k o : ℕ) (ho : o = 128 * k)
    (inb : ∀ a, (![0, o] : Fin 2 → ℕ) a + S256x128.size a ≤ S256x1280.size a) (inb' : ∀ a, (![k, 0, 0] : Fin 3 → ℕ) a + S1x256x128.size a ≤ S10x256x128.size a) (x : S1x256x128.Idx) :
    tilePiece (arg3.view.readAt (Elt F) (Rect.unit (s := S256x1280) ![0, o] S256x128.size inb).toLoadRect f3) x
      = tilesOf (arg3.view.read (Elt F) f3) ((Rect.unit (s := S10x256x128) ![k, 0, 0] S1x256x128.size inb').emb x) := by
  unfold tilePiece
  rw [Idealize.ShloMosaic.shapeCast_self]
  have hk : k + 1 ≤ 10 := inb' 0
  have h0 : (x 0).val < 1 := (x 0).isLt
  have h2 : (x 2).val < 128 := (x 2).isLt
  have e0 : ((Rect.unit (s := S10x256x128) ![k, 0, 0] S1x256x128.size inb').emb x 0).val = k := by show k + 1 * (x 0).val = k; omega
  have e1 : (Rect.unit (s := S10x256x128) ![k, 0, 0] S1x256x128.size inb').emb x 1 = x 1 := Fin.ext (by show 0 + 1 * (x 1).val = _; omega)
  have e2 : ((Rect.unit (s := S10x256x128) ![k, 0, 0] S1x256x128.size inb').emb x 2).val = (x 2).val := by show 0 + 1 * (x 2).val = _; omega
  unfold tilesOf
  rw [e0, e1, e2]
  refine (shapeCast_addUnit_apply ![256, 128] _ _ x).trans ?_
  refine congrArg (fun i => wid (arg3.view.read (Elt F) f3 i)) (funext fun a => Fin.ext ?_)
  match a with
  | ⟨0, _⟩ => show 0 + 1 * (x 1).val = (x 1).val; omega
  | ⟨1, _⟩ => show o + 1 * (x 2).val = (128 * k + (x 2).val) % 1280; omega

section Prep

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

set_option maxHeartbeats 400000 in
/-- What the first grid point prepares. -/
theorem seg0_wp (E : Set ℕ) (f3 : BufTy.Contents (Elt F) arg3.view.ty) (f4 : BufTy.Contents (Elt F) arg4.view.ty) (f5 : BufTy.Contents (Elt F) arg5.view.ty) (f6 : BufTy.Contents (Elt F) arg6.view.ty) (f12 : BufTy.Contents (Elt F) arg12.view.ty) (f13 : BufTy.Contents (Elt F) arg13.view.ty) (f14 : BufTy.Contents (Elt F) arg14.view.ty) (f15 : BufTy.Contents (Elt F) arg15.view.ty) (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
      ∗ (∀ g12 g13 g14 g15, ⌜arg12.view.read (Elt F) g12 = hhOf (arg4.view.read (Elt F) f4) (arg5.view.read (Elt F) f5)
            ∧ arg13.view.read (Elt F) g13 = tilesOf (arg3.view.read (Elt F) f3)
            ∧ arg14.view.read (Elt F) g14 = extf (s := S256x896) .f32 (arg6.view.read (Elt F) f6) bitsLt_bf16_f32
            ∧ arg15.view.read (Elt F) g15 = fun _ => Scalar.ofBits .f32 0x00000000#32⌝
          -∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15)) -∗ K ⟨⟩))
      ⊢ wp frame (wpE (defs₀ (F := F)) 𝒱₀ (c : Thread nD τ) none) E (seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold seg0
  iintro ⟨H3, H4, H5, H6, H12, H13, H14, H15, Hk⟩
  sl_exec_parts
  simp only [Prog.pure_eq_ret]
  rw [wp_ret]; imodintro
  iapply Hk
  swap
  · isplitl [H3]; · iexact H3
    isplitl [H4]; · iexact H4
    isplitl [H5]; · iexact H5
    isplitl [H6]; · iexact H6
    isplitl [H12]; · iexact H12
    isplitl [H13]; · iexact H13
    isplitl [H14]; · iexact H14
    iexact H15
  · ipureintro
    refine ⟨?_, ?_, ?_, ?_⟩
    · funext y
      refine View.read_writes_apply_of_pieces arg12.view f12 (hhOf (arg4.view.read (Elt F) f4) (arg5.view.read (Elt F) f5)) [⟨(Rect.unit (s := S256x896) ![0, 768] S256x128.size inb_S256x896_S256x128_0_768), hhPiece (arg5.view.readAt (Elt F) (Rect.unit (s := S1x256) ![0, 0] S1x256.size inb_S1x256_S1x256_0_0).toLoadRect f5) (arg4.view.readAt (Elt F) (Rect.unit (s := S256x896) ![0, 768] S256x128.size inb_S256x896_S256x128_0_768).toLoadRect f4)⟩, ⟨(Rect.unit (s := S256x896) ![0, 640] S256x128.size inb_S256x896_S256x128_0_640), hhPiece (arg5.view.readAt (Elt F) (Rect.unit (s := S1x256) ![0, 0] S1x256.size inb_S1x256_S1x256_0_0).toLoadRect f5) (arg4.view.readAt (Elt F) (Rect.unit (s := S256x896) ![0, 640] S256x128.size inb_S256x896_S256x128_0_640).toLoadRect f4)⟩, ⟨(Rect.unit (s := S256x896) ![0, 512] S256x128.size inb_S256x896_S256x128_0_512), hhPiece (arg5.view.readAt (Elt F) (Rect.unit (s := S1x256) ![0, 0] S1x256.size inb_S1x256_S1x256_0_0).toLoadRect f5) (arg4.view.readAt (Elt F) (Rect.unit (s := S256x896) ![0, 512] S256x128.size inb_S256x896_S256x128_0_512).toLoadRect f4)⟩, ⟨(Rect.unit (s := S256x896) ![0, 384] S256x128.size inb_S256x896_S256x128_0_384), hhPiece (arg5.view.readAt (Elt F) (Rect.unit (s := S1x256) ![0, 0] S1x256.size inb_S1x256_S1x256_0_0).toLoadRect f5) (arg4.view.readAt (Elt F) (Rect.unit (s := S256x896) ![0, 384] S256x128.size inb_S256x896_S256x128_0_384).toLoadRect f4)⟩, ⟨(Rect.unit (s := S256x896) ![0, 256] S256x128.size inb_S256x896_S256x128_0_256), hhPiece (arg5.view.readAt (Elt F) (Rect.unit (s := S1x256) ![0, 0] S1x256.size inb_S1x256_S1x256_0_0).toLoadRect f5) (arg4.view.readAt (Elt F) (Rect.unit (s := S256x896) ![0, 256] S256x128.size inb_S256x896_S256x128_0_256).toLoadRect f4)⟩, ⟨(Rect.unit (s := S256x896) ![0, 128] S256x128.size inb_S256x896_S256x128_0_128), hhPiece (arg5.view.readAt (Elt F) (Rect.unit (s := S1x256) ![0, 0] S1x256.size inb_S1x256_S1x256_0_0).toLoadRect f5) (arg4.view.readAt (Elt F) (Rect.unit (s := S256x896) ![0, 128] S256x128.size inb_S256x896_S256x128_0_128).toLoadRect f4)⟩, ⟨(Rect.unit (s := S256x896) ![0, 0] S256x128.size inb_S256x896_S256x128_0_0), hhPiece (arg5.view.readAt (Elt F) (Rect.unit (s := S1x256) ![0, 0] S1x256.size inb_S1x256_S1x256_0_0).toLoadRect f5) (arg4.view.readAt (Elt F) (Rect.unit (s := S256x896) ![0, 0] S256x128.size inb_S256x896_S256x128_0_0).toLoadRect f4)⟩] ?_ y ?_
      · simp only [List.forall_mem_cons]
        exact ⟨fun x => hhPiece_eq arg4 arg5 f4 f5 768 _ _ x, fun x => hhPiece_eq arg4 arg5 f4 f5 640 _ _ x, fun x => hhPiece_eq arg4 arg5 f4 f5 512 _ _ x, fun x => hhPiece_eq arg4 arg5 f4 f5 384 _ _ x, fun x => hhPiece_eq arg4 arg5 f4 f5 256 _ _ x, fun x => hhPiece_eq arg4 arg5 f4 f5 128 _ _ x, fun x => hhPiece_eq arg4 arg5 f4 f5 0 _ _ x, fun p hp => nomatch hp⟩
      · refine View.cover_of_tiled (s := S256x896) _ S256x128.size ?_ y
        rfl
    · funext y
      refine View.read_writes_apply_of_pieces arg13.view f13 (tilesOf (arg3.view.read (Elt F) f3)) [⟨(Rect.unit (s := S10x256x128) ![9, 0, 0] S1x256x128.size inb_S10x256x128_S1x256x128_9_0_0), tilePiece (arg3.view.readAt (Elt F) (Rect.unit (s := S256x1280) ![0, 1152] S256x128.size inb_S256x1280_S256x128_0_1152).toLoadRect f3)⟩, ⟨(Rect.unit (s := S10x256x128) ![8, 0, 0] S1x256x128.size inb_S10x256x128_S1x256x128_8_0_0), tilePiece (arg3.view.readAt (Elt F) (Rect.unit (s := S256x1280) ![0, 1024] S256x128.size inb_S256x1280_S256x128_0_1024).toLoadRect f3)⟩, ⟨(Rect.unit (s := S10x256x128) ![7, 0, 0] S1x256x128.size inb_S10x256x128_S1x256x128_7_0_0), tilePiece (arg3.view.readAt (Elt F) (Rect.unit (s := S256x1280) ![0, 896] S256x128.size inb_S256x1280_S256x128_0_896).toLoadRect f3)⟩, ⟨(Rect.unit (s := S10x256x128) ![6, 0, 0] S1x256x128.size inb_S10x256x128_S1x256x128_6_0_0), tilePiece (arg3.view.readAt (Elt F) (Rect.unit (s := S256x1280) ![0, 768] S256x128.size inb_S256x1280_S256x128_0_768).toLoadRect f3)⟩, ⟨(Rect.unit (s := S10x256x128) ![5, 0, 0] S1x256x128.size inb_S10x256x128_S1x256x128_5_0_0), tilePiece (arg3.view.readAt (Elt F) (Rect.unit (s := S256x1280) ![0, 640] S256x128.size inb_S256x1280_S256x128_0_640).toLoadRect f3)⟩, ⟨(Rect.unit (s := S10x256x128) ![4, 0, 0] S1x256x128.size inb_S10x256x128_S1x256x128_4_0_0), tilePiece (arg3.view.readAt (Elt F) (Rect.unit (s := S256x1280) ![0, 512] S256x128.size inb_S256x1280_S256x128_0_512).toLoadRect f3)⟩, ⟨(Rect.unit (s := S10x256x128) ![3, 0, 0] S1x256x128.size inb_S10x256x128_S1x256x128_3_0_0), tilePiece (arg3.view.readAt (Elt F) (Rect.unit (s := S256x1280) ![0, 384] S256x128.size inb_S256x1280_S256x128_0_384).toLoadRect f3)⟩, ⟨(Rect.unit (s := S10x256x128) ![2, 0, 0] S1x256x128.size inb_S10x256x128_S1x256x128_2_0_0), tilePiece (arg3.view.readAt (Elt F) (Rect.unit (s := S256x1280) ![0, 256] S256x128.size inb_S256x1280_S256x128_0_256).toLoadRect f3)⟩, ⟨(Rect.unit (s := S10x256x128) ![1, 0, 0] S1x256x128.size inb_S10x256x128_S1x256x128_1_0_0), tilePiece (arg3.view.readAt (Elt F) (Rect.unit (s := S256x1280) ![0, 128] S256x128.size inb_S256x1280_S256x128_0_128).toLoadRect f3)⟩, ⟨(Rect.unit (s := S10x256x128) ![0, 0, 0] S1x256x128.size inb_S10x256x128_S1x256x128_0_0_0), tilePiece (arg3.view.readAt (Elt F) (Rect.unit (s := S256x1280) ![0, 0] S256x128.size inb_S256x1280_S256x128_0_0).toLoadRect f3)⟩] ?_ y ?_
      · simp only [List.forall_mem_cons]
        exact ⟨fun x => tilePiece_eq arg3 f3 9 1152 rfl _ _ x, fun x => tilePiece_eq arg3 f3 8 1024 rfl _ _ x, fun x => tilePiece_eq arg3 f3 7 896 rfl _ _ x, fun x => tilePiece_eq arg3 f3 6 768 rfl _ _ x, fun x => tilePiece_eq arg3 f3 5 640 rfl _ _ x, fun x => tilePiece_eq arg3 f3 4 512 rfl _ _ x, fun x => tilePiece_eq arg3 f3 3 384 rfl _ _ x, fun x => tilePiece_eq arg3 f3 2 256 rfl _ _ x, fun x => tilePiece_eq arg3 f3 1 128 rfl _ _ x, fun x => tilePiece_eq arg3 f3 0 0 rfl _ _ x, fun p hp => nomatch hp⟩
      · refine View.cover_of_tiled (s := S10x256x128) _ S1x256x128.size ?_ y
        rfl
    · refine (read_whole arg14.view f14 ![0, 0] (fun a => by match a with | ⟨0, _⟩ => rfl | ⟨1, _⟩ => rfl) inb_S256x896_S256x896_0_0 _ _).trans ?_
      unfold k0_pay27
      rw [View.readAt_full]
      refine (Idealize.ShloMosaic.shapeCast_self _ _).trans ?_
      exact congrArg (fun z => extf (s := S256x896) .f32 z bitsLt_bf16_f32) (Idealize.ShloMosaic.shapeCast_self (arg6.view.read (Elt F) f6) shapeCasts_S256x896_S256x896)
    · refine (read_whole arg15.view f15 ![0, 0] (fun a => by match a with | ⟨0, _⟩ => rfl | ⟨1, _⟩ => rfl) inb_S256x896_S256x896_0_0 _ _).trans ?_
      exact Idealize.ShloMosaic.shapeCast_self _ _

end Prep

end Cert.Proof.KI
-- ==== Proof.KI.Tail.lean ====
/-
  The last block, of 384 columns: a sub-block of 256 columns, one of 128, and the second result stored.
-/
module

public import proofs.«01_k».proof.Proof.KI.Full

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem deEnd_piece0 (A3 : S256x1187.Idx → Elt F .f32) (A6 : S256x151936.Idx → Elt F .fp8e5m2) (hh : S256x896.Idx → Elt F .bf16)
    (inb : ∀ a, (![0, 0] : Fin 2 → ℕ) a + S256x896.size a ≤ S2048x896.size a) (x : S256x896.Idx) :
    de256 A3 A6 hh (2048 * 74) x = deEnd A3 A6 hh ((Rect.unit (s := S2048x896) ![0, 0] S256x896.size inb).emb x) := by
  have h0 : ((Rect.unit (s := S2048x896) ![0, 0] S256x896.size inb).emb x 0).val = (x 0).val := by
    show 0 + 1 * (x 0).val = _; omega
  have h1 : (Rect.unit (s := S2048x896) ![0, 0] S256x896.size inb).emb x 1 = x 1 := Fin.ext (by show 0 + 1 * (x 1).val = _; omega)
  have hx : (x 0).val < 256 := (x 0).isLt
  unfold deEnd
  rw [h0, h1, if_pos hx]
  refine congrArg _ (funext fun a => Fin.ext ?_)
  match a with
  | ⟨0, _⟩ => show (x 0).val = (x 0).val % 256; omega
  | ⟨1, _⟩ => rfl

theorem deEnd_piece1 (A3 : S256x1187.Idx → Elt F .f32) (A6 : S256x151936.Idx → Elt F .fp8e5m2) (hh : S256x896.Idx → Elt F .bf16)
    (inb : ∀ a, (![256, 0] : Fin 2 → ℕ) a + S128x896.size a ≤ S2048x896.size a) (x : S128x896.Idx) :
    de128 A3 A6 hh (2048 * 74 + 256) x = deEnd A3 A6 hh ((Rect.unit (s := S2048x896) ![256, 0] S128x896.size inb).emb x) := by
  have h0 : ((Rect.unit (s := S2048x896) ![256, 0] S128x896.size inb).emb x 0).val = 256 + (x 0).val := by
    show 256 + 1 * (x 0).val = _; omega
  have h1 : (Rect.unit (s := S2048x896) ![256, 0] S128x896.size inb).emb x 1 = x 1 := Fin.ext (by show 0 + 1 * (x 1).val = _; omega)
  have hx : (x 0).val < 128 := (x 0).isLt
  unfold deEnd
  rw [h0, h1, if_neg (by omega)]
  refine congrArg _ (funext fun a => Fin.ext ?_)
  match a with
  | ⟨0, _⟩ => show (x 0).val = (256 + (x 0).val) % 128; omega
  | ⟨1, _⟩ => rfl

section Tail

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)
  (k0_h4 : k0_cond4 i = 1#1)

set_option maxHeartbeats 400000 in
/-- The last block: the 384 rows of the first result, the accumulator and the second result it leaves. -/
theorem seg4_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8) (hb : (i 0).val = 74)
    (G : Good A3 A6 A7 A8 (i 0).val (arg7.view.read (Elt F) f7) (arg8.view.read (Elt F) f8) (arg9.view.read (Elt F) f9) (arg13.view.read (Elt F) f13)) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g11 g15, ⌜(∀ y : S2048x896.Idx, (y 0).val < 384 → arg10.view.read (Elt F) g10 y = deEnd A3 A6 (arg12.view.read (Elt F) f12) y)
            ∧ arg15.view.read (Elt F) g15 = endOf A3 A6 A7 A8 (arg15.view.read (Elt F) f15)
            ∧ arg11.view.read (Elt F) g11 = truncf (s := S256x896) .bf16 (endOf A3 A6 A7 A8 (arg15.view.read (Elt F) f15)) bitsLt_bf16_f32⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E (seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h4) K := by
  unfold seg4
  iintro ⟨H7, H8, H9, H10, H11, H12, H13, H15, Hk⟩
  sl_exec_parts
  have hc0 : cat256 (scaled (Scalar.addi (Scalar.addi (Scalar.muli (BitVec.ofNat 32 (i 0).val) 16#32) 0#32) 0#32) (arg13.view.readAt (Elt F) (Rect.unit (s := S10x256x128) (k0_off6 i 0#32 0#32) S1x256x128.size (k0_off6_inb i k0_h4 0)).toLoadRect f13) (arg7.view.readAt (Elt F) (Rect.unit (s := S256x2048) ![0, 0] S256x128.size inb_S256x2048_S256x128_0_0).toLoadRect f7)) (scaled (Scalar.addi (Scalar.addi (Scalar.muli (BitVec.ofNat 32 (i 0).val) 16#32) 0#32) 1#32) (arg13.view.readAt (Elt F) (Rect.unit (s := S10x256x128) (k0_off6 i 0#32 1#32) S1x256x128.size (k0_off6_inb i k0_h4 1)).toLoadRect f13) (arg7.view.readAt (Elt F) (Rect.unit (s := S256x2048) ![0, 128] S256x128.size inb_S256x2048_S256x128_0_128).toLoadRect f7)) = dl256 A3 A6 (2048 * 74) := by
    have h := load_cat G (16 * (i 0).val + 0) 0 128 (by omega) (by omega) rfl _ _ (word_eq (i 0).val 0 0) (word_eq (i 0).val 0 1) _ _ (off6_eq i 0) (off6_eq i 1)
      (k0_off6_inb i k0_h4 0) (k0_off6_inb i k0_h4 1) inb_S256x2048_S256x128_0_0 inb_S256x2048_S256x128_0_128
    rw [hb] at h ⊢
    exact h
  have hc1 : scaled (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) = dl128 A3 A6 (2048 * 74 + 256) := by
    have h := load_scaled G (16 * (i 0).val + 2) 256 (by omega) (by omega) _ (word_eq (i 0).val 2 0) _ (off6_eq i 2)
      (k0_off6_inb i k0_h4 2) inb_S256x2048_S256x128_0_256
    rw [hb] at h ⊢
    exact h
  have hs0 := load_es G 256 0 inb_S1x2048_S1x256_0_0 (by omega)
  have hs1 := load_es G 128 256 inb_S1x2048_S1x128_0_256 (by omega)
  have he0 := load_e G 256 0 inb_S2048x896_S256x896_0_0 (by omega)
  have he1 := load_e G 128 256 inb_S2048x896_S128x896_256_0 (by omega)
  rw [hb] at hs0 hs1 he0 he1
  have hL0 : seg4_wp.sl.H15_1 i arg7 arg8 arg9 arg13 arg15 k0_h4 f7 f8 f9 f13 f15 = [⟨(Rect.unit (s := S256x896) ![0, 0] S256x896.size inb_S256x896_S256x896_0_0), (subAcc (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off6 i 0#32 0#32) S1x256x128.size (k0_off6_inb i k0_h4 0)).toLoadRect f13) (arg13.view.readAt (Elt F) (Rect.unit (s := S10x256x128) (k0_off6 i 0#32 1#32) S1x256x128.size (k0_off6_inb i k0_h4 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg8.view.readAt (Elt F) (Rect.unit (s := S1x2048) ![0, 0] S1x256.size inb_S1x2048_S1x256_0_0).toLoadRect f8) (arg9.view.readAt (Elt F) (Rect.unit (s := S2048x896) ![0, 0] S256x896.size inb_S2048x896_S256x896_0_0).toLoadRect f9) (arg15.view.readAt (Elt F) (Rect.unit (s := S256x896) ![0, 0] S256x896.size inb_S256x896_S256x896_0_0).toLoadRect f15))⟩] := by
    delta seg4_wp.sl.H15_1
    rfl
  have hv0 : arg15.view.readCov (seg4_wp.sl.H15_1 i arg7 arg8 arg9 arg13 arg15 k0_h4 f7 f8 f9 f13 f15) (Rect.unit (s := S256x896) ![0, 0] S256x896.size inb_S256x896_S256x896_0_0).toLoadRect = acc256 A3 A6 A7 A8 (2048 * 74) (arg15.view.read (Elt F) f15) := by
    rw [hL0]
    rw [View.readCov_cons_toLoadRect]
    exact subAcc_eq A3 A6 A7 A8 (2048 * 74) _ _ _ _ _ _ _ _ _ _ hc0 hs0 he0 (View.readAt_full _ _ _)
  have hw1 : (tailAcc (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) (arg8.view.readAt (Elt F) (Rect.unit (s := S1x2048) ![0, 256] S1x128.size inb_S1x2048_S1x128_0_256).toLoadRect f8) (arg9.view.readAt (Elt F) (Rect.unit (s := S2048x896) ![256, 0] S128x896.size inb_S2048x896_S128x896_256_0).toLoadRect f9) (arg15.view.readCov (seg4_wp.sl.H15_1 i arg7 arg8 arg9 arg13 arg15 k0_h4 f7 f8 f9 f13 f15) (Rect.unit (s := S256x896) ![0, 0] S256x896.size inb_S256x896_S256x896_0_0).toLoadRect)) = endOf A3 A6 A7 A8 (arg15.view.read (Elt F) f15) :=
    tailAcc_eq A3 A6 A7 A8 (2048 * 74 + 256) _ _ _ _ _ _ _ hc1 hs1 he1 hv0
  have hL1 : seg4_wp.sl.H15_2 i arg7 arg8 arg9 arg13 arg15 k0_h4 f7 f8 f9 f13 f15 = ⟨(Rect.unit (s := S256x896) ![0, 0] S256x896.size inb_S256x896_S256x896_0_0), endOf A3 A6 A7 A8 (arg15.view.read (Elt F) f15)⟩ :: seg4_wp.sl.H15_1 i arg7 arg8 arg9 arg13 arg15 k0_h4 f7 f8 f9 f13 f15 := by
    delta seg4_wp.sl.H15_2
    rw [← hw1]
    rfl
  have hv1 : arg15.view.readCov (seg4_wp.sl.H15_2 i arg7 arg8 arg9 arg13 arg15 k0_h4 f7 f8 f9 f13 f15) (Rect.unit (s := S256x896) ![0, 0] S256x896.size inb_S256x896_S256x896_0_0).toLoadRect = endOf A3 A6 A7 A8 (arg15.view.read (Elt F) f15) := by
    rw [hL1]
    rw [View.readCov_cons_toLoadRect]
  have hD0 : seg4_wp.sl.H10_1 i arg7 arg12 arg13 k0_h4 f7 f12 f13
      = [⟨Rect.unit (s := S2048x896) ![0, 0] S256x896.size inb_S2048x896_S256x896_0_0, de256 A3 A6 (arg12.view.read (Elt F) f12) (2048 * 74)⟩] := by
    have h : subDe (Scalar.addi (Scalar.addi (Scalar.muli (BitVec.ofNat 32 (i 0).val) 16#32) 0#32) 0#32) (Scalar.addi (Scalar.addi (Scalar.muli (BitVec.ofNat 32 (i 0).val) 16#32) 0#32) 1#32) (arg13.view.readAt (Elt F) (Rect.unit (s := S10x256x128) (k0_off6 i 0#32 0#32) S1x256x128.size (k0_off6_inb i k0_h4 0)).toLoadRect f13) (arg13.view.readAt (Elt F) (Rect.unit (s := S10x256x128) (k0_off6 i 0#32 1#32) S1x256x128.size (k0_off6_inb i k0_h4 1)).toLoadRect f13) (arg7.view.readAt (Elt F) (Rect.unit (s := S256x2048) ![0, 0] S256x128.size inb_S256x2048_S256x128_0_0).toLoadRect f7) (arg7.view.readAt (Elt F) (Rect.unit (s := S256x2048) ![0, 128] S256x128.size inb_S256x2048_S256x128_0_128).toLoadRect f7) (arg12.view.readAt (Elt F) (Rect.unit (s := S256x896) ![0, 0] S256x896.size inb_S256x896_S256x896_0_0).toLoadRect f12)
        = de256 A3 A6 (arg12.view.read (Elt F) f12) (2048 * 74) := by
      unfold subDe de256
      rw [hc0, View.readAt_full]
    delta seg4_wp.sl.H10_1
    rw [← h]
    rfl
  have hD1 : tailDe (Scalar.addi (Scalar.addi (Scalar.muli (BitVec.ofNat 32 (i 0).val) 16#32) 2#32) 0#32) (arg13.view.readAt (Elt F) (Rect.unit (s := S10x256x128) (k0_off6 i 2#32 0#32) S1x256x128.size (k0_off6_inb i k0_h4 2)).toLoadRect f13) (arg7.view.readAt (Elt F) (Rect.unit (s := S256x2048) ![0, 256] S256x128.size inb_S256x2048_S256x128_0_256).toLoadRect f7) (arg12.view.readAt (Elt F) (Rect.unit (s := S256x896) ![0, 0] S256x896.size inb_S256x896_S256x896_0_0).toLoadRect f12)
      = de128 A3 A6 (arg12.view.read (Elt F) f12) (2048 * 74 + 256) := by
    unfold tailDe de128
    rw [hc1, View.readAt_full]
  have hD1' : k0_pay3 (seg4_wp.sl.r_3 i arg13 k0_h4 f13) (seg4_wp.sl.r_4 arg7 f7) (arg12.view.readAt (Elt F) (Rect.unit (s := S256x896) ![0, 0] S256x896.size inb_S256x896_S256x896_0_0).toLoadRect f12)
      = de128 A3 A6 (arg12.view.read (Elt F) f12) (2048 * 74 + 256) := by
    rw [← hD1]
    rfl
  rw [hD1', hD0, hL1]
  simp only [Prog.pure_eq_ret]
  rw [wp_ret]; imodintro
  iapply Hk
  swap
  · isplitl [H7]; · iexact H7
    isplitl [H8]; · iexact H8
    isplitl [H9]; · iexact H9
    isplitl [H10]; · iexact H10
    isplitl [H11]; · iexact H11
    isplitl [H12]; · iexact H12
    isplitl [H13]; · iexact H13
    iexact H15
  · ipureintro
    refine ⟨fun y hy => ?_, ?_, ?_⟩
    · refine View.read_writes_apply_of_pieces arg10.view f10 (deEnd A3 A6 (arg12.view.read (Elt F) f12)) _ ?_ y ?_
      · simp only [List.forall_mem_cons]
        exact ⟨fun x => deEnd_piece1 A3 A6 (arg12.view.read (Elt F) f12) _ x, fun x => deEnd_piece0 A3 A6 (arg12.view.read (Elt F) f12) _ x, fun p hp => nomatch hp⟩
      · by_cases h : (y 0).val < 256
        · refine ⟨_, List.mem_cons_of_mem _ List.mem_cons_self, ?_⟩
          exact (Rect.mem_set_unit (inb := inb_S2048x896_S256x896_0_0)).2 fun a => by
            match a with
            | ⟨0, _⟩ => exact ⟨Nat.zero_le _, (by show (y 0).val < 0 + 256; omega)⟩
            | ⟨1, _⟩ => exact ⟨Nat.zero_le _, (by have : (y 1).val < 896 := (y 1).isLt; show (y 1).val < 0 + 896; omega)⟩
        · refine ⟨_, List.mem_cons_self, ?_⟩
          exact (Rect.mem_set_unit (inb := inb_S2048x896_S128x896_256_0)).2 fun a => by
            match a with
            | ⟨0, _⟩ => exact ⟨(by show 256 ≤ (y 0).val; omega), (by show (y 0).val < 256 + 128; omega)⟩
            | ⟨1, _⟩ => exact ⟨Nat.zero_le _, (by have : (y 1).val < 896 := (y 1).isLt; show (y 1).val < 0 + 896; omega)⟩
    · exact read_whole arg15.view f15 ![0, 0] (fun a => by match a with | ⟨0, _⟩ => rfl | ⟨1, _⟩ => rfl) inb_S256x896_S256x896_0_0 _ _
    · refine (read_whole arg11.view f11 ![0, 0] (fun a => by match a with | ⟨0, _⟩ => rfl | ⟨1, _⟩ => rfl) inb_S256x896_S256x896_0_0 _ _).trans ?_
      exact congrArg (fun a => truncf (s := S256x896) .bf16 a bitsLt_bf16_f32) hv1

end Tail

end Cert.Proof.KI
-- ==== Proof.KI.Body.lean ====
/-
  The body of one grid point, whole: from a scratch state that is `Ready` for the point (or any, at the first point) and
  windows that hold the point's blocks, to the point's rows of the first result, at the last point the second result, and a
  scratch state ready for the next point.
-/
module

public import proofs.«01_k».proof.Proof.KI.Segs
public import proofs.«01_k».proof.Proof.KI.Insert
public import proofs.«01_k».proof.Proof.KI.Prep
public import proofs.«01_k».proof.Proof.KI.Tail

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffers hold what the points before `n` leave: the rescaled `h`, the tiled scales, the widened embedding
    gradient, the accumulator (up to the last point), and the lists of tokens. -/
structure Ready (A3 : S256x1187.Idx → Elt F .f32) (A6 : S256x151936.Idx → Elt F .fp8e5m2) (A7 : S1x151936.Idx → Elt F .f32)
    (A8 : S151936x896.Idx → Elt F .i8) (xi : S1x256.Idx → BitVec 32) (xs : S1.Idx → BitVec 32) (x4 : S256x896.Idx → Elt F .fp8e4m3)
    (x5 : S1x256.Idx → Elt F .f32) (x6 : S256x896.Idx → Elt F .bf16) (n : ℕ) (x12 : S256x896.Idx → Elt F .bf16)
    (x13 : S10x256x128.Idx → Elt F .f32) (x14 x15 : S256x896.Idx → Elt F .f32) (x16 : S75.Idx → BitVec 32)
    (x17 : S256.Idx → BitVec 32) : Prop where
  hh : x12 = hhOf x4 x5
  tile : ∀ y : S10x256x128.Idx, 128 * (y 0).val + (y 2).val < 1187 → x13 y = wid (A3 (ix2 (y 1) (Fin.ofNat 1187 (128 * (y 0).val + (y 2).val))))
  dm : x14 = extf (s := S256x896) .f32 x6 bitsLt_bf16_f32
  acc : n ≤ 74 → x15 = accAt A3 A6 A7 A8 n
  lists : Lists (localAt xs xi) 256 (hdAt x16) (nxAt x17)

/-- Row `v₀ + …` of the first result's block `b`: the product's rows with the embedding rows of the block's tokens added. -/
def deVal (A3 : S256x1187.Idx → Elt F .f32) (A6 : S256x151936.Idx → Elt F .fp8e5m2) (xi : S1x256.Idx → BitVec 32) (xs : S1.Idx → BitVec 32)
    (hh : S256x896.Idx → Elt F .bf16) (dm : S256x896.Idx → Elt F .f32) (b : ℕ) : S2048x896.Idx → Elt F .f32 :=
  addToks b xs xi dm (bucket (localAt xs xi) 256 b) (if b < 74 then deBlk A3 A6 hh b else deEnd A3 A6 hh)

/-- Adding rows changes a row by what it holds alone. -/
theorem addToks_congr (b : ℕ) (xs : S1.Idx → BitVec 32) (xi : S1x256.Idx → BitVec 32) (dm : S256x896.Idx → Elt F .f32) (y : S2048x896.Idx) :
    ∀ (ts : List ℕ) (x x' : S2048x896.Idx → Elt F .f32), x y = x' y → addToks b xs xi dm ts x y = addToks b xs xi dm ts x' y := by
  intro ts
  induction ts with
  | nil => intro x x' h; exact h
  | cons t ts ih =>
    intro x x' h
    refine ih _ _ ?_
    unfold addTok
    split
    · exact congrArg (fun a => FloatOps.addf a (dm (ix2 (Fin.ofNat 256 t) (y 1)))) h
    · exact h

section Body

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

/-- The first point's preparation, and at every other point nothing: the scratch is ready either way. -/
theorem init_wp (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → (arg3.view.read (Elt F) f3) y = A3 (ix2 (y 0) (Fin.ofNat 1187 (y 1).val)))
    (hR : (i 0).val = 0 ∨ Ready A3 A6 A7 A8 (arg1.view.read (Elt F) f1) (arg2.view.read (Elt F) f2) (arg4.view.read (Elt F) f4) (arg5.view.read (Elt F) f5) (arg6.view.read (Elt F) f6) (i 0).val (arg12.view.read (Elt F) f12) (arg13.view.read (Elt F) f13) (arg14.view.read (Elt F) f14) (arg15.view.read (Elt F) f15) (arg16.view.read (Elt F) f16) (arg17.view.read (Elt F) f17)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (∀ g12 g13 g14 g15 g16 g17, ⌜Ready A3 A6 A7 A8 (arg1.view.read (Elt F) f1) (arg2.view.read (Elt F) f2) (arg4.view.read (Elt F) f4) (arg5.view.read (Elt F) f5) (arg6.view.read (Elt F) f6) (i 0).val (arg12.view.read (Elt F) g12) (arg13.view.read (Elt F) g13) (arg14.view.read (Elt F) g14) (arg15.view.read (Elt F) g15) (arg16.view.read (Elt F) g16) (arg17.view.read (Elt F) g17)⌝
          -∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E
        (if h : k0_cond1 i = 1#1 then (do seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17; seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h) else pure ⟨⟩) K := by
  have hc : k0_cond1 i = 1#1 ↔ (i 0).val = 0 := cond1_iff (i 0)
  iintro ⟨H1, H2, H3, H4, H5, H6, H12, H13, H14, H15, H16, H17, Hk⟩
  by_cases h : k0_cond1 i = 1#1
  · rw [dif_pos h, wp_bind]
    iapply (seg0_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f3 f4 f5 f6 f12 f13 f14 f15 _)
    isplitl [H3]; · iexact H3
    isplitl [H4]; · iexact H4
    isplitl [H5]; · iexact H5
    isplitl [H6]; · iexact H6
    isplitl [H12]; · iexact H12
    isplitl [H13]; · iexact H13
    isplitl [H14]; · iexact H14
    isplitl [H15]; · iexact H15
    iintro %g12 %g13 %g14 %g15 %hg ⟨H3, H4, H5, H6, H12, H13, H14, H15⟩
    iapply (seg1_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h E f1 f2 f16 f17 _)
    isplitl [H1]; · iexact H1
    isplitl [H2]; · iexact H2
    isplitl [H16]; · iexact H16
    isplitl [H17]; · iexact H17
    iintro %g16 %g17 %hl ⟨H1, H2, H16, H17⟩
    iapply Hk
    swap
    · isplitl [H1]; · iexact H1
      isplitl [H2]; · iexact H2
      isplitl [H3]; · iexact H3
      isplitl [H4]; · iexact H4
      isplitl [H5]; · iexact H5
      isplitl [H6]; · iexact H6
      isplitl [H12]; · iexact H12
      isplitl [H13]; · iexact H13
      isplitl [H14]; · iexact H14
      isplitl [H15]; · iexact H15
      isplitl [H16]; · iexact H16
      iexact H17
    · ipureintro
      obtain ⟨h12, h13, h14, h15⟩ := hg
      refine ⟨h12, fun y hy => ?_, h14, fun _ => ?_, hl⟩
      · rw [h13]
        refine congrArg wid ((h3 _ ?_).trans ?_)
        · show (128 * (y 0).val + (y 2).val) % 1280 < 1187; omega
        · refine congrArg A3 (congrArg (ix2 (y 1)) (congrArg (Fin.ofNat 1187) ?_))
          show (128 * (y 0).val + (y 2).val) % 1280 = _; omega
      · rw [h15, hc.1 h]; rfl
  · rw [dif_neg h]
    simp only [Prog.pure_eq_ret]
    rw [wp_ret]; imodintro
    iapply Hk
    swap
    · isplitl [H1]; · iexact H1
      isplitl [H2]; · iexact H2
      isplitl [H3]; · iexact H3
      isplitl [H4]; · iexact H4
      isplitl [H5]; · iexact H5
      isplitl [H6]; · iexact H6
      isplitl [H12]; · iexact H12
      isplitl [H13]; · iexact H13
      isplitl [H14]; · iexact H14
      isplitl [H15]; · iexact H15
      isplitl [H16]; · iexact H16
      iexact H17
    · ipureintro
      exact hR.resolve_left fun e => h (hc.2 e)

/-- The columns of one block: the product's rows, the accumulator past the block, at the last block the second result. -/
theorem mid_wp (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (G : Good A3 A6 A7 A8 (i 0).val (arg7.view.read (Elt F) f7) (arg8.view.read (Elt F) f8) (arg9.view.read (Elt F) f9) (arg13.view.read (Elt F) f13)) (hacc : (arg15.view.read (Elt F) f15) = accAt A3 A6 A7 A8 (i 0).val) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)
      ∗ (∀ g10 g11 g15, ⌜(∀ y : S2048x896.Idx, 2048 * (i 0).val + (y 0).val < 151936 → (arg10.view.read (Elt F) g10) y = (if (i 0).val < 74 then deBlk A3 A6 (arg12.view.read (Elt F) f12) (i 0).val else deEnd A3 A6 (arg12.view.read (Elt F) f12)) y)
            ∧ ((i 0).val = 74 → (arg11.view.read (Elt F) g11) = truncf (s := S256x896) .bf16 (endOf A3 A6 A7 A8 (accAt A3 A6 A7 A8 74)) bitsLt_bf16_f32)
            ∧ ((i 0).val < 74 → g11 = f11 ∧ (arg15.view.read (Elt F) g15) = accAt A3 A6 A7 A8 ((i 0).val + 1))⌝
          -∗ ((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} g15)) -∗ K ⟨⟩))
      ⊢ wp frame (wpE (defs₀ (F := F)) 𝒱₀ (c : Thread nD τ) none) E
        (do
          let _ ← (if h : k0_cond3 i = 1#1 then seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)
          (if h : k0_cond4 i = 1#1 then seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h else pure ⟨⟩)) K := by
  have hc3 : k0_cond3 i = 1#1 ↔ (i 0).val < 74 := cond3_iff (i 0)
  have hc4 : k0_cond4 i = 1#1 ↔ (i 0).val = 74 := cond4_iff (i 0)
  have hi : (i 0).val < 75 := (i 0).isLt
  iintro ⟨H7, H8, H9, H10, H11, H12, H13, H15, Hk⟩
  rw [wp_bind]
  by_cases h : k0_cond3 i = 1#1
  · rw [dif_pos h]
    have hlt := hc3.1 h
    have h4 : ¬k0_cond4 i = 1#1 := fun e => by have := hc4.1 e; omega
    iapply (seg3_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h E f7 f8 f9 f10 f12 f13 f15 _ A3 A6 A7 A8 hlt G)
    isplitl [H7]; · iexact H7
    isplitl [H8]; · iexact H8
    isplitl [H9]; · iexact H9
    isplitl [H10]; · iexact H10
    isplitl [H12]; · iexact H12
    isplitl [H13]; · iexact H13
    isplitl [H15]; · iexact H15
    iintro %g10 %g15 %hg ⟨H7, H8, H9, H10, H12, H13, H15⟩
    rw [dif_neg h4]
    simp only [Prog.pure_eq_ret]
    rw [wp_ret]; imodintro
    iapply Hk
    swap
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H15
    · ipureintro
      obtain ⟨h10, h15⟩ := hg
      refine ⟨fun y _ => ?_, fun e => by omega, fun _ => ⟨rfl, ?_⟩⟩
      · rw [if_pos hlt, h10]
      · rw [h15, hacc]; rfl
  · rw [dif_neg h]
    have heq : (i 0).val = 74 := by
      have := mt hc3.2 h; omega
    simp only [Prog.pure_eq_ret]
    rw [wp_ret]; imodintro
    rw [dif_pos (hc4.2 heq)]
    iapply (seg4_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (hc4.2 heq) E f7 f8 f9 f10 f11 f12 f13 f15 _ A3 A6 A7 A8 heq G)
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    iintro %g10 %g11 %g15 %hg ⟨H7, H8, H9, H10, H11, H12, H13, H15⟩
    iapply Hk
    swap
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H15
    · ipureintro
      obtain ⟨h10, h15, h11⟩ := hg
      refine ⟨fun y hy => ?_, fun _ => ?_, fun e => by omega⟩
      · rw [if_neg (by omega)]; exact h10 y (by omega)
      · rw [h11, hacc, heq]

set_option maxHeartbeats 1600000 in
/-- The body of one grid point. -/
theorem body_wp (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → (arg3.view.read (Elt F) f3) y = A3 (ix2 (y 0) (Fin.ofNat 1187 (y 1).val)))
    (h7 : ∀ y : S256x2048.Idx, 2048 * (i 0).val + (y 1).val < 151936 → (arg7.view.read (Elt F) f7) y = A6 (ix2 (y 0) (Fin.ofNat 151936 (2048 * (i 0).val + (y 1).val))))
    (h8 : ∀ y : S1x2048.Idx, 2048 * (i 0).val + (y 1).val < 151936 → (arg8.view.read (Elt F) f8) y = A7 (ix2 (0 : Fin 1) (Fin.ofNat 151936 (2048 * (i 0).val + (y 1).val))))
    (h9 : ∀ y : S2048x896.Idx, 2048 * (i 0).val + (y 0).val < 151936 → (arg9.view.read (Elt F) f9) y = A8 (ix2 (Fin.ofNat 151936 (2048 * (i 0).val + (y 0).val)) (y 1)))
    (hR : (i 0).val = 0 ∨ Ready A3 A6 A7 A8 (arg1.view.read (Elt F) f1) (arg2.view.read (Elt F) f2) (arg4.view.read (Elt F) f4) (arg5.view.read (Elt F) f5) (arg6.view.read (Elt F) f6) (i 0).val (arg12.view.read (Elt F) f12) (arg13.view.read (Elt F) f13) (arg14.view.read (Elt F) f14) (arg15.view.read (Elt F) f15) (arg16.view.read (Elt F) f16) (arg17.view.read (Elt F) f17)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (∀ g10 g11 g12 g13 g14 g15 g16 g17, ⌜(∀ y : S2048x896.Idx, 2048 * (i 0).val + (y 0).val < 151936 → (arg10.view.read (Elt F) g10) y
                = deVal A3 A6 (arg1.view.read (Elt F) f1) (arg2.view.read (Elt F) f2) (hhOf (arg4.view.read (Elt F) f4) (arg5.view.read (Elt F) f5)) (extf (s := S256x896) .f32 (arg6.view.read (Elt F) f6) bitsLt_bf16_f32) (i 0).val y)
            ∧ ((i 0).val = 74 → (arg11.view.read (Elt F) g11) = truncf (s := S256x896) .bf16 (endOf A3 A6 A7 A8 (accAt A3 A6 A7 A8 74)) bitsLt_bf16_f32)
            ∧ ((i 0).val < 74 → g11 = f11)
            ∧ Ready A3 A6 A7 A8 (arg1.view.read (Elt F) f1) (arg2.view.read (Elt F) f2) (arg4.view.read (Elt F) f4) (arg5.view.read (Elt F) f5) (arg6.view.read (Elt F) f6) ((i 0).val + 1) (arg12.view.read (Elt F) g12) (arg13.view.read (Elt F) g13) (arg14.view.read (Elt F) g14) (arg15.view.read (Elt F) g15) (arg16.view.read (Elt F) g16) (arg17.view.read (Elt F) g17)⌝
          -∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩))
      ⊢ wp frame (wpE (defs₀ (F := F)) 𝒱₀ (c : Thread nD τ) none) E (cc0_tied_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hi : (i 0).val < 75 := (i 0).isLt
  rw [cc0_tied_grad_eq_skeleton, skel_eq]
  iintro ⟨H1, H2, H3, H4, H5, H6, H7, H8, H9, H10, H11, H12, H13, H14, H15, H16, H17, Hk⟩
  rw [wp_bind]
  iapply (init_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f1 f2 f3 f4 f5 f6 f12 f13 f14 f15 f16 f17 _ A3 A6 A7 A8 h3 hR)
  isplitl [H1]; · iexact H1
  isplitl [H2]; · iexact H2
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [H16]; · iexact H16
  isplitl [H17]; · iexact H17
  iintro %k12 %k13 %k14 %k15 %k16 %k17 %hr ⟨H1, H2, H3, H4, H5, H6, H12, H13, H14, H15, H16, H17⟩
  have hassoc : ∀ (p q : Prog (TpuEff nD τ sig (Elt F) (Λ₀ F) .tc) PUnit) (r : Prog (TpuEff nD τ sig (Elt F) (Λ₀ F) .tc) PUnit),
      (do let _ ← p; let _ ← q; r) = (do let _ ← (do let _ ← p; q); r) := fun p q r => (bind_assoc p _ _).symm
  rw [hassoc, wp_bind]
  iapply (mid_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f7 f8 f9 f10 f11 k12 k13 k15 _ A3 A6 A7 A8 ⟨h7, h8, h9, hr.tile⟩ (hr.acc (by omega)))
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  iintro %g10 %g11 %g15 %hm ⟨H7, H8, H9, H10, H11, H12, H13, H15⟩
  have hoff : ∀ x : (Rect.unit (s := S75) (k0_off7 i) S1.size (k0_off7_inb i)).shape.Idx, (arg16.access (Rect.unit (s := S75) (k0_off7 i) S1.size (k0_off7_inb i))).read (Elt F) k16 x
      = hdAt (arg16.view.read (Elt F) k16) (i 0).val := fun x => by
    refine congrArg (arg16.view.read (Elt F) k16) (funext fun a => Fin.ext ?_)
    have hx := (x a).isLt
    match a with
    | ⟨0, _⟩ =>
      show k0_off7 i 0 + 1 * (x 0).val = (i 0).val % 75
      have h0 : (x 0).val < 1 := hx
      have h1 : k0_off7 i 0 = (i 0).val := by
        show (BitVec.ofNat 32 (i 0).val).toNat = _
        rw [BitVec.toNat_ofNat]; omega
      omega
  simp only [smemLoad, smemLoadElt, Prog.lift, Prog.bind_op, Prog.bind_ret, Prog.pure_eq_ret]
  sl_exec
  have hn : arg16.view.readAt (Elt F) (Rect.unit (s := S75) (k0_off7 i) S1.size (k0_off7_inb i)).toLoadRect k16 (Shape.Idx.first (numel1_S1.symm ▸ Nat.one_pos))
      = hdAt (arg16.view.read (Elt F) k16) (i 0).val := hoff _
  simp only [hn]
  have hts : ∀ t ∈ bucket (localAt (arg2.view.read (Elt F) f2) (arg1.view.read (Elt F) f1)) 256 (i 0).val,
      (idAt (arg1.view.read (Elt F) f1) t - (one (arg2.view.read (Elt F) f2) + BitVec.ofNat 32 (i 0).val * 2048#32)).toNat < 2048 := fun t ht => by
    obtain ⟨-, hv, hd⟩ := (mem_bucket (Nat.le_refl 256)).1 ht
    rw [row_toNat _ _ hi hv hd]
    have hv' : (idAt (arg1.view.read (Elt F) f1) t - one (arg2.view.read (Elt F) f2)).toNat / 2048 = (i 0).val := hd
    omega
  iapply (wp_call_spec 𝒱₀ (c : Thread nD τ) none E (spec c i arg2 arg1 arg10 arg14 arg17 f2 f1 k14 k17 (bucket (localAt (arg2.view.read (Elt F) f2) (arg1.view.read (Elt F) f1)) 256 (i 0).val) _)
    (bucket (localAt (arg2.view.read (Elt F) f2) (arg1.view.read (Elt F) f1)) 256 (i 0).val).length (fun u hu => nomatch hu)
    (spec_le c i arg2 harg2 arg1 harg1 arg10 harg10 arg14 harg14 arg17 harg17 f2 f1 k14 k17 E _ _ (hr.lists _ hi) hts _))
  rw [spec_apply]; unfold held
  isplitl [H1 H2 H10 H14 H17]
  · isplitl [H2]; · iexact H2
    isplitl [H1]; · iexact H1
    isplitl [H10]; · iexact H10
    isplitl [H14]; · iexact H14
    iexact H17
  iintro %r %g %hg ⟨H2, H1, H10, H14, H17⟩
  rw [wp_ret]; imodintro
  iapply Hk
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · ipureintro
    obtain ⟨m10, m11, m15⟩ := hm
    refine ⟨fun y hy => ?_, m11, fun e => (m15 e).1, ⟨hr.hh, hr.tile, hr.dm, fun e => (m15 (by omega)).2, hr.lists⟩⟩
    rw [hg, hr.dm]
    refine addToks_congr _ _ _ _ y _ _ _ ?_
    rw [m10 y hy, hr.hh]

end Body

end Cert.Proof.KI
-- ==== Proof.KI.Kern.lean ====
/-
  The body of one grid point over owned buffers, each at the values it holds.
-/
module

public import proofs.«01_k».proof.Proof.KI.Body

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .smem S1x256 .i32) (harg1 : arg1.IsWhole)
  (arg2 : Memref sig .tc .smem S1 .i32) (harg2 : arg2.IsWhole)
  (arg3 : Memref sig .tc .vmem S256x1280 .f32) (harg3 : arg3.IsWhole)
  (arg4 : Memref sig .tc .vmem S256x896 .fp8e4m3) (harg4 : arg4.IsWhole)
  (arg5 : Memref sig .tc .vmem S1x256 .f32) (harg5 : arg5.IsWhole)
  (arg6 : Memref sig .tc .vmem S256x896 .bf16) (harg6 : arg6.IsWhole)
  (arg7 : Memref sig .tc .vmem S256x2048 .fp8e5m2) (harg7 : arg7.IsWhole)
  (arg8 : Memref sig .tc .vmem S1x2048 .f32) (harg8 : arg8.IsWhole)
  (arg9 : Memref sig .tc .vmem S2048x896 .i8) (harg9 : arg9.IsWhole)
  (arg10 : Memref sig .tc .vmem S2048x896 .f32) (harg10 : arg10.IsWhole)
  (arg11 : Memref sig .tc .vmem S256x896 .bf16) (harg11 : arg11.IsWhole)
  (arg12 : Memref sig .tc .vmem S256x896 .bf16) (harg12 : arg12.IsWhole)
  (arg13 : Memref sig .tc .vmem S10x256x128 .f32) (harg13 : arg13.IsWhole)
  (arg14 : Memref sig .tc .vmem S256x896 .f32) (harg14 : arg14.IsWhole)
  (arg15 : Memref sig .tc .vmem S256x896 .f32) (harg15 : arg15.IsWhole)
  (arg16 : Memref sig .tc .smem S75 .i32) (harg16 : arg16.IsWhole)
  (arg17 : Memref sig .tc .smem S256 .i32) (harg17 : arg17.IsWhole)

set_option maxHeartbeats 1600000 in
/-- One point of the kernel: the windows hold the point's blocks and the scratch is ready (or it is the first point); after
    the body the first result's block holds the point's rows, the second result's block its final value at the last point
    (and what it held before any other), and the scratch is ready for the next point. -/
theorem kernel_wp (E : Set ℕ) (x1 : S1x256.Idx → Elt F .i32) (x2 : S1.Idx → Elt F .i32) (x3 : S256x1280.Idx → Elt F .f32) (x4 : S256x896.Idx → Elt F .fp8e4m3) (x5 : S1x256.Idx → Elt F .f32) (x6 : S256x896.Idx → Elt F .bf16) (x7 : S256x2048.Idx → Elt F .fp8e5m2) (x8 : S1x2048.Idx → Elt F .f32) (x9 : S2048x896.Idx → Elt F .i8) (x10 : S2048x896.Idx → Elt F .f32) (x11 : S256x896.Idx → Elt F .bf16) (x12 : S256x896.Idx → Elt F .bf16) (x13 : S10x256x128.Idx → Elt F .f32) (x14 : S256x896.Idx → Elt F .f32) (x15 : S256x896.Idx → Elt F .f32) (x16 : S75.Idx → Elt F .i32) (x17 : S256.Idx → Elt F .i32)
    (K : PUnit → sProp 𝕄)
    (A3 : S256x1187.Idx → Elt F .f32) (A6 : S256x151936.Idx → Elt F .fp8e5m2) (A7 : S1x151936.Idx → Elt F .f32)
    (A8 : S151936x896.Idx → Elt F .i8)
    (h3 : ∀ y : S256x1280.Idx, (y 1).val < 1187 → x3 y = A3 (ix2 (y 0) (Fin.ofNat 1187 (y 1).val)))
    (h7 : ∀ y : S256x2048.Idx, 2048 * (i 0).val + (y 1).val < 151936 → x7 y = A6 (ix2 (y 0) (Fin.ofNat 151936 (2048 * (i 0).val + (y 1).val))))
    (h8 : ∀ y : S1x2048.Idx, 2048 * (i 0).val + (y 1).val < 151936 → x8 y = A7 (ix2 (0 : Fin 1) (Fin.ofNat 151936 (2048 * (i 0).val + (y 1).val))))
    (h9 : ∀ y : S2048x896.Idx, 2048 * (i 0).val + (y 0).val < 151936 → x9 y = A8 (ix2 (Fin.ofNat 151936 (2048 * (i 0).val + (y 0).val)) (y 1)))
    (hR : (i 0).val = 0 ∨ Ready A3 A6 A7 A8 x1 x2 x4 x5 x6 (i 0).val x12 x13 x14 x15 x16 x17) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (∀ (y10 : S2048x896.Idx → Elt F .f32) (y11 : S256x896.Idx → Elt F .bf16) (y12 : S256x896.Idx → Elt F .bf16) (y13 : S10x256x128.Idx → Elt F .f32) (y14 : S256x896.Idx → Elt F .f32) (y15 : S256x896.Idx → Elt F .f32) (y16 : S75.Idx → Elt F .i32) (y17 : S256.Idx → Elt F .i32), ⌜(∀ y : S2048x896.Idx, 2048 * (i 0).val + (y 0).val < 151936 → y10 y
                = deVal A3 A6 x1 x2 (hhOf x4 x5) (extf (s := S256x896) .f32 x6 bitsLt_bf16_f32) (i 0).val y)
            ∧ ((i 0).val = 74 → y11 = truncf (s := S256x896) .bf16 (endOf A3 A6 A7 A8 (accAt A3 A6 A7 A8 74)) bitsLt_bf16_f32)
            ∧ ((i 0).val < 74 → y11 = x11)
            ∧ Ready A3 A6 A7 A8 x1 x2 x4 x5 x6 ((i 0).val + 1) y12 y13 y14 y15 y16 y17⌝
          -∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17) -∗ K ⟨⟩))
      ⊢ wp frame (wpE (defs₀ (F := F)) 𝒱₀ (c : Thread nD τ) none) E (cc0_tied_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  iapply (body_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E f1 f2 f3 f4 f5 f6 f7 f8 f9 f10 f11 f12 f13 f14 f15 f16 f17 K A3 A6 A7 A8 h3 h7 h8 h9 hR)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro %g10 %g11 %g12 %g13 %g14 %g15 %g16 %g17 %hfacts ⟨H1, H2, H3, H4, H5, H6, H7, H8, H9, H10, H11, H12, H13, H14, H15, H16, H17⟩
  ispecialize Hk $$ %(arg10.view.read (Elt F) g10) %(arg11.view.read (Elt F) g11) %(arg12.view.read (Elt F) g12) %(arg13.view.read (Elt F) g13) %(arg14.view.read (Elt F) g14) %(arg15.view.read (Elt F) g15) %(arg16.view.read (Elt F) g16) %(arg17.view.read (Elt F) g17)
  iapply Hk
  swap
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists g10; isplitr; · ipureintro; rfl
      iexact H10
    isplitl [H11]
    · iexists g11; isplitr; · ipureintro; rfl
      iexact H11
    isplitl [H12]
    · iexists g12; isplitr; · ipureintro; rfl
      iexact H12
    isplitl [H13]
    · iexists g13; isplitr; · ipureintro; rfl
      iexact H13
    isplitl [H14]
    · iexists g14; isplitr; · ipureintro; rfl
      iexact H14
    isplitl [H15]
    · iexists g15; isplitr; · ipureintro; rfl
      iexact H15
    isplitl [H16]
    · iexists g16; isplitr; · ipureintro; rfl
      iexact H16
    iexists g17; isplitr; · ipureintro; rfl
    iexact H17
  · ipureintro
    exact ⟨hfacts.1, hfacts.2.1, fun h => congrArg (arg11.view.read (Elt F)) (hfacts.2.2.1 h), hfacts.2.2.2⟩

end Cert.Proof.KI

end
-- ==== Proof.KI.Host.lean ====
/-
  The lines of @main before and after the launch: what they leave in each buffer, and the frame claim from a run to the
  launch's postcondition.
-/
module

public import proofs.«01_k».proof.Proof.Gen.KernelIdeal.Launch
public import proofs.«01_k».proof.Proof.Gen.KernelIdeal.Points
public import proofs.«01_k».proof.Proof.KI.Walk
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg)

/-- Core `c`'s buffers when the launch is entered: after the reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- The line after the launch allocates nothing. -/
theorem hostOps1_fresh : (hostOps1 : List (HloOp τ sig (Elt F))).Forall fun op => op.fresh = ∅ := by
  simp only [List.Forall]; repeat' constructor

set_option maxHeartbeats 800000 in
/-- @main is the lines before the launch, the launch, and the line after it. -/
theorem hmain (𝒱 : Variants) : Pipeline.HMainK (Ix := Unit) (Name := ℕ) (U := UR sig nD τ) (Lvl := ℕ) cfgs 0 defs₀ 𝒱 m (main (F := F)) (V m)
      (fun _ => Pipeline.chain ([hostOps1].map StableHlo.seq)) :=
  Pipeline.hmain_around cfgs 0 defs₀ 𝒱 m main [hostOps0] [hostOps1] (by simp only [List.Forall]; exact hostOps0_sub)
    (by simp only [List.Forall]; exact hostOps0_fresh) main_chain

/-- The line after the launch touches only the launch's arrays and the buffers it passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;>
    exact StableHlo.devRef_ne_of_ne (by decide)

/-- The lines before the launch leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The lines before the launch leave argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
      simp only [hostOps0, List.flatten_cons, List.flatten_nil, List.append_nil, List.Forall, StableHlo.reshape_writes, Finset.mem_singleton]
      repeat' apply And.intro
      all_goals exact StableHlo.devRef_ne_of_ne (by decide)))
/-- The line after the launch leaves argument 0, which the launch does not stage, as launched. -/
theorem W_main_arg0 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The line after the launch leaves argument 1, which the launch does not stage, as launched. -/
theorem W_main_arg1 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The line after the launch leaves argument 2, which the launch does not stage, as launched. -/
theorem W_main_arg2 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The line after the launch leaves argument 5, which the launch does not stage, as launched. -/
theorem W_main_arg5 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- The line after the launch leaves argument 8, which the launch does not stage, as launched. -/
theorem W_main_arg8 (dats : (p : Fin 1) → (c : Dev nD) → Dat τ (Elt F) Unit ℕ (UR sig nD τ) ℕ (cfgs (F := F) p) c) (c : Dev nD) :
    Pipeline.afterTail₀ (cfgs (F := F)) dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.Forall, StableHlo.reshape_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The nine argument arrays of a final state are those of the launch. -/
def Unchanged (m : (ℓ : Loc nD τ sig) → Buf (Elt F) ℓ) (m' : (ℓ : Loc nD τ sig) → Buf (Elt F) ℓ) : Prop := ∀ c : Dev nD,
      m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)

/-- A final state that meets the launch's postcondition has its arguments unchanged. -/
theorem unchanged_of (dats : (p : Fin 1) → (c : Dev nD) → Dat τ (Elt F) Unit ℕ (UR sig nD τ) ℕ (cfgs (F := F) p) c)
    (hA : ∀ c w, (dats 0 c).A w = V m c (Pipeline.arrRef spec0 w))
    (r : PUnit × MemSt nD τ sig (Elt F))
    (h : Pipeline.FramePost (cfgs (F := F)) dats 0 (Pipeline.afterTail₀ (cfgs (F := F)) dats 0 (V0 m) [hostOps1]) r) : Unchanged m r.2.mem :=
  fun c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c)),
      (((h c).2 main_arg2 (Pipeline.mem_restRefs_of main_arg2 (by decide) (by exact (by decide : ∀ w, Pipeline.arrRef spec0 w ≠ main_arg2)))).trans (W_main_arg2 m dats c)),
      ((h c).1 4).trans (((dats 0 c).arrAt_in 4 rfl _).trans ((hA c 4).trans (V_main_arg3 m c))),
      ((h c).1 8).trans (((dats 0 c).arrAt_in 8 rfl _).trans ((hA c 8).trans (V_main_arg4 m c))),
      (((h c).2 main_arg5 (Pipeline.mem_restRefs_of main_arg5 (by decide) (by exact (by decide : ∀ w, Pipeline.arrRef spec0 w ≠ main_arg5)))).trans (W_main_arg5 m dats c)),
      ((h c).1 0).trans (((dats 0 c).arrAt_in 0 rfl _).trans ((hA c 0).trans (V_main_arg6 m c))),
      ((h c).1 1).trans (((dats 0 c).arrAt_in 1 rfl _).trans ((hA c 1).trans (V_main_arg7 m c))),
      (((h c).2 main_arg8 (Pipeline.mem_restRefs_of main_arg8 (by decide) (by exact (by decide : ∀ w, Pipeline.arrRef spec0 w ≠ main_arg8)))).trans (W_main_arg8 m dats c))⟩

end Cert.Proof.KI

end
-- ==== Proof.KI.Data.lean ====
/-
  What each window of the launch holds at each grid point, read off the launch's arrays.
-/
module

public import proofs.«01_k».proof.Proof.KI.Host
public import proofs.«01_k».proof.Proof.KI.Vals

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg) (c : Dev nD)

/-- Window `w`'s block at point `t`, cut at the array's end, read off its array as the launch finds it. -/
def iblk (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The token ids, as the launch finds them. -/
def aIds : S1x256.Idx → Elt F .i32 := V m c main_arg6
/-- The shard's first id. -/
def aStart : S1.Idx → Elt F .i32 := V m c main_arg7
/-- The cotangent's block scales. -/
def aDls : S256x1187.Idx → Elt F .f32 := V m c main_v0
/-- The hidden state's codes. -/
def aH : S256x896.Idx → Elt F .fp8e4m3 := V m c main_v1
/-- The hidden state's token scales. -/
def aHs : S1x256.Idx → Elt F .f32 := V m c main_arg3
/-- The input embedding's cotangent. -/
def aDemb : S256x896.Idx → Elt F .bf16 := V m c main_v2
/-- The logits' cotangent codes. -/
def aDl : S256x151936.Idx → Elt F .fp8e5m2 := V m c main_v3
/-- The table's row scales. -/
def aEs : S1x151936.Idx → Elt F .f32 := V m c main_v4
/-- The table's codes. -/
def aE : S151936x896.Idx → Elt F .i8 := V m c main_arg4

/-- The grid's one coordinate is the point's number. -/
theorem coords_val : ∀ t : Fin grid0.N, (grid0.coords t 0).val = t.val := by decide +kernel

/-- Window 0 holds its whole array at every point. -/
theorem iblk_0 (t : Fin (cfg0 (F := F)).N) : iblk m c 0 t = aIds m c := by
  funext y
  unfold iblk
  refine congrArg (aIds m c) (?_ : _ = y)
  funext a; apply Fin.ext
  fin_cases a <;> first | exact Nat.zero_add _ | (show 0 * _ + 1 * (y _).val = (y _).val; omega)
/-- Window 1 holds its whole array at every point. -/
theorem iblk_1 (t : Fin (cfg0 (F := F)).N) : iblk m c 1 t = aStart m c := by
  funext y
  unfold iblk
  refine congrArg (aStart m c) (?_ : _ = y)
  funext a; apply Fin.ext
  fin_cases a <;> first | exact Nat.zero_add _ | (show 0 * _ + 1 * (y _).val = (y _).val; omega)
/-- Window 3 holds its whole array at every point. -/
theorem iblk_3 (t : Fin (cfg0 (F := F)).N) : iblk m c 3 t = aH m c := by
  funext y
  unfold iblk
  refine congrArg (aH m c) (?_ : _ = y)
  funext a; apply Fin.ext
  fin_cases a <;> first | exact Nat.zero_add _ | (show 0 * _ + 1 * (y _).val = (y _).val; omega)
/-- Window 4 holds its whole array at every point. -/
theorem iblk_4 (t : Fin (cfg0 (F := F)).N) : iblk m c 4 t = aHs m c := by
  funext y
  unfold iblk
  refine congrArg (aHs m c) (?_ : _ = y)
  funext a; apply Fin.ext
  fin_cases a <;> first | exact Nat.zero_add _ | (show 0 * _ + 1 * (y _).val = (y _).val; omega)
/-- Window 5 holds its whole array at every point. -/
theorem iblk_5 (t : Fin (cfg0 (F := F)).N) : iblk m c 5 t = aDemb m c := by
  funext y
  unfold iblk
  refine congrArg (aDemb m c) (?_ : _ = y)
  funext a; apply Fin.ext
  fin_cases a <;> first | exact Nat.zero_add _ | (show 0 * _ + 1 * (y _).val = (y _).val; omega)

/-- Point `t`'s number in the launch's own index type. -/
abbrev pt (t : Fin (cfg0 (F := F)).N) : grid0.Coords := (cfg0 (F := F)).grid.coords t

/-- How much of window 2's block is inside its array. -/
theorem xsize_2 : ∀ t : Fin grid0.N, win0_2.xsize (grid0.coords t) 0 = 256 ∧ win0_2.xsize (grid0.coords t) 1 = 1187 := by decide +kernel
/-- How much of window 6's block is inside its array. -/
theorem xsize_6 : ∀ t : Fin grid0.N, win0_6.xsize (grid0.coords t) 0 = 256 ∧ win0_6.xsize (grid0.coords t) 1 = if t.val < 74 then 2048 else 384 := by decide +kernel
/-- How much of window 7's block is inside its array. -/
theorem xsize_7 : ∀ t : Fin grid0.N, win0_7.xsize (grid0.coords t) 0 = 1 ∧ win0_7.xsize (grid0.coords t) 1 = if t.val < 74 then 2048 else 384 := by decide +kernel
/-- How much of window 8's block is inside its array. -/
theorem xsize_8 : ∀ t : Fin grid0.N, win0_8.xsize (grid0.coords t) 1 = 896 ∧ win0_8.xsize (grid0.coords t) 0 = if t.val < 74 then 2048 else 384 := by decide +kernel
/-- How much of window 9's block is inside its array. -/
theorem xsize_9 : ∀ t : Fin grid0.N, win0_9.xsize (grid0.coords t) 1 = 896 ∧ win0_9.xsize (grid0.coords t) 0 = if t.val < 74 then 2048 else 384 := by decide +kernel

/-- A filled block at a coordinate the transfer moves is what the transfer moves there. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g (fun a => ⟨(j a).val, h a⟩) := by
  unfold Window.fill
  rw [dif_pos ((w.moved_iff i j).mpr h)]

/-- Window 2 holds the block scales inside its array. -/
theorem fill_2 (t : Fin (cfg0 (F := F)).N) (d : S256x1280.Idx → Elt F .f32) (y : S256x1280.Idx) (hy : (y 1).val < 1187) :
    ((cfg0 (F := F)).win 2).fill ((cfg0 (F := F)).grid.coords t) d (iblk m c 2 t) y = aDls m c (ix2 (y 0) (Fin.ofNat 1187 (y 1).val)) := by
  obtain ⟨h0, h1⟩ := xsize_2 t
  have hm : ∀ a, (y a).val < ((cfg0 (F := F)).win 2).xsize ((cfg0 (F := F)).grid.coords t) a := by
    intro a
    fin_cases a
    · exact lt_of_lt_of_eq (y 0).isLt h0.symm
    · exact lt_of_lt_of_eq hy h1.symm
  refine (fill_of_lt ((cfg0 (F := F)).win 2) ((cfg0 (F := F)).grid.coords t) d (iblk m c 2 t) y hm).trans ?_
  unfold iblk
  refine congrArg (aDls m c) (?_ : _ = ix2 (y 0) (Fin.ofNat 1187 (y 1).val))
  funext a; apply Fin.ext
  fin_cases a
  · show 0 * _ + 1 * (y 0).val = (y 0).val; omega
  · show 0 * _ + 1 * (y 1).val = (y 1).val % 1187; omega

/-- Window 6 holds the point's columns of the logits' cotangent codes. -/
theorem fill_6 (t : Fin (cfg0 (F := F)).N) (d : S256x2048.Idx → Elt F .fp8e5m2) (y : S256x2048.Idx) (hy : 2048 * t.val + (y 1).val < 151936) :
    ((cfg0 (F := F)).win 6).fill ((cfg0 (F := F)).grid.coords t) d (iblk m c 6 t) y = aDl m c (ix2 (y 0) (Fin.ofNat 151936 (2048 * t.val + (y 1).val))) := by
  obtain ⟨h0, h1⟩ := xsize_6 t
  have ht : t.val < 75 := t.isLt
  have hl : (y 1).val < 2048 := (y 1).isLt
  have hc : ((cfg0 (F := F)).grid.coords t 0).val = t.val := coords_val t
  have hm : ∀ a, (y a).val < ((cfg0 (F := F)).win 6).xsize ((cfg0 (F := F)).grid.coords t) a := by
    intro a
    fin_cases a
    · exact lt_of_lt_of_eq (y 0).isLt h0.symm
    · refine lt_of_lt_of_eq (?_ : (y 1).val < if t.val < 74 then 2048 else 384) h1.symm
      split <;> omega
  refine (fill_of_lt ((cfg0 (F := F)).win 6) ((cfg0 (F := F)).grid.coords t) d (iblk m c 6 t) y hm).trans ?_
  unfold iblk
  refine congrArg (aDl m c) (?_ : _ = ix2 (y 0) (Fin.ofNat 151936 (2048 * t.val + (y 1).val)))
  funext a; apply Fin.ext
  fin_cases a
  · show 0 * _ + 1 * (y 0).val = (y 0).val; omega
  · show ((cfg0 (F := F)).grid.coords t 0).val % 4294967296 * 2048 + 1 * (y 1).val = (2048 * t.val + (y 1).val) % 151936
    rw [hc, Nat.mod_eq_of_lt hy, Nat.mod_eq_of_lt (by omega : t.val < 4294967296)]; omega

/-- Window 7 holds the point's row scales. -/
theorem fill_7 (t : Fin (cfg0 (F := F)).N) (d : S1x2048.Idx → Elt F .f32) (y : S1x2048.Idx) (hy : 2048 * t.val + (y 1).val < 151936) :
    ((cfg0 (F := F)).win 7).fill ((cfg0 (F := F)).grid.coords t) d (iblk m c 7 t) y = aEs m c (ix2 (0 : Fin 1) (Fin.ofNat 151936 (2048 * t.val + (y 1).val))) := by
  obtain ⟨h0, h1⟩ := xsize_7 t
  have ht : t.val < 75 := t.isLt
  have hl : (y 1).val < 2048 := (y 1).isLt
  have hz : (y 0).val < 1 := (y 0).isLt
  have hc : ((cfg0 (F := F)).grid.coords t 0).val = t.val := coords_val t
  have hm : ∀ a, (y a).val < ((cfg0 (F := F)).win 7).xsize ((cfg0 (F := F)).grid.coords t) a := by
    intro a
    fin_cases a
    · exact lt_of_lt_of_eq (y 0).isLt h0.symm
    · refine lt_of_lt_of_eq (?_ : (y 1).val < if t.val < 74 then 2048 else 384) h1.symm
      split <;> omega
  refine (fill_of_lt ((cfg0 (F := F)).win 7) ((cfg0 (F := F)).grid.coords t) d (iblk m c 7 t) y hm).trans ?_
  unfold iblk
  refine congrArg (aEs m c) (?_ : _ = ix2 (0 : Fin 1) (Fin.ofNat 151936 (2048 * t.val + (y 1).val)))
  funext a; apply Fin.ext
  fin_cases a
  · show 0 * _ + 1 * (y 0).val = 0; omega
  · show ((cfg0 (F := F)).grid.coords t 0).val % 4294967296 * 2048 + 1 * (y 1).val = (2048 * t.val + (y 1).val) % 151936
    rw [hc, Nat.mod_eq_of_lt hy, Nat.mod_eq_of_lt (by omega : t.val < 4294967296)]; omega

/-- Window 8 holds the point's rows of the table's codes. -/
theorem fill_8 (t : Fin (cfg0 (F := F)).N) (d : S2048x896.Idx → Elt F .i8) (y : S2048x896.Idx) (hy : 2048 * t.val + (y 0).val < 151936) :
    ((cfg0 (F := F)).win 8).fill ((cfg0 (F := F)).grid.coords t) d (iblk m c 8 t) y = aE m c (ix2 (Fin.ofNat 151936 (2048 * t.val + (y 0).val)) (y 1)) := by
  obtain ⟨h0, h1⟩ := xsize_8 t
  have ht : t.val < 75 := t.isLt
  have hl : (y 0).val < 2048 := (y 0).isLt
  have hc : ((cfg0 (F := F)).grid.coords t 0).val = t.val := coords_val t
  have hm : ∀ a, (y a).val < ((cfg0 (F := F)).win 8).xsize ((cfg0 (F := F)).grid.coords t) a := by
    intro a
    fin_cases a
    · refine lt_of_lt_of_eq (?_ : (y 0).val < if t.val < 74 then 2048 else 384) h1.symm
      split <;> omega
    · exact lt_of_lt_of_eq (y 1).isLt h0.symm
  refine (fill_of_lt ((cfg0 (F := F)).win 8) ((cfg0 (F := F)).grid.coords t) d (iblk m c 8 t) y hm).trans ?_
  unfold iblk
  refine congrArg (aE m c) (?_ : _ = ix2 (Fin.ofNat 151936 (2048 * t.val + (y 0).val)) (y 1))
  funext a; apply Fin.ext
  fin_cases a
  · show ((cfg0 (F := F)).grid.coords t 0).val % 4294967296 * 2048 + 1 * (y 0).val = (2048 * t.val + (y 0).val) % 151936
    rw [hc, Nat.mod_eq_of_lt hy, Nat.mod_eq_of_lt (by omega : t.val < 4294967296)]; omega
  · show 0 * _ + 1 * (y 1).val = (y 1).val; omega

end Cert.Proof.KI

end
-- ==== Proof.KI.Run.lean ====
/-
  The launch: what the pipeline's windows and scratch hold at every grid point, the body's obligation at each point, and the
  run of @main to the launch's postcondition with every semaphore counter at zero.
-/
module

public import proofs.«01_k».proof.Proof.KI.Kern
public import proofs.«01_k».proof.Proof.KI.Data

@[expose] public section

noncomputable section

namespace Cert.Proof.KI

open Cert.KernelIdeal Cert.KernelIdeal.Gen Cert.Proof.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation BodyObligationLoose cellOf)

set_option maxRecDepth 16384

variable (m : (ℓ : Loc nD τ sig) → Buf (Elt F) ℓ) (ρ : Dev nD → PrngReg)

/-- The rows of the first result at point `n`. -/
def deRows (c : Dev nD) (n : ℕ) : S2048x896.Idx → Elt F .f32 :=
  deVal (aDls m c) (aDl m c) (aIds m c) (aStart m c) (hhOf (aH m c) (aHs m c)) (extf (s := S256x896) .f32 (aDemb m c) bitsLt_bf16_f32) n

/-- The second result. -/
def dhVal (c : Dev nD) : S256x896.Idx → Elt F .bf16 :=
  truncf (s := S256x896) .bf16 (endOf (aDls m c) (aDl m c) (aEs m c) (aE m c) (accAt (aDls m c) (aDl m c) (aEs m c) (aE m c) 74)) bitsLt_bf16_f32

/-- The scratch between the points: ready for point `n`, or anything before the first. -/
def scr (c : Dev nD) (n : ℕ) : sProp 𝕄 :=
  iprop(∃ (x12 : S256x896.Idx → Elt F .bf16) (x13 : S10x256x128.Idx → Elt F .f32) (x14 : S256x896.Idx → Elt F .f32) (x15 : S256x896.Idx → Elt F .f32) (x16 : S75.Idx → Elt F .i32) (x17 : S256.Idx → Elt F .i32), ⌜n = 0 ∨ Ready (aDls m c) (aDl m c) (aEs m c) (aE m c) (aIds m c) (aStart m c) (aH m c) (aHs m c) (aDemb m c) n x12 x13 x14 x15 x16 x17⌝
    ∗ owns (c : Thread nD τ) (Memref.whole cc0_scratch0) fullShare x12 ∗ owns (c : Thread nD τ) (Memref.whole cc0_scratch1) fullShare x13 ∗ owns (c : Thread nD τ) (Memref.whole cc0_scratch2) fullShare x14 ∗ owns (c : Thread nD τ) (Memref.whole cc0_scratch3) fullShare x15 ∗ owns (c : Thread nD τ) (Memref.whole cc0_scratch4) fullShare x16 ∗ owns (c : Thread nD τ) (Memref.whole cc0_scratch5) fullShare x17)

/-- The proof data of the launch on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => ((cfg0 (F := F)).win 2).fill ((cfg0 (F := F)).grid.coords t) (fun _ => Classical.arbitrary _) (iblk m c 2 t)
    | ⟨3, _⟩ => iblk m c 3 t
    | ⟨4, _⟩ => iblk m c 4 t
    | ⟨5, _⟩ => iblk m c 5 t
    | ⟨6, _⟩ => ((cfg0 (F := F)).win 6).fill ((cfg0 (F := F)).grid.coords t) (fun _ => Classical.arbitrary _) (iblk m c 6 t)
    | ⟨7, _⟩ => ((cfg0 (F := F)).win 7).fill ((cfg0 (F := F)).grid.coords t) (fun _ => Classical.arbitrary _) (iblk m c 7 t)
    | ⟨8, _⟩ => ((cfg0 (F := F)).win 8).fill ((cfg0 (F := F)).grid.coords t) (fun _ => Classical.arbitrary _) (iblk m c 8 t)
    | ⟨9, _⟩ => deRows m c t.val
    | ⟨10, _⟩ => dhVal m c
  Φ n := iprop(scr m c n.val ∗ ∃ r, prngReg c r)
  q _ := fullShare
  owed _ := 0

/-- The proof data's arrays are what the launch finds. -/
theorem A_eq (c : Dev nD) (w : Fin (cfg0 (F := F)).W) : (dats m 0 c).A w = V m c (Pipeline.arrRef spec0 w) := by
  dsimp only [dats]

/-- What the body leaves in window 0. -/
theorem after_0 (c : Dev nD) (t : Fin (cfg0 (F := F)).N) : (dats m 0 c).after 0 t = iblk m c 0 t := by dsimp only [dats]; rfl
/-- What the body leaves in window 1. -/
theorem after_1 (c : Dev nD) (t : Fin (cfg0 (F := F)).N) : (dats m 0 c).after 1 t = iblk m c 1 t := by dsimp only [dats]; rfl
/-- What the body leaves in window 3. -/
theorem after_3 (c : Dev nD) (t : Fin (cfg0 (F := F)).N) : (dats m 0 c).after 3 t = iblk m c 3 t := by dsimp only [dats]; rfl
/-- What the body leaves in window 4. -/
theorem after_4 (c : Dev nD) (t : Fin (cfg0 (F := F)).N) : (dats m 0 c).after 4 t = iblk m c 4 t := by dsimp only [dats]; rfl
/-- What the body leaves in window 5. -/
theorem after_5 (c : Dev nD) (t : Fin (cfg0 (F := F)).N) : (dats m 0 c).after 5 t = iblk m c 5 t := by dsimp only [dats]; rfl
/-- What the body leaves in window 9. -/
theorem after_9 (c : Dev nD) (t : Fin (cfg0 (F := F)).N) : (dats m 0 c).after 9 t = deRows m c t.val := by dsimp only [dats]; rfl
/-- What the body leaves in window 10. -/
theorem after_10 (c : Dev nD) (t : Fin (cfg0 (F := F)).N) : (dats m 0 c).after 10 t = dhVal m c := by dsimp only [dats]; rfl
/-- What the body leaves in window 2, on the part inside the array. -/
theorem cut_after_2 (c : Dev nD) (t : Fin (cfg0 (F := F)).N) :
    ((cfg0 (F := F)).win 2).cut ((cfg0 (F := F)).grid.coords t) ((dats m 0 c).after 2 t) = iblk m c 2 t := by
  dsimp only [dats]; exact Window.cut_fill ((cfg0 (F := F)).win 2) ((cfg0 (F := F)).grid.coords t) (fun _ => Classical.arbitrary _) (iblk m c 2 t)
/-- What the body leaves in window 6, on the part inside the array. -/
theorem cut_after_6 (c : Dev nD) (t : Fin (cfg0 (F := F)).N) :
    ((cfg0 (F := F)).win 6).cut ((cfg0 (F := F)).grid.coords t) ((dats m 0 c).after 6 t) = iblk m c 6 t := by
  dsimp only [dats]; exact Window.cut_fill ((cfg0 (F := F)).win 6) ((cfg0 (F := F)).grid.coords t) (fun _ => Classical.arbitrary _) (iblk m c 6 t)
/-- What the body leaves in window 7, on the part inside the array. -/
theorem cut_after_7 (c : Dev nD) (t : Fin (cfg0 (F := F)).N) :
    ((cfg0 (F := F)).win 7).cut ((cfg0 (F := F)).grid.coords t) ((dats m 0 c).after 7 t) = iblk m c 7 t := by
  dsimp only [dats]; exact Window.cut_fill ((cfg0 (F := F)).win 7) ((cfg0 (F := F)).grid.coords t) (fun _ => Classical.arbitrary _) (iblk m c 7 t)
/-- What the body leaves in window 8, on the part inside the array. -/
theorem cut_after_8 (c : Dev nD) (t : Fin (cfg0 (F := F)).N) :
    ((cfg0 (F := F)).win 8).cut ((cfg0 (F := F)).grid.coords t) ((dats m 0 c).after 8 t) = iblk m c 8 t := by
  dsimp only [dats]; exact Window.cut_fill ((cfg0 (F := F)).win 8) ((cfg0 (F := F)).grid.coords t) (fun _ => Classical.arbitrary _) (iblk m c 8 t)
/-- Window 0's buffer holds its array at every point. -/
theorem before_0 (c : Dev nD) (t : Fin (cfg0 (F := F)).N) (d) : (dats m 0 c).before 0 t d = aIds m c :=
  (((dats m 0 c).before_in_eq_fetched 0 rfl (fun _ => rfl) (fun _ _ _ => rfl) (fun t => by rw [after_0]; unfold Dat.blockOf iblk; rw [A_eq]; try rfl) t d).trans
    (by unfold Dat.fetched Dat.blockOf; rw [A_eq]; try rfl : (dats m 0 c).fetched 0 t d = iblk m c 0 t)).trans (iblk_0 m c t)
/-- Window 1's buffer holds its array at every point. -/
theorem before_1 (c : Dev nD) (t : Fin (cfg0 (F := F)).N) (d) : (dats m 0 c).before 1 t d = aStart m c :=
  (((dats m 0 c).before_in_eq_fetched 1 rfl (fun _ => rfl) (fun _ _ _ => rfl) (fun t => by rw [after_1]; unfold Dat.blockOf iblk; rw [A_eq]; try rfl) t d).trans
    (by unfold Dat.fetched Dat.blockOf; rw [A_eq]; try rfl : (dats m 0 c).fetched 1 t d = iblk m c 1 t)).trans (iblk_1 m c t)
/-- Window 3's buffer holds its array at every point. -/
theorem before_3 (c : Dev nD) (t : Fin (cfg0 (F := F)).N) (d) : (dats m 0 c).before 3 t d = aH m c :=
  (((dats m 0 c).before_in_eq_fetched 3 rfl (fun _ => rfl) (fun _ _ _ => rfl) (fun t => by rw [after_3]; unfold Dat.blockOf iblk; rw [A_eq]; try rfl) t d).trans
    (by unfold Dat.fetched Dat.blockOf; rw [A_eq]; try rfl : (dats m 0 c).fetched 3 t d = iblk m c 3 t)).trans (iblk_3 m c t)
/-- Window 4's buffer holds its array at every point. -/
theorem before_4 (c : Dev nD) (t : Fin (cfg0 (F := F)).N) (d) : (dats m 0 c).before 4 t d = aHs m c :=
  (((dats m 0 c).before_in_eq_fetched 4 rfl (fun _ => rfl) (fun _ _ _ => rfl) (fun t => by rw [after_4]; unfold Dat.blockOf iblk; rw [A_eq]; try rfl) t d).trans
    (by unfold Dat.fetched Dat.blockOf; rw [A_eq]; try rfl : (dats m 0 c).fetched 4 t d = iblk m c 4 t)).trans (iblk_4 m c t)
/-- Window 5's buffer holds its array at every point. -/
theorem before_5 (c : Dev nD) (t : Fin (cfg0 (F := F)).N) (d) : (dats m 0 c).before 5 t d = aDemb m c :=
  (((dats m 0 c).before_in_eq_fetched 5 rfl (fun _ => rfl) (fun _ _ _ => rfl) (fun t => by rw [after_5]; unfold Dat.blockOf iblk; rw [A_eq]; try rfl) t d).trans
    (by unfold Dat.fetched Dat.blockOf; rw [A_eq]; try rfl : (dats m 0 c).fetched 5 t d = iblk m c 5 t)).trans (iblk_5 m c t)
/-- Window 2's clipping depends only on the block's index. -/
theorem clip_2 : ∀ t t' : Fin (cfg0 (F := F)).N, ((cfg0 (F := F)).win 2).index t = ((cfg0 (F := F)).win 2).index t'
    → ((cfg0 (F := F)).win 2).clip ((cfg0 (F := F)).grid.coords t) = ((cfg0 (F := F)).win 2).clip ((cfg0 (F := F)).grid.coords t') :=
  (by decide +kernel : ∀ t t' : Fin grid0.N, win0_2.index t = win0_2.index t' → win0_2.clip (grid0.coords t) = win0_2.clip (grid0.coords t'))
/-- Window 2's buffer holds the point's block on the part inside the array. -/
theorem before_2 (c : Dev nD) (t : Fin (cfg0 (F := F)).N) (d) : (dats m 0 c).before 2 t d = ((cfg0 (F := F)).win 2).fill ((cfg0 (F := F)).grid.coords t) d (iblk m c 2 t) :=
  ((dats m 0 c).before_in_eq_fetched 2 rfl (fun _ => rfl) clip_2 (fun t => by rw [cut_after_2]; unfold Dat.blockOf iblk; rw [A_eq]; try rfl) t d).trans
    (by unfold Dat.fetched Dat.blockOf iblk; rw [A_eq]; try rfl)
/-- Window 6's clipping depends only on the block's index. -/
theorem clip_6 : ∀ t t' : Fin (cfg0 (F := F)).N, ((cfg0 (F := F)).win 6).index t = ((cfg0 (F := F)).win 6).index t'
    → ((cfg0 (F := F)).win 6).clip ((cfg0 (F := F)).grid.coords t) = ((cfg0 (F := F)).win 6).clip ((cfg0 (F := F)).grid.coords t') :=
  (by decide +kernel : ∀ t t' : Fin grid0.N, win0_6.index t = win0_6.index t' → win0_6.clip (grid0.coords t) = win0_6.clip (grid0.coords t'))
/-- Window 6's buffer holds the point's block on the part inside the array. -/
theorem before_6 (c : Dev nD) (t : Fin (cfg0 (F := F)).N) (d) : (dats m 0 c).before 6 t d = ((cfg0 (F := F)).win 6).fill ((cfg0 (F := F)).grid.coords t) d (iblk m c 6 t) :=
  ((dats m 0 c).before_in_eq_fetched 6 rfl (fun _ => rfl) clip_6 (fun t => by rw [cut_after_6]; unfold Dat.blockOf iblk; rw [A_eq]; try rfl) t d).trans
    (by unfold Dat.fetched Dat.blockOf iblk; rw [A_eq]; try rfl)
/-- Window 7's clipping depends only on the block's index. -/
theorem clip_7 : ∀ t t' : Fin (cfg0 (F := F)).N, ((cfg0 (F := F)).win 7).index t = ((cfg0 (F := F)).win 7).index t'
    → ((cfg0 (F := F)).win 7).clip ((cfg0 (F := F)).grid.coords t) = ((cfg0 (F := F)).win 7).clip ((cfg0 (F := F)).grid.coords t') :=
  (by decide +kernel : ∀ t t' : Fin grid0.N, win0_7.index t = win0_7.index t' → win0_7.clip (grid0.coords t) = win0_7.clip (grid0.coords t'))
/-- Window 7's buffer holds the point's block on the part inside the array. -/
theorem before_7 (c : Dev nD) (t : Fin (cfg0 (F := F)).N) (d) : (dats m 0 c).before 7 t d = ((cfg0 (F := F)).win 7).fill ((cfg0 (F := F)).grid.coords t) d (iblk m c 7 t) :=
  ((dats m 0 c).before_in_eq_fetched 7 rfl (fun _ => rfl) clip_7 (fun t => by rw [cut_after_7]; unfold Dat.blockOf iblk; rw [A_eq]; try rfl) t d).trans
    (by unfold Dat.fetched Dat.blockOf iblk; rw [A_eq]; try rfl)
/-- Window 8's clipping depends only on the block's index. -/
theorem clip_8 : ∀ t t' : Fin (cfg0 (F := F)).N, ((cfg0 (F := F)).win 8).index t = ((cfg0 (F := F)).win 8).index t'
    → ((cfg0 (F := F)).win 8).clip ((cfg0 (F := F)).grid.coords t) = ((cfg0 (F := F)).win 8).clip ((cfg0 (F := F)).grid.coords t') :=
  (by decide +kernel : ∀ t t' : Fin grid0.N, win0_8.index t = win0_8.index t' → win0_8.clip (grid0.coords t) = win0_8.clip (grid0.coords t'))
/-- Window 8's buffer holds the point's block on the part inside the array. -/
theorem before_8 (c : Dev nD) (t : Fin (cfg0 (F := F)).N) (d) : (dats m 0 c).before 8 t d = ((cfg0 (F := F)).win 8).fill ((cfg0 (F := F)).grid.coords t) d (iblk m c 8 t) :=
  ((dats m 0 c).before_in_eq_fetched 8 rfl (fun _ => rfl) clip_8 (fun t => by rw [cut_after_8]; unfold Dat.blockOf iblk; rw [A_eq]; try rfl) t d).trans
    (by unfold Dat.fetched Dat.blockOf iblk; rw [A_eq]; try rfl)

/-- What the body is called with at point `t`, window by window. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (((cfg0 (F := F)).win 2).fill ((cfg0 (F := F)).grid.coords t) d (((cfg0 (F := F)).win 2).cut ((cfg0 (F := F)).grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (((cfg0 (F := F)).win 6).fill ((cfg0 (F := F)).grid.coords t) d (((cfg0 (F := F)).win 6).cut ((cfg0 (F := F)).grid.coords t) ((dats m 0 c).after 6 t))))
    ∗ (∃ d, owns (c : Thread nD τ) (st0_7 t) fullShare (((cfg0 (F := F)).win 7).fill ((cfg0 (F := F)).grid.coords t) d (((cfg0 (F := F)).win 7).cut ((cfg0 (F := F)).grid.coords t) ((dats m 0 c).after 7 t))))
    ∗ (∃ d, owns (c : Thread nD τ) (st0_8 t) fullShare (((cfg0 (F := F)).win 8).fill ((cfg0 (F := F)).grid.coords t) d (((cfg0 (F := F)).win 8).cut ((cfg0 (F := F)).grid.coords t) ((dats m 0 c).after 8 t))))
    ∗ (∃ d, owns (c : Thread nD τ) (st0_9 t) fullShare (((cfg0 (F := F)).win 9).fill ((cfg0 (F := F)).grid.coords t) d (((cfg0 (F := F)).win 9).cut ((cfg0 (F := F)).grid.coords t) ((dats m 0 c).after 9 t))))
    ∗ (dats m 0 c).leaves 10 t)

/-- Before the last point window 10 is left alone. -/
theorem idle_10 : ∀ t : Fin grid0.N, t.val < 74 → idle0 10 (grid0.coords t) = true := by decide +kernel
/-- At the last point it is written. -/
theorem live_10 : ∀ t : Fin grid0.N, t.val = 74 → idle0 10 (grid0.coords t) = false := by decide +kernel

/-- Window 10 after the body. -/
theorem leaves_10 (c : Dev nD) (t : Fin (cfg0 (F := F)).N) (d : S256x896.Idx → Elt F .bf16) (y : S256x896.Idx → Elt F .bf16)
    (h₁ : t.val = 74 → y = dhVal m c) (h₂ : t.val < 74 → y = (dats m 0 c).before 10 t d) :
    owns (c : Thread nD τ) (st0_10 t) fullShare y ⊢ ((dats m 0 c).leaves 10 t : sProp 𝕄) := by
  have ht : t.val < 75 := t.isLt
  rcases Nat.lt_or_ge t.val 74 with h | h
  · have hf : ((cfg0 (F := F)).win 10).flush t = false := by
      rw [Bool.eq_false_iff]; intro hc; have := (flush0_10 (F := F) t).mp hc; omega
    rw [Dat.leaves_idle (dats m 0 c) 10 t (show (cfg0 (F := F)).idle 10 ((cfg0 (F := F)).grid.coords t) = true from idle_10 t h) hf, h₂ h]
    iintro H; iexists d; iexact H
  · have h74 : t.val = 74 := by omega
    have hl : (dats m 0 c).leaves 10 t = (owns (c : Thread nD τ) (st0_10 t) fullShare ((dats m 0 c).after 10 t) : sProp 𝕄) := by
      unfold Dat.leaves
      rw [show (cfg0 (F := F)).idle 10 ((cfg0 (F := F)).grid.coords t) = false from live_10 t h74]
      rfl
    rw [hl, after_10, h₁ h74]

/-- Window 9's buffer at rows that agree with the point's on the part inside the array. -/
theorem fill_rows (c : Dev nD) (t : Fin (cfg0 (F := F)).N) (y10 : S2048x896.Idx → Elt F .f32)
    (h : ∀ y : S2048x896.Idx, 2048 * t.val + (y 0).val < 151936 → y10 y = deRows m c t.val y) :
    ((cfg0 (F := F)).win 9).fill ((cfg0 (F := F)).grid.coords t) y10 (((cfg0 (F := F)).win 9).cut ((cfg0 (F := F)).grid.coords t) (deRows m c t.val)) = y10 := by
  have ht : t.val < 75 := t.isLt
  have key : ∀ z : S2048x896.Idx, (∀ a : Fin 2, (z a).val < win0_9.xsize (grid0.coords t) a) → deRows m c t.val z = y10 z := by
    intro z hz
    have hlt := hz 0
    rw [(xsize_9 t).2] at hlt
    have hy : 2048 * t.val + (z 0).val < 151936 := by split at hlt <;> omega
    exact (h z hy).symm
  funext y
  unfold Window.fill
  split
  · rename_i hm
    exact key y ((((cfg0 (F := F)).win 9).moved_iff _ _).mp hm)
  · rfl

/-- Window 9 after the body. -/
theorem leaves_9 (c : Dev nD) (t : Fin (cfg0 (F := F)).N) (y10 : S2048x896.Idx → Elt F .f32)
    (h : ∀ y : S2048x896.Idx, 2048 * t.val + (y 0).val < 151936 → y10 y = deRows m c t.val y) :
    (owns (c : Thread nD τ) (st0_9 t) fullShare y10 : sProp 𝕄)
      ⊢ iprop(∃ d, owns (c : Thread nD τ) (st0_9 t) fullShare (((cfg0 (F := F)).win 9).fill ((cfg0 (F := F)).grid.coords t) d (((cfg0 (F := F)).win 9).cut ((cfg0 (F := F)).grid.coords t) (deRows m c t.val)))) := by
  have e := congrArg (fun X => (owns (c : Thread nD τ) (st0_9 t) fullShare X : sProp 𝕄)) (fill_rows m c t y10 h)
  iintro H
  iexists y10
  iapply (Eq.subst (motive := fun Z => (owns (c : Thread nD τ) (st0_9 t) fullShare y10 : sProp 𝕄) ⊢ Z) e.symm .rfl)
  iexact H

set_option maxHeartbeats 3200000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  have hc : (grid0.coords t 0).val = t.val := coords_val t
  unfold bodyPre bodyPost bodyAt0
  simp only [before_0, before_1, before_2, before_3, before_4, before_5, before_6, before_7, before_8]
  rw [show (dats m 0 c).Φ t.succ = iprop(scr m c (t.val + 1) ∗ ∃ r, prngReg c r) from rfl,
    show (dats m 0 c).Φ t.castSucc = iprop(scr m c t.val ∗ ∃ r, prngReg c r) from rfl,
    show (dats m 0 c).owesAt () t.succ = (dats m 0 c).owesAt () t.castSucc from rfl,
    after_0, after_1, after_3, after_4, after_5, iblk_0, iblk_1, iblk_3, iblk_4, iblk_5, cut_after_2, cut_after_6, cut_after_7, cut_after_8, after_9]
  unfold scr
  iintro ⟨⟨⟨%x12 , %x13 , %x14 , %x15 , %x16 , %x17, %hR, S12, S13, S14, S15, S16, S17⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel_wp c (grid0.coords t) _ _ _ _ _ _ _ _ _ _ _ _ _ _ _ _ _ _ _ _ _ _ _ _ _ _ _ _ _ _ _ _ _ _ Set.univ (aIds m c) (aStart m c) (((cfg0 (F := F)).win 2).fill ((cfg0 (F := F)).grid.coords t) d2 (iblk m c 2 t)) (aH m c) (aHs m c) (aDemb m c) (((cfg0 (F := F)).win 6).fill ((cfg0 (F := F)).grid.coords t) d6 (iblk m c 6 t)) (((cfg0 (F := F)).win 7).fill ((cfg0 (F := F)).grid.coords t) d7 (iblk m c 7 t)) (((cfg0 (F := F)).win 8).fill ((cfg0 (F := F)).grid.coords t) d8 (iblk m c 8 t)) ((dats m 0 c).before 9 t d9) ((dats m 0 c).before 10 t d10) x12 x13 x14 x15 x16 x17 _
    (aDls m c) (aDl m c) (aEs m c) (aE m c)
    (fun y hy => fill_2 m c t d2 y hy)
    (fun y hy => by rw [hc] at hy ⊢; exact fill_6 m c t d6 y hy)
    (fun y hy => by rw [hc] at hy ⊢; exact fill_7 m c t d7 y hy)
    (fun y hy => by rw [hc] at hy ⊢; exact fill_8 m c t d8 y hy)
    (by rw [hc]; exact hR))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S12]; · iexact S12
  isplitl [S13]; · iexact S13
  isplitl [S14]; · iexact S14
  isplitl [S15]; · iexact S15
  isplitl [S16]; · iexact S16
  isplitl [S17]; · iexact S17
  iintro %y10 %y11 %y12 %y13 %y14 %y15 %y16 %y17 %hfacts ⟨H0, H1, H2, H3, H4, H5, H6, H7, H8, H9, H10, S12, S13, S14, S15, S16, S17⟩
  rw [hc] at hfacts
  isplitl [Hr S12 S13 S14 S15 S16 S17]
  · isplitr [Hr]; swap; · iexact Hr
    iexists y12, y13, y14, y15, y16, y17
    isplitr
    · ipureintro; exact Or.inr hfacts.2.2.2
    isplitl [S12]; · iexact S12
    isplitl [S13]; · iexact S13
    isplitl [S14]; · iexact S14
    isplitl [S15]; · iexact S15
    isplitl [S16]; · iexact S16
    iexact S17
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexists d6; iexact H6
  isplitl [H7]; · iexists d7; iexact H7
  isplitl [H8]; · iexists d8; iexact H8
  isplitl [H9]
  · iapply (leaves_9 m c t y10 hfacts.1)
    iexact H9
  iapply (leaves_10 m c t d10 y11 hfacts.2.1 hfacts.2.2.1)
  iexact H10

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation, at every point. -/
theorem body_obligation (c : Dev nD) : BodyObligationLoose (dats (F := F) m 0 c) (defs₀ (F := F)) 𝒱₀ () Set.univ := fun t => by
  rw [bigSep_W0, bigSep_W0, defs₀_row]
  exact triple_restated (sound_body m c t) rfl .rfl fun _ => .rfl

/-- The launch hands the body its scratch. -/
theorem scr_in (c : Dev nD) : Pipeline.ΦA (cfg0 (F := F)).spec c ⊢ ((dats m 0 c).Φ 0 : sProp 𝕄) := by
  show Pipeline.ΦA spec0 c ⊢ (iprop(scr m c 0 ∗ ∃ r, prngReg c r) : sProp 𝕄)
  unfold Pipeline.ΦA scr
  rw [scopedRest0_eq]
  iintro ⟨⟨⟨%x12, S12⟩, ⟨%x13, S13⟩, ⟨%x14, S14⟩, ⟨%x15, S15⟩, ⟨%x16, S16⟩, ⟨%x17, S17⟩⟩, Hr⟩
  isplitr [Hr]; swap; · iexact Hr
  iexists x12, x13, x14, x15, x16, x17
  isplitr; · ipureintro; exact Or.inl rfl
  isplitl [S12]; · rw [owns_whole]; iexact S12
  isplitl [S13]; · rw [owns_whole]; iexact S13
  isplitl [S14]; · rw [owns_whole]; iexact S14
  isplitl [S15]; · rw [owns_whole]; iexact S15
  isplitl [S16]; · rw [owns_whole]; iexact S16
  rw [owns_whole]; iexact S17

/-- And takes it back. -/
theorem scr_out (c : Dev nD) : (dats m 0 c).Φ (Fin.last (cfg0 (F := F)).N) ⊢ (Pipeline.ΦA (cfg0 (F := F)).spec c : sProp 𝕄) := by
  show iprop(scr m c (cfg0 (F := F)).N ∗ ∃ r, prngReg c r) ⊢ (Pipeline.ΦA spec0 c : sProp 𝕄)
  unfold Pipeline.ΦA scr
  rw [scopedRest0_eq]
  iintro ⟨⟨%x12, %x13, %x14, %x15, %x16, %x17, %hR, S12, S13, S14, S15, S16, S17⟩, Hr⟩
  isplitr [Hr]; swap; · iexact Hr
  isplitl [S12]; · iexists x12; rw [← owns_whole]; iexact S12
  isplitl [S13]; · iexists x13; rw [← owns_whole]; iexact S13
  isplitl [S14]; · iexists x14; rw [← owns_whole]; iexact S14
  isplitl [S15]; · iexists x15; rw [← owns_whole]; iexact S15
  isplitl [S16]; · iexists x16; rw [← owns_whole]; iexact S16
  iexists x17; rw [← owns_whole]; iexact S17

set_option backward.isDefEq.respectTransparency.types false in
set_option maxHeartbeats 1600000 in
/-- Every run of @main ends at the launch's postcondition with every semaphore counter at zero. -/
theorem run_main : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around_track (Q' := _) cfgs (dats m) (0 : Fin 1) launch0 defs₀ 𝒱₀ m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := scr_in m) (hout := scr_out m) (hQ' := fun _ h => h)

/-- Every run of @main ends with the arguments unchanged and every semaphore counter at zero. -/
theorem frame : θ_run defs (onTc (τ := τ) (main (F := F))) ⟨m, fun _ => 0, ρ⟩ (fun r => Unchanged m r.2.mem ∧ r.2.sem = fun _ => 0) :=
  (θ_run defs _ _).mono (fun r h => ⟨unchanged_of m (dats m) (A_eq m) r h.1, h.2⟩) (run_main m ρ)

end Cert.Proof.KI

end
-- ==== Proof.Alg.KerArr.lean ====
/-
  The kernel's two results after its run: the array of the first, row block by row block, and the second reshaped.
-/
module

public import proofs.«01_k».proof.Proof.KI.Run
public import Idealize.ShloMosaic.Lib.Pipeline.ValueKit

@[expose] public section

set_option maxRecDepth 16384

noncomputable section

namespace Cert.Proof.Alg

open Cert.KernelIdeal Cert.KernelIdeal.Gen Cert.Proof.Chain Cert.Proof.KI
open Idealize.ShloMosaic Idealize.ShloMosaic.TcCoe Idealize.ShloMosaic.Tactic
open Idealize.ShloMosaic.Pipeline (Dat Cfg Window)

variable (m : (ℓ : Loc nD τ sig) → Buf (Elt Ideal) ℓ)

/-- Where the blocks of the two results lie. -/
theorem idx_out : ∀ t : Fin grid0.N, win0_9.index t 0 = t.val ∧ win0_9.index t 1 = 0 ∧ win0_10.index t 0 = 0 ∧ win0_10.index t 1 = 0 := by
  decide +kernel

/-- The first result after the run: row `v` is row `v % 2048` of the block at point `v / 2048`. -/
theorem arr9 (c : Dev nD) : (dats m 0 c).arrAt 9 (cfg0 (F := Ideal)).N
    = fun i : S151936x896.Idx => deRows m c ((i 0).val / 2048) (ix2 (Fin.ofNat 2048 (i 0).val) (i 1)) := by
  refine (dats m 0 c).arrAt_eq_of_covers 9 _ (by decide +kernel) fun t hf y => ?_
  have hy : (y 0).val < 2048 := lt_of_lt_of_le (y 0).isLt (((cfg0 (F := Ideal)).win 9).xsize_le (cfg0.grid.coords t) 0)
  have h0 := (idx_out t).1
  have h1 := (idx_out t).2.1
  blk_simp
  rw [after_9, h0, show (t.val * 2048 + (y 0).val) / 2048 = t.val by omega]
  refine congrArg (deRows m c t.val) (funext fun a => Fin.ext ?_)
  match a with
  | ⟨0, _⟩ =>
    show (y 0).val = (Fin.ofNat 2048 (t.val * 2048 + (y 0).val)).val
    rw [Fin.val_ofNat]; omega
  | ⟨1, _⟩ => exact (Window.rect_emb_val_of_index_zero win0_9 t 1 h1 y).symm

/-- The second result's array after the run. -/
theorem arr10 (c : Dev nD) : (dats m 0 c).arrAt 10 (cfg0 (F := Ideal)).N = dhVal m c := by
  refine (dats m 0 c).arrAt_eq_of_covers 10 _ (by decide +kernel) fun t hf y => ?_
  have h0 := (idx_out t).2.2.1
  have h1 := (idx_out t).2.2.2
  blk_simp
  rw [after_10]
  refine congrArg (dhVal m c) (funext fun a => Fin.ext ?_)
  match a with
  | ⟨0, _⟩ => exact (Window.rect_emb_val_of_index_zero win0_10 t 0 h0 y).symm
  | ⟨1, _⟩ => exact (Window.rect_emb_val_of_index_zero win0_10 t 1 h1 y).symm

/-- The second result after the run, reshaped. -/
theorem tail6 (c : Dev nD) : Pipeline.afterTail₀ (cfgs (F := Ideal)) (dats m) 0 (V0 m) [hostOps1] c main_v6
    = shapeCast S1x256x896 (dhVal m c) shapeCasts_S256x896_S1x256x896 := by
  unfold Pipeline.afterTail₀
  simp only [List.flatten_cons, List.flatten_nil, List.append_nil, hostOps1]
  simp only [Idealize.ShloMosaic.StableHlo.after_cons, Idealize.ShloMosaic.StableHlo.after_nil]
  after_results_simp
  have h : Pipeline.withArrays (cfgs (F := Ideal) 0).spec c (V0 m c) (fun w => (dats m 0 c).arrAt w (cfgs (F := Ideal) 0).N) (Proc.devRef .tc main_v5_1)
      = (dats m 0 c).arrAt 10 (cfg0 (F := Ideal)).N :=
    Pipeline.withArrays_arr (cfgs (F := Ideal) 0).spec (by exact (by decide : Function.Injective (Pipeline.arrRef spec0))) c (V0 m c) _ 10
  exact congrArg (fun z => shapeCast S1x256x896 (z : S256x896.Idx → Elt Ideal .bf16) shapeCasts_S256x896_S1x256x896) (h.trans (arr10 m c))

end Cert.Proof.Alg

end
-- ==== Proof.Alg.Sums.lean ====
/-
  The values the kernel's launch computes, read as extended reals at one index: each is a finite sum over the rows or the
  columns of the arrays.
-/
module

public import proofs.«01_k».proof.Proof.KI.Body
public import Idealize.ShloMosaic.Lib.Pointwise
public import Idealize.ShloMosaic.PureOps.Ideal.Laws

@[expose] public section

set_option maxRecDepth 16384

noncomputable section

namespace Cert.Proof.Alg

open Cert.KernelIdeal Cert.KernelIdeal.Gen Cert.Proof.Chain Cert.Proof.KI
open Idealize.ShloMosaic

section

variable (A3 : S256x1187.Idx → Elt Ideal .f32) (A6 : S256x151936.Idx → Elt Ideal .fp8e5m2) (A7 : S1x151936.Idx → Elt Ideal .f32)
  (A8 : S151936x896.Idx → Elt Ideal .i8) (hh : S256x896.Idx → Elt Ideal .bf16)

/-- The scaled gradient is the product of the code and its scale. -/
theorem dlAt_eq (r v : ℕ) : dlAt (F := Ideal) A3 A6 r v
    = ((A6 (ix2 (Fin.ofNat 256 r) (Fin.ofNat 151936 v)) : EReal) * (A3 (ix2 (Fin.ofNat 256 r) (Fin.ofNat 1187 (v / 128))) : EReal) : EReal) := rfl

/-- Column `v`'s part of the second result at row `s`, column `d`. -/
def hTerm (s : Fin 256) (d : Fin 896) (v : ℕ) : EReal :=
  ((dlAt (F := Ideal) A3 A6 s.val v : EReal) * (A7 (ix2 (0 : Fin 1) (Fin.ofNat 151936 v)) : EReal))
    * ((((A8 (ix2 (Fin.ofNat 151936 v) d) : BitVec 8).toInt : ℝ) : EReal))

/-- A sub-block of 256 columns adds their parts. -/
theorem acc256_apply (v₀ : ℕ) (acc : S256x896.Idx → Elt Ideal .f32) (s : Fin 256) (d : Fin 896) :
    (acc256 A3 A6 A7 A8 v₀ acc (ix2 s d) : EReal) = (acc (ix2 s d) : EReal) + ∑ k ∈ Finset.range 256, hTerm A3 A6 A7 A8 s d (v₀ + k) := by
  rw [← Fin.sum_univ_eq_sum_range (fun k => hTerm A3 A6 A7 A8 s d (v₀ + k)) 256]
  unfold acc256
  pointwise []
  rfl

/-- A sub-block of 128 columns adds their parts. -/
theorem acc128_apply (v₀ : ℕ) (acc : S256x896.Idx → Elt Ideal .f32) (s : Fin 256) (d : Fin 896) :
    (acc128 A3 A6 A7 A8 v₀ acc (ix2 s d) : EReal) = (acc (ix2 s d) : EReal) + ∑ k ∈ Finset.range 128, hTerm A3 A6 A7 A8 s d (v₀ + k) := by
  rw [← Fin.sum_univ_eq_sum_range (fun k => hTerm A3 A6 A7 A8 s d (v₀ + k)) 128]
  unfold acc128
  pointwise []
  rfl

/-- The first `k` sub-blocks of a block add the parts of their columns. -/
theorem accTo_apply (v₀ : ℕ) (acc : S256x896.Idx → Elt Ideal .f32) (s : Fin 256) (d : Fin 896) (k : ℕ) :
    (accTo A3 A6 A7 A8 v₀ acc k (ix2 s d) : EReal) = (acc (ix2 s d) : EReal) + ∑ j ∈ Finset.range (256 * k), hTerm A3 A6 A7 A8 s d (v₀ + j) := by
  induction k with
  | zero => exact (add_zero (acc (ix2 s d) : EReal)).symm
  | succ k ih =>
    refine (acc256_apply A3 A6 A7 A8 (v₀ + 256 * k) (accTo A3 A6 A7 A8 v₀ acc k) s d).trans ?_
    rw [ih, Nat.mul_succ, Finset.sum_range_add, add_assoc]
    simp only [Nat.add_assoc]

/-- The first `n` blocks leave the sum of the parts of their columns. -/
theorem accAt_apply (s : Fin 256) (d : Fin 896) (n : ℕ) :
    (accAt A3 A6 A7 A8 n (ix2 s d) : EReal) = ∑ j ∈ Finset.range (2048 * n), hTerm A3 A6 A7 A8 s d j := by
  induction n with
  | zero => exact Ideal.ofBits_zero_f32
  | succ n ih =>
    refine (accTo_apply A3 A6 A7 A8 (2048 * n) (accAt A3 A6 A7 A8 n) s d 8).trans ?_
    rw [ih]
    exact (Finset.sum_range_add _ (2048 * n) 2048).symm

/-- After the last block: the sum of the parts of every column. -/
theorem endOf_apply (s : Fin 256) (d : Fin 896) :
    (endOf A3 A6 A7 A8 (accAt A3 A6 A7 A8 74) (ix2 s d) : EReal) = ∑ j ∈ Finset.range 151936, hTerm A3 A6 A7 A8 s d j := by
  refine (acc128_apply A3 A6 A7 A8 (2048 * 74 + 256) _ s d).trans ?_
  rw [acc256_apply A3 A6 A7 A8 (2048 * 74) (accAt A3 A6 A7 A8 74) s d, accAt_apply, ← Finset.sum_range_add, ← Finset.sum_range_add]

/-- Row `r`'s part of the first result at row `v`, column `d`. -/
def eTerm (v : ℕ) (d : Fin 896) (r : Fin 256) : EReal :=
  (dlAt (F := Ideal) A3 A6 r.val v : EReal) * (hh (ix2 r d) : EReal)

/-- A row of a sub-block of 256 rows, without the embedding rows. -/
theorem de256_apply (v₀ : ℕ) (i : Fin 256) (d : Fin 896) :
    (de256 A3 A6 hh v₀ (ix2 i d) : EReal) = ∑ r : Fin 256, eTerm A3 A6 hh (v₀ + i.val) d r := by
  unfold de256
  pointwise []
  rfl

/-- A row of a sub-block of 128 rows, without the embedding rows. -/
theorem de128_apply (v₀ : ℕ) (i : Fin 128) (d : Fin 896) :
    (de128 A3 A6 hh v₀ (ix2 i d) : EReal) = ∑ r : Fin 256, eTerm A3 A6 hh (v₀ + i.val) d r := by
  unfold de128
  pointwise []
  rfl

/-- A row of a full block, without the embedding rows. -/
theorem deBlk_apply (b : ℕ) (i : Fin 2048) (d : Fin 896) :
    (deBlk A3 A6 hh b (ix2 i d) : EReal) = ∑ r : Fin 256, eTerm A3 A6 hh (2048 * b + i.val) d r := by
  refine (de256_apply A3 A6 hh (2048 * b + 256 * (i.val / 256)) (Fin.ofNat 256 i.val) d).trans ?_
  rw [show 2048 * b + 256 * (i.val / 256) + (Fin.ofNat 256 i.val).val = 2048 * b + i.val by rw [Fin.val_ofNat]; omega]

/-- A row of the last block, without the embedding rows. -/
theorem deEnd_apply (i : Fin 2048) (hi : i.val < 384) (d : Fin 896) :
    (deEnd A3 A6 hh (ix2 i d) : EReal) = ∑ r : Fin 256, eTerm A3 A6 hh (2048 * 74 + i.val) d r := by
  by_cases h : i.val < 256
  · refine (if_pos h).trans ?_
    refine (de256_apply A3 A6 hh (2048 * 74) (Fin.ofNat 256 i.val) d).trans ?_
    rw [show 2048 * 74 + (Fin.ofNat 256 i.val).val = 2048 * 74 + i.val by rw [Fin.val_ofNat]; omega]
  · refine (if_neg h).trans ?_
    refine (de128_apply A3 A6 hh (2048 * 74 + 256) (Fin.ofNat 128 i.val) d).trans ?_
    rw [show 2048 * 74 + 256 + (Fin.ofNat 128 i.val).val = 2048 * 74 + i.val by rw [Fin.val_ofNat]; omega]

/-- The rows of a list of tokens added to a block: each element gains the embedding elements of the tokens whose row it is in. -/
theorem addToks_apply (b : ℕ) (xs : S1.Idx → BitVec 32) (xi : S1x256.Idx → BitVec 32) (dm : S256x896.Idx → Elt Ideal .f32)
    (i : Fin 2048) (d : Fin 896) (ts : List ℕ) (x : S2048x896.Idx → Elt Ideal .f32) :
    (addToks b xs xi dm ts x (ix2 i d) : EReal) = (x (ix2 i d) : EReal)
      + (ts.map fun t => if i.val = (idAt xi t - (one xs + BitVec.ofNat 32 b * 2048#32)).toNat then (dm (ix2 (Fin.ofNat 256 t) d) : EReal) else 0).sum := by
  induction ts generalizing x with
  | nil => exact (add_zero (x (ix2 i d) : EReal)).symm
  | cons t ts ih =>
    refine (ih _).trans ?_
    rw [List.map_cons, List.sum_cons, ← add_assoc]
    refine congrArg (· + _) ?_
    show (if i.val = (idAt xi t - (one xs + BitVec.ofNat 32 b * 2048#32)).toNat then ((x (ix2 i d) : EReal) + (dm (ix2 (Fin.ofNat 256 t) d) : EReal)) else (x (ix2 i d) : EReal)) = _
    by_cases h : i.val = (idAt xi t - (one xs + BitVec.ofNat 32 b * 2048#32)).toNat
    · rw [if_pos h, if_pos h]
    · rw [if_neg h, if_neg h, add_zero]

/-- The sum over a filtered stretch of numbers, as a sum over all of them. -/
theorem sum_filter_map (p : ℕ → Bool) (f : ℕ → EReal) (l : List ℕ) :
    ((l.filter p).map f).sum = (l.map fun t => if p t then f t else 0).sum := by
  induction l with
  | nil => rfl
  | cons a l ih =>
    rw [List.filter_cons, List.map_cons, List.sum_cons, ← ih]
    by_cases h : p a
    · rw [if_pos h, if_pos h, List.map_cons, List.sum_cons]
    · rw [if_neg h, if_neg h, zero_add]

/-- The sum over the list of the first numbers. -/
theorem sum_list_range (f : ℕ → EReal) (n : ℕ) : ((List.range n).map f).sum = ∑ t ∈ Finset.range n, f t := by
  induction n with
  | zero => rfl
  | succ n ih => rw [List.range_succ, List.map_append, List.sum_append, ih, Finset.sum_range_succ]; simp

/-- The block of the first result at point `b`: row `2048 b + i` holds its rows' parts and the embedding elements of the
    tokens whose row it is. -/
theorem deVal_apply (xi : S1x256.Idx → BitVec 32) (xs : S1.Idx → BitVec 32) (dm : S256x896.Idx → Elt Ideal .f32) (b : ℕ) (hb : b < 75)
    (i : Fin 2048) (hi : b = 74 → i.val < 384) (d : Fin 896) :
    (deVal A3 A6 xi xs hh dm b (ix2 i d) : EReal) = (∑ r : Fin 256, eTerm A3 A6 hh (2048 * b + i.val) d r)
      + ∑ t ∈ Finset.range 256, if (localAt xs xi t).toNat = 2048 * b + i.val then (dm (ix2 (Fin.ofNat 256 t) d) : EReal) else 0 := by
  refine (addToks_apply b xs xi dm i d _ _).trans ?_
  congr 1
  · by_cases h : b < 74
    · rw [if_pos h]; exact deBlk_apply A3 A6 hh b i d
    · rw [if_neg h]
      obtain rfl : b = 74 := by omega
      exact deEnd_apply A3 A6 hh i (hi rfl) d
  · unfold bucket
    rw [sum_filter_map, show List.range' (256 - 256) 256 = List.range 256 from List.range_eq_range'.symm, sum_list_range]
    refine Finset.sum_congr rfl fun t _ => ?_
    by_cases h : (localAt xs xi t).toNat = 2048 * b + i.val
    · have hi' : i.val < 2048 := i.isLt
      have h1 : (localAt xs xi t).toNat < 151936 := by
        by_cases e : b = 74
        · have := hi e; omega
        · omega
      have h2 : (localAt xs xi t).toNat / 2048 = b := by omega
      rw [if_pos h, if_pos (decide_eq_true ⟨h1, h2⟩), if_pos]
      have := row_toNat (idAt xi t) (one xs) hb h1 h2
      have hl : (idAt xi t - one xs).toNat = 2048 * b + i.val := h
      omega
    · rw [if_neg h]
      by_cases h3 : (localAt xs xi t).toNat < 151936 ∧ (localAt xs xi t).toNat / 2048 = b
      · rw [if_pos (decide_eq_true h3), if_neg]
        have := row_toNat (idAt xi t) (one xs) hb h3.1 h3.2
        have hl : ¬(idAt xi t - one xs).toNat = 2048 * b + i.val := h
        have h4 : (idAt xi t - one xs).toNat / 2048 = b := h3.2
        omega
      · rw [if_neg (by rw [decide_eq_true_iff]; exact h3)]

end

end Cert.Proof.Alg

end
-- ==== Proof.Alg.Spec.lean ====
/-
  The two results as sums of products of the arguments' elements, read as extended reals.
-/
module

public import Idealize.ShloMosaic.Lib.Pointwise
public import Idealize.ShloMosaic.PureOps.Ideal.Laws

@[expose] public section

set_option maxRecDepth 16384

noncomputable section

namespace Cert.Proof.Alg

open Idealize.ShloMosaic

variable (a0 : (⟨3, ![1, 256, 151936]⟩ : Shape).Idx → EReal) (a1 : (⟨3, ![1, 256, 1187]⟩ : Shape).Idx → EReal)
  (a2 : (⟨3, ![1, 256, 896]⟩ : Shape).Idx → EReal) (a3 : (⟨2, ![1, 256]⟩ : Shape).Idx → EReal)
  (a4 : (⟨2, ![151936, 896]⟩ : Shape).Idx → BitVec 8) (a5 : (⟨1, ![151936]⟩ : Shape).Idx → EReal)
  (a6 : (⟨2, ![1, 256]⟩ : Shape).Idx → BitVec 32) (a7 : (⟨1, ![1]⟩ : Shape).Idx → BitVec 32)
  (a8 : (⟨3, ![1, 256, 896]⟩ : Shape).Idx → EReal)

/-- The scaled gradient of row `s`, column `v`. -/
def dlv (s : Fin 256) (v : Fin 151936) : EReal := a0 (ix3 (0 : Fin 1) s v) * a1 (ix3 (0 : Fin 1) s (⟨v.val / 128, by omega⟩ : Fin 1187))

/-- The second result at row `s`, column `d`: the scaled gradients times the scaled codes, over all columns. -/
def HV (s : Fin 256) (d : Fin 896) : EReal :=
  ∑ v : Fin 151936, dlv a0 a1 s v * ((((a4 (ix2 v d)).toInt : ℝ) : EReal) * a5 (ix1 v))

/-- The first result at row `v`, column `d`: the scaled gradients times the scaled hidden rows, over the tokens, and the
    embedding elements of the tokens whose row is `v`. -/
def EV (v : Fin 151936) (d : Fin 896) : EReal :=
  (∑ r : Fin 256, dlv a0 a1 r v * (a2 (ix3 (0 : Fin 1) r d) * a3 (ix2 (0 : Fin 1) r)))
    + ∑ t : Fin 256, if (a6 (ix2 (0 : Fin 1) t) - a7 (ix1 (0 : Fin 1))).toNat = v.val then a8 (ix3 (0 : Fin 1) t d) else 0

end Cert.Proof.Alg

end
-- ==== Proof.Alg.KerVal.lean ====
/-
  The kernel's two results in closed form over its arguments.
-/
module

public import proofs.«01_k».proof.Proof.Alg.Sums
public import proofs.«01_k».proof.Proof.Alg.Spec
public import proofs.«01_k».proof.Proof.Alg.KerArr

@[expose] public section

set_option maxRecDepth 16384

noncomputable section

namespace Cert.Proof.Alg

open Cert.KernelIdeal Cert.KernelIdeal.Gen Cert.Proof.Chain Cert.Proof.KI
open Idealize.ShloMosaic Idealize.ShloMosaic.TcCoe Idealize.ShloMosaic.Tactic

/-! ### The closed forms over any arrays -/

/-- A reshape read at an index. -/
theorem cast_dls (x : S1x256x1187.Idx → EReal) (r : Fin 256) (q : Fin 1187) : shapeCast S256x1187 x shapeCasts_S1x256x1187_S256x1187 (ix2 r q) = x (ix3 (0 : Fin 1) r q) := by
  pointwise []

/-- A reshape read at an index. -/
theorem cast_h (x : S1x256x896.Idx → EReal) (r : Fin 256) (q : Fin 896) : shapeCast S256x896 x shapeCasts_S1x256x896_S256x896 (ix2 r q) = x (ix3 (0 : Fin 1) r q) := by
  pointwise []

/-- A reshape read at an index. -/
theorem cast_dl (x : S1x256x151936.Idx → EReal) (r : Fin 256) (q : Fin 151936) : shapeCast S256x151936 x shapeCasts_S1x256x151936_S256x151936 (ix2 r q) = x (ix3 (0 : Fin 1) r q) := by
  pointwise []

/-- A reshape read at an index. -/
theorem cast_es (x : S151936.Idx → EReal) (q : Fin 151936) : shapeCast S1x151936 x shapeCasts_S151936_S1x151936 (ix2 (0 : Fin 1) q) = x (ix1 q) := by
  pointwise []

/-- A number below the bound is itself. -/
theorem ofNat_val {n : ℕ} [NeZero n] (i : Fin n) : Fin.ofNat n i.val = i := Fin.ext (Nat.mod_eq_of_lt i.isLt)

section

variable (a0 : S1x256x151936.Idx → EReal) (a1 : S1x256x1187.Idx → EReal) (a2 : S1x256x896.Idx → EReal) (a3 : S1x256.Idx → EReal)
  (a4 : S151936x896.Idx → BitVec 8) (a5 : S151936.Idx → EReal) (a6 : S1x256.Idx → BitVec 32) (a7 : S1.Idx → BitVec 32) (a8 : S1x256x896.Idx → EReal)
  (A3 : S256x1187.Idx → EReal) (A6 : S256x151936.Idx → EReal) (A7 : S1x151936.Idx → EReal) (hh dm : S256x896.Idx → EReal)
  (h3 : ∀ (r : Fin 256) (q : Fin 1187), A3 (ix2 r q) = a1 (ix3 (0 : Fin 1) r q))
  (h6 : ∀ (r : Fin 256) (v : Fin 151936), A6 (ix2 r v) = a0 (ix3 (0 : Fin 1) r v))
  (h7 : ∀ v : Fin 151936, A7 (ix2 (0 : Fin 1) v) = a5 (ix1 v))
  (hhh : ∀ (r : Fin 256) (d : Fin 896), hh (ix2 r d) = a2 (ix3 (0 : Fin 1) r d) * a3 (ix2 (0 : Fin 1) r))
  (hdm : ∀ (t : Fin 256) (d : Fin 896), dm (ix2 t d) = a8 (ix3 (0 : Fin 1) t d))

include h3 h6 in
/-- The scaled gradients the launch computes. -/
theorem dlAt_val (r : Fin 256) (v : Fin 151936) : (dlAt (F := Ideal) A3 A6 r.val v.val : EReal) = dlv a0 a1 r v := by
  have hq : Fin.ofNat 1187 (v.val / 128) = (⟨v.val / 128, by omega⟩ : Fin 1187) := Fin.ext (Nat.mod_eq_of_lt (by omega))
  rw [dlAt_eq, ofNat_val r, ofNat_val v, hq, h6, h3]
  rfl

include h3 h6 h7 in
/-- The accumulator after the last block. -/
theorem endOf_val (s : Fin 256) (d : Fin 896) :
    (endOf (F := Ideal) A3 A6 A7 a4 (accAt (F := Ideal) A3 A6 A7 a4 74) (ix2 s d) : EReal) = HV a0 a1 a4 a5 s d := by
  refine (endOf_apply A3 A6 A7 a4 s d).trans ?_
  rw [Finset.sum_range]
  refine Finset.sum_congr rfl fun v _ => ?_
  unfold hTerm
  rw [dlAt_val a0 a1 A3 A6 h3 h6 s v, ofNat_val v, h7, mul_assoc]
  exact congrArg (dlv a0 a1 s v * ·) (mul_comm (a5 (ix1 v)) _)

include h3 h6 hhh hdm in
/-- The rows of the first result. -/
theorem deVal_val (v : Fin 151936) (d : Fin 896) :
    (deVal (F := Ideal) A3 A6 a6 a7 hh dm (v.val / 2048) (ix2 (Fin.ofNat 2048 v.val) d) : EReal) = EV a0 a1 a2 a3 a6 a7 a8 v d := by
  have hv : v.val < 151936 := v.isLt
  have hm : (Fin.ofNat 2048 v.val).val = v.val % 2048 := Fin.val_ofNat ..
  have e : 2048 * (v.val / 2048) + (Fin.ofNat 2048 v.val).val = v.val := by omega
  refine (deVal_apply A3 A6 hh a6 a7 dm (v.val / 2048) (by omega) (Fin.ofNat 2048 v.val) (by omega) d).trans ?_
  rw [e, Finset.sum_range]
  unfold EV
  congr 1
  · refine Finset.sum_congr rfl fun r _ => ?_
    unfold eTerm
    rw [dlAt_val a0 a1 A3 A6 h3 h6 r v, hhh]
  · refine Finset.sum_congr rfl fun t _ => ?_
    unfold localAt idAt one
    rw [ofNat_val t, hdm]

end

/-! ### At the launch -/

variable (m : (ℓ : Loc nD τ sig) → Buf (Elt Ideal) ℓ)

/-- The scales the launch reads are argument 1. -/
theorem rd_dls (c : Dev nD) (r : Fin 256) (q : Fin 1187) :
    (aDls m c (ix2 r q) : EReal) = (m ((c : Thread nD τ).loc main_arg1) : S1x256x1187.Idx → EReal) (ix3 (0 : Fin 1) r q) := by
  have h : V m c main_v0 = shapeCast S256x1187 (m ((c : Thread nD τ).loc main_arg1) : S1x256x1187.Idx → Elt Ideal .f32) shapeCasts_S1x256x1187_S256x1187 := by
    show StableHlo.after (List.flatten [hostOps0]) (fun b => m (c, b)) (Proc.devRef .tc main_v0) = _
    simp only [List.flatten_cons, List.flatten_nil, List.append_nil, hostOps0]
    simp only [Idealize.ShloMosaic.StableHlo.after_cons, Idealize.ShloMosaic.StableHlo.after_nil]
    after_results_simp
    rfl
  refine (congrFun h _).trans ?_
  exact cast_dls _ r q

/-- The hidden codes the launch reads are argument 2. -/
theorem rd_h (c : Dev nD) (r : Fin 256) (d : Fin 896) :
    (aH m c (ix2 r d) : EReal) = (m ((c : Thread nD τ).loc main_arg2) : S1x256x896.Idx → EReal) (ix3 (0 : Fin 1) r d) := by
  have h : V m c main_v1 = shapeCast S256x896 (m ((c : Thread nD τ).loc main_arg2) : S1x256x896.Idx → Elt Ideal .fp8e4m3) shapeCasts_S1x256x896_S256x896 := by
    show StableHlo.after (List.flatten [hostOps0]) (fun b => m (c, b)) (Proc.devRef .tc main_v1) = _
    simp only [List.flatten_cons, List.flatten_nil, List.append_nil, hostOps0]
    simp only [Idealize.ShloMosaic.StableHlo.after_cons, Idealize.ShloMosaic.StableHlo.after_nil]
    after_results_simp
    rfl
  refine (congrFun h _).trans ?_
  exact cast_h _ r d

/-- The embedding rows the launch reads are argument 8. -/
theorem rd_demb (c : Dev nD) (t : Fin 256) (d : Fin 896) :
    (aDemb m c (ix2 t d) : EReal) = (m ((c : Thread nD τ).loc main_arg8) : S1x256x896.Idx → EReal) (ix3 (0 : Fin 1) t d) := by
  have h : V m c main_v2 = shapeCast S256x896 (m ((c : Thread nD τ).loc main_arg8) : S1x256x896.Idx → Elt Ideal .bf16) shapeCasts_S1x256x896_S256x896 := by
    show StableHlo.after (List.flatten [hostOps0]) (fun b => m (c, b)) (Proc.devRef .tc main_v2) = _
    simp only [List.flatten_cons, List.flatten_nil, List.append_nil, hostOps0]
    simp only [Idealize.ShloMosaic.StableHlo.after_cons, Idealize.ShloMosaic.StableHlo.after_nil]
    after_results_simp
    rfl
  refine (congrFun h _).trans ?_
  exact cast_h _ t d

/-- The gradient codes the launch reads are argument 0. -/
theorem rd_dl (c : Dev nD) (r : Fin 256) (v : Fin 151936) :
    (aDl m c (ix2 r v) : EReal) = (m ((c : Thread nD τ).loc main_arg0) : S1x256x151936.Idx → EReal) (ix3 (0 : Fin 1) r v) := by
  have h : V m c main_v3 = shapeCast S256x151936 (m ((c : Thread nD τ).loc main_arg0) : S1x256x151936.Idx → Elt Ideal .fp8e5m2) shapeCasts_S1x256x151936_S256x151936 := by
    show StableHlo.after (List.flatten [hostOps0]) (fun b => m (c, b)) (Proc.devRef .tc main_v3) = _
    simp only [List.flatten_cons, List.flatten_nil, List.append_nil, hostOps0]
    simp only [Idealize.ShloMosaic.StableHlo.after_cons, Idealize.ShloMosaic.StableHlo.after_nil]
    after_results_simp
    rfl
  refine (congrFun h _).trans ?_
  exact cast_dl _ r v

/-- The rows' scales the launch reads are argument 5. -/
theorem rd_es (c : Dev nD) (v : Fin 151936) :
    (aEs m c (ix2 (0 : Fin 1) v) : EReal) = (m ((c : Thread nD τ).loc main_arg5) : S151936.Idx → EReal) (ix1 v) := by
  have h : V m c main_v4 = shapeCast S1x151936 (m ((c : Thread nD τ).loc main_arg5) : S151936.Idx → Elt Ideal .f32) shapeCasts_S151936_S1x151936 := by
    show StableHlo.after (List.flatten [hostOps0]) (fun b => m (c, b)) (Proc.devRef .tc main_v4) = _
    simp only [List.flatten_cons, List.flatten_nil, List.append_nil, hostOps0]
    simp only [Idealize.ShloMosaic.StableHlo.after_cons, Idealize.ShloMosaic.StableHlo.after_nil]
    after_results_simp
    rfl
  refine (congrFun h _).trans ?_
  exact cast_es _ v

/-- The kernel's second result. -/
theorem dhVal_apply (c : Dev nD) (s : Fin 256) (d : Fin 896) : (dhVal m c (ix2 s d) : EReal)
    = HV (m ((c : Thread nD τ).loc main_arg0)) (m ((c : Thread nD τ).loc main_arg1)) (m ((c : Thread nD τ).loc main_arg4)) (m ((c : Thread nD τ).loc main_arg5)) s d :=
  (endOf_val (m ((c : Thread nD τ).loc main_arg0)) (m ((c : Thread nD τ).loc main_arg1)) (aE m c) (m ((c : Thread nD τ).loc main_arg5)) (aDls m c) (aDl m c) (aEs m c)
    (rd_dls m c) (rd_dl m c) (rd_es m c) s d).trans
    (congrArg (fun z => HV (m ((c : Thread nD τ).loc main_arg0)) (m ((c : Thread nD τ).loc main_arg1)) z (m ((c : Thread nD τ).loc main_arg5)) s d) (V_main_arg4 m c))

/-- The kernel's first result. -/
theorem deRows_apply (c : Dev nD) (v : Fin 151936) (d : Fin 896) : (deRows m c (v.val / 2048) (ix2 (Fin.ofNat 2048 v.val) d) : EReal)
    = EV (m ((c : Thread nD τ).loc main_arg0)) (m ((c : Thread nD τ).loc main_arg1)) (m ((c : Thread nD τ).loc main_arg2)) (m ((c : Thread nD τ).loc main_arg3))
      (m ((c : Thread nD τ).loc main_arg6)) (m ((c : Thread nD τ).loc main_arg7)) (m ((c : Thread nD τ).loc main_arg8)) v d := by
  have h := deVal_val (m ((c : Thread nD τ).loc main_arg0)) (m ((c : Thread nD τ).loc main_arg1)) (m ((c : Thread nD τ).loc main_arg2)) (aHs m c)
    (aIds m c) (aStart m c) (m ((c : Thread nD τ).loc main_arg8)) (aDls m c) (aDl m c) (hhOf (aH m c) (aHs m c)) (extf (s := S256x896) .f32 (aDemb m c) bitsLt_bf16_f32)
    (rd_dls m c) (rd_dl m c) (fun r d => congrArg (· * (aHs m c (ix2 (0 : Fin 1) r) : EReal)) (rd_h m c r d)) (rd_demb m c) v d
  have e3 : aHs m c = m ((c : Thread nD τ).loc main_arg3) := V_main_arg3 m c
  have e6 : aIds m c = m ((c : Thread nD τ).loc main_arg6) := V_main_arg6 m c
  have e7 : aStart m c = m ((c : Thread nD τ).loc main_arg7) := V_main_arg7 m c
  refine h.trans ?_
  rw [e3, e6, e7]

end Cert.Proof.Alg

end
-- ==== Proof.Alg.RefRun.lean ====
/-
  The reference's lines after its launch, composed: what they leave in its two results.
-/
module

public import proofs.«01_k».proof.Proof.Gen.ReferenceIdeal.Frame
public import Idealize.ShloMosaic.Lib.Claim

@[expose] public section

set_option maxRecDepth 16384

noncomputable section

namespace Cert.Proof.Alg.Ref

open Cert.ReferenceIdeal Cert.ReferenceIdeal.Gen
open Idealize.ShloMosaic Idealize.ShloMosaic.TcCoe Idealize.ShloMosaic.Tactic

variable {F : FTy → Type} [FloatOps F]

/-- The scaled gradients, from the widened codes and the scales. -/
def dlOf (x0 : FVec F S1x256x151936 .bf16) (a1 : FVec F S1x256x1187 .f32) : FVec F S1x256x151936 .bf16 :=
  shapeCast S1x256x151936 (mulf (shapeCast S1x256x1187x128 x0 shapeCasts_S1x256x151936_S1x256x1187x128)
    (broadcastInDim S1x256x1187x128 ![0, 1, 2, 3] bcast_S1x256x1187x1_S1x256x1187x128_0_1_2_3
      (broadcastInDim S1x256x1187x1 ![0, 1, 2] bcast_S1x256x1187_S1x256x1187x1_0_1_2 (truncf .bf16 a1 bitsLt_bf16_f32))))
    shapeCasts_S1x256x1187x128_S1x256x151936

/-- The second result. -/
def hOf (x0 : FVec F S1x256x151936 .bf16) (x2 : FVec F S151936x896 .bf16) (a1 : FVec F S1x256x1187 .f32) (a5 : FVec F S151936 .f32) :
    FVec F S1x256x896 .bf16 :=
  truncf .bf16 (Host.dotGeneral dot_S1x256x151936_S151936x896_S1x256x896_2_0_01_1_n_n none (dlOf x0 a1)
    (mulf x2 (broadcastInDim S151936x896 ![0, 1] bcast_S151936x1_S151936x896_0_1
      (broadcastInDim S151936x1 ![0] bcast_S151936_S151936x1_0 (truncf .bf16 a5 bitsLt_bf16_f32)))) : FVec F S1x256x896 .f32) bitsLt_bf16_f32

/-- The tokens' rows, or `151936` for a token outside the shard. -/
def rowOf (a6 : IVec S1x256 32) (a7 : IVec S1 32) : IVec S256x1 32 :=
  let st : IVec S_ 32 := shapeCast S_ a7 shapeCasts_S1_S_
  let l : IVec S1x256 32 := select (andi (cmpi .sge a6 (broadcastInDim S1x256 ![] bcast_S_S1x256 st))
      (cmpi .slt a6 (broadcastInDim S1x256 ![] bcast_S_S1x256 (addi st (constantI S_ 32 151936#32)))))
    (subi a6 (broadcastInDim S1x256 ![] bcast_S_S1x256 st)) (broadcastInDim S1x256 ![] bcast_S_S1x256 (constantI S_ 32 151936#32))
  let r : IVec S256 32 := shapeCast S256 l shapeCasts_S1x256_S256
  broadcastInDim S256x1 ![0] bcast_S256_S256x1_0
    (select (cmpi .slt r (broadcastInDim S256 ![] bcast_S_S256 (constantI S_ 32 0#32)))
      (addi r (broadcastInDim S256 ![] bcast_S_S256 (constantI S_ 32 151936#32))) r)

/-- The first result. -/
def eOf (x0 : FVec F S1x256x151936 .bf16) (x1 : FVec F S1x256x896 .bf16) (a1 : FVec F S1x256x1187 .f32) (a3 : FVec F S1x256 .f32)
    (a6 : IVec S1x256 32) (a7 : IVec S1 32) (a8 : FVec F S1x256x896 .bf16) : FVec F S151936x896 .f32 :=
  Host.scatterAdd scatter_S151936x896_S256x1_S256x896_1_0_0_1
    (Host.dotGeneral dot_S1x256x151936_S1x256x896_S151936x896_01_01_2_2_n_n none (dlOf x0 a1)
      (mulf x1 (broadcastInDim S1x256x896 ![0, 1, 2] bcast_S1x256x1_S1x256x896_0_1_2
        (broadcastInDim S1x256x1 ![0, 1] bcast_S1x256_S1x256x1_0_1 (truncf .bf16 a3 bitsLt_bf16_f32)))) : FVec F S151936x896 .f32)
    (rowOf a6 a7) (extf .f32 (shapeCast S256x896 a8 shapeCasts_S1x256x896_S256x896 : FVec F S256x896 .bf16) bitsLt_bf16_f32)

set_option maxHeartbeats 1600000 in
/-- The lines leave the second result. -/
theorem after_v37 (U : Valuation τ sig (Elt F)) :
    StableHlo.after (List.flatten [hostOps1, hostOps1_1, hostOps1_2]) U (Proc.devRef .tc main_v37)
      = hOf (U (Proc.devRef .tc main_v0_0)) (U (Proc.devRef .tc main_v0_2)) (U (Proc.devRef .tc main_arg1)) (U (Proc.devRef .tc main_arg5)) := by
  simp only [List.flatten_cons, List.flatten_nil, List.append_nil, List.cons_append, List.nil_append, hostOps1, hostOps1_1, hostOps1_2]
  simp only [Idealize.ShloMosaic.StableHlo.after_cons, Idealize.ShloMosaic.StableHlo.after_nil]
  after_results_simp
  rfl

set_option maxHeartbeats 1600000 in
/-- The lines leave the first result. -/
theorem after_v31 (U : Valuation τ sig (Elt F)) :
    StableHlo.after (List.flatten [hostOps1, hostOps1_1, hostOps1_2]) U (Proc.devRef .tc main_v31)
      = eOf (U (Proc.devRef .tc main_v0_0)) (U (Proc.devRef .tc main_v0_1)) (U (Proc.devRef .tc main_arg1)) (U (Proc.devRef .tc main_arg3))
        (U (Proc.devRef .tc main_arg6)) (U (Proc.devRef .tc main_arg7)) (U (Proc.devRef .tc main_arg8)) := by
  simp only [List.flatten_cons, List.flatten_nil, List.append_nil, List.cons_append, List.nil_append, hostOps1, hostOps1_1, hostOps1_2]
  simp only [Idealize.ShloMosaic.StableHlo.after_cons, Idealize.ShloMosaic.StableHlo.after_nil]
  after_results_simp
  rfl

end Cert.Proof.Alg.Ref

end
-- ==== Proof.Alg.RefArr.lean ====
/-
  The reference's run: what its three widened arrays hold, and its two results in closed form over the arguments.
-/
module

public import proofs.«01_k».proof.Proof.Alg.RefRun
public import proofs.«01_k».proof.Proof.Gen.ReferenceIdeal.Frame
public import Idealize.ShloMosaic.Lib.Pipeline.ValueKit

@[expose] public section

set_option maxRecDepth 16384

noncomputable section

namespace Cert.Proof.Alg.Ref

open Cert.ReferenceIdeal Cert.ReferenceIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The block of the gradient codes is the whole array. -/
theorem blk0 (c : Dev nD) : iblk m c 0 t0_0 = (m ((c : Thread nD τ).loc main_arg0) : S1x256x151936.Idx → _) := by
  funext j
  unfold iblk
  blk_simp
  refine congrArg (m ((c : Thread nD τ).loc main_arg0)) (funext fun a => Fin.ext ?_)
  match a with
  | ⟨0, _⟩ => exact Window.rect_emb_val_of_index_zero win0_0 t0_0 0 (by decide +kernel) j
  | ⟨1, _⟩ => exact Window.rect_emb_val_of_index_zero win0_0 t0_0 1 (by decide +kernel) j
  | ⟨2, _⟩ => exact Window.rect_emb_val_of_index_zero win0_0 t0_0 2 (by decide +kernel) j

/-- The widened gradient codes. -/
theorem arr3 (c : Dev nD) : (dats m 0 c).arrAt 3 cfg0.N
    = fun i : S1x256x151936.Idx => k0_pay1 (F := Ideal) (m ((c : Thread nD τ).loc main_arg0)) i := by
  refine (dats m 0 c).arrAt_eq_of_after_last 3 t0_0 (by decide +kernel) _ fun j => ?_
  blk_simp
  rw [after0_3]
  unfold out0_3
  refine (congrFun (View.canon_unit_zero (S := S1x256x151936) (by decide) inb_S1x256x151936_S1x256x151936_0_0_0 _) j).trans ?_
  rw [View.ld_unit_zero (S := S1x256x151936) (by decide) inb_S1x256x151936_S1x256x151936_0_0_0 _]
  exact congrArg (fun z => k0_pay1 (F := Ideal) z j) (blk0 m c)

/-- The block of the activation codes is the whole array. -/
theorem blk1 (c : Dev nD) : iblk m c 1 t0_0 = (m ((c : Thread nD τ).loc main_arg2) : S1x256x896.Idx → _) := by
  funext j
  unfold iblk
  blk_simp
  refine congrArg (m ((c : Thread nD τ).loc main_arg2)) (funext fun a => Fin.ext ?_)
  match a with
  | ⟨0, _⟩ => exact Window.rect_emb_val_of_index_zero win0_1 t0_0 0 (by decide +kernel) j
  | ⟨1, _⟩ => exact Window.rect_emb_val_of_index_zero win0_1 t0_0 1 (by decide +kernel) j
  | ⟨2, _⟩ => exact Window.rect_emb_val_of_index_zero win0_1 t0_0 2 (by decide +kernel) j

/-- The widened activation codes. -/
theorem arr4 (c : Dev nD) : (dats m 0 c).arrAt 4 cfg0.N
    = fun i : S1x256x896.Idx => k0_pay2 (F := Ideal) (m ((c : Thread nD τ).loc main_arg2)) i := by
  refine (dats m 0 c).arrAt_eq_of_after_last 4 t0_0 (by decide +kernel) _ fun j => ?_
  blk_simp
  rw [after0_4]
  unfold out0_4
  refine (congrFun (View.canon_unit_zero (S := S1x256x896) (by decide) inb_S1x256x896_S1x256x896_0_0_0 _) j).trans ?_
  rw [View.ld_unit_zero (S := S1x256x896) (by decide) inb_S1x256x896_S1x256x896_0_0_0 _]
  exact congrArg (fun z => k0_pay2 (F := Ideal) z j) (blk1 m c)

/-- The block of the embedding codes is the whole array. -/
theorem blk2 (c : Dev nD) : iblk m c 2 t0_0 = (m ((c : Thread nD τ).loc main_arg4) : S151936x896.Idx → _) := by
  funext j
  unfold iblk
  blk_simp
  refine congrArg (m ((c : Thread nD τ).loc main_arg4)) (funext fun a => Fin.ext ?_)
  match a with
  | ⟨0, _⟩ => exact Window.rect_emb_val_of_index_zero win0_2 t0_0 0 (by decide +kernel) j
  | ⟨1, _⟩ => exact Window.rect_emb_val_of_index_zero win0_2 t0_0 1 (by decide +kernel) j

/-- The widened embedding codes. -/
theorem arr5 (c : Dev nD) : (dats m 0 c).arrAt 5 cfg0.N
    = fun i : S151936x896.Idx => k0_pay3 (F := Ideal) (m ((c : Thread nD τ).loc main_arg4)) i := by
  refine (dats m 0 c).arrAt_eq_of_after_last 5 t0_0 (by decide +kernel) _ fun j => ?_
  blk_simp
  rw [after0_5]
  unfold out0_5
  refine (congrFun (View.canon_unit_zero (S := S151936x896) (by decide) inb_S151936x896_S151936x896_0_0 _) j).trans ?_
  rw [View.ld_unit_zero (S := S151936x896) (by decide) inb_S151936x896_S151936x896_0_0 _]
  exact congrArg (fun z => k0_pay3 (F := Ideal) z j) (blk2 m c)

/-- The buffers the lines after the region start from. -/
abbrev U (c : Dev nD) : Valuation τ sig (Elt Ideal) :=
  Pipeline.withArrays (cfgs 0).spec c (V0 m c) fun w => (dats m 0 c).arrAt w (cfgs 0).N

/-- No two windows share an array. -/
theorem arr_inj : Function.Injective (Pipeline.arrRef spec0) := by decide

/-- At the widened gradient codes. -/
theorem U_v0_0 (c : Dev nD) : U m c (Proc.devRef .tc main_v0_0) = k0_pay1 (F := Ideal) (m ((c : Thread nD τ).loc main_arg0)) :=
  (Pipeline.withArrays_arr (cfgs 0).spec arr_inj c (V0 m c) _ 3).trans (arr3 m c)
/-- At the widened activation codes. -/
theorem U_v0_1 (c : Dev nD) : U m c (Proc.devRef .tc main_v0_1) = k0_pay2 (F := Ideal) (m ((c : Thread nD τ).loc main_arg2)) :=
  (Pipeline.withArrays_arr (cfgs 0).spec arr_inj c (V0 m c) _ 4).trans (arr4 m c)
/-- At the widened embedding codes. -/
theorem U_v0_2 (c : Dev nD) : U m c (Proc.devRef .tc main_v0_2) = k0_pay3 (F := Ideal) (m ((c : Thread nD τ).loc main_arg4)) :=
  (Pipeline.withArrays_arr (cfgs 0).spec arr_inj c (V0 m c) _ 5).trans (arr5 m c)
/-- At argument 1, as launched. -/
theorem U_arg1 (c : Dev nD) : U m c (Proc.devRef .tc main_arg1) = m ((c : Thread nD τ).loc main_arg1) :=
  Pipeline.withArrays_of_ne _ c (V0 m c) _ main_arg1 (by exact (by decide : ∀ w, Pipeline.arrRef spec0 w ≠ main_arg1))
/-- At argument 3, as launched. -/
theorem U_arg3 (c : Dev nD) : U m c (Proc.devRef .tc main_arg3) = m ((c : Thread nD τ).loc main_arg3) :=
  Pipeline.withArrays_of_ne _ c (V0 m c) _ main_arg3 (by exact (by decide : ∀ w, Pipeline.arrRef spec0 w ≠ main_arg3))
/-- At argument 5, as launched. -/
theorem U_arg5 (c : Dev nD) : U m c (Proc.devRef .tc main_arg5) = m ((c : Thread nD τ).loc main_arg5) :=
  Pipeline.withArrays_of_ne _ c (V0 m c) _ main_arg5 (by exact (by decide : ∀ w, Pipeline.arrRef spec0 w ≠ main_arg5))
/-- At argument 6, as launched. -/
theorem U_arg6 (c : Dev nD) : U m c (Proc.devRef .tc main_arg6) = m ((c : Thread nD τ).loc main_arg6) :=
  Pipeline.withArrays_of_ne _ c (V0 m c) _ main_arg6 (by exact (by decide : ∀ w, Pipeline.arrRef spec0 w ≠ main_arg6))
/-- At argument 7, as launched. -/
theorem U_arg7 (c : Dev nD) : U m c (Proc.devRef .tc main_arg7) = m ((c : Thread nD τ).loc main_arg7) :=
  Pipeline.withArrays_of_ne _ c (V0 m c) _ main_arg7 (by exact (by decide : ∀ w, Pipeline.arrRef spec0 w ≠ main_arg7))
/-- At argument 8, as launched. -/
theorem U_arg8 (c : Dev nD) : U m c (Proc.devRef .tc main_arg8) = m ((c : Thread nD τ).loc main_arg8) :=
  Pipeline.withArrays_of_ne _ c (V0 m c) _ main_arg8 (by exact (by decide : ∀ w, Pipeline.arrRef spec0 w ≠ main_arg8))

/-- The second result after the run. -/
theorem tail37 (c : Dev nD) : Pipeline.afterTail₀ (cfgs) (dats m) 0 (V0 m) [hostOps1, hostOps1_1, hostOps1_2] c main_v37
    = hOf (F := Ideal) (k0_pay1 (F := Ideal) (m ((c : Thread nD τ).loc main_arg0))) (k0_pay3 (F := Ideal) (m ((c : Thread nD τ).loc main_arg4)))
      (m ((c : Thread nD τ).loc main_arg1)) (m ((c : Thread nD τ).loc main_arg5)) := by
  refine (after_v37 (U m c)).trans ?_
  rw [U_v0_0, U_v0_2, U_arg1, U_arg5]

/-- The first result after the run. -/
theorem tail31 (c : Dev nD) : Pipeline.afterTail₀ (cfgs) (dats m) 0 (V0 m) [hostOps1, hostOps1_1, hostOps1_2] c main_v31
    = eOf (F := Ideal) (k0_pay1 (F := Ideal) (m ((c : Thread nD τ).loc main_arg0))) (k0_pay2 (F := Ideal) (m ((c : Thread nD τ).loc main_arg2)))
      (m ((c : Thread nD τ).loc main_arg1)) (m ((c : Thread nD τ).loc main_arg3)) (m ((c : Thread nD τ).loc main_arg6))
      (m ((c : Thread nD τ).loc main_arg7)) (m ((c : Thread nD τ).loc main_arg8)) := by
  refine (after_v31 (U m c)).trans ?_
  rw [U_v0_0, U_v0_1, U_arg1, U_arg3, U_arg6, U_arg7, U_arg8]

end Cert.Proof.Alg.Ref

end
-- ==== Proof.Alg.RefRow.lean ====
/-
  The token's row in the reference, and what its scatter adds at an index.
-/
module

public import proofs.«01_k».proof.Proof.Alg.RefRun
public import proofs.«01_k».proof.Proof.Alg.Spec

@[expose] public section

set_option maxRecDepth 16384

noncomputable section

namespace Cert.Proof.Alg.Ref

open Cert.ReferenceIdeal Cert.ReferenceIdeal.Gen
open Idealize.ShloMosaic

/-- The row of a token `x` in the shard that starts at `s`, as a word. -/
def rowWord (x s : BitVec 32) : BitVec 32 :=
  let l := if s.sle x && x.slt (s + 151936#32) then x - s else 151936#32
  if l.slt 0#32 then l + 151936#32 else l

/-- A word read signed, from its natural number. -/
theorem toInt_cases (x : BitVec 32) : (x.toInt = (x.toNat : ℤ) ∧ x.toNat < 2147483648)
    ∨ (x.toInt = (x.toNat : ℤ) - 4294967296 ∧ 2147483648 ≤ x.toNat ∧ x.toNat < 4294967296) := by
  have h := x.isLt
  rw [BitVec.toInt_eq_toNat_cond]
  split <;> omega

/-- When the shard's end does not wrap, the row is `v` exactly when the token is `v` past the start. -/
theorem rowWord_toInt (x s : BitVec 32) (hs : s.toInt ≤ 2147331711) (v : ℕ) (hv : v < 151936) :
    (rowWord x s).toInt = (v : ℤ) ↔ (x - s).toNat = v := by
  have e1 : ((s + 151936#32).toNat = s.toNat + 151936 ∧ s.toNat + 151936 < 4294967296)
      ∨ ((s + 151936#32).toNat = s.toNat + 151936 - 4294967296 ∧ 4294967296 ≤ s.toNat + 151936) := by
    have := s.isLt
    rw [BitVec.toNat_add, BitVec.toNat_ofNat]; omega
  have e2 : ((x - s).toNat = x.toNat - s.toNat ∧ s.toNat ≤ x.toNat) ∨ ((x - s).toNat = x.toNat + 4294967296 - s.toNat ∧ x.toNat < s.toNat) := by
    have := s.isLt
    have := x.isLt
    rw [BitVec.toNat_sub]; omega
  have hx := toInt_cases x
  have hs' := toInt_cases s
  have hn := toInt_cases (s + 151936#32)
  have hd := toInt_cases (x - s)
  have hA : (s.sle x && x.slt (s + 151936#32)) = true ↔ (x - s).toNat < 151936 := by
    simp only [BitVec.slt, BitVec.sle, Bool.and_eq_true, decide_eq_true_eq]
    omega
  unfold rowWord
  by_cases h : (x - s).toNat < 151936
  · have hlt : ¬ ((x - s).slt 0#32 = true) := by
      simp only [BitVec.slt, decide_eq_true_eq, BitVec.toInt_zero]
      omega
    simp only [if_pos (hA.mpr h), if_neg hlt]
    omega
  · have hlt : ¬ ((151936#32).slt 0#32 = true) := by decide
    simp only [if_neg (mt hA.mp h), if_neg hlt]
    have : (151936#32).toInt = 151936 := by decide
    omega

/-- A conjunction of conditions decides a choice as both of them do. -/
theorem select_and (p q : Bool) (a b : BitVec 32) :
    Scalar.select (IntOp.andi (BitVec.ofBool p) (BitVec.ofBool q)) a b = if (p && q) = true then a else b := by
  cases p <;> cases q <;> rfl

/-- A condition decides a choice. -/
theorem select_one (p : Bool) (a b : BitVec 32) : Scalar.select (BitVec.ofBool p) a b = if p = true then a else b := by
  cases p <;> rfl

/-- The token's row in the reference. -/
theorem rowOf_apply (a6 : S1x256.Idx → BitVec 32) (a7 : S1.Idx → BitVec 32) (t : Fin 256) :
    rowOf a6 a7 (ix2 t (0 : Fin 1)) = rowWord (a6 (ix2 (0 : Fin 1) t)) (a7 (ix1 (0 : Fin 1))) := by
  unfold rowOf rowWord
  pointwise []
  simp only [IntOp.cmpi, select_and, select_one]
  rfl

/-- Where an update lands: its row, when that is a row of the operand, and its own column. -/
theorem resultIdx_eq (idx : IVec S256x1 32) (t : Fin 256) (d' d : Fin 896) (v : Fin 151936) :
    scatter_S151936x896_S256x1_S256x896_1_0_0_1.resultIdx? (ix2 t d') idx = some (ix2 v d)
      ↔ (idx (ix2 t (0 : Fin 1))).toInt = (v.val : ℤ) ∧ d' = d := by
  have s0 : scatter_S151936x896_S256x1_S256x896_1_0_0_1.start (ix2 t d') idx 0 = (idx (ix2 t (0 : Fin 1))).toInt := by
    unfold ScatterDims.start
    rw [dif_pos (by decide)]
    congr 2
    funext b
    fin_cases b <;> rfl
  have s1 : scatter_S151936x896_S256x1_S256x896_1_0_0_1.start (ix2 t d') idx 1 = 0 := by
    unfold ScatterDims.start; rw [dif_neg (by decide)]
  have w0 : scatter_S151936x896_S256x1_S256x896_1_0_0_1.window (ix2 t d') 0 = 0 := by
    unfold ScatterDims.window; rw [dif_neg (by decide)]
  have w1 : scatter_S151936x896_S256x1_S256x896_1_0_0_1.window (ix2 t d') 1 = d'.val := by
    unfold ScatterDims.window; rw [dif_pos (by decide)]; rfl
  have hv := v.isLt
  have hd := d.isLt
  have hd' := d'.isLt
  unfold ScatterDims.resultIdx?
  constructor
  · intro h
    split at h
    · rename_i hin
      have h := Option.some.inj h
      have h0 := congrArg Fin.val (congrFun h 0)
      have h1 := congrArg Fin.val (congrFun h 1)
      have i0 := hin 0
      simp only [s0, s1, w0, w1] at h0 h1 i0
      have e0 : (ix2 v d 0 : Fin 151936).val = v.val := rfl
      have e1 : (ix2 v d 1 : Fin 896).val = d.val := rfl
      refine ⟨?_, Fin.ext ?_⟩
      · have : ((idx (ix2 t (0 : Fin 1))).toInt + ((0 : ℕ) : ℤ)).toNat = v.val := h0
        omega
      · have : ((0 : ℤ) + (d'.val : ℤ)).toNat = d.val := h1
        omega
    · exact absurd h (by simp)
  · rintro ⟨h0, rfl⟩
    have hin : ∀ a, 0 ≤ scatter_S151936x896_S256x1_S256x896_1_0_0_1.start (ix2 t d') idx a + scatter_S151936x896_S256x1_S256x896_1_0_0_1.window (ix2 t d') a
        ∧ scatter_S151936x896_S256x1_S256x896_1_0_0_1.start (ix2 t d') idx a + scatter_S151936x896_S256x1_S256x896_1_0_0_1.window (ix2 t d') a < S151936x896.size a := by
      intro a
      match a with
      | 0 => rw [s0, w0, h0]; exact ⟨by omega, (by omega : (v.val : ℤ) + ((0 : ℕ) : ℤ) < ((151936 : ℕ) : ℤ))⟩
      | 1 => rw [s1, w1]; exact ⟨by omega, (by omega : (0 : ℤ) + (d'.val : ℤ) < ((896 : ℕ) : ℤ))⟩
    rw [dif_pos hin]
    congr 1
    funext a
    match a with
    | 0 => refine Fin.ext ?_; simp only [s0, w0, h0]; exact (by omega : ((v.val : ℤ) + ((0 : ℕ) : ℤ)).toNat = v.val)
    | 1 => refine Fin.ext ?_; simp only [s1, w1]; exact (by omega : ((0 : ℤ) + (d'.val : ℤ)).toNat = d'.val)

/-- The scatter at an index: the tokens of that row, each with its own vector's entry. -/
theorem scatter_apply (x : S151936x896.Idx → EReal) (idx : IVec S256x1 32) (u : S256x896.Idx → EReal) (v : Fin 151936) (d : Fin 896) :
    (Host.scatterAdd (F := Ideal) (φ := .f32) scatter_S151936x896_S256x1_S256x896_1_0_0_1 x idx u (ix2 v d) : EReal)
      = x (ix2 v d) + ∑ t : Fin 256, if (idx (ix2 t (0 : Fin 1))).toInt = (v.val : ℤ) then u (ix2 t d) else 0 := by
  show x (ix2 v d) + ∑ j ∈ Finset.univ.filter (fun j => scatter_S151936x896_S256x1_S256x896_1_0_0_1.resultIdx? j idx = some (ix2 v d)), u j = _
  congr 1
  rw [Finset.sum_filter]
  refine (Idealize.ShloMosaic.sum_idx2 _).trans (Finset.sum_congr rfl fun t _ => ?_)
  simp only [resultIdx_eq]
  by_cases h : (idx (ix2 t (0 : Fin 1))).toInt = (v.val : ℤ)
  · simp only [h, true_and, if_true]
    rw [Finset.sum_ite_eq' Finset.univ d fun d' => u (ix2 t d')]
    rw [if_pos (Finset.mem_univ _)]
  · simp only [h, false_and, if_false, Finset.sum_const_zero]

end Cert.Proof.Alg.Ref

end
-- ==== Proof.Alg.RefVal.lean ====
/-
  The reference's two results in closed form over the arguments.
-/
module

public import proofs.«01_k».proof.Proof.Alg.RefRow
public import proofs.«01_k».proof.Proof.Alg.Spec

@[expose] public section

set_option maxRecDepth 16384

noncomputable section

namespace Cert.Proof.Alg.Ref

open Cert.ReferenceIdeal Cert.ReferenceIdeal.Gen
open Idealize.ShloMosaic

variable (a0 : S1x256x151936.Idx → EReal) (a1 : S1x256x1187.Idx → EReal) (a2 : S1x256x896.Idx → EReal) (a3 : S1x256.Idx → EReal)
  (a4 : S151936x896.Idx → EReal) (a5 : S151936.Idx → EReal)

/-- The scaled gradients at an index. -/
theorem dlOf_apply (s : Fin 256) (v : Fin 151936) : (dlOf (F := Ideal) a0 a1 (ix3 (0 : Fin 1) s v) : EReal) = dlv a0 a1 s v := by
  unfold dlOf dlv
  pointwise []

/-- The second result at an index. -/
theorem hOf_apply (s : Fin 256) (d : Fin 896) : (hOf (F := Ideal) a0 a4 a1 a5 (ix3 (0 : Fin 1) s d) : EReal)
    = ∑ v : Fin 151936, dlv a0 a1 s v * (a4 (ix2 v d) * a5 (ix1 v)) := by
  unfold hOf
  pointwise []
  exact Finset.sum_congr rfl fun v _ => congrArg (· * (a4 (ix2 v d) * a5 (ix1 v))) (dlOf_apply a0 a1 s v)

/-- The product in the first result, at an index. -/
theorem eDot_apply (v : Fin 151936) (d : Fin 896) :
    (Host.dotGeneral (F := Ideal) dot_S1x256x151936_S1x256x896_S151936x896_01_01_2_2_n_n none (dlOf a0 a1 : FVec Ideal S1x256x151936 .bf16)
      (mulf (a2 : FVec Ideal S1x256x896 .bf16) (broadcastInDim S1x256x896 ![0, 1, 2] bcast_S1x256x1_S1x256x896_0_1_2
        (broadcastInDim S1x256x1 ![0, 1] bcast_S1x256_S1x256x1_0_1 (truncf .bf16 (a3 : FVec Ideal S1x256 .f32) bitsLt_bf16_f32))) : FVec Ideal S1x256x896 .bf16)
      (ix2 v d) : EReal)
    = ∑ r : Fin 256, dlv a0 a1 r v * (a2 (ix3 (0 : Fin 1) r d) * a3 (ix2 (0 : Fin 1) r)) := by
  pointwise []
  rw [Fin.sum_univ_one]
  exact Finset.sum_congr rfl fun r _ => congrArg (· * (a2 (ix3 (0 : Fin 1) r d) * a3 (ix2 (0 : Fin 1) r))) (dlOf_apply a0 a1 r v)

/-- The first result, when the shard's end does not wrap. -/
theorem eOf_apply (a6 : S1x256.Idx → BitVec 32) (a7 : S1.Idx → BitVec 32) (a8 : S1x256x896.Idx → EReal)
    (hs : (a7 (ix1 (0 : Fin 1))).toInt ≤ 2147331711) (v : Fin 151936) (d : Fin 896) :
    (eOf (F := Ideal) a0 a2 a1 a3 a6 a7 a8 (ix2 v d) : EReal) = EV a0 a1 a2 a3 a6 a7 a8 v d := by
  refine (scatter_apply _ _ _ v d).trans ?_
  unfold EV
  refine congr (congrArg _ (eDot_apply a0 a1 a2 a3 v d)) (Finset.sum_congr rfl fun t _ => ?_)
  refine if_congr ?_ ?_ rfl
  · rw [rowOf_apply]; exact rowWord_toInt _ _ hs v.val v.isLt
  · show (extf .f32 (shapeCast S256x896 (a8 : FVec Ideal S1x256x896 .bf16) shapeCasts_S1x256x896_S256x896 : FVec Ideal S256x896 .bf16) bitsLt_bf16_f32 (ix2 t d) : EReal) = a8 (ix3 (0 : Fin 1) t d)
    pointwise []

/-- The second result, over the embedding codes. -/
theorem hOf_eq (c4 : S151936x896.Idx → BitVec 8) (s : Fin 256) (d : Fin 896) :
    (hOf (F := Ideal) a0 (fun i => (((c4 i).toInt : ℝ) : EReal)) a1 a5 (ix3 (0 : Fin 1) s d) : EReal) = HV a0 a1 c4 a5 s d :=
  hOf_apply a0 a1 _ a5 s d

end Cert.Proof.Alg.Ref

end
-- ==== Proof.Alg.Pair.lean ====
/-
  The idealized kernel and the idealized reference end at the same two results, when the shard's end does not wrap.
-/
module

public import proofs.«01_k».proof.Defs
public import proofs.«01_k».proof.Proof.Alg.KerArr
public import proofs.«01_k».proof.Proof.Alg.KerVal
public import proofs.«01_k».proof.Proof.Alg.RefArr
public import proofs.«01_k».proof.Proof.Alg.RefVal
public import Idealize.ShloMosaic.Adequacy
public import Idealize.ShloMosaic.Init

@[expose] public section

set_option maxRecDepth 16384

noncomputable section

namespace Cert.Proof.Alg

open Idealize.ShloMosaic Idealize.ShloMosaic.TcCoe Idealize.SL.Sem

abbrev SE : Shape := ⟨2, ![151936, 896]⟩
abbrev SH : Shape := ⟨3, ![1, 256, 896]⟩
abbrev SH2 : Shape := ⟨2, ![256, 896]⟩

/-- The precondition's one side condition. -/
theorem preFacts : Cert.Pre_shard_end_in_range.Facts := ⟨by decide⟩

/-- The precondition bounds the shard's start. -/
theorem start_le (a7 : (⟨1, ![1]⟩ : Shape).Idx → BitVec 32)
    (h : IntOp.cmpi .sle (a7 (ix1 (0 : Fin 1))) 2147331711#32 = 1#1) : (a7 (ix1 (0 : Fin 1))).toInt ≤ 2147331711 := by
  have hb : ∀ b : Bool, BitVec.ofBool b = 1#1 → b = true := by decide
  have := hb _ h
  simp only [BitVec.sle, decide_eq_true_eq] at this
  have e : (2147331711#32).toInt = 2147331711 := by decide
  omega

/-- An index of the second result, by its last two coordinates. -/
theorem eta_H (i : SH.Idx) : i = ix3 (0 : Fin 1) (i 1 : Fin 256) (i 2 : Fin 896) := by
  funext a
  match a with
  | ⟨0, _⟩ => exact Fin.ext (by have : (i 0).val < 1 := (i 0).isLt; show (i 0).val = 0; omega)
  | ⟨1, _⟩ => rfl
  | ⟨2, _⟩ => rfl

/-- An index of the first result, by its coordinates. -/
theorem eta_E (i : SE.Idx) : i = ix2 (i 0 : Fin 151936) (i 1 : Fin 896) := by
  funext a
  match a with
  | ⟨0, _⟩ => rfl
  | ⟨1, _⟩ => rfl

/-- A leading axis of one, added by a reshape. -/
theorem lead_one (x : SH2.Idx → EReal) (h : SH2.ShapeCasts SH) (s : Fin 256) (d : Fin 896) :
    (shapeCast SH (x : FVec Ideal SH2 .bf16) h (ix3 (0 : Fin 1) s d) : EReal) = x (ix2 s d) := by
  pointwise []

section Kernel
open Cert.KernelIdeal Cert.KernelIdeal.Gen Cert.Proof.Chain Cert.Proof.KI
variable (m : (ℓ : Loc nD τ sig) → Buf (Elt Ideal) ℓ)

/-- The first result of the claim. -/
def resE (c : Dev nD) : SE.Idx → EReal := fun i =>
  EV (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg8)) (i 0) (i 1)

/-- The second result of the claim. -/
def resH (c : Dev nD) : SH.Idx → EReal := fun i =>
  HV (m ((c : Thread nD τ).loc main_arg0)) (m ((c : Thread nD τ).loc main_arg1)) (m ((c : Thread nD τ).loc main_arg4)) (m ((c : Thread nD τ).loc main_arg5)) (i 1) (i 2)

/-- The kernel's first result. -/
theorem ker_E (c : Dev nD) : (dats m 0 c).arrAt 9 (cfg0 (F := Ideal)).N = resE m c :=
  (arr9 m c).trans (funext fun i => deRows_apply m c (i 0) (i 1))

/-- The kernel's second result. -/
theorem ker_H (c : Dev nD) : Pipeline.afterTail₀ (cfgs (F := Ideal)) (dats m) 0 (V0 m) [hostOps1] c main_v6 = resH m c := by
  refine (tail6 m c).trans (funext fun i => ?_)
  refine (congrArg _ (eta_H i)).trans ?_
  exact (lead_one (dhVal m c) _ (i 1) (i 2)).trans (dhVal_apply m c (i 1) (i 2))

/-- The kernel's run. -/
theorem ker_run (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = resE m c ∧ r.2.mem ((c.tc : Thread nD τ).loc main_v6) = resH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (ker_E m c),
    ((h.1 c).2 main_v6 (Pipeline.mem_restRefs_of main_v6 (by decide) (by exact (by decide : ∀ w, Pipeline.arrRef spec0 w ≠ main_v6)))).trans (ker_H m c),
    unchanged_of m (dats m) (A_eq m) r h.1 c⟩) (run_main m g)

end Kernel

section Reference
open Cert.ReferenceIdeal Cert.ReferenceIdeal.Gen
variable (m : (ℓ : Loc nD τ sig) → Buf (Elt Ideal) ℓ)

/-- The first result of the reference. -/
def refE (c : Dev nD) : SE.Idx → EReal := fun i =>
  EV (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg8)) (i 0) (i 1)

/-- The second result of the reference. -/
def refH (c : Dev nD) : SH.Idx → EReal := fun i =>
  HV (m ((c : Thread nD τ).loc main_arg0)) (m ((c : Thread nD τ).loc main_arg1)) (m ((c : Thread nD τ).loc main_arg4)) (m ((c : Thread nD τ).loc main_arg5)) (i 1) (i 2)

/-- What the reference's lines leave in its first result. -/
theorem ref_E (c : Dev nD)
    (hs : ((m ((c : Thread nD τ).loc main_arg7) : (⟨1, ![1]⟩ : Shape).Idx → BitVec 32) (ix1 (0 : Fin 1))).toInt ≤ 2147331711) :
    Pipeline.afterTail₀ cfgs (dats m) 0 (V0 m) [hostOps1, hostOps1_1, hostOps1_2] c main_v31 = refE m c := by
  refine (Ref.tail31 m c).trans (funext fun i => ?_)
  refine (congrArg _ (eta_E i)).trans ?_
  exact Ref.eOf_apply _ _ _ _ _ _ _ hs (i 0) (i 1)

/-- What the reference's lines leave in its second result. -/
theorem ref_H (c : Dev nD) :
    Pipeline.afterTail₀ cfgs (dats m) 0 (V0 m) [hostOps1, hostOps1_1, hostOps1_2] c main_v37 = refH m c := by
  refine (Ref.tail37 m c).trans (funext fun i => ?_)
  refine (congrArg _ (eta_H i)).trans ?_
  exact Ref.hOf_eq _ _ _ _ (i 1) (i 2)

/-- The reference's run. -/
theorem ref_run (g : Dev nD → PrngReg)
    (hs : ∀ c : Dev nD, ((m ((c : Thread nD τ).loc main_arg7) : (⟨1, ![1]⟩ : Shape).Idx → BitVec 32) (ix1 (0 : Fin 1))).toInt ≤ 2147331711) :
    θ_run (defs (F := Ideal)) (onTc (τ := τ) (main (F := Ideal))) ⟨m, fun _ => 0, g⟩ (fun r => ∀ c : Dev nD,
      r.2.mem ((c.tc : Thread nD τ).loc main_v31) = refE m c ∧ r.2.mem ((c.tc : Thread nD τ).loc main_v37) = refH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    ((h.1 c).2 main_v31 (Pipeline.mem_restRefs_of main_v31 (by decide) (by exact (by decide : ∀ w, Pipeline.arrRef spec0 w ≠ main_v31)))).trans (ref_E m c (hs c)),
    ((h.1 c).2 main_v37 (Pipeline.mem_restRefs_of main_v37 (by decide) (by exact (by decide : ∀ w, Pipeline.arrRef spec0 w ≠ main_v37)))).trans (ref_H m c),
    h.2 c⟩) (θ_run_and (run_main m g) (unchanged m g))

end Reference

/-- The claim: both runs end at the same two results, the arguments unchanged. -/
theorem pair : @Cert.algebraic_KernelIdeal_ReferenceIdeal_pre_shard_end_in_range Cert.KernelIdeal.Gen.facts Cert.ReferenceIdeal.Gen.facts preFacts := by
  intro m g m' g' hpre hag
  have hs : ∀ c : Dev Cert.ReferenceIdeal.nD, ((m' ((c : Thread Cert.ReferenceIdeal.nD Cert.ReferenceIdeal.τ).loc Cert.ReferenceIdeal.main_arg7) :
      (⟨1, ![1]⟩ : Shape).Idx → BitVec 32) (ix1 (0 : Fin 1))).toInt ≤ 2147331711 := fun c => by
    have h := start_le (m ((c : Thread Cert.KernelIdeal.nD Cert.KernelIdeal.τ).loc Cert.KernelIdeal.main_arg7)) (congrFun (hpre c) (ix1 (0 : Fin 1)))
    rw [(hag c).2.2.2.2.2.2.2.1]
    exact h
  have hE : ∀ c, refE m' c = resE m c := fun c => by
    obtain ⟨h0, h1, h2, h3, h4, h5, h6, h7, h8⟩ := hag c
    unfold refE resE
    rw [h0, h1, h2, h3, h6, h7, h8]
  have hH : ∀ c, refH m' c = resH m c := fun c => by
    obtain ⟨h0, h1, h2, h3, h4, h5, h6, h7, h8⟩ := hag c
    unfold refH resH
    rw [h0, h1, h4, h5]
  exact ⟨resE m, resH m, ker_run m g,
    (θ_run Cert.ReferenceIdeal.defs _ _).mono (fun r h c => ⟨(h c).1.trans (hE c), (h c).2.1.trans (hH c), (h c).2.2⟩) (ref_run m' g' hs)⟩

end Cert.Proof.Alg

end
-- ==== Proof.lean ====
/-
  The claim: each of the three programs runs to its end from any memory, leaves its arguments as they were and every
  semaphore counter at zero; the idealized kernel is the kernel, with no rewrite; and over the extended reals the kernel and
  the reference end at the same two results, whenever the shard's end does not wrap around.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Run
public import proofs.«01_k».proof.Proof.KI.Run
public import proofs.«01_k».proof.Proof.Alg.Pair
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Proof.Alg.preFacts,
    fun m g _ => Cert.Proof.K.frame m g,
    fun m g _ => Cert.Proof.KI.frame m g,
    fun m g _ => Cert.Proof.KI.frame m g,
    fun m g _ => Cert.ReferenceIdeal.Gen.frame m g,
    fun m g _ => Cert.ReferenceIdeal.Gen.frame m g,
    trivial,
    Cert.Proof.Alg.pair⟩

end Cert.Proof

end
